-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)) (v6 : (c : Dev Cert.Kernel2Ideal.nD) → Buf (Elt Ideal) ((c.tc : Thread Cert.Kernel2Ideal.nD Cert.Kernel2Ideal.τ).loc Cert.Kernel2Ideal.main_v23)) (v7 : (c : Dev Cert.Kernel2Ideal.nD) → Buf (Elt Ideal) ((c.tc : Thread Cert.Kernel2Ideal.nD Cert.Kernel2Ideal.τ).loc Cert.Kernel2Ideal.main_v24)) (v8 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_v23) = v6 c
          ∧ r.2.mem ((c.tc : Thread Cert.Kernel2Ideal.nD Cert.Kernel2Ideal.τ).loc Cert.Kernel2Ideal.main_v24) = v7 c
          ∧ r.2.mem ((c.tc : Thread Cert.Kernel2Ideal.nD Cert.Kernel2Ideal.τ).loc Cert.Kernel2Ideal.main_v25) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_v109) = v1 c
          ∧ r.2.mem ((c.tc : Thread Cert.Reference2Ideal.nD Cert.Reference2Ideal.τ).loc Cert.Reference2Ideal.main_v114) = v2 c
          ∧ r.2.mem ((c.tc : Thread Cert.Reference2Ideal.nD Cert.Reference2Ideal.τ).loc Cert.Reference2Ideal.main_v115) = v3 c
          ∧ r.2.mem ((c.tc : Thread Cert.Reference2Ideal.nD Cert.Reference2Ideal.τ).loc Cert.Reference2Ideal.main_v116) = v4 c
          ∧ r.2.mem ((c.tc : Thread Cert.Reference2Ideal.nD Cert.Reference2Ideal.τ).loc Cert.Reference2Ideal.main_v117) = v5 c
          ∧ r.2.mem ((c.tc : Thread Cert.Reference2Ideal.nD Cert.Reference2Ideal.τ).loc Cert.Reference2Ideal.main_v74) = v6 c
          ∧ r.2.mem ((c.tc : Thread Cert.Reference2Ideal.nD Cert.Reference2Ideal.τ).loc Cert.Reference2Ideal.main_v87) = v7 c
          ∧ r.2.mem ((c.tc : Thread Cert.Reference2Ideal.nD Cert.Reference2Ideal.τ).loc Cert.Reference2Ideal.main_v81) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v3) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v73) = v0 c
          ∧ r.2.mem ((c.tc : Thread Cert.Reference10Ideal.nD Cert.Reference10Ideal.τ).loc Cert.Reference10Ideal.main_v74) = v1 c
          ∧ r.2.mem ((c.tc : Thread Cert.Reference10Ideal.nD Cert.Reference10Ideal.τ).loc Cert.Reference10Ideal.main_v75) = v2 c
          ∧ r.2.mem ((c.tc : Thread Cert.Reference10Ideal.nD Cert.Reference10Ideal.τ).loc Cert.Reference10Ideal.main_v72) = v3 c
          ∧ r.2.mem ((c.tc : Thread Cert.Reference10Ideal.nD Cert.Reference10Ideal.τ).loc Cert.Reference10Ideal.main_v58) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v252) = v0 c
          ∧ r.2.mem ((c.tc : Thread Cert.Reference12Ideal.nD Cert.Reference12Ideal.τ).loc Cert.Reference12Ideal.main_v254) = v1 c
          ∧ r.2.mem ((c.tc : Thread Cert.Reference12Ideal.nD Cert.Reference12Ideal.τ).loc Cert.Reference12Ideal.main_v256) = v2 c
          ∧ r.2.mem ((c.tc : Thread Cert.Reference12Ideal.nD Cert.Reference12Ideal.τ).loc Cert.Reference12Ideal.main_v28) = v3 c
          ∧ r.2.mem ((c.tc : Thread Cert.Reference12Ideal.nD Cert.Reference12Ideal.τ).loc Cert.Reference12Ideal.main_v251) = v4 c
          ∧ r.2.mem ((c.tc : Thread Cert.Reference12Ideal.nD Cert.Reference12Ideal.τ).loc Cert.Reference12Ideal.main_v282) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1x1024 : Shape := ⟨2, ![1, 1024]⟩
abbrev S1024x1024 : Shape := ⟨2, ![1024, 1024]⟩
abbrev S1x512 : Shape := ⟨2, ![1, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x512 : S_.BroadcastsInDim S1x512 (![] : Fin 0 → Fin S1x512.rank)

variable [Facts]

def fn {F : FTy → Type} [FloatOps F] (main_arg0 : FVec F S16384x1024 .f32) (main_arg1 : FVec F S16384x512 .bf16) (main_arg2 : FVec F S16384x3072 .bf16) (main_arg3 : FVec F S16384x512 .f32) (main_arg4 : FVec F S512x1024 .bf16) (main_arg5 : FVec F S512x1024 .bf16) (main_arg6 : FVec F S1x1024 .f32) (main_arg7 : FVec F S1024x1024 .bf16) (main_arg8 : FVec F S1x512 .f32) (main_arg9 : FVec F S1x512 .f32) : IVec S16384x1024 1 × IVec S512x1024 1 × IVec S1024x1024 1 × IVec S1x512 1 :=
  let main_v0 : FVec F S512x1024 .f32 := (extf .f32 · bitsLt_bf16_f32) main_arg5
  let main_v1 : FVec F S1024x1024 .f32 := (extf .f32 · bitsLt_bf16_f32) main_arg7
  let main_v2 : FVec F S16384x1024 .f32 := Host.absf main_arg0
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S512x1024 .f32 := Host.absf main_v0
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  let main_v8 : FVec F S1024x1024 .f32 := Host.absf main_v1
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1x512 .f32 := Host.absf main_arg8
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  (main_v4, main_v7, main_v10, main_v13)
-- ==== Kernel.lean ====
abbrev S16384x1024 : Shape := ⟨2, ![16384, 1024]⟩
abbrev S16384x4096 : Shape := ⟨2, ![16384, 4096]⟩
abbrev S1x1024 : Shape := ⟨2, ![1, 1024]⟩
abbrev S1024x4096 : Shape := ⟨2, ![1024, 4096]⟩
abbrev S4096x1024 : Shape := ⟨2, ![4096, 1024]⟩
abbrev S8x1024 : Shape := ⟨2, ![8, 1024]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x4096, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S16384x1024, .f32⟩
  | .hbm, ⟨7, _⟩ => ⟨S16384x4096, .bf16⟩
  | .hbm, ⟨8, _⟩ => ⟨S8x1024, .f32⟩
  | .hbm, ⟨9, _⟩ => ⟨S_, .f32⟩
  | .hbm, ⟨10, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_cst : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x1024 : Shape := ⟨2, ![16384, 1024]⟩
abbrev S16384x4096 : Shape := ⟨2, ![16384, 4096]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x4096, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1024x4096, .f32⟩
  | .hbm, ⟨7, _⟩ => ⟨S4096x1024, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .i1⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x1024, .f32⟩
  | .hbm, ⟨22, _⟩ => ⟨S1024x4096, .f32⟩
  | .hbm, ⟨23, _⟩ => ⟨S4096x1024, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x4096, .f32⟩
  | .hbm, ⟨51, _⟩ => ⟨S4096x1024, .f32⟩
  | .hbm, ⟨52, _⟩ => ⟨S1024x4096, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1x1024 : Shape := ⟨2, ![1, 1024]⟩
abbrev S1024x1024 : Shape := ⟨2, ![1024, 1024]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S8x1024 : Shape := ⟨2, ![8, 1024]⟩
abbrev S8x512 : Shape := ⟨2, ![8, 512]⟩
abbrev S512x512 : Shape := ⟨2, ![512, 512]⟩
abbrev S64x8x1024 : Shape := ⟨3, ![64, 8, 1024]⟩
abbrev S512 : Shape := ⟨1, ![512]⟩
abbrev S512x1 : Shape := ⟨2, ![512, 1]⟩
abbrev S64x8x512 : Shape := ⟨3, ![64, 8, 512]⟩
abbrev S1024 : Shape := ⟨1, ![1024]⟩

abbrev nBuf : Space → Nat
  | .hbm => 60
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x3072, .bf16⟩
  | .hbm, ⟨3, _⟩ => ⟨S16384x512, .f32⟩
  | .hbm, ⟨4, _⟩ => ⟨S512x1024, .bf16⟩
  | .hbm, ⟨5, _⟩ => ⟨S512x1024, .bf16⟩
  | .hbm, ⟨6, _⟩ => ⟨S1x1024, .f32⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .bf16⟩
  | .hbm, ⟨45, _⟩ => ⟨S16384x512, .bf16⟩
  | .hbm, ⟨46, _⟩ => ⟨S16384x512, .f32⟩
  | .hbm, ⟨47, _⟩ => ⟨S16384x1024, .bf16⟩
  | .hbm, ⟨48, _⟩ => ⟨S16384x1024, .bf16⟩
  | .hbm, ⟨49, _⟩ => ⟨S16384x1024, .bf16⟩
  | .hbm, ⟨50, _⟩ => ⟨S16384x1024, .bf16⟩
  | .hbm, ⟨51, _⟩ => ⟨S8x1024, .f32⟩
  | .hbm, ⟨52, _⟩ => ⟨S8x512, .f32⟩
  | .hbm, ⟨53, _⟩ => ⟨S8x512, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S512, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x1024, .bf16⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S8x1024, .f32⟩
  | .local _ .vmem, ⟨31, _⟩ => ⟨S8x512, .f32⟩
  | .local _ .vmem, ⟨32, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev main_v22_5 : Ref sig .tc := ⟨.hbm, 50, rfl⟩
abbrev main_v22_6 : Ref sig .tc := ⟨.hbm, 51, rfl⟩
abbrev main_v22_7 : Ref sig .tc := ⟨.hbm, 52, rfl⟩
abbrev main_v22_8 : Ref sig .tc := ⟨.hbm, 53, rfl⟩
abbrev main_cst_4 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1x1024 : Shape := ⟨2, ![1, 1024]⟩
abbrev S1024x1024 : Shape := ⟨2, ![1024, 1024]⟩
abbrev S1x512 : Shape := ⟨2, ![1, 512]⟩
abbrev S1024 : Shape := ⟨1, ![1024]⟩
abbrev S512 : Shape := ⟨1, ![512]⟩
abbrev S_ : Shape := ⟨0, ![]⟩
abbrev S16384 : Shape := ⟨1, ![16384]⟩
abbrev S16384x1 : Shape := ⟨2, ![16384, 1]⟩
abbrev S1024x512 : Shape := ⟨2, ![1024, 512]⟩

abbrev nBuf : Space → Nat
  | .hbm => 167
  | .vmem => 0
  | .smem => 0
  | _ => 0

abbrev hbmTy0_0 (i : Nat) : BufTy := match i % 128 with
  | 0 => ⟨S16384x1024, .f32⟩
  | 1 => ⟨S16384x512, .bf16⟩
  | 2 => ⟨S16384x3072, .bf16⟩
  | 3 => ⟨S16384x512, .f32⟩
  | 4 => ⟨S512x1024, .bf16⟩
  | 5 => ⟨S512x1024, .bf16⟩
  | 6 => ⟨S1x1024, .f32⟩
  | 7 => ⟨S1024x1024, .bf16⟩
  | 8 => ⟨S1x512, .f32⟩
  | 9 => ⟨S1x512, .f32⟩
  | 10 => ⟨S16384x512, .f32⟩
  | 11 => ⟨S16384x3072, .f32⟩
  | 12 => ⟨S512x1024, .f32⟩
  | 13 => ⟨S512x1024, .f32⟩
  | 14 => ⟨S1024x1024, .f32⟩
  | 15 => ⟨S16384x1024, .f32⟩
  | 16 => ⟨S16384x1024, .f32⟩
  | 17 => ⟨S1024, .f32⟩
  | 18 => ⟨S512, .f32⟩
  | 19 => ⟨S512, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S16384x512, .f32⟩
  | 28 => ⟨S16384x512, .f32⟩
  | 29 => ⟨S16384x512, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x512, .f32⟩
  | 45 => ⟨S16384x512, .f32⟩
  | 46 => ⟨S1x512, .f32⟩
  | 47 => ⟨S16384x512, .f32⟩
  | 48 => ⟨S16384x512, .f32⟩
  | 49 => ⟨S1x512, .f32⟩
  | 50 => ⟨S16384x512, .f32⟩
  | 51 => ⟨S16384x512, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S16384x512, .f32⟩
  | 64 => ⟨S16384x512, .f32⟩
  | 65 => ⟨S16384x1024, .f32⟩
  | 66 => ⟨S1x1024, .f32⟩
  | 67 => ⟨S16384x1024, .f32⟩
  | 68 => ⟨S16384x1024, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S_, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S_, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S_, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S1024x1024, .f32⟩
  | 98 => ⟨S1024x1024, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S1024x512, .f32⟩
  | 112 => ⟨S512x1024, .f32⟩
  | 113 => ⟨S16384x512, .f32⟩
  | 114 => ⟨S16384x512, .f32⟩
  | 115 => ⟨S16384x512, .f32⟩
  | 116 => ⟨S16384x512, .f32⟩
  | 117 => ⟨S16384x512, .f32⟩
  | 118 => ⟨S_, .f32⟩
  | 119 => ⟨S512, .f32⟩
  | 120 => ⟨S1x512, .f32⟩
  | 121 => ⟨S_, .f32⟩
  | 122 => ⟨S512, .f32⟩
  | 123 => ⟨S16384x512, .f32⟩
  | 124 => ⟨S_, .f32⟩
  | 125 => ⟨S512, .f32⟩
  | 126 => ⟨S1x512, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S512, .f32⟩
  | 3 => ⟨S16384x512, .f32⟩
  | 4 => ⟨S_, .f32⟩
  | 5 => ⟨S16384, .f32⟩
  | 6 => ⟨S16384x1, .f32⟩
  | 7 => ⟨S16384x512, .f32⟩
  | 8 => ⟨S16384x512, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384, .f32⟩
  | 15 => ⟨S16384x512, .f32⟩
  | 16 => ⟨S16384x512, .f32⟩
  | 17 => ⟨S16384x512, .f32⟩
  | 18 => ⟨S16384x512, .f32⟩
  | 19 => ⟨S16384x512, .f32⟩
  | 20 => ⟨S16384x512, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384, .f32⟩
  | 29 => ⟨S16384x512, .f32⟩
  | 30 => ⟨S16384x512, .f32⟩
  | 31 => ⟨S1024x512, .f32⟩
  | 32 => ⟨S512x1024, .f32⟩
  | 33 => ⟨S16384x512, .f32⟩
  | 34 => ⟨S16384x512, .bf16⟩
  | 35 => ⟨S16384x1024, .bf16⟩
  | 36 => ⟨S16384x1024, .bf16⟩
  | 37 => ⟨S16384x1024, .bf16⟩
  | 38 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v36_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v36_1 : Ref sig .tc := ⟨.hbm, 63, rfl⟩
abbrev main_v36_0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_16 : Ref sig .tc := ⟨.hbm, 129, rfl⟩
abbrev main_v87 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_18 : Ref sig .tc := ⟨.hbm, 138, rfl⟩
abbrev main_v94 : Ref sig .tc := ⟨.hbm, 139, rfl⟩
abbrev main_v95 : Ref sig .tc := ⟨.hbm, 140, rfl⟩
abbrev main_cst_19 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_20 : Ref sig .tc := ⟨.hbm, 149, rfl⟩
abbrev main_v103 : Ref sig .tc := ⟨.hbm, 150, rfl⟩
abbrev main_v104 : Ref sig .tc := ⟨.hbm, 151, rfl⟩
abbrev main_cst_21 : Ref sig .tc := ⟨.hbm, 152, rfl⟩
abbrev main_v105 : Ref sig .tc := ⟨.hbm, 153, rfl⟩
abbrev main_v106 : Ref sig .tc := ⟨.hbm, 154, rfl⟩
abbrev main_cst_22 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩

abbrev nD : Nat := 1
abbrev τ : Topo := Topo.v7x

variable {F : FTy → Type} [FloatOps F]
-- ==== Kernel3.lean ====
abbrev S16384x1024 : Shape := ⟨2, ![16384, 1024]⟩
abbrev S16384x4096 : Shape := ⟨2, ![16384, 4096]⟩
abbrev S8x1024x512 : Shape := ⟨3, ![8, 1024, 512]⟩
abbrev S1024x512 : Shape := ⟨2, ![1024, 512]⟩
abbrev S1024x4096 : Shape := ⟨2, ![1024, 4096]⟩
abbrev S8x512x512 : Shape := ⟨3, ![8, 512, 512]⟩
abbrev S512x4096 : Shape := ⟨2, ![512, 4096]⟩
abbrev S512x512 : Shape := ⟨2, ![512, 512]⟩
abbrev S1x512x512 : Shape := ⟨3, ![1, 512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S8x1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x4096, .bf16⟩
  | .local _ .vmem, ⟨3, _⟩ => ⟨S1024x4096, .bf16⟩
  | .local _ .vmem, ⟨4, _⟩ => ⟨S8x512x512, .bf16⟩
  | .local _ .vmem, ⟨5, _⟩ => ⟨S8x512x512, .bf16⟩
  | .local _ .vmem, ⟨6, _⟩ => ⟨S512x4096, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩
abbrev S8x512x1024 : Shape := ⟨3, ![8, 512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S4096x1024, .bf16⟩
  | .hbm, ⟨3, _⟩ => ⟨S8x512x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x1024, .f32⟩
  | .hbm, ⟨10, _⟩ => ⟨S1024x4096, .f32⟩
  | .hbm, ⟨11, _⟩ => ⟨S4096x1024, .f32⟩
  | .hbm, ⟨12, _⟩ => ⟨S8x512x1024, .f32⟩
  | .hbm, ⟨13, _⟩ => ⟨S8x512x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S16384x1024 : Shape := ⟨2, ![16384, 1024]⟩
abbrev S16384x3840 : Shape := ⟨2, ![16384, 3840]⟩
abbrev S8x1024x480 : Shape := ⟨3, ![8, 1024, 480]⟩
abbrev S1024x512 : Shape := ⟨2, ![1024, 512]⟩
abbrev S1024x3840 : Shape := ⟨2, ![1024, 3840]⟩
abbrev S8x512x480 : Shape := ⟨3, ![8, 512, 480]⟩
abbrev S512x3840 : Shape := ⟨2, ![512, 3840]⟩
abbrev S512x480 : Shape := ⟨2, ![512, 480]⟩
abbrev S1x512x480 : Shape := ⟨3, ![1, 512, 480]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3840, .bf16⟩
  | .hbm, ⟨2, _⟩ => ⟨S8x1024x480, .bf16⟩
  | .local _ .vmem, ⟨0, _⟩ => ⟨S1024x512, .bf16⟩
  | .local _ .vmem, ⟨1, _⟩ => ⟨S1024x512, .bf16⟩
  | .local _ .vmem, ⟨2, _⟩ => ⟨S1024x3840, .bf16⟩
  | .local _ .vmem, ⟨3, _⟩ => ⟨S1024x3840, .bf16⟩
  | .local _ .vmem, ⟨4, _⟩ => ⟨S8x512x480, .bf16⟩
  | .local _ .vmem, ⟨5, _⟩ => ⟨S8x512x480, .bf16⟩
  | .local _ .vmem, ⟨6, _⟩ => ⟨S512x3840, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x480 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S16384x1024 : Shape := ⟨2, ![16384, 1024]⟩
abbrev S16384x3840 : Shape := ⟨2, ![16384, 3840]⟩
abbrev S_ : Shape := ⟨0, ![]⟩
abbrev S1024x3840 : Shape := ⟨2, ![1024, 3840]⟩
abbrev S3840x1024 : Shape := ⟨2, ![3840, 1024]⟩
abbrev S1024x8x480 : Shape := ⟨3, ![1024, 8, 480]⟩
abbrev S8x1024x480 : Shape := ⟨3, ![8, 1024, 480]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3840, .bf16⟩
  | .hbm, ⟨2, _⟩ => ⟨S_, .f32⟩
  | .hbm, ⟨3, _⟩ => ⟨S1024x3840, .f32⟩
  | .hbm, ⟨4, _⟩ => ⟨S16384x1024, .f32⟩
  | .hbm, ⟨5, _⟩ => ⟨S16384x3840, .f32⟩
  | .hbm, ⟨6, _⟩ => ⟨S16384x3840, .f32⟩
  | .hbm, ⟨7, _⟩ => ⟨S3840x1024, .f32⟩
  | .hbm, ⟨8, _⟩ => ⟨S1024x3840, .f32⟩
  | .hbm, ⟨9, _⟩ => ⟨S1024x8x480, .f32⟩
  | .hbm, ⟨10, _⟩ => ⟨S8x1024x480, .f32⟩
  | .hbm, ⟨11, _⟩ => ⟨S8x1024x480, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S8x128x1024 : Shape := ⟨3, ![8, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .hbm, ⟨3, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S8x128x1024, .f32⟩
  | .hbm, ⟨9, _⟩ => ⟨S8x128x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S16384x512 : Shape := ⟨2, ![16384, 512]⟩
abbrev S16384x1024 : Shape := ⟨2, ![16384, 1024]⟩
abbrev S8x512x128 : Shape := ⟨3, ![8, 512, 128]⟩
abbrev S1024x512 : Shape := ⟨2, ![1024, 512]⟩
abbrev S1024x1024 : Shape := ⟨2, ![1024, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S8x512x128, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S8x512x128, .bf16⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S16384x512 : Shape := ⟨2, ![16384, 512]⟩
abbrev S16384x1024 : Shape := ⟨2, ![16384, 1024]⟩
abbrev S8x512x128 : Shape := ⟨3, ![8, 512, 128]⟩
abbrev S1024x512 : Shape := ⟨2, ![1024, 512]⟩
abbrev S1024x1024 : Shape := ⟨2, ![1024, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S8x512x128, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S8x512x128, .bf16⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S16384x1024, .bf16⟩
  | .hbm, ⟨5, _⟩ => ⟨S16384x4096, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | .local _ .vmem, ⟨8, _⟩ => ⟨S512x4096, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x1024, .f32⟩
  | .hbm, ⟨29, _⟩ => ⟨S16384x1024, .f32⟩
  | .hbm, ⟨30, _⟩ => ⟨S16384x1024, .bf16⟩
  | .hbm, ⟨31, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel10.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S16384x4096 : Shape := ⟨2, ![16384, 4096]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S64x8x1024 : Shape := ⟨3, ![64, 8, 1024]⟩
abbrev S_ : Shape := ⟨0, ![]⟩
abbrev S1 : Shape := ⟨1, ![1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S16384x4096, .bf16⟩
  | .hbm, ⟨8, _⟩ => ⟨S8x1024, .f32⟩
  | .hbm, ⟨9, _⟩ => ⟨S16384x1024, .f32⟩
  | .hbm, ⟨10, _⟩ => ⟨S8x1024, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S8x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1 : Shape := ⟨1, ![1]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x1024, .f32⟩
  | .hbm, ⟨31, _⟩ => ⟨S16384x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S1024, .f32⟩
  | .hbm, ⟨84, _⟩ => ⟨S16384x1024, .f32⟩
  | .hbm, ⟨85, _⟩ => ⟨S_, .f32⟩
  | .hbm, ⟨86, _⟩ => ⟨S16384, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S16384x1024, .bf16⟩
  | .hbm, ⟨102, _⟩ => ⟨S16384x4096, .bf16⟩
  | .hbm, ⟨103, _⟩ => ⟨S1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Kernel11.lean ====
abbrev S16384x512 : Shape := ⟨2, ![16384, 512]⟩
abbrev S16384x3072 : Shape := ⟨2, ![16384, 3072]⟩
abbrev S16384x1024 : Shape := ⟨2, ![16384, 1024]⟩
abbrev S512x1024 : Shape := ⟨2, ![512, 1024]⟩
abbrev S1x1024 : Shape := ⟨2, ![1, 1024]⟩
abbrev S1024x1024 : Shape := ⟨2, ![1024, 1024]⟩
abbrev S512x512 : Shape := ⟨2, ![512, 512]⟩

abbrev nBuf : Space → Nat
  | .hbm => 10
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x3072, .bf16⟩
  | .hbm, ⟨3, _⟩ => ⟨S16384x1024, .f32⟩
  | .hbm, ⟨4, _⟩ => ⟨S512x1024, .bf16⟩
  | .hbm, ⟨5, _⟩ => ⟨S512x1024, .bf16⟩
  | .hbm, ⟨6, _⟩ => ⟨S1x1024, .f32⟩
  | .hbm, ⟨7, _⟩ => ⟨S1024x1024, .bf16⟩
  | .hbm, ⟨8, _⟩ => ⟨S16384x1024, .bf16⟩
  | .hbm, ⟨9, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference11Ideal.lean ====
abbrev S16384x512 : Shape := ⟨2, ![16384, 512]⟩
abbrev S16384x3072 : Shape := ⟨2, ![16384, 3072]⟩
abbrev S16384x1024 : Shape := ⟨2, ![16384, 1024]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x3072, .bf16⟩
  | .hbm, ⟨3, _⟩ => ⟨S16384x1024, .f32⟩
  | .hbm, ⟨4, _⟩ => ⟨S512x1024, .bf16⟩
  | .hbm, ⟨5, _⟩ => ⟨S512x1024, .bf16⟩
  | .hbm, ⟨6, _⟩ => ⟨S1x1024, .f32⟩
  | .hbm, ⟨7, _⟩ => ⟨S1024x1024, .bf16⟩
  | .hbm, ⟨8, _⟩ => ⟨S16384x512, .f32⟩
  | .hbm, ⟨9, _⟩ => ⟨S16384x512, .f32⟩
  | .hbm, ⟨10, _⟩ => ⟨S16384x3072, .f32⟩
  | .hbm, ⟨11, _⟩ => ⟨S512x1024, .f32⟩
  | .hbm, ⟨12, _⟩ => ⟨S512x1024, .f32⟩
  | .hbm, ⟨13, _⟩ => ⟨S1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | .hbm, ⟨41, _⟩ => ⟨S1024x1024, .f32⟩
  | .hbm, ⟨42, _⟩ => ⟨S16384x1024, .f32⟩
  | .hbm, ⟨43, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel12.lean ====
abbrev S16384x1024 : Shape := ⟨2, ![16384, 1024]⟩
abbrev S1x1024 : Shape := ⟨2, ![1, 1024]⟩
abbrev S1024x3840 : Shape := ⟨2, ![1024, 3840]⟩
abbrev S1x3840 : Shape := ⟨2, ![1, 3840]⟩
abbrev S31x512 : Shape := ⟨2, ![31, 512]⟩
abbrev S1x512 : Shape := ⟨2, ![1, 512]⟩
abbrev S16384x768 : Shape := ⟨2, ![16384, 768]⟩
abbrev S16384x3072 : Shape := ⟨2, ![16384, 3072]⟩
abbrev S16384x512 : Shape := ⟨2, ![16384, 512]⟩
abbrev S512x1024 : Shape := ⟨2, ![512, 1024]⟩
abbrev S512x768 : Shape := ⟨2, ![512, 768]⟩
abbrev S512x3072 : Shape := ⟨2, ![512, 3072]⟩
abbrev S512x512 : Shape := ⟨2, ![512, 512]⟩
abbrev S8x288x512 : Shape := ⟨3, ![8, 288, 512]⟩
abbrev S32x512 : Shape := ⟨2, ![32, 512]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S1x768 : Shape := ⟨2, ![1, 768]⟩
abbrev S1024x3072 : Shape := ⟨2, ![1024, 3072]⟩
abbrev S256x3072 : Shape := ⟨2, ![256, 3072]⟩
abbrev S1x3072 : Shape := ⟨2, ![1, 3072]⟩
abbrev S256x512 : Shape := ⟨2, ![256, 512]⟩
abbrev S1x32x512 : Shape := ⟨3, ![1, 32, 512]⟩
abbrev S1x256x512 : Shape := ⟨3, ![1, 256, 512]⟩
abbrev S1x280x512 : Shape := ⟨3, ![1, 280, 512]⟩
abbrev S280x512 : Shape := ⟨2, ![280, 512]⟩
abbrev S16x512 : Shape := ⟨2, ![16, 512]⟩
abbrev S1x16x512 : Shape := ⟨3, ![1, 16, 512]⟩
abbrev S16 : Shape := ⟨1, ![16]⟩
abbrev S16x1 : Shape := ⟨2, ![16, 1]⟩

abbrev nBuf : Space → Nat
  | .hbm => 14
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3840, .bf16⟩
  | .hbm, ⟨3, _⟩ => ⟨S1x3840, .f32⟩
  | .hbm, ⟨4, _⟩ => ⟨S31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S16384x1024, .bf16⟩
  | .hbm, ⟨9, _⟩ => ⟨S16384x768, .bf16⟩
  | .hbm, ⟨10, _⟩ => ⟨S16384x3072, .bf16⟩
  | .hbm, ⟨11, _⟩ => ⟨S16384x512, .f32⟩
  | .hbm, ⟨12, _⟩ => ⟨S16384x512, .f32⟩
  | .hbm, ⟨13, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S1x3840, .f32⟩
  | .local _ .vmem, ⟨5, _⟩ => ⟨S31x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S512x768, .bf16⟩
  | .local _ .vmem, ⟨12, _⟩ => ⟨S512x768, .bf16⟩
  | .local _ .vmem, ⟨13, _⟩ => ⟨S512x3072, .bf16⟩
  | .local _ .vmem, ⟨14, _⟩ => ⟨S512x3072, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S8x288x512, .f32⟩
  | .local _ .vmem, ⟨22, _⟩ => ⟨S32x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference12Ideal.lean ====
abbrev S16384x1024 : Shape := ⟨2, ![16384, 1024]⟩
abbrev S1x1024 : Shape := ⟨2, ![1, 1024]⟩
abbrev S1024x3840 : Shape := ⟨2, ![1024, 3840]⟩
abbrev S1x3840 : Shape := ⟨2, ![1, 3840]⟩
abbrev S31x512 : Shape := ⟨2, ![31, 512]⟩
abbrev S1x512 : Shape := ⟨2, ![1, 512]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x3840 : Shape := ⟨2, ![16384, 3840]⟩
abbrev S3840 : Shape := ⟨1, ![3840]⟩
abbrev S16384x512 : Shape := ⟨2, ![16384, 512]⟩
abbrev S512 : Shape := ⟨1, ![512]⟩
abbrev S16414x512 : Shape := ⟨2, ![16414, 512]⟩
abbrev S16384x768 : Shape := ⟨2, ![16384, 768]⟩
abbrev S16384x3072 : Shape := ⟨2, ![16384, 3072]⟩

abbrev nBuf : Space → Nat
  | .hbm => 312
  | .vmem => 0
  | .smem => 0
  | _ => 0

abbrev hbmTy0_0 (i : Nat) : BufTy := match i % 128 with
  | 0 => ⟨S16384x1024, .f32⟩
  | 1 => ⟨S1x1024, .f32⟩
  | 2 => ⟨S1024x3840, .bf16⟩
  | 3 => ⟨S1x3840, .f32⟩
  | 4 => ⟨S31x512, .f32⟩
  | 5 => ⟨S1x512, .f32⟩
  | 6 => ⟨S1x512, .f32⟩
  | 7 => ⟨S1x512, .f32⟩
  | 8 => ⟨S1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S1024x3840, .f32⟩
  | 26 => ⟨S16384x3840, .f32⟩
  | 27 => ⟨S3840, .f32⟩
  | 28 => ⟨S1x3840, .f32⟩
  | 29 => ⟨S16384x3840, .f32⟩
  | 30 => ⟨S16384x3840, .f32⟩
  | 31 => ⟨S16384x512, .f32⟩
  | 32 => ⟨S16384x512, .f32⟩
  | 33 => ⟨S16384x512, .f32⟩
  | 34 => ⟨S16384x512, .f32⟩
  | 35 => ⟨S_, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S16384x512, .f32⟩
  | 42 => ⟨S512, .f32⟩
  | 43 => ⟨S_, .i32⟩
  | 44 => ⟨S_, .f32⟩
  | 45 => ⟨S16414x512, .f32⟩
  | 46 => ⟨S1x512, .f32⟩
  | 47 => ⟨S512, .f32⟩
  | 48 => ⟨S16384x512, .f32⟩
  | 49 => ⟨S1x512, .f32⟩
  | 50 => ⟨S16384x512, .f32⟩
  | 51 => ⟨S16384x512, .f32⟩
  | 52 => ⟨S_, .f32⟩
  | 53 => ⟨S16384x512, .f32⟩
  | 54 => ⟨S16384x512, .f32⟩
  | 55 => ⟨S1x512, .f32⟩
  | 56 => ⟨S512, .f32⟩
  | 57 => ⟨S16384x512, .f32⟩
  | 58 => ⟨S1x512, .f32⟩
  | 59 => ⟨S16384x512, .f32⟩
  | 60 => ⟨S16384x512, .f32⟩
  | 61 => ⟨S16384x512, .f32⟩
  | 62 => ⟨S1x512, .f32⟩
  | 63 => ⟨S512, .f32⟩
  | 64 => ⟨S16384x512, .f32⟩
  | 65 => ⟨S1x512, .f32⟩
  | 66 => ⟨S16384x512, .f32⟩
  | 67 => ⟨S16384x512, .f32⟩
  | 68 => ⟨S16384x512, .f32⟩
  | 69 => ⟨S1x512, .f32⟩
  | 70 => ⟨S512, .f32⟩
  | 71 => ⟨S16384x512, .f32⟩
  | 72 => ⟨S1x512, .f32⟩
  | 73 => ⟨S16384x512, .f32⟩
  | 74 => ⟨S16384x512, .f32⟩
  | 75 => ⟨S16384x512, .f32⟩
  | 76 => ⟨S1x512, .f32⟩
  | 77 => ⟨S512, .f32⟩
  | 78 => ⟨S16384x512, .f32⟩
  | 79 => ⟨S1x512, .f32⟩
  | 80 => ⟨S16384x512, .f32⟩
  | 81 => ⟨S16384x512, .f32⟩
  | 82 => ⟨S16384x512, .f32⟩
  | 83 => ⟨S1x512, .f32⟩
  | 84 => ⟨S512, .f32⟩
  | 85 => ⟨S16384x512, .f32⟩
  | 86 => ⟨S1x512, .f32⟩
  | 87 => ⟨S16384x512, .f32⟩
  | 88 => ⟨S16384x512, .f32⟩
  | 89 => ⟨S16384x512, .f32⟩
  | 90 => ⟨S1x512, .f32⟩
  | 91 => ⟨S512, .f32⟩
  | 92 => ⟨S16384x512, .f32⟩
  | 93 => ⟨S1x512, .f32⟩
  | 94 => ⟨S16384x512, .f32⟩
  | 95 => ⟨S16384x512, .f32⟩
  | 96 => ⟨S16384x512, .f32⟩
  | 97 => ⟨S1x512, .f32⟩
  | 98 => ⟨S512, .f32⟩
  | 99 => ⟨S16384x512, .f32⟩
  | 100 => ⟨S1x512, .f32⟩
  | 101 => ⟨S16384x512, .f32⟩
  | 102 => ⟨S16384x512, .f32⟩
  | 103 => ⟨S16384x512, .f32⟩
  | 104 => ⟨S1x512, .f32⟩
  | 105 => ⟨S512, .f32⟩
  | 106 => ⟨S16384x512, .f32⟩
  | 107 => ⟨S1x512, .f32⟩
  | 108 => ⟨S16384x512, .f32⟩
  | 109 => ⟨S16384x512, .f32⟩
  | 110 => ⟨S16384x512, .f32⟩
  | 111 => ⟨S1x512, .f32⟩
  | 112 => ⟨S512, .f32⟩
  | 113 => ⟨S16384x512, .f32⟩
  | 114 => ⟨S1x512, .f32⟩
  | 115 => ⟨S16384x512, .f32⟩
  | 116 => ⟨S16384x512, .f32⟩
  | 117 => ⟨S16384x512, .f32⟩
  | 118 => ⟨S1x512, .f32⟩
  | 119 => ⟨S512, .f32⟩
  | 120 => ⟨S16384x512, .f32⟩
  | 121 => ⟨S1x512, .f32⟩
  | 122 => ⟨S16384x512, .f32⟩
  | 123 => ⟨S16384x512, .f32⟩
  | 124 => ⟨S16384x512, .f32⟩
  | 125 => ⟨S1x512, .f32⟩
  | 126 => ⟨S512, .f32⟩
  | 127 => ⟨S16384x512, .f32⟩
  | _ => ⟨S16384x1024, .f32⟩

abbrev hbmTy0_1 (i : Nat) : BufTy := match i % 128 with
  | 0 => ⟨S1x512, .f32⟩
  | 1 => ⟨S16384x512, .f32⟩
  | 2 => ⟨S16384x512, .f32⟩
  | 3 => ⟨S16384x512, .f32⟩
  | 4 => ⟨S1x512, .f32⟩
  | 5 => ⟨S512, .f32⟩
  | 6 => ⟨S16384x512, .f32⟩
  | 7 => ⟨S1x512, .f32⟩
  | 8 => ⟨S16384x512, .f32⟩
  | 9 => ⟨S16384x512, .f32⟩
  | 10 => ⟨S16384x512, .f32⟩
  | 11 => ⟨S1x512, .f32⟩
  | 12 => ⟨S512, .f32⟩
  | 13 => ⟨S16384x512, .f32⟩
  | 14 => ⟨S1x512, .f32⟩
  | 15 => ⟨S16384x512, .f32⟩
  | 16 => ⟨S16384x512, .f32⟩
  | 17 => ⟨S16384x512, .f32⟩
  | 18 => ⟨S1x512, .f32⟩
  | 19 => ⟨S512, .f32⟩
  | 20 => ⟨S16384x512, .f32⟩
  | 21 => ⟨S1x512, .f32⟩
  | 22 => ⟨S16384x512, .f32⟩
  | 23 => ⟨S16384x512, .f32⟩
  | 24 => ⟨S16384x512, .f32⟩
  | 25 => ⟨S1x512, .f32⟩
  | 26 => ⟨S512, .f32⟩
  | 27 => ⟨S16384x512, .f32⟩
  | 28 => ⟨S1x512, .f32⟩
  | 29 => ⟨S16384x512, .f32⟩
  | 30 => ⟨S16384x512, .f32⟩
  | 31 => ⟨S16384x512, .f32⟩
  | 32 => ⟨S1x512, .f32⟩
  | 33 => ⟨S512, .f32⟩
  | 34 => ⟨S16384x512, .f32⟩
  | 35 => ⟨S1x512, .f32⟩
  | 36 => ⟨S16384x512, .f32⟩
  | 37 => ⟨S16384x512, .f32⟩
  | 38 => ⟨S16384x512, .f32⟩
  | 39 => ⟨S1x512, .f32⟩
  | 40 => ⟨S512, .f32⟩
  | 41 => ⟨S16384x512, .f32⟩
  | 42 => ⟨S1x512, .f32⟩
  | 43 => ⟨S16384x512, .f32⟩
  | 44 => ⟨S16384x512, .f32⟩
  | 45 => ⟨S16384x512, .f32⟩
  | 46 => ⟨S1x512, .f32⟩
  | 47 => ⟨S512, .f32⟩
  | 48 => ⟨S16384x512, .f32⟩
  | 49 => ⟨S1x512, .f32⟩
  | 50 => ⟨S16384x512, .f32⟩
  | 51 => ⟨S16384x512, .f32⟩
  | 52 => ⟨S16384x512, .f32⟩
  | 53 => ⟨S1x512, .f32⟩
  | 54 => ⟨S512, .f32⟩
  | 55 => ⟨S16384x512, .f32⟩
  | 56 => ⟨S1x512, .f32⟩
  | 57 => ⟨S16384x512, .f32⟩
  | 58 => ⟨S16384x512, .f32⟩
  | 59 => ⟨S16384x512, .f32⟩
  | 60 => ⟨S1x512, .f32⟩
  | 61 => ⟨S512, .f32⟩
  | 62 => ⟨S16384x512, .f32⟩
  | 63 => ⟨S1x512, .f32⟩
  | 64 => ⟨S16384x512, .f32⟩
  | 65 => ⟨S16384x512, .f32⟩
  | 66 => ⟨S16384x512, .f32⟩
  | 67 => ⟨S1x512, .f32⟩
  | 68 => ⟨S512, .f32⟩
  | 69 => ⟨S16384x512, .f32⟩
  | 70 => ⟨S1x512, .f32⟩
  | 71 => ⟨S16384x512, .f32⟩
  | 72 => ⟨S16384x512, .f32⟩
  | 73 => ⟨S16384x512, .f32⟩
  | 74 => ⟨S1x512, .f32⟩
  | 75 => ⟨S512, .f32⟩
  | 76 => ⟨S16384x512, .f32⟩
  | 77 => ⟨S1x512, .f32⟩
  | 78 => ⟨S16384x512, .f32⟩
  | 79 => ⟨S16384x512, .f32⟩
  | 80 => ⟨S16384x512, .f32⟩
  | 81 => ⟨S1x512, .f32⟩
  | 82 => ⟨S512, .f32⟩
  | 83 => ⟨S16384x512, .f32⟩
  | 84 => ⟨S1x512, .f32⟩
  | 85 => ⟨S16384x512, .f32⟩
  | 86 => ⟨S16384x512, .f32⟩
  | 87 => ⟨S16384x512, .f32⟩
  | 88 => ⟨S1x512, .f32⟩
  | 89 => ⟨S512, .f32⟩
  | 90 => ⟨S16384x512, .f32⟩
  | 91 => ⟨S1x512, .f32⟩
  | 92 => ⟨S16384x512, .f32⟩
  | 93 => ⟨S16384x512, .f32⟩
  | 94 => ⟨S16384x512, .f32⟩
  | 95 => ⟨S1x512, .f32⟩
  | 96 => ⟨S512, .f32⟩
  | 97 => ⟨S16384x512, .f32⟩
  | 98 => ⟨S1x512, .f32⟩
  | 99 => ⟨S16384x512, .f32⟩
  | 100 => ⟨S16384x512, .f32⟩
  | 101 => ⟨S16384x512, .f32⟩
  | 102 => ⟨S1x512, .f32⟩
  | 103 => ⟨S512, .f32⟩
  | 104 => ⟨S16384x512, .f32⟩
  | 105 => ⟨S1x512, .f32⟩
  | 106 => ⟨S16384x512, .f32⟩
  | 107 => ⟨S16384x512, .f32⟩
  | 108 => ⟨S16384x512, .f32⟩
  | 109 => ⟨S1x512, .f32⟩
  | 110 => ⟨S512, .f32⟩
  | 111 => ⟨S16384x512, .f32⟩
  | 112 => ⟨S1x512, .f32⟩
  | 113 => ⟨S16384x512, .f32⟩
  | 114 => ⟨S16384x512, .f32⟩
  | 115 => ⟨S16384x512, .f32⟩
  | 116 => ⟨S1x512, .f32⟩
  | 117 => ⟨S512, .f32⟩
  | 118 => ⟨S16384x512, .f32⟩
  | 119 => ⟨S1x512, .f32⟩
  | 120 => ⟨S16384x512, .f32⟩
  | 121 => ⟨S16384x512, .f32⟩
  | 122 => ⟨S16384x512, .f32⟩
  | 123 => ⟨S1x512, .f32⟩
  | 124 => ⟨S512, .f32⟩
  | 125 => ⟨S16384x512, .f32⟩
  | 126 => ⟨S1x512, .f32⟩
  | 127 => ⟨S16384x512, .f32⟩
  | _ => ⟨S16384x1024, .f32⟩

abbrev hbmTy0_2 (i : Nat) : BufTy := match i % 128 with
  | 0 => ⟨S16384x512, .f32⟩
  | 1 => ⟨S16384x512, .f32⟩
  | 2 => ⟨S1x512, .f32⟩
  | 3 => ⟨S512, .f32⟩
  | 4 => ⟨S16384x512, .f32⟩
  | 5 => ⟨S1x512, .f32⟩
  | 6 => ⟨S16384x512, .f32⟩
  | 7 => ⟨S16384x512, .f32⟩
  | 8 => ⟨S16384x512, .f32⟩
  | 9 => ⟨S1x512, .f32⟩
  | 10 => ⟨S16384x512, .f32⟩
  | 11 => ⟨S16384x512, .f32⟩
  | 12 => ⟨S16384x1024, .bf16⟩
  | 13 => ⟨S16384x768, .f32⟩
  | 14 => ⟨S16384x768, .bf16⟩
  | 15 => ⟨S16384x3072, .f32⟩
  | 16 => ⟨S16384x3072, .bf16⟩
  | 17 => ⟨S512, .f32⟩
  | 18 => ⟨S512, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x512, .f32⟩
  | 26 => ⟨S16384x512, .f32⟩
  | 27 => ⟨S16384x512, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S_, .f32⟩
  | 35 => ⟨S16384x1, .f32⟩
  | 36 => ⟨S16384x1, .f32⟩
  | 37 => ⟨S16384x1, .f32⟩
  | 38 => ⟨S16384x512, .f32⟩
  | 39 => ⟨S16384x512, .f32⟩
  | 40 => ⟨S1x512, .f32⟩
  | 41 => ⟨S16384x512, .f32⟩
  | 42 => ⟨S16384x512, .f32⟩
  | 43 => ⟨S1x512, .f32⟩
  | 44 => ⟨S16384x512, .f32⟩
  | 45 => ⟨S16384x512, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S_, .f32⟩
  | 52 => ⟨S16384x512, .f32⟩
  | 53 => ⟨S16384x512, .f32⟩
  | 54 => ⟨S16384x512, .f32⟩
  | 55 => ⟨S16384x512, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_cst_5 : Ref sig .tc := ⟨.hbm, 275, rfl⟩
abbrev main_v259 : Ref sig .tc := ⟨.hbm, 276, rfl⟩
abbrev main_v260 : Ref sig .tc := ⟨.hbm, 277, rfl⟩
abbrev main_cst_6 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_cst_7 : Ref sig .tc := ⟨.hbm, 284, rfl⟩
abbrev main_v266 : Ref sig .tc := ⟨.hbm, 285, rfl⟩
abbrev main_v267 : Ref sig .tc := ⟨.hbm, 286, rfl⟩
abbrev main_cst_8 : Ref sig .tc := ⟨.hbm, 287, rfl⟩
abbrev main_v268 : Ref sig .tc := ⟨.hbm, 288, rfl⟩
abbrev main_v269 : Ref sig .tc := ⟨.hbm, 289, rfl⟩
abbrev main_cst_9 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_call1_v0 : Ref sig .tc := ⟨.hbm, 302, rfl⟩
abbrev main_call1_v1 : Ref sig .tc := ⟨.hbm, 303, rfl⟩
abbrev main_call1_cst : Ref sig .tc := ⟨.hbm, 304, rfl⟩
abbrev main_call1_v2 : Ref sig .tc := ⟨.hbm, 305, rfl⟩
abbrev main_call1_v3 : Ref sig .tc := ⟨.hbm, 306, rfl⟩
abbrev main_call1_cst_0 : Ref sig .tc := ⟨.hbm, 307, rfl⟩
abbrev main_call1_v4 : Ref sig .tc := ⟨.hbm, 308, rfl⟩
abbrev main_call1_v5 : Ref sig .tc := ⟨.hbm, 309, rfl⟩
abbrev main_v281 : Ref sig .tc := ⟨.hbm, 310, rfl⟩
abbrev main_v282 : Ref sig .tc := ⟨.hbm, 311, rfl⟩

abbrev nD : Nat := 1
abbrev τ : Topo := Topo.v7x

variable {F : FTy → Type} [FloatOps F]
-- ==== Proof.MlpMath.lean ====
/-
  The backward pass of one token of the squared-ReLU MLP and of the RMS norm before it, as formulas over the extended
  reals: the token's rows are functions of a column.
-/
module

public import Idealize.ShloMosaic.PureOps.Ideal
public import Idealize.ShloMosaic.Lib.Pointwise

@[expose] public section

noncomputable section

open Idealize.ShloMosaic

namespace Cert.Mlp

/-- The row length of the norm, 1024, as the f32 constant both programs print. -/
abbrev width : EReal := Ideal.ofBits .f32 0x44800000#32

/-- The norm's epsilon, as the f32 constant both programs print. -/
abbrev eps : EReal := Ideal.ofBits .f32 0x358637BD#32

/-- The constant 2, the derivative of the square. -/
abbrev two : EReal := Ideal.ofBits .f32 0x40000000#32

/-- The gradient at hidden unit `f` of one token: the cotangent times `w2`'s row, times `2 relu z`. -/
def dz (dy : Fin 1024 → EReal) (z : Fin 4096 → EReal) (w2 : Fin 4096 → Fin 1024 → EReal) (f : Fin 4096) : EReal :=
  (∑ k, dy k * w2 f k) * (two * max (z f) 0)

/-- The gradient at the norm's output, column `d`. -/
def dh (r : Fin 4096 → EReal) (w1 : Fin 1024 → Fin 4096 → EReal) (d : Fin 1024) : EReal := ∑ f, r f * w1 d f

/-- The norm's reciprocal root of the mean square. -/
def rstd (x : Fin 1024 → EReal) : EReal := Ideal.rsqrt (Ideal.div (∑ d, x d * x d) width + eps)

/-- The norm's gradient at its input, column `q`, from the gradient `h` at its output. -/
def dx (x g h : Fin 1024 → EReal) (q : Fin 1024) : EReal :=
  rstd x * (h q * g q - x q * rstd x * Ideal.div (∑ d, h d * g d * (x d * rstd x)) width)

/-- A sum over the 4096 hidden units is the sum of the sums over its four tiles of 1024. -/
theorem sum_tiles (F : Fin 4096 → EReal) :
    ∑ f, F f = ∑ k : Fin 1024, F ⟨k.val, by omega⟩ + ∑ k : Fin 1024, F ⟨1024 + k.val, by omega⟩
      + ∑ k : Fin 1024, F ⟨2048 + k.val, by omega⟩ + ∑ k : Fin 1024, F ⟨3072 + k.val, by omega⟩ := by
  rw [Fin.sum_univ_tiles 4 1024 rfl F, Fin.sum_univ_four]
  simp

end Cert.Mlp

end
-- ==== Proof.MlpNorm.lean ====
/-
  The RMS norm's gradient in two forms over the extended reals: the kernel's, with the reciprocal root factored out, and
  the reference's, the chain rule through the reciprocal root's own derivative.
-/
module

public import proofs.«01_k».proof.Proof.MlpMath
public import Idealize.ShloMosaic.Lib.IdealHost
public import Mathlib.Analysis.SpecialFunctions.Pow.Real

@[expose] public section

noncomputable section

open Idealize.ShloMosaic

namespace Cert.Mlp

/-- The constant −1/2, the derivative of the reciprocal root. -/
abbrev negHalf : EReal := Ideal.ofBits .f32 0xBF000000#32

theorem width_eq : width = ((1024 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_eq : ∃ e : ℝ, 0 < e ∧ eps = (e : EReal) := by
  refine ⟨(2 : ℝ) ^ (-20 : ℤ) * (8796093 / 8388608 : ℝ), by positivity, ?_⟩
  simp [eps, Ideal.ofBits, Ideal.ieee, -EReal.coe_mul]; norm_num

theorem div_width (a : EReal) : Ideal.div a width = a * ((1 / 1024 : ℝ) : EReal) := by
  rw [width_eq, Ideal.div_coe (by norm_num)]

/-- A finite nonnegative factor moves into a sum. -/
theorem sum_mul_coe {ι : Type} [Fintype ι] (f : ι → EReal) {r : ℝ} (hr : 0 ≤ r) : (∑ i, f i) * (r : EReal) = ∑ i, f i * (r : EReal) := by
  classical
  have h (s : Finset ι) : (∑ i ∈ s, f i) * (r : EReal) = ∑ i ∈ s, f i * (r : EReal) := by
    induction s using Finset.induction_on with
    | empty => simp
    | insert a s ha ih =>
      rw [Finset.sum_insert ha, Finset.sum_insert ha, ← ih]
      exact EReal.right_distrib_of_nonneg_of_ne_top (EReal.coe_nonneg.mpr hr) (EReal.coe_ne_top r) _ _
  exact h Finset.univ

theorem mul_self_nonneg_ereal (x : EReal) : 0 ≤ x * x := by
  rcases le_total 0 x with h | h
  · exact mul_nonneg h h
  · rw [← neg_mul_neg]
    exact mul_nonneg (EReal.neg_nonneg.mpr h) (EReal.neg_nonneg.mpr h)

/-- The mean square plus epsilon. -/
def msq (x : Fin 1024 → EReal) : EReal := Ideal.div (∑ d, x d * x d) width + eps

theorem rstd_def (x : Fin 1024 → EReal) : rstd x = Ideal.rsqrt (msq x) := rfl

/-- The reciprocal root is a nonnegative real, and over its radicand it is its cube. -/
theorem rstd_real (x : Fin 1024 → EReal) :
    ∃ r : ℝ, 0 ≤ r ∧ rstd x = (r : EReal) ∧ Ideal.div (rstd x) (msq x) = ((r * r * r : ℝ) : EReal) := by
  obtain ⟨e, he, hee⟩ := eps_eq
  have hS : 0 ≤ Ideal.div (∑ d, x d * x d) width := by
    rw [div_width]
    exact mul_nonneg (Finset.sum_nonneg fun d _ => mul_self_nonneg_ereal _) (EReal.coe_nonneg.mpr (by norm_num))
  have hv : (e : EReal) ≤ msq x := by
    rw [msq, hee]
    exact le_add_of_nonneg_left hS
  rw [rstd_def]
  induction hm : msq x with
  | bot => rw [hm] at hv; exact absurd hv (by simp)
  | top =>
    refine ⟨0, le_rfl, by simp, ?_⟩
    simp [Ideal.div]
  | coe v =>
    rw [hm] at hv
    have hv0 : 0 < v := lt_of_lt_of_le he (EReal.coe_le_coe_iff.mp hv)
    have hs : 0 < Real.sqrt v := Real.sqrt_pos.mpr hv0
    have hr : Ideal.rsqrt (v : EReal) = (((Real.sqrt v)⁻¹ : ℝ) : EReal) := by
      rw [Ideal.rsqrt_coe, if_neg (not_lt.mpr hv0.le), if_neg hv0.ne']
    refine ⟨(Real.sqrt v)⁻¹, inv_nonneg.mpr hs.le, hr, ?_⟩
    rw [hr, Ideal.div_coe hv0.ne', ← EReal.coe_mul]
    congr 1
    have h2 : v = Real.sqrt v * Real.sqrt v := (Real.mul_self_sqrt hv0.le).symm
    rw [show (1 / v : ℝ) = (Real.sqrt v)⁻¹ * (Real.sqrt v)⁻¹ by rw [← mul_inv, ← h2, one_div]]
    ring

theorem half_add_half (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe y =>
    rw [← EReal.coe_mul, ← EReal.coe_add, ← EReal.coe_neg]
    congr 1; ring

/-- The chain rule's form of the norm's gradient is the factored one. -/
theorem dx_chain (x g h : Fin 1024 → EReal) (q : Fin 1024) :
    h q * g q * rstd x
        + x q * Ideal.div ((∑ d, x d * (h d * g d)) * (negHalf * Ideal.div (rstd x) (msq x))) width
        + Ideal.div ((∑ d, x d * (h d * g d)) * (negHalf * Ideal.div (rstd x) (msq x))) width * x q
      = dx x g h q := by
  obtain ⟨r, hr0, hr, hd⟩ := rstd_real x
  have hP : ∑ d, h d * g d * (x d * rstd x) = (∑ d, x d * (h d * g d)) * (r : EReal) := by
    rw [sum_mul_coe _ hr0, hr]
    exact Finset.sum_congr rfl fun d _ => by rw [mul_left_comm, ← mul_assoc, mul_assoc (x d)]
  rw [dx, hP, hd, hr, negHalf_eq, div_width, div_width]
  generalize ∑ d, x d * (h d * g d) = A
  rw [sub_eq_add_neg, EReal.left_distrib_of_nonneg_of_ne_top (EReal.coe_nonneg.mpr hr0) (EReal.coe_ne_top r), add_assoc]
  congr 1
  · rw [mul_comm]
  · rw [EReal.coe_mul, EReal.coe_mul, mul_neg, ← half_add_half]
    congr 1 <;> ac_rfl

/-- Where the pre-activation is not positive the hidden gradient is zero. -/
theorem dz_select (dy : Fin 1024 → EReal) (z : Fin 4096 → EReal) (w2 : Fin 4096 → Fin 1024 → EReal) (f : Fin 4096) :
    (if 0 < z f then (∑ k, dy k * w2 f k) * (two * max (z f) 0) else 0) = dz dy z w2 f := by
  rw [dz]
  split
  · rfl
  · next h => rw [max_eq_right (not_lt.mp h), mul_zero, mul_zero]

end Cert.Mlp

end
-- ==== Proof.MlpBlock.lean ====
/-
  One grid point of the MLP backward call, at the ideal instance: what the body leaves in the staging buffers of its three
  outputs, element by element, from the blocks it reads. Case A is the first point, which resets the accumulator of the
  norm weight's gradient; case B every other point.
-/
module

public import proofs.«01_k».proof.Defs
public import proofs.«01_k».proof.Proof.Gen.KernelIdeal.Frame
public import proofs.«01_k».proof.Proof.MlpMath
public import Idealize.ShloMosaic.Lib.Pipeline.Value
public import Idealize.ShloMosaic.Lib.Pipeline.ValueKit.Geometry
public import Idealize.ShloMosaic.Lib.Pointwise
public import Idealize.ShloMosaic.Lib.Tactic

@[expose] public section

noncomputable section

open Idealize.ShloMosaic Idealize.ShloMosaic.TcCoe Idealize.SL.Sem

namespace Cert.KernelIdeal.Block

open Cert.KernelIdeal Cert.KernelIdeal.Gen Cert.Mlp

theorem hz : (![0, 0] : Fin 2 → Nat) = fun _ => 0 := funext fun a => by fin_cases a <;> rfl

section
variable (x0 x1 : Vec Ideal S512x1024 .f32) (x2 : Vec Ideal S512x4096 .bf16) (x3 : Vec Ideal S1x1024 .f32) (x4 : Vec Ideal S1024x4096 .bf16) (x5 : Vec Ideal S4096x1024 .bf16)

/-- The hidden gradient of row `p` of a block. -/
def dzRow (p : Fin 512) : Fin 4096 → EReal :=
  dz (fun k => x0 (ix2 p k)) (fun f => x2 (ix2 p f)) fun f k => x5 (ix2 f k)

theorem dzRow_congr {p p' : Fin 512} {f f' : Fin 4096} (hp : p'.val = p.val) (hf : f'.val = f.val) :
    dzRow x0 x2 x5 p f = dzRow x0 x2 x5 p' f' := by
  obtain rfl := Fin.ext hp; obtain rfl := Fin.ext hf; rfl

/-- The gradient at the norm's output of row `p` of a block. -/
def dhRow (p : Fin 512) : Fin 1024 → EReal := dh (dzRow x0 x2 x5 p) fun d f => x4 (ix2 d f)

/-- The gradient at the block's residual stream, row `p`, column `q`. -/
def dxAt (p : Fin 512) (q : Fin 1024) : EReal :=
  x0 (ix2 p q) + dx (fun d => x1 (ix2 p d)) (fun d => x3 (ix2 0 d)) (dhRow x0 x2 x4 x5 p) q

/-- Row `p`'s part of the norm weight's gradient at column `q`. -/
def dgAt (p : Fin 512) (q : Fin 1024) : EReal :=
  dhRow x0 x2 x4 x5 p q * (x1 (ix2 p q) * rstd fun d => x1 (ix2 p d))

end

theorem out6_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S8x1024 .f32) (harg9 : arg9.IsWhole) (hc0 : cond0_0 i)
    (x0 x1 : Vec Ideal S512x1024 .f32) (x2 : Vec Ideal S512x4096 .bf16) (x3 : Vec Ideal S1x1024 .f32) (x4 : Vec Ideal S1024x4096 .bf16) (x5 : Vec Ideal S4096x1024 .bf16) (p : Fin 512) (q : Fin 1024) :
    out0_A_6 c i arg1 harg1 arg2 harg2 arg3 harg3 arg4 harg4 arg5 harg5 arg6 harg6 arg7 harg7 arg8 harg8 arg9 harg9 hc0 x0 x1 x2 x3 x4 x5 (ix2 p q) = dxAt x0 x1 x2 x3 x4 x5 p q := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread]
  pointwise [k0_pay4, k0_pay1, k0_pay2, k0_pay3, k0_pay5, k0_pay6, k0_pay12, k0_pay14, k0_pay13, k0_pay11, k0_pay10, k0_pay9, k0_pay8, k0_pay7]
  simp only [dxAt, dx, dhRow, dh, dzRow, dz, rstd, sum_tiles] <;> rfl

theorem out7_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S8x1024 .f32) (harg9 : arg9.IsWhole) (hc0 : cond0_0 i)
    (x0 x1 : Vec Ideal S512x1024 .f32) (x2 : Vec Ideal S512x4096 .bf16) (x3 : Vec Ideal S1x1024 .f32) (x4 : Vec Ideal S1024x4096 .bf16) (x5 : Vec Ideal S4096x1024 .bf16) (y : S512x4096.Idx) :
    out0_A_7 c i arg1 harg1 arg2 harg2 arg3 harg3 arg4 harg4 arg5 harg5 arg6 harg6 arg7 harg7 arg8 harg8 arg9 harg9 hc0 x0 x1 x2 x3 x4 x5 y = dzRow x0 x2 x5 (y 0) (y 1) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  refine View.canon_apply_of_pieces (fun y => dzRow x0 x2 x5 (y 0) (y 1)) _ ?_ y (cover0_A_7 c i arg1 harg1 arg2 harg2 arg3 harg3 arg4 harg4 arg5 harg5 arg6 harg6 arg7 harg7 arg8 harg8 arg9 harg9 hc0 x0 x1 x2 x3 x4 x5 y)
  unfold kernelRun0_A
  dsimp only
  sl_unfold_words
  simp only [View.readAt_eq_ld, harg1.read_unread, harg2.read_unread, harg3.read_unread, harg4.read_unread, harg5.read_unread, harg6.read_unread]
  intro pc hpc x
  simp only [List.mem_cons, List.not_mem_nil, or_false] at hpc
  rcases hpc with rfl | rfl | rfl | rfl
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨3072 + (x 1).val, by have h : (x 1).val < 1024 := (x 1).isLt; omega⟩)
      ((ValueKit.rect_emb_unit_val _ _ _ x 0).trans (Nat.zero_add _)) (ValueKit.rect_emb_unit_val _ _ _ x 1)
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨2048 + (x 1).val, by have h : (x 1).val < 1024 := (x 1).isLt; omega⟩)
      ((ValueKit.rect_emb_unit_val _ _ _ x 0).trans (Nat.zero_add _)) (ValueKit.rect_emb_unit_val _ _ _ x 1)
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨1024 + (x 1).val, by have h : (x 1).val < 1024 := (x 1).isLt; omega⟩)
      ((ValueKit.rect_emb_unit_val _ _ _ x 0).trans (Nat.zero_add _)) (ValueKit.rect_emb_unit_val _ _ _ x 1)
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨(x 1).val, by have h : (x 1).val < 1024 := (x 1).isLt; omega⟩)
      ((ValueKit.rect_emb_unit_val _ _ _ x 0).trans (Nat.zero_add _)) ((ValueKit.rect_emb_unit_val _ _ _ x 1).trans (Nat.zero_add _))

theorem out8_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S8x1024 .f32) (harg9 : arg9.IsWhole) (hc0 : cond0_0 i)
    (x0 x1 : Vec Ideal S512x1024 .f32) (x2 : Vec Ideal S512x4096 .bf16) (x3 : Vec Ideal S1x1024 .f32) (x4 : Vec Ideal S1024x4096 .bf16) (x5 : Vec Ideal S4096x1024 .bf16) (s : Fin 8) (q : Fin 1024) :
    out0_A_8 c i arg1 harg1 arg2 harg2 arg3 harg3 arg4 harg4 arg5 harg5 arg6 harg6 arg7 harg7 arg8 harg8 arg9 harg9 hc0 x0 x1 x2 x3 x4 x5 (ix2 s q) = ∑ k : Fin 64, dgAt x0 x1 x2 x4 x5 ⟨k.val * 8 + s.val, by omega⟩ q := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S8x1024) hz, View.readCov_unit_zero (S := S8x1024) _ hz]
  simp only [View.readAt_eq_ld, harg1.read_unread, harg2.read_unread, harg3.read_unread, harg4.read_unread, harg5.read_unread, harg6.read_unread]
  pointwise [k0_pay4, k0_pay1, k0_pay2, k0_pay3, k0_pay5, k0_pay6, k0_pay12, k0_pay14, k0_pay13, k0_pay11, k0_pay10, k0_pay9, k0_pay8, k0_pay7]
  simp only [dgAt, dhRow, dh, dzRow, dz, rstd, sum_tiles] <;> rfl

theorem out6_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S8x1024 .f32) (harg9 : arg9.IsWhole) (hc0 : ¬cond0_0 i)
    (x0 x1 : Vec Ideal S512x1024 .f32) (x2 : Vec Ideal S512x4096 .bf16) (x3 : Vec Ideal S1x1024 .f32) (x4 : Vec Ideal S1024x4096 .bf16) (x5 : Vec Ideal S4096x1024 .bf16) (xo : Vec Ideal S8x1024 .f32) (p : Fin 512) (q : Fin 1024) :
    out0_B_6 c i arg1 harg1 arg2 harg2 arg3 harg3 arg4 harg4 arg5 harg5 arg6 harg6 arg7 harg7 arg8 harg8 arg9 harg9 hc0 x0 x1 x2 x3 x4 x5 xo (ix2 p q) = dxAt x0 x1 x2 x3 x4 x5 p q := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread]
  pointwise [k0_pay4, k0_pay1, k0_pay2, k0_pay3, k0_pay5, k0_pay6, k0_pay12, k0_pay14, k0_pay13, k0_pay11, k0_pay10, k0_pay9, k0_pay8, k0_pay7]
  simp only [dxAt, dx, dhRow, dh, dzRow, dz, rstd, sum_tiles] <;> rfl

theorem out7_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S8x1024 .f32) (harg9 : arg9.IsWhole) (hc0 : ¬cond0_0 i)
    (x0 x1 : Vec Ideal S512x1024 .f32) (x2 : Vec Ideal S512x4096 .bf16) (x3 : Vec Ideal S1x1024 .f32) (x4 : Vec Ideal S1024x4096 .bf16) (x5 : Vec Ideal S4096x1024 .bf16) (xo : Vec Ideal S8x1024 .f32) (y : S512x4096.Idx) :
    out0_B_7 c i arg1 harg1 arg2 harg2 arg3 harg3 arg4 harg4 arg5 harg5 arg6 harg6 arg7 harg7 arg8 harg8 arg9 harg9 hc0 x0 x1 x2 x3 x4 x5 xo y = dzRow x0 x2 x5 (y 0) (y 1) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo)]
  refine View.canon_apply_of_pieces (fun y => dzRow x0 x2 x5 (y 0) (y 1)) _ ?_ y (cover0_B_7 c i arg1 harg1 arg2 harg2 arg3 harg3 arg4 harg4 arg5 harg5 arg6 harg6 arg7 harg7 arg8 harg8 arg9 harg9 hc0 x0 x1 x2 x3 x4 x5 xo y)
  unfold kernelRun0_B
  dsimp only
  sl_unfold_words
  simp only [View.readAt_eq_ld, harg1.read_unread, harg2.read_unread, harg3.read_unread, harg4.read_unread, harg5.read_unread, harg6.read_unread, harg9.read_unread]
  intro pc hpc x
  simp only [List.mem_cons, List.not_mem_nil, or_false] at hpc
  rcases hpc with rfl | rfl | rfl | rfl
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨3072 + (x 1).val, by have h : (x 1).val < 1024 := (x 1).isLt; omega⟩)
      ((ValueKit.rect_emb_unit_val _ _ _ x 0).trans (Nat.zero_add _)) (ValueKit.rect_emb_unit_val _ _ _ x 1)
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨2048 + (x 1).val, by have h : (x 1).val < 1024 := (x 1).isLt; omega⟩)
      ((ValueKit.rect_emb_unit_val _ _ _ x 0).trans (Nat.zero_add _)) (ValueKit.rect_emb_unit_val _ _ _ x 1)
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨1024 + (x 1).val, by have h : (x 1).val < 1024 := (x 1).isLt; omega⟩)
      ((ValueKit.rect_emb_unit_val _ _ _ x 0).trans (Nat.zero_add _)) (ValueKit.rect_emb_unit_val _ _ _ x 1)
  · pointwise [k0_pay4, k0_pay1, k0_pay2, k0_pay3, k0_pay5, k0_pay6, k0_pay12, k0_pay14, k0_pay13, k0_pay11, k0_pay10, k0_pay9, k0_pay8, k0_pay7]
    exact dzRow_congr x0 x2 x5 (p := x 0) (f := ⟨(x 1).val, by have h : (x 1).val < 1024 := (x 1).isLt; omega⟩)
      ((ValueKit.rect_emb_unit_val _ _ _ x 0).trans (Nat.zero_add _)) ((ValueKit.rect_emb_unit_val _ _ _ x 1).trans (Nat.zero_add _))

theorem out8_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S8x1024 .f32) (harg9 : arg9.IsWhole) (hc0 : ¬cond0_0 i)
    (x0 x1 : Vec Ideal S512x1024 .f32) (x2 : Vec Ideal S512x4096 .bf16) (x3 : Vec Ideal S1x1024 .f32) (x4 : Vec Ideal S1024x4096 .bf16) (x5 : Vec Ideal S4096x1024 .bf16) (xo : Vec Ideal S8x1024 .f32) (s : Fin 8) (q : Fin 1024) :
    out0_B_8 c i arg1 harg1 arg2 harg2 arg3 harg3 arg4 harg4 arg5 harg5 arg6 harg6 arg7 harg7 arg8 harg8 arg9 harg9 hc0 x0 x1 x2 x3 x4 x5 xo (ix2 s q) = xo (ix2 s q) + ∑ k : Fin 64, dgAt x0 x1 x2 x4 x5 ⟨k.val * 8 + s.val, by omega⟩ q := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread]
  pointwise [k0_pay4, k0_pay1, k0_pay2, k0_pay3, k0_pay5, k0_pay6, k0_pay12, k0_pay14, k0_pay13, k0_pay11, k0_pay10, k0_pay9, k0_pay8, k0_pay7]
  simp only [dgAt, dhRow, dh, dzRow, dz, rstd, sum_tiles] <;> rfl

end Cert.KernelIdeal.Block

end
-- ==== Proof.MlpArray.lean ====
/-
  The MLP backward call's three output arrays, at the ideal instance, as functions of its argument arrays: the residual
  stream's gradient and the hidden gradient row by row, and the norm weight's gradient as the accumulator of eight rows,
  row `s` summing the tokens congruent to `s` modulo 8.
-/
module

public import proofs.«01_k».proof.Proof.MlpBlock
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Mlp

section
variable (x0 x1 : FVec Ideal S16384x1024 .f32) (x2 : FVec Ideal S16384x4096 .bf16) (x3 : FVec Ideal S1x1024 .f32)
  (x4 : FVec Ideal S1024x4096 .bf16) (x5 : FVec Ideal S4096x1024 .bf16)

/-- Token `p`'s hidden gradient. -/
def dzTok (p : Fin 16384) : Fin 4096 → EReal :=
  dz (fun k => x0 (ix2 p k)) (fun f => x2 (ix2 p f)) fun f k => x5 (ix2 f k)

/-- Token `p`'s gradient at the norm's output. -/
def dhTok (p : Fin 16384) : Fin 1024 → EReal := dh (dzTok x0 x2 x5 p) fun d f => x4 (ix2 d f)

/-- Token `p`'s gradient at the residual stream, column `q`. -/
def dxTok (p : Fin 16384) (q : Fin 1024) : EReal :=
  x0 (ix2 p q) + dx (fun d => x1 (ix2 p d)) (fun d => x3 (ix2 0 d)) (dhTok x0 x2 x4 x5 p) q

/-- Token `p`'s part of the norm weight's gradient, column `q`. -/
def dgTok (p : Fin 16384) (q : Fin 1024) : EReal :=
  dhTok x0 x2 x4 x5 p q * (x1 (ix2 p q) * rstd fun d => x1 (ix2 p d))

/-- The residual stream's gradient. -/
def dxArr : FVec Ideal S16384x1024 .f32 := fun i => dxTok x0 x1 x2 x3 x4 x5 (i 0) (i 1)

/-- The hidden gradient. -/
def dzArr : FVec Ideal S16384x4096 .bf16 := fun i => dzTok x0 x2 x5 (i 0) (i 1)

end

/-- Where each window's block of point `t` sits: the token rows of the tiled ones, the whole array of the others. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![0, 0] ∧ t.val < 32 :=
  (by decide +kernel : ∀ t : Fin grid0.N, _)

variable (m : (ℓ : Loc nD τ sig) → Buf (Elt Ideal) ℓ)

/-- A row of point `t`'s blocks is the token's row. -/
theorem dxAt_blk (c : Dev nD) (t : Fin cfg0.N) (y : S512x1024.Idx) :
    dxAt (iblk m c 0 t) (iblk m c 1 t) (iblk m c 2 t) (iblk m c 3 t) (iblk m c 4 t) (iblk m c 5 t) (y 0) (y 1)
      = dxArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (((cfg0.win 6).blk t).view.emb y) := by
  simp only [dxArr, dxTok, dhTok, dzTok, dxAt, dhRow, dzRow, dx, dh, dz, rstd]
  blk_point [iblk, V, idx t]

theorem dzRow_blk (c : Dev nD) (t : Fin cfg0.N) (y : S512x4096.Idx) :
    dzRow (iblk m c 0 t) (iblk m c 2 t) (iblk m c 5 t) (y 0) (y 1)
      = dzArr (m ((c.tc : Thread nD τ).loc main_arg0)) (m ((c.tc : Thread nD τ).loc main_arg2)) (m ((c.tc : Thread nD τ).loc main_arg5))
          (((cfg0.win 7).blk t).view.emb y) := by
  simp only [dzArr, dzTok, dzRow, dz]
  blk_point [iblk, V, idx t]

theorem dgAt_blk (c : Dev nD) (t : Fin cfg0.N) (p : Fin 512) (q : Fin 1024) (P : Fin 16384) (hP : P.val = t.val * 512 + p.val) :
    dgAt (iblk m c 0 t) (iblk m c 1 t) (iblk m c 2 t) (iblk m c 4 t) (iblk m c 5 t) p q
      = dgTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) P q := by
  simp only [dgTok, dhTok, dzTok, dgAt, dhRow, dzRow, dh, dz, rstd]
  blk_point [iblk, V, idx t, hP]

/-- What point `t` leaves in the first output's buffer. -/
theorem left_dx (c : Dev nD) (t : Fin cfg0.N) (p : Fin 512) (q : Fin 1024) :
    (outsAt0 m c t.val t.isLt).1 (ix2 p q)
      = dxAt (iblk m c 0 t) (iblk m c 1 t) (iblk m c 2 t) (iblk m c 3 t) (iblk m c 4 t) (iblk m c 5 t) p q := by
  by_cases h : t.val % 32 = 0
  · rw [outsAt0_A m c t h]
    dsimp only
    rw [out6_A]
  · rw [outsAt0_B m c t h]
    dsimp only
    rw [out6_B]

/-- What point `t` leaves in the second output's buffer. -/
theorem left_dz (c : Dev nD) (t : Fin cfg0.N) (y : S512x4096.Idx) :
    (outsAt0 m c t.val t.isLt).2.1 y = dzRow (iblk m c 0 t) (iblk m c 2 t) (iblk m c 5 t) (y 0) (y 1) := by
  by_cases h : t.val % 32 = 0
  · rw [outsAt0_A m c t h]
    dsimp only
    rw [out7_A]
  · rw [outsAt0_B m c t h]
    dsimp only
    rw [out7_B]

/-- The residual stream's gradient after the run. -/
theorem final_dx (c : Dev nD) : (dats m 0 c).arrAt 6 cfg0.N
    = dxArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  refine Eq.trans ?_ (dxAt_blk m c t y)
  blk_simp
  rw [after0_6]
  exact (congrArg (outsAt0 m c t.val t.isLt).1 (ix2_eta y).symm).trans (left_dx m c t (y 0) (y 1))

/-- The hidden gradient after the run. -/
theorem final_dz (c : Dev nD) : (dats m 0 c).arrAt 7 cfg0.N
    = dzArr (m ((c.tc : Thread nD τ).loc main_arg0)) (m ((c.tc : Thread nD τ).loc main_arg2)) (m ((c.tc : Thread nD τ).loc main_arg5)) := by
  refine (dats m 0 c).arrAt_eq_of_covers 7 _ (by decide +kernel) fun t _ y => ?_
  refine Eq.trans ?_ (dzRow_blk m c t y)
  blk_simp
  rw [after0_7]
  exact left_dz m c t y

/-- The first point leaves its own rows' parts in the accumulator. -/
theorem acc_first (c : Dev nD) (t : Fin cfg0.N) (h : t.val % 32 = 0) (s : Fin 8) (q : Fin 1024) :
    (outsAt0 m c t.val t.isLt).2.2 (ix2 s q)
      = 0 + ∑ k : Fin 64, dgAt (iblk m c 0 t) (iblk m c 1 t) (iblk m c 2 t) (iblk m c 4 t) (iblk m c 5 t) ⟨k.val * 8 + s.val, by omega⟩ q := by
  rw [outsAt0_A m c t h]
  dsimp only
  rw [out8_A, zero_add]

/-- Every other point adds its rows' parts to what it finds. -/
theorem acc_next (c : Dev nD) (t : Fin cfg0.N) (h : ¬t.val % 32 = 0) (s : Fin 8) (q : Fin 1024) :
    (outsAt0 m c t.val t.isLt).2.2 (ix2 s q)
      = (outsAt0 m c (t.val - 1) (Nat.lt_of_le_of_lt (Nat.sub_le _ _) t.isLt)).2.2 (ix2 s q)
        + ∑ k : Fin 64, dgAt (iblk m c 0 t) (iblk m c 1 t) (iblk m c 2 t) (iblk m c 4 t) (iblk m c 5 t) ⟨k.val * 8 + s.val, by omega⟩ q := by
  rw [outsAt0_B m c t h]
  dsimp only
  rw [out8_B]

/-- The last grid point. -/
def tLast : Fin cfg0.N := ⟨31, lt_of_lt_of_eq (by decide) N_0.symm⟩

/-- The accumulator after the last point, row `s`: the tokens' parts summed over the points and over every eighth row of
    each point's block. -/
theorem acc_eq (c : Dev nD) (s : Fin 8) (q : Fin 1024) :
    (outsAt0 m c tLast.val tLast.isLt).2.2 (ix2 s q)
      = ∑ t : Fin 32, ∑ k : Fin 64, dgTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
          ⟨t.val * 512 + (k.val * 8 + s.val), by omega⟩ q := by
  have e := Pipeline.eq_sum_fin_of_reset_step_last (fun n h => (outsAt0 m c n h).2.2 (ix2 s q)) 32 (0 : EReal)
    (fun t => ∑ k : Fin 64, dgAt (iblk m c 0 t) (iblk m c 1 t) (iblk m c 2 t) (iblk m c 4 t) (iblk m c 5 t) ⟨k.val * 8 + s.val, by omega⟩ q)
    (fun t h => acc_first m c t h s q) (fun t h => acc_next m c t h s q) (le_of_eq N_0) tLast rfl
  refine e.trans ((zero_add _).trans ?_)
  exact Finset.sum_congr rfl fun t _ => Finset.sum_congr rfl fun k _ => dgAt_blk m c t _ q _ rfl

/-- The accumulator's array after the run. -/
theorem final_acc (c : Dev nD) : (dats m 0 c).arrAt 8 cfg0.N
    = ((outsAt0 m c tLast.val tLast.isLt).2.2 : FVec Ideal S8x1024 .f32) := by
  refine (dats m 0 c).arrAt_eq_of_after_last 8 tLast (by decide +kernel) _ fun j => ?_
  blk_simp
  rw [after0_8]

/-- Summing the accumulator's eight rows sums every token. -/
theorem acc_total (F : Fin 16384 → EReal) :
    ∑ s : Fin 8, ∑ t : Fin 32, ∑ k : Fin 64, F ⟨t.val * 512 + (k.val * 8 + s.val), by omega⟩ = ∑ p, F p := by
  rw [Finset.sum_comm]
  rw [← Fin.sum_mul_add_fin 32 512 F]
  refine Finset.sum_congr rfl fun t _ => ?_
  rw [Finset.sum_comm]
  exact Fin.sum_mul_add_fin 64 8 (fun l : Fin 512 => F ⟨t.val * 512 + l.val, by omega⟩)

/-- The host's sum of the accumulator's rows, at column `q`: every token's part. -/
theorem final_dg (c : Dev nD) (q : Fin 1024) :
    Pipeline.afterTail₀ cfgs (dats m) 0 (V0 m) [hostOps1] c main_v1 (ix1 q)
      = ∑ p, dgTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) p q := by
  have hw := Pipeline.withArrays_arr (τ := τ) cfg0.spec (by decide) c (V0 m c) (fun w => (dats m 0 c).arrAt w cfg0.N) 8
  have e : Pipeline.afterTail₀ cfgs (dats m) 0 (V0 m) [hostOps1] c main_v1
      = Host.reduceAdd (F := Ideal) (s := S8x1024) (φ := .f32) ((dats m 0 c).arrAt 8 cfg0.N) (constant S_ .f32 0x00000000#32) reducesTo_S8x1024_S1024_d0 h_S_ := by
    rw [← hw]
    unfold Pipeline.afterTail₀
    after_results
    rfl
  rw [e, final_acc]
  pointwise
  simp only [acc_eq]
  exact acc_total fun p => dgTok _ _ _ _ _ p q

end Cert.KernelIdeal.Arrays

end
-- ==== Proof.MlpRef.lean ====
/-
  The reference's three results, at the ideal instance, token by token: its element at an index is the same formula of
  the argument arrays that the kernel's arrays hold.
-/
module

public import proofs.«01_k».proof.Defs
public import proofs.«01_k».proof.Proof.Gen.ReferenceIdeal.Run
public import proofs.«01_k».proof.Proof.Gen.ReferenceIdeal.Read
public import proofs.«01_k».proof.Proof.MlpNorm
public import proofs.«01_k».proof.Proof.MlpArray
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Tok

open Cert.ReferenceIdeal Cert.ReferenceIdeal.Gen Cert.ReferenceIdeal.Read Cert.Mlp
open Cert.KernelIdeal.Arrays (dzTok dhTok dxTok dgTok dxArr dzArr)

variable (x0 x1 : FVec Ideal S16384x1024 .f32) (x2 : FVec Ideal S16384x4096 .bf16) (x3 : FVec Ideal S1x1024 .f32)
  (x4 : FVec Ideal S1024x4096 .bf16) (x5 : FVec Ideal S4096x1024 .bf16)

/-- The hidden gradient before its cast. -/
theorem dz_f32 (p : Fin 16384) (f : Fin 4096) : val_main_v16 (F := Ideal) x0 x2 x5 (ix2 p f) = dzTok x0 x2 x5 p f := by
  pointwise [val_main_v16, val_main_v5, val_main_v14, val_main_v15, val_main_v2, val_main_v4, val_main_v13, val_main_v9, val_main_v8, val_main_v3, val_main_cst, val_main_cst_2, val_main_cst_1, val_main_call0_v0, val_main_call0_cst, val_main_v1]
  exact dz_select (fun k => x0 (ix2 p k)) (fun f => x2 (ix2 p f)) (fun f k => x5 (ix2 f k)) f

/-- The gradient at the norm's output. -/
theorem dh_apply (p : Fin 16384) (d : Fin 1024) : val_main_v37 (F := Ideal) x0 x2 x4 x5 (ix2 p d) = dhTok x0 x2 x4 x5 p d := by
  pointwise [val_main_v37, val_main_v0]
  rw [dhTok, dh]
  exact Finset.sum_congr rfl fun f _ => by rw [dz_f32]

theorem dz_eq : val_main_v59 (F := Ideal) x0 x2 x5 = dzArr x0 x2 x5 := by
  funext i
  pointwise [val_main_v59]
  exact (congrArg _ (ix2_eta i).symm).trans (dz_f32 x0 x2 x5 (i 0) (i 1))

theorem dx_apply (p : Fin 16384) (q : Fin 1024) :
    val_main_v58 (F := Ideal) x0 x1 x2 x3 x4 x5 (ix2 p q) = dxTok x0 x1 x2 x3 x4 x5 p q := by
  unfold dxTok
  rw [← dx_chain]
  pointwise [val_main_v58, val_main_v57, val_main_v56, val_main_v55, val_main_v54, val_main_v53, val_main_v52, val_main_v51, val_main_v50, val_main_v49, val_main_v48, val_main_v47, val_main_v46, val_main_v45, val_main_v44, val_main_v42, val_main_v41, val_main_v32, val_main_v31, val_main_v29, val_main_v28, val_main_v27, val_main_v26, val_main_v25, val_main_v24, val_main_v23, val_main_v22, val_main_v21, val_main_v20, val_main_v19, val_main_v18, val_main_v17, val_main_cst_3, val_main_cst_4, val_main_cst_5, val_main_cst_6, val_main_cst_9, val_main_cst_10, val_main_cst_11]
  simp only [Fin.sum_univ_one, dh_apply, rstd, msq]

theorem dx_eq : val_main_v58 (F := Ideal) x0 x1 x2 x3 x4 x5 = dxArr x0 x1 x2 x3 x4 x5 := by
  funext i
  rw [← ix2_eta i]
  exact dx_apply x0 x1 x2 x3 x4 x5 (i 0) (i 1)

/-- The norm weight's gradient is the sum of the tokens' parts. -/
theorem dg_apply (q : Fin 1024) : val_main_v43 (F := Ideal) x0 x1 x2 x4 x5 (ix1 q) = ∑ p, dgTok x0 x1 x2 x4 x5 p q := by
  pointwise [val_main_v43, val_main_v40, val_main_v39, val_main_v38, val_main_v30, val_main_v29, val_main_v25, val_main_v24, val_main_v23, val_main_v22, val_main_v21, val_main_v20, val_main_v19, val_main_v18, val_main_cst_3, val_main_cst_4, val_main_cst_5, val_main_cst_7, val_main_cst_8]
  simp only [Fin.sum_univ_one, dh_apply]
  exact Finset.sum_congr rfl fun p _ => by rw [dgTok, mul_comm]; rfl

end Cert.ReferenceIdeal.Tok

end
-- ==== Proof.MlpClaim.lean ====
/-
  The value claim of the MLP backward call: both programs, from memories that agree on the arguments, end with the same
  residual gradient, hidden gradient and norm weight gradient.
-/
module

public import proofs.«01_k».proof.Proof.MlpRef
public import Idealize.ShloMosaic.Lib.Claim

@[expose] public section

set_option maxRecDepth 16384

noncomputable section

open Idealize.ShloMosaic Idealize.ShloMosaic.TcCoe Idealize.SL.Sem

namespace Cert.MlpClaim

open Cert.ReferenceIdeal.Read (val_main_v58_eq val_main_v59_eq val_main_v43_eq)

theorem algebraic : Cert.algebraic_KernelIdeal_ReferenceIdeal := by
  pair_intro
  · run_from Cert.KernelIdeal.Gen.run_main m g
  · run_from Cert.ReferenceIdeal.Value.run m' g'
    · refine Eq.trans ?_ (Cert.KernelIdeal.Arrays.final_dx m c).symm
      obtain ⟨h0, h1, h2, h3, h4, h5⟩ := hagree c
      rw [val_main_v58_eq, h0, h1, h2, h3, h4, h5]
      exact Cert.ReferenceIdeal.Tok.dx_eq ..
    · refine Eq.trans ?_ (Cert.KernelIdeal.Arrays.final_dz m c).symm
      exact (val_main_v59_eq ..).trans (Cert.ReferenceIdeal.Tok.dz_eq ..)
    · refine (val_main_v43_eq ..).trans ?_
      funext i
      rw [← ix1_eta i]
      exact (Cert.ReferenceIdeal.Tok.dg_apply ..).trans (Cert.KernelIdeal.Arrays.final_dg m c (i 0)).symm

end Cert.MlpClaim

end
-- ==== Proof.GateMath.lean ====
/-
  The layer norm followed by SiLU, forward and backward, for one row of 512 entries over the extended reals: the kernel's
  factored gradient and the chain rule's are the same where the row's cotangent and the norm's weight are finite.
-/
module

public import proofs.«01_k».proof.Proof.MlpNorm

@[expose] public section

noncomputable section

open Idealize.ShloMosaic

namespace Cert.Gate

open Cert.Mlp (eps negHalf)

/-- The row length of the norm, 512, as the f32 constant both programs print. -/
abbrev n512 : EReal := Ideal.ofBits .f32 0x44000000#32

/-- The logistic function. -/
def gate (v : EReal) : EReal := Ideal.div 1 (1 + Ideal.exp (-v))

/-- The row less its mean. -/
def cen (y : Fin 512 → EReal) (q : Fin 512) : EReal := y q - Ideal.div (∑ d, y d) n512

/-- The variance plus epsilon. -/
def vare (y : Fin 512 → EReal) : EReal := Ideal.div (∑ d, cen y d * cen y d) n512 + eps

/-- The norm's reciprocal root. -/
def rstd (y : Fin 512 → EReal) : EReal := Ideal.rsqrt (vare y)

/-- The normalised row. -/
def xhat (y : Fin 512 → EReal) (q : Fin 512) : EReal := cen y q * rstd y

/-- The norm's output. -/
def ln (y g b : Fin 512 → EReal) (q : Fin 512) : EReal := xhat y q * g q + b q

/-- SiLU of the norm's output. -/
def silu (y g b : Fin 512 → EReal) (q : Fin 512) : EReal := ln y g b q * gate (ln y g b q)

/-- The gradient at SiLU's argument `l`, from the gradient `u` at its value. -/
def dsilu (u l : EReal) : EReal := u * gate l * (1 + l * (1 - gate l))

/-- The norm's gradient at its input, from the gradient `m` at the normalised row. -/
def dnorm (y m : Fin 512 → EReal) (q : Fin 512) : EReal :=
  rstd y * (m q - Ideal.div (∑ d, m d) n512 - xhat y q * Ideal.div (∑ d, m d * xhat y d) n512)

/-- The part of the norm's gradient that comes before the mean's own: through the centred row. -/
def dcen (y m : Fin 512 → EReal) (q : Fin 512) : EReal :=
  m q * rstd y + cen y q * Ideal.div ((∑ d, cen y d * m d) * (negHalf * Ideal.div (rstd y) (vare y))) n512
    + Ideal.div ((∑ d, cen y d * m d) * (negHalf * Ideal.div (rstd y) (vare y))) n512 * cen y q

/-- The merged branches' gradient, column `k`: the residual stream's gradient through the output product. -/
def dm (x : Fin 1024 → EReal) (wo : Fin 1024 → Fin 1024 → EReal) (k : Fin 1024) : EReal := ∑ d, x d * wo k d

/-- A branch's product, column `k`. -/
def br (a : Fin 512 → EReal) (w : Fin 512 → Fin 1024 → EReal) (k : Fin 1024) : EReal := ∑ d, a d * w d k

/-- A gate's gradient, from the merged gradient `m`, the branch `b` and the gate's sigmoid `s`. -/
def dgate (m b s : EReal) : EReal := m * b * s * (1 - s)

/-- A branch's gradient behind its gate `g`. -/
def dbr (x g : Fin 1024 → EReal) (wo : Fin 1024 → Fin 1024 → EReal) (k : Fin 1024) : EReal := dm x wo k * gate (g k)

/-- A branch's gradient at its input. -/
def back (x g : Fin 1024 → EReal) (wo : Fin 1024 → Fin 1024 → EReal) (w : Fin 512 → Fin 1024 → EReal) (e : Fin 512) : EReal :=
  ∑ k, dbr x g wo k * w e k

/-- The gradient at the norm's output. -/
def dln (x g : Fin 1024 → EReal) (wo : Fin 1024 → Fin 1024 → EReal) (w : Fin 512 → Fin 1024 → EReal) (y lg lb : Fin 512 → EReal) (q : Fin 512) : EReal :=
  dsilu (back x g wo w q) (ln y lg lb q)

/-- The convolution branch's gradient at the norm's input. -/
def dy (x g : Fin 1024 → EReal) (wo : Fin 1024 → Fin 1024 → EReal) (w : Fin 512 → Fin 1024 → EReal) (y lg lb : Fin 512 → EReal) (q : Fin 512) : EReal :=
  dnorm y (fun d => dln x g wo w y lg lb d * lg d) q

theorem n512_eq : n512 = ((512 : ℝ) : EReal) := by
  simp [n512, Ideal.ofBits, Ideal.ieee, -EReal.coe_mul]; norm_num

theorem div_n512 (a : EReal) : Ideal.div a n512 = a * ((1 / 512 : ℝ) : EReal) := by
  rw [n512_eq, Ideal.div_coe (by norm_num)]

theorem gate_bot : gate ⊥ = 0 := by
  rw [gate, EReal.neg_bot, Ideal.exp_top, EReal.add_top_of_ne_bot (by decide)]
  simp [Ideal.div]

theorem gate_top : gate ⊤ = 1 := by
  rw [gate, EReal.neg_top, Ideal.exp_bot, add_zero]
  rw [show (1 : EReal) = ((1 : ℝ) : EReal) from rfl, Ideal.div_coe (by norm_num), ← EReal.coe_mul]
  norm_num

theorem gate_coe (v : ℝ) : ∃ s : ℝ, gate (v : EReal) = (s : EReal) := by
  refine ⟨1 * (1 / (1 + Real.exp (-v))), ?_⟩
  have h : (1 + Real.exp (-v)) ≠ 0 := by positivity
  rw [gate, ← EReal.coe_neg, Ideal.exp_coe, show (1 : EReal) = ((1 : ℝ) : EReal) from rfl, ← EReal.coe_add, Ideal.div_coe h, ← EReal.coe_mul]

/-- The logistic function is a real at every extended real. -/
theorem gate_real (v : EReal) : ∃ s : ℝ, gate v = (s : EReal) := by
  induction v with
  | bot => exact ⟨0, gate_bot⟩
  | top => exact ⟨1, gate_top⟩
  | coe v => exact gate_coe v

/-- SiLU's derivative in the chain rule's form is the factored one, and it is a real. -/
theorem dsilu_chain (u : ℝ) (l : EReal) :
    ∃ d : ℝ, dsilu u l = (d : EReal) ∧ (u : EReal) * gate l + l * u * (gate l * (1 - gate l)) = (d : EReal) := by
  induction l with
  | bot => exact ⟨0, by simp [dsilu, gate_bot], by simp [gate_bot]⟩
  | top =>
    have h : (1 : EReal) - 1 = 0 := by rw [show (1 : EReal) = ((1 : ℝ) : EReal) from rfl, ← EReal.coe_sub]; norm_num
    exact ⟨u, by simp [dsilu, gate_top, h], by simp [gate_top, h]⟩
  | coe l =>
    obtain ⟨s, hs⟩ := gate_coe l
    refine ⟨u * s * (1 + l * (1 - s)), ?_, ?_⟩
    · rw [dsilu, hs]
      norm_cast
    · rw [hs]
      have e : (u : EReal) * s + l * u * (s * (1 - s)) = ((u * s + l * u * (s * (1 - s)) : ℝ) : EReal) := by norm_cast
      rw [e]
      congr 1; ring

theorem coe_sum {ι : Type} [Fintype ι] (f : ι → ℝ) : ((∑ i, f i : ℝ) : EReal) = ∑ i, (f i : EReal) := by
  classical
  have h (s : Finset ι) : ((∑ i ∈ s, f i : ℝ) : EReal) = ∑ i ∈ s, (f i : EReal) := by
    induction s using Finset.induction_on with
    | empty => simp
    | insert a s ha ih => rw [Finset.sum_insert ha, Finset.sum_insert ha, EReal.coe_add, ih]
  exact h Finset.univ

/-- A sum with an infinite term is infinite. -/
theorem sum_real {ι : Type} [Fintype ι] [DecidableEq ι] (f : ι → EReal) (s : ℝ) (h : ∑ i, f i = (s : EReal)) (i : ι) :
    ∃ r : ℝ, f i = (r : EReal) := by
  rw [← Finset.add_sum_erase Finset.univ f (Finset.mem_univ i)] at h
  revert h
  generalize ∑ x ∈ Finset.univ.erase i, f x = z
  induction f i with
  | coe r => exact fun _ => ⟨r, rfl⟩
  | bot => intro h; simp at h
  | top =>
    induction z with
    | bot => intro h; simp at h
    | top => intro h; simp at h
    | coe z => intro h; simp at h

/-- Either the whole row is real, or the norm's variance is infinite. -/
theorem row_cases (y : Fin 512 → EReal) : (∃ r : Fin 512 → ℝ, y = fun q => (r q : EReal)) ∨ vare y = ⊤ := by
  by_cases h : ∃ s : ℝ, ∑ d, y d = (s : EReal)
  · obtain ⟨s, hs⟩ := h
    choose r hr using sum_real y s hs
    exact .inl ⟨r, funext hr⟩
  · right
    have hc (q : Fin 512) : cen y q * cen y q = ⊤ := by
      rw [cen, div_n512]
      revert h
      generalize ∑ d, y d = z
      induction z with
      | coe z => exact fun h => absurd ⟨z, rfl⟩ h
      | bot =>
        intro _
        rw [EReal.bot_mul_coe_of_pos (by norm_num)]
        induction y q with
        | bot => simp
        | top => simp
        | coe v => simp
      | top =>
        intro _
        rw [EReal.top_mul_coe_of_pos (by norm_num)]
        induction y q with
        | bot => simp
        | top => simp
        | coe v => simp
    obtain ⟨e, he, hee⟩ := Cert.Mlp.eps_eq
    have hS : (∑ d : Fin 512, cen y d * cen y d) = ⊤ := by
      rw [← Finset.add_sum_erase Finset.univ _ (Finset.mem_univ (0 : Fin 512)), hc 0]
      refine EReal.top_add_of_ne_bot ?_
      have : 0 ≤ ∑ x ∈ Finset.univ.erase (0 : Fin 512), cen y x * cen y x := Finset.sum_nonneg fun d _ => Cert.Mlp.mul_self_nonneg_ereal _
      exact ne_of_gt (lt_of_lt_of_le EReal.bot_lt_zero this)
    rw [vare, div_n512, hee, hS, EReal.top_mul_coe_of_pos (by norm_num)]
    exact EReal.top_add_coe e

/-- A real row: its centred row is real with sum zero, and the reciprocal root over its radicand is its cube. -/
theorem row_real (r : Fin 512 → ℝ) :
    ∃ (C : Fin 512 → ℝ) (R : ℝ), (∀ q, cen (fun q => (r q : EReal)) q = (C q : EReal)) ∧ ∑ q, C q = 0
      ∧ rstd (fun q => (r q : EReal)) = (R : EReal) ∧ Ideal.div (rstd fun q => (r q : EReal)) (vare fun q => (r q : EReal)) = ((R * R * R : ℝ) : EReal) := by
  obtain ⟨e, he, hee⟩ := Cert.Mlp.eps_eq
  have hC (q : Fin 512) : cen (fun q => (r q : EReal)) q = ((r q - (∑ d, r d) * (1 / 512) : ℝ) : EReal) := by
    rw [cen, div_n512, ← coe_sum, ← EReal.coe_mul, ← EReal.coe_sub]
  have h0 : 0 < (∑ d, (r d - (∑ d, r d) * (1 / 512)) * (r d - (∑ d, r d) * (1 / 512))) * (1 / 512) + e :=
    add_pos_of_nonneg_of_pos (mul_nonneg (Finset.sum_nonneg fun d _ => mul_self_nonneg _) (by norm_num)) he
  have hv : vare (fun q => (r q : EReal)) = (((∑ d, (r d - (∑ d, r d) * (1 / 512)) * (r d - (∑ d, r d) * (1 / 512))) * (1 / 512) + e : ℝ) : EReal) := by
    rw [vare, div_n512, hee, EReal.coe_add, EReal.coe_mul, coe_sum]
    simp only [hC, EReal.coe_mul]
  have hs : ∑ q, (r q - (∑ d, r d) * (1 / 512)) = 0 := by
    rw [Finset.sum_sub_distrib]
    simp
    ring
  rw [rstd, hv]
  generalize (∑ d, (r d - (∑ d, r d) * (1 / 512)) * (r d - (∑ d, r d) * (1 / 512))) * (1 / 512) + e = v at h0
  have hr : Ideal.rsqrt (v : EReal) = (((Real.sqrt v)⁻¹ : ℝ) : EReal) := by
    rw [Ideal.rsqrt_coe, if_neg (not_lt.mpr h0.le), if_neg h0.ne']
  refine ⟨_, (Real.sqrt v)⁻¹, hC, hs, hr, ?_⟩
  rw [hr, Ideal.div_coe h0.ne', ← EReal.coe_mul]
  congr 1
  have h2 : v = Real.sqrt v * Real.sqrt v := (Real.mul_self_sqrt h0.le).symm
  rw [show (1 / v : ℝ) = (Real.sqrt v)⁻¹ * (Real.sqrt v)⁻¹ by rw [← mul_inv, ← h2, one_div]]
  ring

/-- The chain rule's form of the norm's gradient is the factored one, where the gradient at the normalised row is real. -/
theorem dnorm_chain (y : Fin 512 → EReal) (m : Fin 512 → ℝ) (q : Fin 512) :
    dcen y (fun d => (m d : EReal)) q + Ideal.div (∑ d, -dcen y (fun d => (m d : EReal)) d) n512 = dnorm y (fun d => (m d : EReal)) q := by
  rcases row_cases y with ⟨r, rfl⟩ | h
  · obtain ⟨C, R, hC, h0, hR, h3⟩ := row_real r
    have hD (q : Fin 512) : dcen (fun q => (r q : EReal)) (fun d => (m d : EReal)) q
        = ((m q * R + C q * ((∑ d, C d * m d) * (-(1 / 2) * (R * R * R)) * (1 / 512)) + (∑ d, C d * m d) * (-(1 / 2) * (R * R * R)) * (1 / 512) * C q : ℝ) : EReal) := by
      rw [dcen, h3, hR, div_n512, Cert.Mlp.negHalf_eq]
      simp only [hC, EReal.coe_add, EReal.coe_mul, coe_sum]
    have hN : dnorm (fun q => (r q : EReal)) (fun d => (m d : EReal)) q
        = ((R * (m q - (∑ d, m d) * (1 / 512) - C q * R * ((∑ d, m d * (C d * R)) * (1 / 512))) : ℝ) : EReal) := by
      rw [dnorm, hR, div_n512, div_n512]
      simp only [xhat, hR, hC, EReal.coe_sub, EReal.coe_mul, coe_sum]
    simp only [hD]
    rw [hN, div_n512]
    simp only [← EReal.coe_neg]
    rw [← coe_sum, ← EReal.coe_mul, ← EReal.coe_add]
    congr 1
    generalize hS : ∑ d, C d * m d = S
    have e1 : ∑ d, m d * (C d * R) = S * R := by
      rw [← hS, Finset.sum_mul]; exact Finset.sum_congr rfl fun d _ => by ring
    have e2 : ∑ d, -(m d * R + C d * (S * (-(1 / 2) * (R * R * R)) * (1 / 512)) + S * (-(1 / 2) * (R * R * R)) * (1 / 512) * C d)
        = -((∑ d, m d) * R) := by
      rw [Finset.sum_neg_distrib, Finset.sum_add_distrib, Finset.sum_add_distrib, ← Finset.sum_mul, ← Finset.sum_mul, ← Finset.mul_sum, h0]
      ring
    rw [e1, e2]
    ring
  · have hR : rstd y = 0 := by rw [rstd, h, Ideal.rsqrt_top]
    have hD (q : Fin 512) : dcen y (fun d => (m d : EReal)) q = 0 := by
      rw [dcen, hR, h, div_n512]
      simp [Ideal.div]
    rw [dnorm, hR, div_n512]
    simp [hD]

end Cert.Gate

end
-- ==== Proof.MergeBwdT.lean ====
/-
  The backward merge call: what one block's run leaves in each of its nine output buffers, at the ideal instance. The
  gradients of both branches and of their gates, the convolution branch's through SiLU and the layer norm, are written
  row by row; the gradients of the bias and of the norm's weights accumulate in eight rows, set to zero at the first
  block.
-/
module

public import proofs.«01_k».proof.Defs
public import proofs.«01_k».proof.Proof.Gen.Kernel2Ideal.Frame
public import proofs.«01_k».proof.Proof.GateMath
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel2Ideal.Backward

open Cert.Kernel2Ideal Cert.Kernel2Ideal.Gen Cert.Gate

theorem hz : (![0, 0] : Fin 2 → Nat) = fun _ => 0 := funext fun a => by fin_cases a <;> rfl

theorem ld_S512x1024 {e : EltTy} (X : Vec Ideal S512x1024 e) : View.ld X (Rect.unit (s := S512x1024) ![0, 0] ![512, 1024] inb_S512x1024_S512x1024_0_0) = X :=
  View.ld_unit_zero (S := S512x1024) hz _ X

theorem ld_S1024x1024 {e : EltTy} (X : Vec Ideal S1024x1024 e) : View.ld X (Rect.unit (s := S1024x1024) ![0, 0] ![1024, 1024] inb_S1024x1024_S1024x1024_0_0) = X :=
  View.ld_unit_zero (S := S1024x1024) hz _ X

theorem ld_S512x512 {e : EltTy} (X : Vec Ideal S512x512 e) : View.ld X (Rect.unit (s := S512x512) ![0, 0] ![512, 512] inb_S512x512_S512x512_0_0) = X :=
  View.ld_unit_zero (S := S512x512) hz _ X

theorem ld_S1x1024 {e : EltTy} (X : Vec Ideal S1x1024 e) : View.ld X (Rect.unit (s := S1x1024) ![0, 0] ![1, 1024] inb_S1x1024_S1x1024_0_0) = X :=
  View.ld_unit_zero (S := S1x1024) hz _ X

theorem ld_S1x512 {e : EltTy} (X : Vec Ideal S1x512 e) : View.ld X (Rect.unit (s := S1x512) ![0, 0] ![1, 512] inb_S1x512_S1x512_0_0) = X :=
  View.ld_unit_zero (S := S1x512) hz _ X

theorem ld_S8x1024 {e : EltTy} (X : Vec Ideal S8x1024 e) : View.ld X (Rect.unit (s := S8x1024) ![0, 0] ![8, 1024] inb_S8x1024_S8x1024_0_0) = X :=
  View.ld_unit_zero (S := S8x1024) hz _ X

theorem ld_S8x512 {e : EltTy} (X : Vec Ideal S8x512 e) : View.ld X (Rect.unit (s := S8x512) ![0, 0] ![8, 512] inb_S8x512_S8x512_0_0) = X :=
  View.ld_unit_zero (S := S8x512) hz _ X

section
variable (x0 : Vec Ideal S512x1024 .f32) (x1 x2 : Vec Ideal S512x512 .bf16) (x3 x4 : Vec Ideal S512x1024 .bf16) (x5 : Vec Ideal S512x512 .f32)
  (x6 x7 : Vec Ideal S512x1024 .bf16) (x8 : Vec Ideal S1x1024 .f32) (x9 : Vec Ideal S1024x1024 .bf16) (x10 x11 : Vec Ideal S1x512 .f32)

def dgaRow (p : Fin 512) (q : Fin 1024) : EReal :=
  dgate (dm (fun d => x0 (ix2 p d)) (fun k d => x9 (ix2 k d)) q) (br (fun d => x1 (ix2 p d)) (fun d k => x6 (ix2 d k)) q) (gate (x3 (ix2 p q)))

def dgcRow (p : Fin 512) (q : Fin 1024) : EReal :=
  dgate (dm (fun d => x0 (ix2 p d)) (fun k d => x9 (ix2 k d)) q) (br (fun d => x2 (ix2 p d)) (fun d k => x7 (ix2 d k)) q + x8 (ix2 0 q)) (gate (x4 (ix2 p q)))

def dbrRow (g : Vec Ideal S512x1024 .bf16) (p : Fin 512) (q : Fin 1024) : EReal :=
  dbr (fun d => x0 (ix2 p d)) (fun d => g (ix2 p d)) (fun k d => x9 (ix2 k d)) q

def dattnRow (p : Fin 512) (q : Fin 512) : EReal :=
  back (fun d => x0 (ix2 p d)) (fun d => x3 (ix2 p d)) (fun k d => x9 (ix2 k d)) (fun e k => x6 (ix2 e k)) q

def dlnRow (p : Fin 512) (q : Fin 512) : EReal :=
  dln (fun d => x0 (ix2 p d)) (fun d => x4 (ix2 p d)) (fun k d => x9 (ix2 k d)) (fun e k => x7 (ix2 e k)) (fun d => x5 (ix2 p d)) (fun d => x10 (ix2 0 d)) (fun d => x11 (ix2 0 d)) q

def dycRow (p : Fin 512) (q : Fin 512) : EReal :=
  dy (fun d => x0 (ix2 p d)) (fun d => x4 (ix2 p d)) (fun k d => x9 (ix2 k d)) (fun e k => x7 (ix2 e k)) (fun d => x5 (ix2 p d)) (fun d => x10 (ix2 0 d)) (fun d => x11 (ix2 0 d)) q

def dlgRow (p : Fin 512) (q : Fin 512) : EReal := dlnRow x0 x4 x5 x7 x9 x10 x11 p q * xhat (fun d => x5 (ix2 p d)) q

theorem p7_eq (p : Fin 512) (q : Fin 1024) : k0_pay7 x0 x9 (ix2 p q) = dm (fun d => x0 (ix2 p d)) (fun k d => x9 (ix2 k d)) q := by
  pointwise [k0_pay7]
  rfl

theorem p8_eq (p : Fin 512) (q : Fin 1024) : k0_pay8 x1 x6 (ix2 p q) = br (fun d => x1 (ix2 p d)) (fun d k => x6 (ix2 d k)) q := by
  pointwise [k0_pay8]
  rfl

theorem p9_eq (p : Fin 512) (q : Fin 1024) : k0_pay9 x2 x7 x8 (ix2 p q) = br (fun d => x2 (ix2 p d)) (fun d k => x7 (ix2 d k)) q + x8 (ix2 0 q) := by
  pointwise [k0_pay9]
  rfl

theorem p10_eq (p : Fin 512) (q : Fin 1024) : k0_pay10 x3 (ix2 p q) = gate (x3 (ix2 p q)) := by
  pointwise [k0_pay10]
  simp only [gate, zero_sub] <;> rfl

theorem p12_eq (p : Fin 512) (q : Fin 1024) : k0_pay12 (k0_pay11 x4) (ix2 p q) = gate (x4 (ix2 p q)) := by
  pointwise [k0_pay12, k0_pay11]
  simp only [gate, zero_sub] <;> rfl

theorem p13_eq (p : Fin 512) (q : Fin 1024) : k0_pay13 (k0_pay7 x0 x9) (k0_pay11 x4) (ix2 p q) = dbrRow x0 x9 x4 p q := by
  pointwise [k0_pay13]
  rw [p7_eq, p12_eq]
  rfl

theorem p16_eq (p : Fin 512) (q : Fin 1024) : k0_pay16 (k0_pay7 x0 x9) (k0_pay10 x3) (ix2 p q) = dbrRow x0 x9 x3 p q := by
  pointwise [k0_pay16]
  rw [p7_eq, p10_eq]
  rfl

theorem p17_eq (p : Fin 512) (q : Fin 1024) : k0_pay17 (k0_pay7 x0 x9) (k0_pay11 x4) (ix2 p q) = dbrRow x0 x9 x4 p q := by
  pointwise [k0_pay17]
  rw [p13_eq]

theorem p14_eq (p : Fin 512) (q : Fin 1024) : k0_pay14 (k0_pay7 x0 x9) (k0_pay8 x1 x6) (k0_pay10 x3) (ix2 p q) = dgaRow x0 x1 x3 x6 x9 p q := by
  pointwise [k0_pay14]
  rw [p7_eq, p8_eq, p10_eq]
  rfl

theorem p15_eq (p : Fin 512) (q : Fin 1024) : k0_pay15 (k0_pay7 x0 x9) (k0_pay9 x2 x7 x8) (k0_pay11 x4) (ix2 p q) = dgcRow x0 x2 x4 x7 x8 x9 p q := by
  pointwise [k0_pay15]
  rw [p7_eq, p9_eq, p12_eq]
  rfl

theorem p19_eq (p : Fin 512) (q : Fin 512) : k0_pay19 (k0_pay7 x0 x9) (k0_pay10 x3) x6 (ix2 p q) = dattnRow x0 x3 x6 x9 p q := by
  pointwise [k0_pay19]
  simp only [p16_eq]
  rfl

theorem p20_eq (p : Fin 512) (q : Fin 512) : k0_pay20 x5 (ix2 p q) = cen (fun d => x5 (ix2 p d)) q := by
  pointwise [k0_pay20]
  rfl

theorem p21_eq (p : Fin 512) : k0_pay21 x5 (ix2 p 0) = rstd (fun d => x5 (ix2 p d)) := by
  pointwise [k0_pay21]
  simp only [p20_eq]
  rfl

theorem p22_eq (p : Fin 512) (q : Fin 512) : k0_pay22 x5 (ix2 p q) = xhat (fun d => x5 (ix2 p d)) q := by
  pointwise [k0_pay22]
  rw [p20_eq, p21_eq]
  rfl

theorem p23_eq (p : Fin 512) (q : Fin 512) :
    k0_pay23 (k0_pay17 (k0_pay7 x0 x9) (k0_pay11 x4)) x7 x5 x10 x11 (ix2 p q) = dlnRow x0 x4 x5 x7 x9 x10 x11 p q := by
  pointwise [k0_pay23]
  simp only [p17_eq, p22_eq, zero_sub]
  rfl

theorem p1_eq (p : Fin 512) (q : Fin 512) :
    k0_pay1 x10 (k0_pay21 x5) (k0_pay22 x5) (k0_pay23 (k0_pay17 (k0_pay7 x0 x9) (k0_pay11 x4)) x7 x5 x10 x11) (ix2 p q) = dycRow x0 x4 x5 x7 x9 x10 x11 p q := by
  pointwise [k0_pay1]
  simp only [p21_eq, p22_eq, p23_eq]
  rfl

theorem p18_eq (a : Vec Ideal S8x1024 .f32) (p : Fin 8) (q : Fin 1024) : k0_pay18 (k0_pay7 x0 x9) (k0_pay11 x4) a (ix2 p q)
    = a (ix2 p q) + ∑ k : Fin 64, dbrRow x0 x9 x4 ⟨k.val * 8 + p.val, by omega⟩ q := by
  pointwise [k0_pay18]
  simp only [p13_eq]

theorem p2_eq (a : Vec Ideal S8x512 .f32) (p : Fin 8) (q : Fin 512) :
    k0_pay2 (k0_pay22 x5) (k0_pay23 (k0_pay17 (k0_pay7 x0 x9) (k0_pay11 x4)) x7 x5 x10 x11) a (ix2 p q)
    = a (ix2 p q) + ∑ k : Fin 64, dlgRow x0 x4 x5 x7 x9 x10 x11 ⟨k.val * 8 + p.val, by omega⟩ q := by
  pointwise [k0_pay2]
  simp only [p22_eq, p23_eq]
  rfl

theorem p3_eq (a : Vec Ideal S8x512 .f32) (p : Fin 8) (q : Fin 512) :
    k0_pay3 (k0_pay23 (k0_pay17 (k0_pay7 x0 x9) (k0_pay11 x4)) x7 x5 x10 x11) a (ix2 p q)
    = a (ix2 p q) + ∑ k : Fin 64, dlnRow x0 x4 x5 x7 x9 x10 x11 ⟨k.val * 8 + p.val, by omega⟩ q := by
  pointwise [k0_pay3]
  simp only [p23_eq]

theorem p4_eq (p : Fin 8) (q : Fin 1024) : k0_pay4 (F := Ideal) (ix2 p q) = 0 := by
  pointwise [k0_pay4]

theorem p5_eq (p : Fin 8) (q : Fin 512) : k0_pay5 (F := Ideal) (ix2 p q) = 0 := by
  pointwise [k0_pay5]

theorem p6_eq (p : Fin 8) (q : Fin 512) : k0_pay6 (F := Ideal) (ix2 p q) = 0 := by
  pointwise [k0_pay6]

end

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x1024 .f32) (harg19 : arg19.IsWhole) (arg20 : Memref sig .tc .vmem S8x512 .f32) (harg20 : arg20.IsWhole) (arg21 : Memref sig .tc .vmem S8x512 .f32) (harg21 : arg21.IsWhole)
  (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x512 .f32) (x6 : Vec Ideal S512x1024 .bf16) (x7 : Vec Ideal S512x1024 .bf16) (x8 : Vec Ideal S1x1024 .f32) (x9 : Vec Ideal S1024x1024 .bf16) (x10 : Vec Ideal S1x512 .f32) (x11 : Vec Ideal S1x512 .f32)

theorem out12_A (hc0 : cond0_0 i) (p : Fin 512) (q : Fin 512) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = dattnRow x0 x3 x6 x9 p q := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p19_eq ..

theorem out13_A (hc0 : cond0_0 i) (p : Fin 512) (q : Fin 512) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = dycRow x0 x4 x5 x7 x9 x10 x11 p q := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p1_eq ..

theorem out14_A (hc0 : cond0_0 i) (p : Fin 512) (q : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = dgaRow x0 x1 x3 x6 x9 p q := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p14_eq ..

theorem out15_A (hc0 : cond0_0 i) (p : Fin 512) (q : Fin 1024) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = dgcRow x0 x2 x4 x7 x8 x9 p q := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p15_eq ..

theorem out16_A (hc0 : cond0_0 i) (p : Fin 512) (q : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = dbrRow x0 x9 x3 p q := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p16_eq ..

theorem out17_A (hc0 : cond0_0 i) (p : Fin 512) (q : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = dbrRow x0 x9 x4 p q := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p17_eq ..

theorem out18_A (hc0 : cond0_0 i) (p : Fin 8) (q : Fin 1024) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = 0 + ∑ k : Fin 64, dbrRow x0 x9 x4 ⟨k.val * 8 + p.val, by omega⟩ q := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_cons_unit_zero (S := S8x1024) hz, View.readCov_unit_zero (S := S8x1024) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact (p18_eq ..).trans (congrArg (· + _) (p4_eq p q))

theorem out19_A (hc0 : cond0_0 i) (p : Fin 8) (q : Fin 512) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = 0 + ∑ k : Fin 64, dlgRow x0 x4 x5 x7 x9 x10 x11 ⟨k.val * 8 + p.val, by omega⟩ q := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_cons_unit_zero (S := S8x512) hz, View.readCov_unit_zero (S := S8x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact (p2_eq ..).trans (congrArg (· + _) (p5_eq p q))

theorem out20_A (hc0 : cond0_0 i) (p : Fin 8) (q : Fin 512) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 (ix2 p q) = 0 + ∑ k : Fin 64, dlnRow x0 x4 x5 x7 x9 x10 x11 ⟨k.val * 8 + p.val, by omega⟩ q := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_cons_unit_zero (S := S8x512) hz, View.readCov_unit_zero (S := S8x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact (p3_eq ..).trans (congrArg (· + _) (p6_eq p q))

end

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S8x1024 .f32) (harg19 : arg19.IsWhole) (arg20 : Memref sig .tc .vmem S8x512 .f32) (harg20 : arg20.IsWhole) (arg21 : Memref sig .tc .vmem S8x512 .f32) (harg21 : arg21.IsWhole)
  (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x512 .f32) (x6 : Vec Ideal S512x1024 .bf16) (x7 : Vec Ideal S512x1024 .bf16) (x8 : Vec Ideal S1x1024 .f32) (x9 : Vec Ideal S1024x1024 .bf16) (x10 : Vec Ideal S1x512 .f32) (x11 : Vec Ideal S1x512 .f32)
  (xo18 : Vec Ideal S8x1024 .f32) (xo19 xo20 : Vec Ideal S8x512 .f32)

theorem out12_B (hc0 : ¬cond0_0 i) (p : Fin 512) (q : Fin 512) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = dattnRow x0 x3 x6 x9 p q := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p19_eq ..

theorem out13_B (hc0 : ¬cond0_0 i) (p : Fin 512) (q : Fin 512) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = dycRow x0 x4 x5 x7 x9 x10 x11 p q := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p1_eq ..

theorem out14_B (hc0 : ¬cond0_0 i) (p : Fin 512) (q : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = dgaRow x0 x1 x3 x6 x9 p q := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p14_eq ..

theorem out15_B (hc0 : ¬cond0_0 i) (p : Fin 512) (q : Fin 1024) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = dgcRow x0 x2 x4 x7 x8 x9 p q := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p15_eq ..

theorem out16_B (hc0 : ¬cond0_0 i) (p : Fin 512) (q : Fin 1024) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = dbrRow x0 x9 x3 p q := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p16_eq ..

theorem out17_B (hc0 : ¬cond0_0 i) (p : Fin 512) (q : Fin 1024) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = dbrRow x0 x9 x4 p q := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact p17_eq ..

theorem out18_B (hc0 : ¬cond0_0 i) (p : Fin 8) (q : Fin 1024) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = xo18 (ix2 p q) + ∑ k : Fin 64, dbrRow x0 x9 x4 ⟨k.val * 8 + p.val, by omega⟩ q := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact (p18_eq ..)

theorem out19_B (hc0 : ¬cond0_0 i) (p : Fin 8) (q : Fin 512) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = xo19 (ix2 p q) + ∑ k : Fin 64, dlgRow x0 x4 x5 x7 x9 x10 x11 ⟨k.val * 8 + p.val, by omega⟩ q := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact (p2_eq ..)

theorem out20_B (hc0 : ¬cond0_0 i) (p : Fin 8) (q : Fin 512) :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20 (ix2 p q) = xo20 (ix2 p q) + ∑ k : Fin 64, dlnRow x0 x4 x5 x7 x9 x10 x11 ⟨k.val * 8 + p.val, by omega⟩ q := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo18 xo19 xo20)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, ld_S512x1024, ld_S1024x1024, ld_S512x512, ld_S1x1024, ld_S1x512, ld_S8x1024, ld_S8x512]
  exact (p3_eq ..)

end

end Cert.Kernel2Ideal.Backward

end
-- ==== Proof.MergeBwd.lean ====
/-
  The backward merge call at the ideal instance: its nine output arrays as functions of its arguments, the reference's nine
  results token by token, and the value claim that they are the same where the residual stream's gradient, two of the
  weights and the norm's weight are finite.
-/
module

public import proofs.«01_k».proof.Defs
public import proofs.«01_k».proof.Proof.MergeBwdT
public import proofs.«01_k».proof.Proof.Gen.Pre_finite
public import proofs.«01_k».proof.Proof.Gen.Reference2Ideal.Run
public import proofs.«01_k».proof.Proof.Gen.Reference2Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Backward

open Cert.Kernel2Ideal Cert.Kernel2Ideal.Gen Cert.Gate

section
variable (x0 : FVec Ideal S16384x1024 .f32) (x1 : FVec Ideal S16384x512 .bf16) (x2 : FVec Ideal S16384x3072 .bf16) (x3 : FVec Ideal S16384x512 .f32)
  (x4 x5 : FVec Ideal S512x1024 .bf16) (x6 : FVec Ideal S1x1024 .f32) (x7 : FVec Ideal S1024x1024 .bf16) (x8 x9 : FVec Ideal S1x512 .f32)

/-- The two gates' columns of a token. -/
def gaTok (p : Fin 16384) (k : Fin 1024) : EReal := x2 (ix2 p ⟨1024 + k.val, by omega⟩)

def gcTok (p : Fin 16384) (k : Fin 1024) : EReal := x2 (ix2 p ⟨2048 + k.val, by omega⟩)

/-- The convolution branch's input to its product. -/
def uTok (p : Fin 16384) (d : Fin 512) : EReal := silu (fun d => x3 (ix2 p d)) (fun d => x8 (ix2 0 d)) (fun d => x9 (ix2 0 d)) d

def dgaTok (p : Fin 16384) (q : Fin 1024) : EReal :=
  dgate (dm (fun d => x0 (ix2 p d)) (fun k d => x7 (ix2 k d)) q) (br (fun d => x1 (ix2 p d)) (fun d k => x4 (ix2 d k)) q) (gate (gaTok x2 p q))

def dgcTok (p : Fin 16384) (q : Fin 1024) : EReal :=
  dgate (dm (fun d => x0 (ix2 p d)) (fun k d => x7 (ix2 k d)) q) (br (uTok x3 x8 x9 p) (fun d k => x5 (ix2 d k)) q + x6 (ix2 0 q)) (gate (gcTok x2 p q))

def dbraTok (p : Fin 16384) (q : Fin 1024) : EReal := dbr (fun d => x0 (ix2 p d)) (gaTok x2 p) (fun k d => x7 (ix2 k d)) q

def dbrcTok (p : Fin 16384) (q : Fin 1024) : EReal := dbr (fun d => x0 (ix2 p d)) (gcTok x2 p) (fun k d => x7 (ix2 k d)) q

def dattnTok (p : Fin 16384) (q : Fin 512) : EReal :=
  back (fun d => x0 (ix2 p d)) (gaTok x2 p) (fun k d => x7 (ix2 k d)) (fun e k => x4 (ix2 e k)) q

def dlnTok (p : Fin 16384) (q : Fin 512) : EReal :=
  dln (fun d => x0 (ix2 p d)) (gcTok x2 p) (fun k d => x7 (ix2 k d)) (fun e k => x5 (ix2 e k)) (fun d => x3 (ix2 p d)) (fun d => x8 (ix2 0 d)) (fun d => x9 (ix2 0 d)) q

def dycTok (p : Fin 16384) (q : Fin 512) : EReal :=
  dy (fun d => x0 (ix2 p d)) (gcTok x2 p) (fun k d => x7 (ix2 k d)) (fun e k => x5 (ix2 e k)) (fun d => x3 (ix2 p d)) (fun d => x8 (ix2 0 d)) (fun d => x9 (ix2 0 d)) q

def dlgTok (p : Fin 16384) (q : Fin 512) : EReal := dlnTok x0 x2 x3 x5 x7 x8 x9 p q * xhat (fun d => x3 (ix2 p d)) q

/-- The attention gate's gradient. -/
def dgaArr : FVec Ideal S16384x1024 .bf16 := fun i => dgaTok x0 x1 x2 x4 x7 (i 0) (i 1)

/-- The convolution gate's gradient. -/
def dgcArr : FVec Ideal S16384x1024 .bf16 := fun i => dgcTok x0 x2 x3 x5 x6 x7 x8 x9 (i 0) (i 1)

/-- The attention branch's gradient behind its gate. -/
def dbraArr : FVec Ideal S16384x1024 .bf16 := fun i => dbraTok x0 x2 x7 (i 0) (i 1)

/-- The convolution branch's gradient behind its gate. -/
def dbrcArr : FVec Ideal S16384x1024 .bf16 := fun i => dbrcTok x0 x2 x7 (i 0) (i 1)

/-- The attention's gradient. -/
def dattnArr : FVec Ideal S16384x512 .bf16 := fun i => dattnTok x0 x2 x4 x7 (i 0) (i 1)

/-- The convolution's gradient. -/
def dycArr : FVec Ideal S16384x512 .f32 := fun i => dycTok x0 x2 x3 x5 x7 x8 x9 (i 0) (i 1)

end

variable (m : (ℓ : Loc nD τ sig) → Buf (Elt Ideal) ℓ)

/-- Where each window's block of point `t` sits. -/
theorem idx : ∀ t : Fin cfg0.N, win0_0.index t = ![t.val, 0]
    ∧ win0_1.index t = ![t.val, 0]
    ∧ win0_2.index t = ![t.val, 0]
    ∧ win0_3.index t = ![t.val, 1]
    ∧ win0_4.index t = ![t.val, 2]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![0, 0]
    ∧ win0_19.index t = ![0, 0]
    ∧ win0_20.index t = ![0, 0] ∧ t.val < 32 :=
  (by decide +kernel : ∀ t : Fin grid0.N, _)

/-- The host's lines before the call: the convolution branch's input, from its norm. -/
theorem u_eq (c : Dev nD) (p : Fin 16384) (q : Fin 512) :
    (V m c main_v21 : FVec Ideal S16384x512 .bf16) (ix2 p q) = uTok (m ((c.tc : Thread nD τ).loc main_arg3)) (m ((c.tc : Thread nD τ).loc main_arg8)) (m ((c.tc : Thread nD τ).loc main_arg9)) p q := by
  show StableHlo.after (List.flatten [hostOps0, hostOps0_1, hostOps0_2]) (fun b => m (c, b)) (Proc.devRef .tc main_v21) (ix2 p q) = _
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise
  simp only [uTok, silu, ln, xhat, rstd, vare, cen, gate] <;> rfl

theorem x0_blk (c : Dev nD) (t : Fin cfg0.N) (p : Fin 512) (P : Fin 16384) (hP : P.val = t.val * 512 + p.val) (q : Fin 1024) :
    (iblk m c 0 t : FVec Ideal S512x1024 .f32) (ix2 p q) = ((m ((c.tc : Thread nD τ).loc main_arg0)) : FVec Ideal S16384x1024 .f32) (ix2 P q) := by
  rw [← V_main_arg0 m c]
  blk_point [iblk, idx t, hP]

theorem x1_blk (c : Dev nD) (t : Fin cfg0.N) (p : Fin 512) (P : Fin 16384) (hP : P.val = t.val * 512 + p.val) (q : Fin 512) :
    (iblk m c 1 t : FVec Ideal S512x512 .bf16) (ix2 p q) = ((m ((c.tc : Thread nD τ).loc main_arg1)) : FVec Ideal S16384x512 .bf16) (ix2 P q) := by
  rw [← V_main_arg1 m c]
  blk_point [iblk, idx t, hP]

theorem x5_blk (c : Dev nD) (t : Fin cfg0.N) (p : Fin 512) (P : Fin 16384) (hP : P.val = t.val * 512 + p.val) (q : Fin 512) :
    (iblk m c 5 t : FVec Ideal S512x512 .f32) (ix2 p q) = ((m ((c.tc : Thread nD τ).loc main_arg3)) : FVec Ideal S16384x512 .f32) (ix2 P q) := by
  rw [← V_main_arg3 m c]
  blk_point [iblk, idx t, hP]

theorem x2_blk (c : Dev nD) (t : Fin cfg0.N) (p : Fin 512) (P : Fin 16384) (hP : P.val = t.val * 512 + p.val) (q : Fin 512) :
    (iblk m c 2 t : FVec Ideal S512x512 .bf16) (ix2 p q) = uTok (m ((c.tc : Thread nD τ).loc main_arg3)) (m ((c.tc : Thread nD τ).loc main_arg8)) (m ((c.tc : Thread nD τ).loc main_arg9)) P q := by
  rw [← u_eq m c P q]
  blk_point [iblk, idx t, hP]

theorem x3_blk (c : Dev nD) (t : Fin cfg0.N) (p : Fin 512) (P : Fin 16384) (hP : P.val = t.val * 512 + p.val) (q : Fin 1024) :
    (iblk m c 3 t : FVec Ideal S512x1024 .bf16) (ix2 p q) = gaTok (m ((c.tc : Thread nD τ).loc main_arg2)) P q := by
  rw [← V_main_arg2 m c, gaTok]
  blk_point [iblk, idx t, hP]

theorem x4_blk (c : Dev nD) (t : Fin cfg0.N) (p : Fin 512) (P : Fin 16384) (hP : P.val = t.val * 512 + p.val) (q : Fin 1024) :
    (iblk m c 4 t : FVec Ideal S512x1024 .bf16) (ix2 p q) = gcTok (m ((c.tc : Thread nD τ).loc main_arg2)) P q := by
  rw [← V_main_arg2 m c, gcTok]
  blk_point [iblk, idx t, hP]

theorem x6_blk (c : Dev nD) (t : Fin cfg0.N) (p : Fin 512) (q : Fin 1024) :
    (iblk m c 6 t : FVec Ideal S512x1024 .bf16) (ix2 p q) = ((m ((c.tc : Thread nD τ).loc main_arg4)) : FVec Ideal S512x1024 .bf16) (ix2 p q) := by
  rw [← V_main_arg4 m c]
  blk_point [iblk, idx t]

theorem x7_blk (c : Dev nD) (t : Fin cfg0.N) (p : Fin 512) (q : Fin 1024) :
    (iblk m c 7 t : FVec Ideal S512x1024 .bf16) (ix2 p q) = ((m ((c.tc : Thread nD τ).loc main_arg5)) : FVec Ideal S512x1024 .bf16) (ix2 p q) := by
  rw [← V_main_arg5 m c]
  blk_point [iblk, idx t]

theorem x8_blk (c : Dev nD) (t : Fin cfg0.N) (p : Fin 1) (q : Fin 1024) :
    (iblk m c 8 t : FVec Ideal S1x1024 .f32) (ix2 p q) = ((m ((c.tc : Thread nD τ).loc main_arg6)) : FVec Ideal S1x1024 .f32) (ix2 p q) := by
  rw [← V_main_arg6 m c]
  blk_point [iblk, idx t]

theorem x9_blk (c : Dev nD) (t : Fin cfg0.N) (p : Fin 1024) (q : Fin 1024) :
    (iblk m c 9 t : FVec Ideal S1024x1024 .bf16) (ix2 p q) = ((m ((c.tc : Thread nD τ).loc main_arg7)) : FVec Ideal S1024x1024 .bf16) (ix2 p q) := by
  rw [← V_main_arg7 m c]
  blk_point [iblk, idx t]

theorem x10_blk (c : Dev nD) (t : Fin cfg0.N) (p : Fin 1) (q : Fin 512) :
    (iblk m c 10 t : FVec Ideal S1x512 .f32) (ix2 p q) = ((m ((c.tc : Thread nD τ).loc main_arg8)) : FVec Ideal S1x512 .f32) (ix2 p q) := by
  rw [← V_main_arg8 m c]
  blk_point [iblk, idx t]

theorem x11_blk (c : Dev nD) (t : Fin cfg0.N) (p : Fin 1) (q : Fin 512) :
    (iblk m c 11 t : FVec Ideal S1x512 .f32) (ix2 p q) = ((m ((c.tc : Thread nD τ).loc main_arg9)) : FVec Ideal S1x512 .f32) (ix2 p q) := by
  rw [← V_main_arg9 m c]
  blk_point [iblk, idx t]

theorem dgaRow_blk (c : Dev nD) (t : Fin cfg0.N) (p : Fin 512) (P : Fin 16384) (hP : P.val = t.val * 512 + p.val) (q : Fin 1024) :
    dgaRow (iblk m c 0 t) (iblk m c 1 t) (iblk m c 3 t) (iblk m c 6 t) (iblk m c 9 t) p q = dgaTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) P q := by
  simp only [dgaRow, dgaTok, x0_blk m c t p P hP, x1_blk m c t p P hP, x3_blk m c t p P hP, x6_blk m c t, x9_blk m c t]

theorem dgcRow_blk (c : Dev nD) (t : Fin cfg0.N) (p : Fin 512) (P : Fin 16384) (hP : P.val = t.val * 512 + p.val) (q : Fin 1024) :
    dgcRow (iblk m c 0 t) (iblk m c 2 t) (iblk m c 4 t) (iblk m c 7 t) (iblk m c 8 t) (iblk m c 9 t) p q = dgcTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) P q := by
  simp only [dgcRow, dgcTok, x0_blk m c t p P hP, x2_blk m c t p P hP, x4_blk m c t p P hP, x7_blk m c t, x8_blk m c t, x9_blk m c t]

theorem dbraRow_blk (c : Dev nD) (t : Fin cfg0.N) (p : Fin 512) (P : Fin 16384) (hP : P.val = t.val * 512 + p.val) (q : Fin 1024) :
    dbrRow (iblk m c 0 t) (iblk m c 9 t) (iblk m c 3 t) p q = dbraTok (m ((c.tc : Thread nD τ).loc main_arg0)) (m ((c.tc : Thread nD τ).loc main_arg2)) (m ((c.tc : Thread nD τ).loc main_arg7)) P q := by
  simp only [dbrRow, dbraTok, x0_blk m c t p P hP, x3_blk m c t p P hP, x9_blk m c t]

theorem dbrcRow_blk (c : Dev nD) (t : Fin cfg0.N) (p : Fin 512) (P : Fin 16384) (hP : P.val = t.val * 512 + p.val) (q : Fin 1024) :
    dbrRow (iblk m c 0 t) (iblk m c 9 t) (iblk m c 4 t) p q = dbrcTok (m ((c.tc : Thread nD τ).loc main_arg0)) (m ((c.tc : Thread nD τ).loc main_arg2)) (m ((c.tc : Thread nD τ).loc main_arg7)) P q := by
  simp only [dbrRow, dbrcTok, x0_blk m c t p P hP, x4_blk m c t p P hP, x9_blk m c t]

theorem dattnRow_blk (c : Dev nD) (t : Fin cfg0.N) (p : Fin 512) (P : Fin 16384) (hP : P.val = t.val * 512 + p.val) (q : Fin 512) :
    dattnRow (iblk m c 0 t) (iblk m c 3 t) (iblk m c 6 t) (iblk m c 9 t) p q = dattnTok (m ((c.tc : Thread nD τ).loc main_arg0)) (m ((c.tc : Thread nD τ).loc main_arg2)) (m ((c.tc : Thread nD τ).loc main_arg4)) (m ((c.tc : Thread nD τ).loc main_arg7)) P q := by
  simp only [dattnRow, dattnTok, x0_blk m c t p P hP, x3_blk m c t p P hP, x6_blk m c t, x9_blk m c t]

theorem dlnRow_blk (c : Dev nD) (t : Fin cfg0.N) (p : Fin 512) (P : Fin 16384) (hP : P.val = t.val * 512 + p.val) (q : Fin 512) :
    dlnRow (iblk m c 0 t) (iblk m c 4 t) (iblk m c 5 t) (iblk m c 7 t) (iblk m c 9 t) (iblk m c 10 t) (iblk m c 11 t) p q = dlnTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) P q := by
  simp only [dlnRow, dlnTok, x0_blk m c t p P hP, x4_blk m c t p P hP, x5_blk m c t p P hP, x7_blk m c t, x9_blk m c t, x10_blk m c t, x11_blk m c t]

theorem dycRow_blk (c : Dev nD) (t : Fin cfg0.N) (p : Fin 512) (P : Fin 16384) (hP : P.val = t.val * 512 + p.val) (q : Fin 512) :
    dycRow (iblk m c 0 t) (iblk m c 4 t) (iblk m c 5 t) (iblk m c 7 t) (iblk m c 9 t) (iblk m c 10 t) (iblk m c 11 t) p q = dycTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) P q := by
  simp only [dycRow, dycTok, x0_blk m c t p P hP, x4_blk m c t p P hP, x5_blk m c t p P hP, x7_blk m c t, x9_blk m c t, x10_blk m c t, x11_blk m c t]

theorem dlgRow_blk (c : Dev nD) (t : Fin cfg0.N) (p : Fin 512) (P : Fin 16384) (hP : P.val = t.val * 512 + p.val) (q : Fin 512) :
    dlgRow (iblk m c 0 t) (iblk m c 4 t) (iblk m c 5 t) (iblk m c 7 t) (iblk m c 9 t) (iblk m c 10 t) (iblk m c 11 t) p q = dlgTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) P q := by
  simp only [dlgRow, dlgTok, dlnRow_blk m c t p P hP, x5_blk m c t p P hP]

/-- What point `t` leaves in the outputs written whole at each point. -/
theorem left_dattn (c : Dev nD) (t : Fin cfg0.N) (p : Fin 512) (q : Fin 512) :
    (outsAt0 m c t.val t.isLt).1 (ix2 p q) = dattnRow (iblk m c 0 t) (iblk m c 3 t) (iblk m c 6 t) (iblk m c 9 t) p q := by
  by_cases h : t.val % 32 = 0
  · rw [outsAt0_A m c t h]
    dsimp only
    rw [out12_A]
  · rw [outsAt0_B m c t h]
    dsimp only
    rw [out12_B]

theorem left_dyc (c : Dev nD) (t : Fin cfg0.N) (p : Fin 512) (q : Fin 512) :
    (outsAt0 m c t.val t.isLt).2.1 (ix2 p q) = dycRow (iblk m c 0 t) (iblk m c 4 t) (iblk m c 5 t) (iblk m c 7 t) (iblk m c 9 t) (iblk m c 10 t) (iblk m c 11 t) p q := by
  by_cases h : t.val % 32 = 0
  · rw [outsAt0_A m c t h]
    dsimp only
    rw [out13_A]
  · rw [outsAt0_B m c t h]
    dsimp only
    rw [out13_B]

theorem left_dga (c : Dev nD) (t : Fin cfg0.N) (p : Fin 512) (q : Fin 1024) :
    (outsAt0 m c t.val t.isLt).2.2.1 (ix2 p q) = dgaRow (iblk m c 0 t) (iblk m c 1 t) (iblk m c 3 t) (iblk m c 6 t) (iblk m c 9 t) p q := by
  by_cases h : t.val % 32 = 0
  · rw [outsAt0_A m c t h]
    dsimp only
    rw [out14_A]
  · rw [outsAt0_B m c t h]
    dsimp only
    rw [out14_B]

theorem left_dgc (c : Dev nD) (t : Fin cfg0.N) (p : Fin 512) (q : Fin 1024) :
    (outsAt0 m c t.val t.isLt).2.2.2.1 (ix2 p q) = dgcRow (iblk m c 0 t) (iblk m c 2 t) (iblk m c 4 t) (iblk m c 7 t) (iblk m c 8 t) (iblk m c 9 t) p q := by
  by_cases h : t.val % 32 = 0
  · rw [outsAt0_A m c t h]
    dsimp only
    rw [out15_A]
  · rw [outsAt0_B m c t h]
    dsimp only
    rw [out15_B]

theorem left_dbra (c : Dev nD) (t : Fin cfg0.N) (p : Fin 512) (q : Fin 1024) :
    (outsAt0 m c t.val t.isLt).2.2.2.2.1 (ix2 p q) = dbrRow (iblk m c 0 t) (iblk m c 9 t) (iblk m c 3 t) p q := by
  by_cases h : t.val % 32 = 0
  · rw [outsAt0_A m c t h]
    dsimp only
    rw [out16_A]
  · rw [outsAt0_B m c t h]
    dsimp only
    rw [out16_B]

theorem left_dbrc (c : Dev nD) (t : Fin cfg0.N) (p : Fin 512) (q : Fin 1024) :
    (outsAt0 m c t.val t.isLt).2.2.2.2.2.1 (ix2 p q) = dbrRow (iblk m c 0 t) (iblk m c 9 t) (iblk m c 4 t) p q := by
  by_cases h : t.val % 32 = 0
  · rw [outsAt0_A m c t h]
    dsimp only
    rw [out17_A]
  · rw [outsAt0_B m c t h]
    dsimp only
    rw [out17_B]

theorem final_dattn (c : Dev nD) : (dats m 0 c).arrAt 12 cfg0.N = dattnArr (m ((c.tc : Thread nD τ).loc main_arg0)) (m ((c.tc : Thread nD τ).loc main_arg2)) (m ((c.tc : Thread nD τ).loc main_arg4)) (m ((c.tc : Thread nD τ).loc main_arg7)) := by
  refine (dats m 0 c).arrAt_eq_of_covers 12 _ (by decide +kernel) fun t _ y => ?_
  have h0 : ((((cfg0.win 12).blk t).view.emb y) 0).val = t.val * 512 + (y 0).val := by blk_point [idx t]
  have h1 : (((cfg0.win 12).blk t).view.emb y) 1 = y 1 := Fin.ext (by blk_point [idx t])
  refine Eq.trans ?_ (((dattnRow_blk m c t (y 0) _ h0 (y 1)).trans (congrArg (dattnTok (m ((c.tc : Thread nD τ).loc main_arg0)) (m ((c.tc : Thread nD τ).loc main_arg2)) (m ((c.tc : Thread nD τ).loc main_arg4)) (m ((c.tc : Thread nD τ).loc main_arg7)) _) h1.symm)))
  blk_simp
  rw [after0_12]
  exact (congrArg (outsAt0 m c t.val t.isLt).1 (ix2_eta y).symm).trans (left_dattn m c t (y 0) (y 1))

theorem final_dyc (c : Dev nD) : (dats m 0 c).arrAt 13 cfg0.N = dycArr (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) := by
  refine (dats m 0 c).arrAt_eq_of_covers 13 _ (by decide +kernel) fun t _ y => ?_
  have h0 : ((((cfg0.win 13).blk t).view.emb y) 0).val = t.val * 512 + (y 0).val := by blk_point [idx t]
  have h1 : (((cfg0.win 13).blk t).view.emb y) 1 = y 1 := Fin.ext (by blk_point [idx t])
  refine Eq.trans ?_ (((dycRow_blk m c t (y 0) _ h0 (y 1)).trans (congrArg (dycTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) _) h1.symm)))
  blk_simp
  rw [after0_13]
  exact (congrArg (outsAt0 m c t.val t.isLt).2.1 (ix2_eta y).symm).trans (left_dyc m c t (y 0) (y 1))

theorem final_dga (c : Dev nD) : (dats m 0 c).arrAt 14 cfg0.N = dgaArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) := by
  refine (dats m 0 c).arrAt_eq_of_covers 14 _ (by decide +kernel) fun t _ y => ?_
  have h0 : ((((cfg0.win 14).blk t).view.emb y) 0).val = t.val * 512 + (y 0).val := by blk_point [idx t]
  have h1 : (((cfg0.win 14).blk t).view.emb y) 1 = y 1 := Fin.ext (by blk_point [idx t])
  refine Eq.trans ?_ (((dgaRow_blk m c t (y 0) _ h0 (y 1)).trans (congrArg (dgaTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) _) h1.symm)))
  blk_simp
  rw [after0_14]
  exact (congrArg (outsAt0 m c t.val t.isLt).2.2.1 (ix2_eta y).symm).trans (left_dga m c t (y 0) (y 1))

theorem final_dgc (c : Dev nD) : (dats m 0 c).arrAt 15 cfg0.N = dgcArr (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 15 _ (by decide +kernel) fun t _ y => ?_
  have h0 : ((((cfg0.win 15).blk t).view.emb y) 0).val = t.val * 512 + (y 0).val := by blk_point [idx t]
  have h1 : (((cfg0.win 15).blk t).view.emb y) 1 = y 1 := Fin.ext (by blk_point [idx t])
  refine Eq.trans ?_ (((dgcRow_blk m c t (y 0) _ h0 (y 1)).trans (congrArg (dgcTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) _) h1.symm)))
  blk_simp
  rw [after0_15]
  exact (congrArg (outsAt0 m c t.val t.isLt).2.2.2.1 (ix2_eta y).symm).trans (left_dgc m c t (y 0) (y 1))

theorem final_dbra (c : Dev nD) : (dats m 0 c).arrAt 16 cfg0.N = dbraArr (m ((c.tc : Thread nD τ).loc main_arg0)) (m ((c.tc : Thread nD τ).loc main_arg2)) (m ((c.tc : Thread nD τ).loc main_arg7)) := by
  refine (dats m 0 c).arrAt_eq_of_covers 16 _ (by decide +kernel) fun t _ y => ?_
  have h0 : ((((cfg0.win 16).blk t).view.emb y) 0).val = t.val * 512 + (y 0).val := by blk_point [idx t]
  have h1 : (((cfg0.win 16).blk t).view.emb y) 1 = y 1 := Fin.ext (by blk_point [idx t])
  refine Eq.trans ?_ (((dbraRow_blk m c t (y 0) _ h0 (y 1)).trans (congrArg (dbraTok (m ((c.tc : Thread nD τ).loc main_arg0)) (m ((c.tc : Thread nD τ).loc main_arg2)) (m ((c.tc : Thread nD τ).loc main_arg7)) _) h1.symm)))
  blk_simp
  rw [after0_16]
  exact (congrArg (outsAt0 m c t.val t.isLt).2.2.2.2.1 (ix2_eta y).symm).trans (left_dbra m c t (y 0) (y 1))

theorem final_dbrc (c : Dev nD) : (dats m 0 c).arrAt 17 cfg0.N = dbrcArr (m ((c.tc : Thread nD τ).loc main_arg0)) (m ((c.tc : Thread nD τ).loc main_arg2)) (m ((c.tc : Thread nD τ).loc main_arg7)) := by
  refine (dats m 0 c).arrAt_eq_of_covers 17 _ (by decide +kernel) fun t _ y => ?_
  have h0 : ((((cfg0.win 17).blk t).view.emb y) 0).val = t.val * 512 + (y 0).val := by blk_point [idx t]
  have h1 : (((cfg0.win 17).blk t).view.emb y) 1 = y 1 := Fin.ext (by blk_point [idx t])
  refine Eq.trans ?_ (((dbrcRow_blk m c t (y 0) _ h0 (y 1)).trans (congrArg (dbrcTok (m ((c.tc : Thread nD τ).loc main_arg0)) (m ((c.tc : Thread nD τ).loc main_arg2)) (m ((c.tc : Thread nD τ).loc main_arg7)) _) h1.symm)))
  blk_simp
  rw [after0_17]
  exact (congrArg (outsAt0 m c t.val t.isLt).2.2.2.2.2.1 (ix2_eta y).symm).trans (left_dbrc m c t (y 0) (y 1))

/-- The two windows on one array both leave it as they found it. -/
theorem shared (c : Dev nD) (w w' : Fin 21) (hne : w ≠ w') (e : Pipeline.arrRef cfg0.spec w = Pipeline.arrRef cfg0.spec w') :
    (dats m 0 c).arrAt w cfg0.N = V0 m c (Proc.devRef .tc (Pipeline.arrRef cfg0.spec w)) := by
  have hw : w = 3 ∨ w = 4 := by
    revert w w'
    decide
  rcases hw with rfl | rfl
  · exact (dats m 0 c).arrAt_in 3 rfl _
  · exact (dats m 0 c).arrAt_in 4 rfl _

/-- Summing an accumulator's eight rows sums every token. -/
theorem rows_total (F : Fin 16384 → EReal) :
    ∑ s : Fin 8, ∑ t : Fin 32, ∑ k : Fin 64, F ⟨t.val * 512 + (k.val * 8 + s.val), by omega⟩ = ∑ p, F p := by
  rw [Finset.sum_comm, ← Fin.sum_mul_add_fin 32 512 F]
  refine Finset.sum_congr rfl fun t _ => Finset.sum_comm.trans ?_
  exact Fin.sum_mul_add_fin 64 8 (fun l : Fin 512 => F ⟨t.val * 512 + l.val, by omega⟩)

/-- The last grid point. -/
def tLast : Fin cfg0.N := ⟨31, lt_of_lt_of_eq (by decide) N_0.symm⟩

/-- The accumulator of `dbc`: the first point starts it, every other point adds to it, the host sums its eight rows. -/
theorem dbc_first (c : Dev nD) (t : Fin cfg0.N) (h : t.val % 32 = 0) (s : Fin 8) (q : Fin 1024) :
    (outsAt0 m c t.val t.isLt).2.2.2.2.2.2.1 (ix2 s q) = 0 + ∑ k : Fin 64, dbrRow (iblk m c 0 t) (iblk m c 9 t) (iblk m c 4 t) ⟨k.val * 8 + s.val, by omega⟩ q := by
  rw [outsAt0_A m c t h]
  dsimp only
  rw [out18_A]

theorem dbc_next (c : Dev nD) (t : Fin cfg0.N) (h : ¬t.val % 32 = 0) (s : Fin 8) (q : Fin 1024) :
    (outsAt0 m c t.val t.isLt).2.2.2.2.2.2.1 (ix2 s q)
      = (outsAt0 m c (t.val - 1) (Nat.lt_of_le_of_lt (Nat.sub_le _ _) t.isLt)).2.2.2.2.2.2.1 (ix2 s q) + ∑ k : Fin 64, dbrRow (iblk m c 0 t) (iblk m c 9 t) (iblk m c 4 t) ⟨k.val * 8 + s.val, by omega⟩ q := by
  rw [outsAt0_B m c t h]
  dsimp only
  rw [out18_B]

theorem dbc_eq (c : Dev nD) (s : Fin 8) (q : Fin 1024) :
    (outsAt0 m c tLast.val tLast.isLt).2.2.2.2.2.2.1 (ix2 s q)
      = ∑ t : Fin 32, ∑ k : Fin 64, dbrcTok (m ((c.tc : Thread nD τ).loc main_arg0)) (m ((c.tc : Thread nD τ).loc main_arg2)) (m ((c.tc : Thread nD τ).loc main_arg7)) ⟨t.val * 512 + (k.val * 8 + s.val), by omega⟩ q := by
  have e := Pipeline.eq_sum_fin_of_reset_step_last (fun n h => (outsAt0 m c n h).2.2.2.2.2.2.1 (ix2 s q)) 32 (0 : EReal)
    (fun t => ∑ k : Fin 64, dbrRow (iblk m c 0 t) (iblk m c 9 t) (iblk m c 4 t) ⟨k.val * 8 + s.val, by omega⟩ q)
    (fun t h => dbc_first m c t h s q) (fun t h => dbc_next m c t h s q) (le_of_eq N_0) tLast rfl
  refine e.trans ((zero_add _).trans ?_)
  exact Finset.sum_congr rfl fun t _ => Finset.sum_congr rfl fun k _ => dbrcRow_blk m c t _ _ rfl q

theorem final_dbcAcc (c : Dev nD) : (dats m 0 c).arrAt 18 cfg0.N
    = ((outsAt0 m c tLast.val tLast.isLt).2.2.2.2.2.2.1 : FVec Ideal S8x1024 .f32) := by
  refine (dats m 0 c).arrAt_eq_of_after_last 18 tLast (by decide +kernel) _ fun j => ?_
  blk_simp
  rw [after0_18]

theorem final_dbc (c : Dev nD) (q : Fin 1024) :
    Pipeline.afterTail₀ cfgs (dats m) 0 (V0 m) [hostOps1] c main_v23 (ix1 q) = ∑ p, dbrcTok (m ((c.tc : Thread nD τ).loc main_arg0)) (m ((c.tc : Thread nD τ).loc main_arg2)) (m ((c.tc : Thread nD τ).loc main_arg7)) p q := by
  have hw := Pipeline.withArrays_arr_shared (τ := τ) cfg0.spec c (V0 m c) (fun w => (dats m 0 c).arrAt w cfg0.N) (shared m c) 18
  have e : Pipeline.afterTail₀ cfgs (dats m) 0 (V0 m) [hostOps1] c main_v23
      = Host.reduceAdd (F := Ideal) (s := S8x1024) (φ := .f32) ((dats m 0 c).arrAt 18 cfg0.N) (constant S_ .f32 0x00000000#32) reducesTo_S8x1024_S1024_d0 h_S_ := by
    rw [← hw]
    unfold Pipeline.afterTail₀
    after_results
    rfl
  rw [e, final_dbcAcc]
  pointwise
  simp only [dbc_eq]
  exact rows_total fun p => dbrcTok _ _ _ p q

/-- The accumulator of `dlg`: the first point starts it, every other point adds to it, the host sums its eight rows. -/
theorem dlg_first (c : Dev nD) (t : Fin cfg0.N) (h : t.val % 32 = 0) (s : Fin 8) (q : Fin 512) :
    (outsAt0 m c t.val t.isLt).2.2.2.2.2.2.2.1 (ix2 s q) = 0 + ∑ k : Fin 64, dlgRow (iblk m c 0 t) (iblk m c 4 t) (iblk m c 5 t) (iblk m c 7 t) (iblk m c 9 t) (iblk m c 10 t) (iblk m c 11 t) ⟨k.val * 8 + s.val, by omega⟩ q := by
  rw [outsAt0_A m c t h]
  dsimp only
  rw [out19_A]

theorem dlg_next (c : Dev nD) (t : Fin cfg0.N) (h : ¬t.val % 32 = 0) (s : Fin 8) (q : Fin 512) :
    (outsAt0 m c t.val t.isLt).2.2.2.2.2.2.2.1 (ix2 s q)
      = (outsAt0 m c (t.val - 1) (Nat.lt_of_le_of_lt (Nat.sub_le _ _) t.isLt)).2.2.2.2.2.2.2.1 (ix2 s q) + ∑ k : Fin 64, dlgRow (iblk m c 0 t) (iblk m c 4 t) (iblk m c 5 t) (iblk m c 7 t) (iblk m c 9 t) (iblk m c 10 t) (iblk m c 11 t) ⟨k.val * 8 + s.val, by omega⟩ q := by
  rw [outsAt0_B m c t h]
  dsimp only
  rw [out19_B]

theorem dlg_eq (c : Dev nD) (s : Fin 8) (q : Fin 512) :
    (outsAt0 m c tLast.val tLast.isLt).2.2.2.2.2.2.2.1 (ix2 s q)
      = ∑ t : Fin 32, ∑ k : Fin 64, dlgTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) ⟨t.val * 512 + (k.val * 8 + s.val), by omega⟩ q := by
  have e := Pipeline.eq_sum_fin_of_reset_step_last (fun n h => (outsAt0 m c n h).2.2.2.2.2.2.2.1 (ix2 s q)) 32 (0 : EReal)
    (fun t => ∑ k : Fin 64, dlgRow (iblk m c 0 t) (iblk m c 4 t) (iblk m c 5 t) (iblk m c 7 t) (iblk m c 9 t) (iblk m c 10 t) (iblk m c 11 t) ⟨k.val * 8 + s.val, by omega⟩ q)
    (fun t h => dlg_first m c t h s q) (fun t h => dlg_next m c t h s q) (le_of_eq N_0) tLast rfl
  refine e.trans ((zero_add _).trans ?_)
  exact Finset.sum_congr rfl fun t _ => Finset.sum_congr rfl fun k _ => dlgRow_blk m c t _ _ rfl q

theorem final_dlgAcc (c : Dev nD) : (dats m 0 c).arrAt 19 cfg0.N
    = ((outsAt0 m c tLast.val tLast.isLt).2.2.2.2.2.2.2.1 : FVec Ideal S8x512 .f32) := by
  refine (dats m 0 c).arrAt_eq_of_after_last 19 tLast (by decide +kernel) _ fun j => ?_
  blk_simp
  rw [after0_19]

theorem final_dlg (c : Dev nD) (q : Fin 512) :
    Pipeline.afterTail₀ cfgs (dats m) 0 (V0 m) [hostOps1] c main_v24 (ix1 q) = ∑ p, dlgTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) p q := by
  have hw := Pipeline.withArrays_arr_shared (τ := τ) cfg0.spec c (V0 m c) (fun w => (dats m 0 c).arrAt w cfg0.N) (shared m c) 19
  have e : Pipeline.afterTail₀ cfgs (dats m) 0 (V0 m) [hostOps1] c main_v24
      = Host.reduceAdd (F := Ideal) (s := S8x512) (φ := .f32) ((dats m 0 c).arrAt 19 cfg0.N) (constant S_ .f32 0x00000000#32) reducesTo_S8x512_S512_d0 h_S_ := by
    rw [← hw]
    unfold Pipeline.afterTail₀
    after_results
    rfl
  rw [e, final_dlgAcc]
  pointwise
  simp only [dlg_eq]
  exact rows_total fun p => dlgTok _ _ _ _ _ _ _ p q

/-- The accumulator of `dlb`: the first point starts it, every other point adds to it, the host sums its eight rows. -/
theorem dlb_first (c : Dev nD) (t : Fin cfg0.N) (h : t.val % 32 = 0) (s : Fin 8) (q : Fin 512) :
    (outsAt0 m c t.val t.isLt).2.2.2.2.2.2.2.2 (ix2 s q) = 0 + ∑ k : Fin 64, dlnRow (iblk m c 0 t) (iblk m c 4 t) (iblk m c 5 t) (iblk m c 7 t) (iblk m c 9 t) (iblk m c 10 t) (iblk m c 11 t) ⟨k.val * 8 + s.val, by omega⟩ q := by
  rw [outsAt0_A m c t h]
  dsimp only
  rw [out20_A]

theorem dlb_next (c : Dev nD) (t : Fin cfg0.N) (h : ¬t.val % 32 = 0) (s : Fin 8) (q : Fin 512) :
    (outsAt0 m c t.val t.isLt).2.2.2.2.2.2.2.2 (ix2 s q)
      = (outsAt0 m c (t.val - 1) (Nat.lt_of_le_of_lt (Nat.sub_le _ _) t.isLt)).2.2.2.2.2.2.2.2 (ix2 s q) + ∑ k : Fin 64, dlnRow (iblk m c 0 t) (iblk m c 4 t) (iblk m c 5 t) (iblk m c 7 t) (iblk m c 9 t) (iblk m c 10 t) (iblk m c 11 t) ⟨k.val * 8 + s.val, by omega⟩ q := by
  rw [outsAt0_B m c t h]
  dsimp only
  rw [out20_B]

theorem dlb_eq (c : Dev nD) (s : Fin 8) (q : Fin 512) :
    (outsAt0 m c tLast.val tLast.isLt).2.2.2.2.2.2.2.2 (ix2 s q)
      = ∑ t : Fin 32, ∑ k : Fin 64, dlnTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) ⟨t.val * 512 + (k.val * 8 + s.val), by omega⟩ q := by
  have e := Pipeline.eq_sum_fin_of_reset_step_last (fun n h => (outsAt0 m c n h).2.2.2.2.2.2.2.2 (ix2 s q)) 32 (0 : EReal)
    (fun t => ∑ k : Fin 64, dlnRow (iblk m c 0 t) (iblk m c 4 t) (iblk m c 5 t) (iblk m c 7 t) (iblk m c 9 t) (iblk m c 10 t) (iblk m c 11 t) ⟨k.val * 8 + s.val, by omega⟩ q)
    (fun t h => dlb_first m c t h s q) (fun t h => dlb_next m c t h s q) (le_of_eq N_0) tLast rfl
  refine e.trans ((zero_add _).trans ?_)
  exact Finset.sum_congr rfl fun t _ => Finset.sum_congr rfl fun k _ => dlnRow_blk m c t _ _ rfl q

theorem final_dlbAcc (c : Dev nD) : (dats m 0 c).arrAt 20 cfg0.N
    = ((outsAt0 m c tLast.val tLast.isLt).2.2.2.2.2.2.2.2 : FVec Ideal S8x512 .f32) := by
  refine (dats m 0 c).arrAt_eq_of_after_last 20 tLast (by decide +kernel) _ fun j => ?_
  blk_simp
  rw [after0_20]

theorem final_dlb (c : Dev nD) (q : Fin 512) :
    Pipeline.afterTail₀ cfgs (dats m) 0 (V0 m) [hostOps1] c main_v25 (ix1 q) = ∑ p, dlnTok (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) p q := by
  have hw := Pipeline.withArrays_arr_shared (τ := τ) cfg0.spec c (V0 m c) (fun w => (dats m 0 c).arrAt w cfg0.N) (shared m c) 20
  have e : Pipeline.afterTail₀ cfgs (dats m) 0 (V0 m) [hostOps1] c main_v25
      = Host.reduceAdd (F := Ideal) (s := S8x512) (φ := .f32) ((dats m 0 c).arrAt 20 cfg0.N) (constant S_ .f32 0x00000000#32) reducesTo_S8x512_S512_d0 h_S_ := by
    rw [← hw]
    unfold Pipeline.afterTail₀
    after_results
    rfl
  rw [e, final_dlbAcc]
  pointwise
  simp only [dlb_eq]
  exact rows_total fun p => dlnTok _ _ _ _ _ _ _ p q

section
open Cert.Reference2Ideal.Read
variable (x0 : FVec Ideal S16384x1024 .f32) (x1 : FVec Ideal S16384x512 .bf16) (x2 : FVec Ideal S16384x3072 .bf16) (x3 : FVec Ideal S16384x512 .f32)
  (x4 x5 : FVec Ideal S512x1024 .bf16) (x6 : FVec Ideal S1x1024 .f32) (x7 : FVec Ideal S1024x1024 .bf16) (x8 x9 : FVec Ideal S1x512 .f32)

/-- The reference's layer norm. -/
theorem ref_cen (p : Fin 16384) (q : Fin 512) : val_main_v16 (F := Ideal) x3 (ix2 p q) = cen (fun d => x3 (ix2 p d)) q := by
  pointwise [val_main_v16, val_main_v15, val_main_v14, val_main_v13, val_main_v12, val_main_v11, val_main_cst, val_main_cst_0]
  rfl

theorem ref_vare (p : Fin 16384) : val_main_v23 (F := Ideal) x3 (ix2 p 0) = vare (fun d => x3 (ix2 p d)) := by
  pointwise [val_main_v23, val_main_v22, val_main_v21, val_main_v20, val_main_v19, val_main_v18, val_main_v17, val_main_cst_1, val_main_cst_2, val_main_cst_3]
  simp only [ref_cen]
  rfl

theorem ref_rstd (p : Fin 16384) : val_main_v24 (F := Ideal) x3 (ix2 p 0) = rstd (fun d => x3 (ix2 p d)) := by
  pointwise [val_main_v24]
  rw [ref_vare]; rfl

theorem ref_half (p : Fin 16384) : val_main_v27 (F := Ideal) x3 (ix2 p 0)
    = Cert.Mlp.negHalf * Ideal.div (rstd (fun d => x3 (ix2 p d))) (vare (fun d => x3 (ix2 p d))) := by
  pointwise [val_main_v27, val_main_v26, val_main_v25, val_main_cst_4]
  rw [ref_vare, ref_rstd] <;> rfl

theorem ref_xhat (p : Fin 16384) (q : Fin 512) : val_main_v29 (F := Ideal) x3 (ix2 p q) = xhat (fun d => x3 (ix2 p d)) q := by
  pointwise [val_main_v29, val_main_v28]
  rw [ref_cen, ref_rstd]; rfl

theorem ref_ln (p : Fin 16384) (q : Fin 512) :
    val_main_v35 (F := Ideal) x3 x8 x9 (ix2 p q) = ln (fun d => x3 (ix2 p d)) (fun d => x8 (ix2 0 d)) (fun d => x9 (ix2 0 d)) q := by
  pointwise [val_main_v35, val_main_v34, val_main_v33, val_main_v32, val_main_v31, val_main_v30, val_main_v9, val_main_v8]
  rw [ref_xhat]; rfl

/-- The reference's SiLU and its sigmoid. -/
theorem ref_sig (p : Fin 16384) (q : Fin 512) :
    val_main_v36_2 (F := Ideal) x3 x8 x9 (ix2 p q) = gate (ln (fun d => x3 (ix2 p d)) (fun d => x8 (ix2 0 d)) (fun d => x9 (ix2 0 d)) q) := by
  pointwise [val_main_v36_2, val_main_call0_v0, val_main_call0_v1, val_main_call0_v2, val_main_call0_v3, val_main_call0_v4, val_main_call0_cst, val_main_call0_cst_0]
  rw [ref_ln]; rfl

theorem ref_silu (p : Fin 16384) (q : Fin 512) : val_main_v36_0 (F := Ideal) x3 x8 x9 (ix2 p q) = uTok x3 x8 x9 p q := by
  pointwise [val_main_v36_0]
  rw [ref_ln, ref_sig]; rfl

/-- The reference's branches and gates. -/
theorem ref_bra (p : Fin 16384) (q : Fin 1024) :
    val_main_v10 (F := Ideal) x1 x4 (ix2 p q) = br (fun d => x1 (ix2 p d)) (fun d k => x4 (ix2 d k)) q := by
  pointwise [val_main_v10, val_main_v0, val_main_v2]
  rfl

theorem ref_brc (p : Fin 16384) (q : Fin 1024) :
    val_main_v40 (F := Ideal) x3 x5 x6 x8 x9 (ix2 p q) = br (uTok x3 x8 x9 p) (fun d k => x5 (ix2 d k)) q + x6 (ix2 0 q) := by
  pointwise [val_main_v40, val_main_v39, val_main_v38, val_main_v37, val_main_v7, val_main_v3]
  simp only [ref_silu]
  rfl

theorem ref_ga (p : Fin 16384) (q : Fin 1024) : val_main_v46 (F := Ideal) x2 (ix2 p q) = gate (gaTok x2 p q) := by
  pointwise [val_main_v46, val_main_v45, val_main_v44, val_main_v43, val_main_v42, val_main_v41, val_main_v5, val_main_v1, val_main_cst_5, val_main_cst_6]
  rfl

theorem ref_gc (p : Fin 16384) (q : Fin 1024) : val_main_v56 (F := Ideal) x2 (ix2 p q) = gate (gcTok x2 p q) := by
  pointwise [val_main_v56, val_main_v55, val_main_v54, val_main_v53, val_main_v52, val_main_v51, val_main_v6, val_main_v1, val_main_cst_8, val_main_cst_9]
  rfl

theorem ref_dm (p : Fin 16384) (q : Fin 1024) :
    val_main_v65 (F := Ideal) x0 x7 (ix2 p q) = dm (fun d => x0 (ix2 p d)) (fun k d => x7 (ix2 k d)) q := by
  pointwise [val_main_v65, val_main_v4]
  rfl

/-- The reference's gradients behind the gates, and at the gates. -/
theorem ref_dbra (p : Fin 16384) (q : Fin 1024) : val_main_v69 (F := Ideal) x0 x2 x7 (ix2 p q) = dbraTok x0 x2 x7 p q := by
  pointwise [val_main_v69]
  rw [ref_ga, ref_dm, dbraTok, dbr, mul_comm]

theorem ref_dbrc (p : Fin 16384) (q : Fin 1024) : val_main_v66 (F := Ideal) x0 x2 x7 (ix2 p q) = dbrcTok x0 x2 x7 p q := by
  pointwise [val_main_v66]
  rw [ref_gc, ref_dm, dbrcTok, dbr, mul_comm]

theorem ref_dga (p : Fin 16384) (q : Fin 1024) : val_main_v71 (F := Ideal) x0 x1 x2 x4 x7 (ix2 p q) = dgaTok x0 x1 x2 x4 x7 p q := by
  pointwise [val_main_v71, val_main_v70, val_main_v49, val_main_v48, val_main_v47, val_main_cst_7]
  rw [ref_ga, ref_dm, ref_bra, dgaTok, dgate, mul_assoc (dm _ _ _ * br _ _ _)]

theorem ref_dgc (p : Fin 16384) (q : Fin 1024) :
    val_main_v68 (F := Ideal) x0 x2 x3 x5 x6 x7 x8 x9 (ix2 p q) = dgcTok x0 x2 x3 x5 x6 x7 x8 x9 p q := by
  pointwise [val_main_v68, val_main_v67, val_main_v59, val_main_v58, val_main_v57, val_main_cst_10]
  rw [ref_gc, ref_dm, ref_brc, dgcTok, dgate, mul_assoc (dm _ _ _ * (br _ _ _ + _))]

theorem ref_dattn (p : Fin 16384) (q : Fin 512) : val_main_v112 (F := Ideal) x0 x2 x4 x7 (ix2 p q) = dattnTok x0 x2 x4 x7 p q := by
  pointwise [val_main_v112, val_main_v2]
  simp only [ref_dbra]
  rfl

theorem ref_back (p : Fin 16384) (q : Fin 512) : val_main_v77 (F := Ideal) x0 x2 x5 x7 (ix2 p q)
    = back (fun d => x0 (ix2 p d)) (gcTok x2 p) (fun k d => x7 (ix2 k d)) (fun e k => x5 (ix2 e k)) q := by
  pointwise [val_main_v77, val_main_v3]
  simp only [ref_dbrc]
  rfl

theorem ref_dbc (q : Fin 1024) : val_main_v74 (F := Ideal) x0 x2 x7 (ix1 q) = ∑ p, dbrcTok x0 x2 x7 p q := by
  pointwise [val_main_v74, val_main_v73, val_main_v72, val_main_cst_11, val_main_cst_12]
  simp only [Fin.sum_univ_one, ref_dbrc]

theorem real_mul {x y : EReal} (hx : ∃ r : ℝ, x = (r : EReal)) (hy : ∃ r : ℝ, y = (r : EReal)) : ∃ r : ℝ, x * y = (r : EReal) := by
  obtain ⟨r, rfl⟩ := hx
  obtain ⟨s, rfl⟩ := hy
  exact ⟨r * s, (EReal.coe_mul r s).symm⟩

theorem real_sum {ι : Type} [Fintype ι] {f : ι → EReal} (h : ∀ i, ∃ r : ℝ, f i = (r : EReal)) : ∃ r : ℝ, ∑ i, f i = (r : EReal) := by
  choose r hr using h
  exact ⟨∑ i, r i, (Finset.sum_congr rfl fun i _ => hr i).trans (coe_sum r).symm⟩

/-- With real weights and a real gradient at the residual stream, the gradient at the branch's input is real: the gate
    always is. -/
theorem back_real (h0 : ∀ p d, ∃ r : ℝ, x0 (ix2 p d) = (r : EReal)) (h5 : ∀ e k, ∃ r : ℝ, x5 (ix2 e k) = (r : EReal))
    (h7 : ∀ k d, ∃ r : ℝ, x7 (ix2 k d) = (r : EReal)) (p : Fin 16384) (q : Fin 512) :
    ∃ r : ℝ, back (fun d => x0 (ix2 p d)) (gcTok x2 p) (fun k d => x7 (ix2 k d)) (fun e k => x5 (ix2 e k)) q = (r : EReal) :=
  real_sum fun k => real_mul (real_mul (real_sum fun d => real_mul (h0 p d) (h7 k d)) (gate_real _)) (h5 q k)

/-- The gradient at the norm's output, in the chain rule's form and in the factored one. -/
theorem ref_dln (h0 : ∀ p d, ∃ r : ℝ, x0 (ix2 p d) = (r : EReal)) (h5 : ∀ e k, ∃ r : ℝ, x5 (ix2 e k) = (r : EReal))
    (h7 : ∀ k d, ∃ r : ℝ, x7 (ix2 k d) = (r : EReal)) (p : Fin 16384) (q : Fin 512) :
    val_main_v78 (F := Ideal) x0 x2 x3 x5 x7 x8 x9 (ix2 p q) = dlnTok x0 x2 x3 x5 x7 x8 x9 p q := by
  obtain ⟨u, hu⟩ := back_real x0 x2 x5 x7 h0 h5 h7 p q
  obtain ⟨d, h1, h2⟩ := dsilu_chain u (ln (fun d => x3 (ix2 p d)) (fun d => x8 (ix2 0 d)) (fun d => x9 (ix2 0 d)) q)
  pointwise [val_main_v78, val_main_call1_v0, val_main_call1_v1, val_main_call1_v2, val_main_v36_1, val_main_call0_v7, val_main_call0_v6, val_main_call0_cst_1]
  rw [ref_back, ref_ln, ref_sig, dlnTok, dln, hu, h1]
  exact h2

theorem dln_real (h0 : ∀ p d, ∃ r : ℝ, x0 (ix2 p d) = (r : EReal)) (h5 : ∀ e k, ∃ r : ℝ, x5 (ix2 e k) = (r : EReal))
    (h7 : ∀ k d, ∃ r : ℝ, x7 (ix2 k d) = (r : EReal)) (p : Fin 16384) (q : Fin 512) :
    ∃ r : ℝ, dlnTok x0 x2 x3 x5 x7 x8 x9 p q = (r : EReal) := by
  obtain ⟨u, hu⟩ := back_real x0 x2 x5 x7 h0 h5 h7 p q
  obtain ⟨d, h1, -⟩ := dsilu_chain u (ln (fun d => x3 (ix2 p d)) (fun d => x8 (ix2 0 d)) (fun d => x9 (ix2 0 d)) q)
  exact ⟨d, by rw [dlnTok, dln, hu, h1]⟩

/-- The gradient through the centred row. -/
theorem ref_dcen (h0 : ∀ p d, ∃ r : ℝ, x0 (ix2 p d) = (r : EReal)) (h5 : ∀ e k, ∃ r : ℝ, x5 (ix2 e k) = (r : EReal))
    (h7 : ∀ k d, ∃ r : ℝ, x7 (ix2 k d) = (r : EReal)) (p : Fin 16384) (q : Fin 512) :
    val_main_v101 (F := Ideal) x0 x2 x3 x5 x7 x8 x9 (ix2 p q)
      = dcen (fun d => x3 (ix2 p d)) (fun d => dlnTok x0 x2 x3 x5 x7 x8 x9 p d * x8 (ix2 0 d)) q := by
  pointwise [val_main_v101, val_main_v100, val_main_v99, val_main_v98, val_main_v97, val_main_v96, val_main_v95, val_main_v94, val_main_v93, val_main_v92, val_main_v91, val_main_v90, val_main_v89, val_main_v88, val_main_v86, val_main_v85, val_main_v30, val_main_v8, val_main_cst_17, val_main_cst_18, val_main_cst_19]
  simp only [Fin.sum_univ_one, ref_cen, ref_rstd, ref_half, ref_dln x0 x2 x3 x5 x7 x8 x9 h0 h5 h7]
  rfl

theorem ref_dyc (h0 : ∀ p d, ∃ r : ℝ, x0 (ix2 p d) = (r : EReal)) (h5 : ∀ e k, ∃ r : ℝ, x5 (ix2 e k) = (r : EReal))
    (h7 : ∀ k d, ∃ r : ℝ, x7 (ix2 k d) = (r : EReal)) (h8 : ∀ p d, ∃ r : ℝ, x8 (ix2 p d) = (r : EReal)) (p : Fin 16384) (q : Fin 512) :
    val_main_v109 (F := Ideal) x0 x2 x3 x5 x7 x8 x9 (ix2 p q) = dycTok x0 x2 x3 x5 x7 x8 x9 p q := by
  have hm : ∃ r : Fin 512 → ℝ, (fun d => dlnTok x0 x2 x3 x5 x7 x8 x9 p d * x8 (ix2 0 d)) = fun d => (r d : EReal) := by
    choose r hr using fun d => real_mul (dln_real x0 x2 x3 x5 x7 x8 x9 h0 h5 h7 p d) (h8 0 d)
    exact ⟨r, funext hr⟩
  obtain ⟨r, hr⟩ := hm
  have e : dycTok x0 x2 x3 x5 x7 x8 x9 p q = dnorm (fun d => x3 (ix2 p d)) (fun d => dlnTok x0 x2 x3 x5 x7 x8 x9 p d * x8 (ix2 0 d)) q := rfl
  rw [e, hr, ← dnorm_chain, ← hr]
  pointwise [val_main_v109, val_main_v108, val_main_v107, val_main_v106, val_main_v105, val_main_v104, val_main_v103, val_main_v102, val_main_cst_20, val_main_cst_21, val_main_cst_22]
  simp only [Fin.sum_univ_one, ref_dcen x0 x2 x3 x5 x7 x8 x9 h0 h5 h7]

theorem ref_dlb (h0 : ∀ p d, ∃ r : ℝ, x0 (ix2 p d) = (r : EReal)) (h5 : ∀ e k, ∃ r : ℝ, x5 (ix2 e k) = (r : EReal))
    (h7 : ∀ k d, ∃ r : ℝ, x7 (ix2 k d) = (r : EReal)) (q : Fin 512) :
    val_main_v81 (F := Ideal) x0 x2 x3 x5 x7 x8 x9 (ix1 q) = ∑ p, dlnTok x0 x2 x3 x5 x7 x8 x9 p q := by
  pointwise [val_main_v81, val_main_v80, val_main_v79, val_main_cst_13, val_main_cst_14]
  simp only [Fin.sum_univ_one, ref_dln x0 x2 x3 x5 x7 x8 x9 h0 h5 h7]

theorem ref_dlg (h0 : ∀ p d, ∃ r : ℝ, x0 (ix2 p d) = (r : EReal)) (h5 : ∀ e k, ∃ r : ℝ, x5 (ix2 e k) = (r : EReal))
    (h7 : ∀ k d, ∃ r : ℝ, x7 (ix2 k d) = (r : EReal)) (q : Fin 512) :
    val_main_v87 (F := Ideal) x0 x2 x3 x5 x7 x8 x9 (ix1 q) = ∑ p, dlgTok x0 x2 x3 x5 x7 x8 x9 p q := by
  pointwise [val_main_v87, val_main_v84, val_main_v83, val_main_v82, val_main_cst_15, val_main_cst_16]
  simp only [Fin.sum_univ_one, ref_xhat, ref_dln x0 x2 x3 x5 x7 x8 x9 h0 h5 h7]
  exact Finset.sum_congr rfl fun p _ => by rw [dlgTok, mul_comm]

end

/-- Below infinity in absolute value is real. -/
theorem real_of_abs {x : EReal} (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x with
  | coe r => exact ⟨r, rfl⟩
  | bot => simp [Ideal.cmp] at h
  | top => simp [Ideal.cmp] at h

section
variable (x0 : FVec Ideal S16384x1024 .f32) (x1 : FVec Ideal S16384x512 .bf16) (x2 : FVec Ideal S16384x3072 .bf16) (x3 : FVec Ideal S16384x512 .f32)
  (x4 x5 : FVec Ideal S512x1024 .bf16) (x6 : FVec Ideal S1x1024 .f32) (x7 : FVec Ideal S1024x1024 .bf16) (x8 x9 : FVec Ideal S1x512 .f32)

theorem pre_dx (h : (Cert.Pre_finite.fn (F := Ideal) x0 x1 x2 x3 x4 x5 x6 x7 x8 x9).1 = fun _ => 1#1) (p : Fin 16384) (d : Fin 1024) :
    ∃ r : ℝ, x0 (ix2 p d) = (r : EReal) := by
  have e := congrFun h (ix2 p d)
  revert e
  unfold Cert.Pre_finite.fn
  pointwise
  exact fun e => real_of_abs e

theorem pre_wc (h : (Cert.Pre_finite.fn (F := Ideal) x0 x1 x2 x3 x4 x5 x6 x7 x8 x9).2.1 = fun _ => 1#1) (e : Fin 512) (k : Fin 1024) :
    ∃ r : ℝ, x5 (ix2 e k) = (r : EReal) := by
  have e := congrFun h (ix2 e k)
  revert e
  unfold Cert.Pre_finite.fn
  pointwise
  exact fun e => real_of_abs e

theorem pre_wo (h : (Cert.Pre_finite.fn (F := Ideal) x0 x1 x2 x3 x4 x5 x6 x7 x8 x9).2.2.1 = fun _ => 1#1) (k d : Fin 1024) :
    ∃ r : ℝ, x7 (ix2 k d) = (r : EReal) := by
  have e := congrFun h (ix2 k d)
  revert e
  unfold Cert.Pre_finite.fn
  pointwise
  exact fun e => real_of_abs e

theorem pre_lg (h : (Cert.Pre_finite.fn (F := Ideal) x0 x1 x2 x3 x4 x5 x6 x7 x8 x9).2.2.2 = fun _ => 1#1) (p : Fin 1) (d : Fin 512) :
    ∃ r : ℝ, x8 (ix2 p d) = (r : EReal) := by
  have e := congrFun h (ix2 p d)
  revert e
  unfold Cert.Pre_finite.fn
  pointwise
  exact fun e => real_of_abs e

end

set_option maxHeartbeats 1600000 in
/-- The kernel's run: its nine results and its arguments. -/
theorem run_kernel (g : Dev nD → PrngReg) :
    θ_run (defs (F := Ideal)) (onTc (τ := τ) (main (F := Ideal))) ⟨m, fun _ => 0, g⟩ fun r => ∀ c : Dev nD,
      r.2.mem ((c.tc : Thread nD τ).loc main_v22_0) = dattnArr (m ((c.tc : Thread nD τ).loc main_arg0)) (m ((c.tc : Thread nD τ).loc main_arg2)) (m ((c.tc : Thread nD τ).loc main_arg4)) (m ((c.tc : Thread nD τ).loc main_arg7))
      ∧ r.2.mem ((c.tc : Thread nD τ).loc main_v22_1) = dycArr (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9))
      ∧ r.2.mem ((c.tc : Thread nD τ).loc main_v22_2) = dgaArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7))
      ∧ r.2.mem ((c.tc : Thread nD τ).loc main_v22_3) = dgcArr (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v22_4) = dbraArr (m ((c.tc : Thread nD τ).loc main_arg0)) (m ((c.tc : Thread nD τ).loc main_arg2)) (m ((c.tc : Thread nD τ).loc main_arg7))
      ∧ r.2.mem ((c.tc : Thread nD τ).loc main_v22_5) = dbrcArr (m ((c.tc : Thread nD τ).loc main_arg0)) (m ((c.tc : Thread nD τ).loc main_arg2)) (m ((c.tc : Thread nD τ).loc main_arg7))
      ∧ r.2.mem ((c.tc : Thread nD τ).loc main_v23) = Pipeline.afterTail₀ cfgs (dats m) 0 (V0 m) [hostOps1] c main_v23
      ∧ r.2.mem ((c.tc : Thread nD τ).loc main_v24) = Pipeline.afterTail₀ cfgs (dats m) 0 (V0 m) [hostOps1] c main_v24
      ∧ r.2.mem ((c.tc : Thread nD τ).loc main_v25) = Pipeline.afterTail₀ cfgs (dats m) 0 (V0 m) [hostOps1] c main_v25
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9)) :=
  (θ_run _ _ _).mono (fun r h c => ⟨((h c).1 12).trans (final_dattn m c), ((h c).1 13).trans (final_dyc m c), ((h c).1 14).trans (final_dga m c), ((h c).1 15).trans (final_dgc m c), ((h c).1 16).trans (final_dbra m c), ((h c).1 17).trans (final_dbrc m c),
    (h c).2 main_v23 (by decide), (h c).2 main_v24 (by decide), (h c).2 main_v25 (by decide),
    ((h c).1 0).trans (((dats m 0 c).arrAt_in 0 rfl _).trans (V_main_arg0 m c)),
    ((h c).1 1).trans (((dats m 0 c).arrAt_in 1 rfl _).trans (V_main_arg1 m c)),
    ((h c).1 4).trans (((dats m 0 c).arrAt_in 4 rfl _).trans (V_main_arg2 m c)),
    ((h c).1 5).trans (((dats m 0 c).arrAt_in 5 rfl _).trans (V_main_arg3 m c)),
    ((h c).1 6).trans (((dats m 0 c).arrAt_in 6 rfl _).trans (V_main_arg4 m c)),
    ((h c).1 7).trans (((dats m 0 c).arrAt_in 7 rfl _).trans (V_main_arg5 m c)),
    ((h c).1 8).trans (((dats m 0 c).arrAt_in 8 rfl _).trans (V_main_arg6 m c)),
    ((h c).1 9).trans (((dats m 0 c).arrAt_in 9 rfl _).trans (V_main_arg7 m c)),
    ((h c).1 10).trans (((dats m 0 c).arrAt_in 10 rfl _).trans (V_main_arg8 m c)),
    ((h c).1 11).trans (((dats m 0 c).arrAt_in 11 rfl _).trans (V_main_arg9 m c))⟩) (run_main m g)

theorem algebraic : Cert.algebraic_Kernel2Ideal_Reference2Ideal_pre_finite := by
  intro m g m' g' hpre hagree
  refine ⟨_, _, _, _, _, _, _, _, _, run_kernel m g, ?_⟩
  refine (θ_run _ _ _).mono (fun r h c => ?_) (Cert.Reference2Ideal.Value.run m' g')
  obtain ⟨h0, h1, h2, h3, h4, h5, h6, h7, h8, h9⟩ := hagree c
  have f0 := pre_dx _ _ _ _ _ _ _ _ _ _ (hpre c).1
  have f5 := pre_wc _ _ _ _ _ _ _ _ _ _ (hpre c).2.1
  have f7 := pre_wo _ _ _ _ _ _ _ _ _ _ (hpre c).2.2.1
  have f8 := pre_lg _ _ _ _ _ _ _ _ _ _ (hpre c).2.2.2
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
  · refine (Cert.Reference2Ideal.Read.val_main_v113_eq ..).trans ?_
    rw [h0, h2, h4, h7]
    refine funext fun i => ?_
    pointwise [Cert.Reference2Ideal.Read.val_main_v113]
    exact (congrArg _ (ix2_eta i).symm).trans (ref_dattn _ _ _ _ (i 0) (i 1))
  · refine (Cert.Reference2Ideal.Read.val_main_v109_eq ..).trans ?_
    rw [h0, h2, h3, h5, h7, h8, h9]
    refine funext fun i => ?_
    exact (congrArg _ (ix2_eta i).symm).trans (ref_dyc _ _ _ _ _ _ _ f0 f5 f7 f8 (i 0) (i 1))
  · refine (Cert.Reference2Ideal.Read.val_main_v114_eq ..).trans ?_
    rw [h0, h1, h2, h4, h7]
    refine funext fun i => ?_
    pointwise [Cert.Reference2Ideal.Read.val_main_v114]
    exact (congrArg _ (ix2_eta i).symm).trans (ref_dga _ _ _ _ _ (i 0) (i 1))
  · refine (Cert.Reference2Ideal.Read.val_main_v115_eq ..).trans ?_
    rw [h0, h2, h3, h5, h6, h7, h8, h9]
    refine funext fun i => ?_
    pointwise [Cert.Reference2Ideal.Read.val_main_v115]
    exact (congrArg _ (ix2_eta i).symm).trans (ref_dgc _ _ _ _ _ _ _ _ (i 0) (i 1))
  · refine (Cert.Reference2Ideal.Read.val_main_v116_eq ..).trans ?_
    rw [h0, h2, h7]
    refine funext fun i => ?_
    pointwise [Cert.Reference2Ideal.Read.val_main_v116]
    exact (congrArg _ (ix2_eta i).symm).trans (ref_dbra _ _ _ (i 0) (i 1))
  · refine (Cert.Reference2Ideal.Read.val_main_v117_eq ..).trans ?_
    rw [h0, h2, h7]
    refine funext fun i => ?_
    pointwise [Cert.Reference2Ideal.Read.val_main_v117]
    exact (congrArg _ (ix2_eta i).symm).trans (ref_dbrc _ _ _ (i 0) (i 1))
  · refine (Cert.Reference2Ideal.Read.val_main_v74_eq ..).trans ?_
    rw [h0, h2, h7]
    funext i
    rw [← ix1_eta i]
    exact (ref_dbc _ _ _ (i 0)).trans (final_dbc m c (i 0)).symm
  · refine (Cert.Reference2Ideal.Read.val_main_v87_eq ..).trans ?_
    rw [h0, h2, h3, h5, h7, h8, h9]
    funext i
    rw [← ix1_eta i]
    exact (ref_dlg _ _ _ _ _ _ _ f0 f5 f7 (i 0)).trans (final_dlg m c (i 0)).symm
  · refine (Cert.Reference2Ideal.Read.val_main_v81_eq ..).trans ?_
    rw [h0, h2, h3, h5, h7, h8, h9]
    funext i
    rw [← ix1_eta i]
    exact (ref_dlb _ _ _ _ _ _ _ f0 f5 f7 (i 0)).trans (final_dlb m c (i 0)).symm

theorem frame_reference : Cert.quiescent_Reference2Ideal := by
  intro m g _
  exact (θ_run Cert.Reference2Ideal.defs _ _).mono
    (fun r h => ⟨fun c => (h c).2.2.2.2.2.2.2.2.2, sem_eq_zero_of_no_sems (by decide) r.2⟩) (Cert.Reference2Ideal.Value.run (F := Ideal) m g)

theorem frame_reference_finite : Cert.quiescent_Reference2Ideal_pre_finite := by
  intro m g _
  exact (θ_run Cert.Reference2Ideal.defs _ _).mono
    (fun r h => ⟨fun c => (h c).2.2.2.2.2.2.2.2.2, sem_eq_zero_of_no_sems (by decide) r.2⟩) (Cert.Reference2Ideal.Value.run (F := Ideal) m g)

end Cert.Kernel2Ideal.Backward

end
-- ==== Proof.DwMlp1.lean ====
/-
  The gradient of the first MLP weight: the kernel multiplies the tokens' blocks of a thousand and twenty-four into an accumulator and deals its columns
  out to the eight devices, and the reference contracts all tokens at once. Both are the same sum over the tokens.
-/
module

public import proofs.«01_k».proof.Defs
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen

theorem hz : (![0, 0] : Fin 2 → Nat) = fun _ => 0 := funext fun a => by fin_cases a <;> rfl

/-- One block's part of the product at row `p`, column `q`. -/
def part (x0 : Vec Ideal S1024x512 .bf16) (x1 : Vec Ideal S1024x4096 .bf16) (p : Fin 512) (q : Fin 4096) : EReal :=
  ∑ k : Fin 1024, x0 (ix2 k p) * x1 (ix2 k q)

theorem cut_congr (x0 : Vec Ideal S1024x512 .bf16) (x1 : Vec Ideal S1024x4096 .bf16) (xs : Vec Ideal S512x4096 .f32)
    {p p' : Fin 512} {q q' : Fin 4096} (hp : p'.val = p.val) (hq : q'.val = q.val) :
    xs (ix2 p q) + part x0 x1 p q = xs (ix2 p' q') + part x0 x1 p' q' := by
  obtain rfl := Fin.ext hp; obtain rfl := Fin.ext hq; rfl

/-- A load from the accumulator right after it was stored whole. -/
theorem ld_stored (v : View sig .tc .vmem S512x4096 .f32) (inb : ∀ a, (![0, 0] : Fin 2 → Nat) a + S512x4096.size a ≤ S512x4096.size a)
    (x : Vec Ideal S512x4096 .f32) (r : Rect S512x4096) :
    v.readCov [(⟨Rect.unit ![0, 0] (no_index S512x4096.size) inb, x⟩ : View.Piece (Elt Ideal) S512x4096 .f32)] r.toLoadRect = View.ld x r := by
  rw [View.readCov_eq_canon', View.canon_unit_zero hz]

/-- Column `j` of device `d`. -/
def col (d : Fin 8) (j : Fin 512) : Fin 4096 := ⟨d.val * 512 + j.val, by omega⟩

theorem col_val {d : Fin 8} {j : Fin 512} {a b s : Nat} (hd : d.val = a) (hj : j.val = b) (h : a * 512 + b = s) : (col d j).val = s := by
  subst hd hj h; rfl

section
variable (c : Dev nD) (i : grid0.Coords) (arg2 : Memref sig .tc .vmem S1024x512 .bf16) (harg2 : arg2.IsWhole) (arg3 : Memref sig .tc .vmem S1024x4096 .bf16) (harg3 : arg3.IsWhole)
  (arg4 : Memref sig .tc .vmem S8x512x512 .bf16) (harg4 : arg4.IsWhole) (arg5 : Memref sig .tc .vmem S512x4096 .f32) (harg5 : arg5.IsWhole)
  (x0 : Vec Ideal S1024x512 .bf16) (x1 : Vec Ideal S1024x4096 .bf16) (xs : Vec Ideal S512x4096 .f32)

theorem acc_A (hc0 : cond0_0 i) (hc1 : ¬cond0_1 i) (p : Fin 512) (q : Fin 4096) :
    sout0_A_0 c i arg2 harg2 arg3 harg3 arg4 harg4 arg5 harg5 hc0 hc1 x0 x1 (ix2 p q) = 0 + part x0 x1 p q := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x4096) hz, View.readCov_unit_zero (S := S512x4096) _ hz]
  simp only [View.readAt_eq_ld, harg2.read_unread, harg3.read_unread]
  pointwise [k0_pay1, k0_pay2, k0_pay3, k0_pay4, k0_pay5, k0_pay6, k0_pay7, k0_pay8, k0_pay9, k0_pay10, k0_pay11]
  simp only [part] <;> rfl

theorem acc_B (hc0 : ¬cond0_0 i) (hc1 : ¬cond0_1 i) (p : Fin 512) (q : Fin 4096) :
    sout0_B_0 c i arg2 harg2 arg3 harg3 arg4 harg4 arg5 harg5 hc0 hc1 x0 x1 xs (ix2 p q) = xs (ix2 p q) + part x0 x1 p q := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

theorem acc_C (hc0 : ¬cond0_0 i) (hc1 : cond0_1 i) (p : Fin 512) (q : Fin 4096) :
    sout0_C_0 c i arg2 harg2 arg3 harg3 arg4 harg4 arg5 harg5 hc0 hc1 x0 x1 xs (ix2 p q) = xs (ix2 p q) + part x0 x1 p q := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

/-- The last point of a block deals the accumulator's columns out to the devices. -/
theorem out_C (hc0 : ¬cond0_0 i) (hc1 : cond0_1 i) (y : S8x512x512.Idx) :
    out0_C_2 c i arg2 harg2 arg3 harg3 arg4 harg4 arg5 harg5 hc0 hc1 x0 x1 xs y = xs (ix2 (y 1) (col (y 0) (y 2))) + part x0 x1 (y 1) (col (y 0) (y 2)) := by
  unfold out0_C_2
  rw [View.read_writes_eq_canon _ _ _ (cover0_C_2 c i arg2 harg2 arg3 harg3 arg4 harg4 arg5 harg5 hc0 hc1 x0 x1 xs)]
  refine View.canon_apply_of_pieces (fun y => xs (ix2 (y 1) (col (y 0) (y 2))) + part x0 x1 (y 1) (col (y 0) (y 2))) _ ?_ y (cover0_C_2 c i arg2 harg2 arg3 harg3 arg4 harg4 arg5 harg5 hc0 hc1 x0 x1 xs y)
  unfold kernelRun0_C
  dsimp only
  sl_unfold_words
  simp only [View.readAt_eq_ld, ld_stored, harg2.read_unread, harg3.read_unread, harg5.read_unread]
  intro pc hpc x
  simp only [List.mem_cons, List.not_mem_nil, or_false] at hpc
  rcases hpc with rfl | rfl | rfl | rfl | rfl | rfl | rfl | rfl
  · pointwise [k0_pay1, k0_pay2, k0_pay3, k0_pay4, k0_pay5, k0_pay6, k0_pay7, k0_pay8, k0_pay9, k0_pay10, k0_pay11]
    exact cut_congr x0 x1 xs (p := x 1) (q := ⟨3584 + (x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (7 + (x 0).val) * 512 + (0 + (x 2).val) = 3584 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨3072 + (x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (6 + (x 0).val) * 512 + (0 + (x 2).val) = 3072 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨2560 + (x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (5 + (x 0).val) * 512 + (0 + (x 2).val) = 2560 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨2048 + (x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (4 + (x 0).val) * 512 + (0 + (x 2).val) = 2048 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨1536 + (x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (3 + (x 0).val) * 512 + (0 + (x 2).val) = 1536 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨1024 + (x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (2 + (x 0).val) * 512 + (0 + (x 2).val) = 1024 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨512 + (x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (1 + (x 0).val) * 512 + (0 + (x 2).val) = 512 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨(x 2).val, by have h : (x 2).val < 512 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (0 + (x 0).val) * 512 + (0 + (x 2).val) = (x 2).val
            omega))

end

variable (m : (ℓ : Loc nD τ sig) → Buf (Elt Ideal) ℓ)

/-- Where each window's block of point `t` sits. -/
theorem idx : ∀ t : Fin cfg0.N, win0_0.index t = ![t.val % 16, t.val / 16] ∧ win0_1.index t = ![t.val % 16, 0] ∧ win0_2.index t = ![0, t.val / 16, 0] ∧ t.val / 16 < 2 :=
  (by decide +kernel : ∀ t : Fin grid0.N, _)

/-- The product over all tokens at row `p`, column `q`. -/
def tok (x0 : FVec Ideal S16384x1024 .bf16) (x1 : FVec Ideal S16384x4096 .bf16) (p : Fin 1024) (q : Fin 4096) : EReal :=
  ∑ l : Fin 16384, x0 (ix2 l p) * x1 (ix2 l q)

/-- The product over all tokens, cut into the devices' columns. -/
def arr (x0 : FVec Ideal S16384x1024 .bf16) (x1 : FVec Ideal S16384x4096 .bf16) : FVec Ideal S8x1024x512 .bf16 :=
  fun i => tok x0 x1 (i 1) (col (i 0) (i 2))

theorem left_out (c : Dev nD) (t : Fin cfg0.N) (h : t.val % 16 = 15) (y : S8x512x512.Idx) :
    (outsAt0 m c t.val t.isLt).1 y = (outsAt0 m c t.val t.isLt).2 (ix2 (y 1) (col (y 0) (y 2))) := by
  rw [outsAt0_C m c t (by omega) h]
  dsimp only
  exact (out_C ..).trans (acc_C ..).symm

/-- The accumulator at the last point of a block: the parts of the block's sixteen points. -/
theorem left_acc (c : Dev nD) (t : Fin cfg0.N) (h : t.val % 16 = 15) (p : Fin 512) (q : Fin 4096) :
    (outsAt0 m c t.val t.isLt).2 (ix2 p q) = ∑ s : Fin 16, part (iblk m c 0 ⟨16 * (t.val / 16) + s.val, Pipeline.run_point_lt_of_flush t h s⟩) (iblk m c 1 ⟨16 * (t.val / 16) + s.val, Pipeline.run_point_lt_of_flush t h s⟩) p q := by
  refine (Pipeline.eq_sum_fin_of_reset_step_of_flush (fun n hn => (outsAt0 m c n hn).2 (ix2 p q)) 16 (0 : EReal)
    (fun t => part (iblk m c 0 t) (iblk m c 1 t) p q) (fun t h => ?_) (fun t h => ?_) t h).trans (zero_add _)
  · rw [outsAt0_A m c t h (by omega)]
    dsimp only
    rw [acc_A]
  · by_cases h1 : t.val % 16 = 15
    · rw [outsAt0_C m c t h h1]
      dsimp only
      rw [acc_C]
    · rw [outsAt0_B m c t h h1]
      dsimp only
      rw [acc_B]

theorem parts (c : Dev nD) (t : Fin cfg0.N) (h : t.val % 16 = 15) (p : Fin 512) (q : Fin 4096) (P : Fin 1024) (Q : Fin 4096)
    (h0 : P.val = t.val / 16 * 512 + p.val) (h1 : Q.val = q.val) :
    (∑ s : Fin 16, part (iblk m c 0 ⟨16 * (t.val / 16) + s.val, Pipeline.run_point_lt_of_flush t h s⟩) (iblk m c 1 ⟨16 * (t.val / 16) + s.val, Pipeline.run_point_lt_of_flush t h s⟩) p q)
      = tok (m ((c.tc : Thread nD τ).loc main_arg0)) (m ((c.tc : Thread nD τ).loc main_arg1)) P Q := by
  simp only [part, tok]
  refine Fin.sum_mul_add_congr fun s k hl => ?_
  blk_point [iblk, V, idx t, idx ⟨_, Pipeline.run_point_lt_of_flush t h s⟩, h0, h1]

/-- The kernel's output array after the run. -/
theorem final (c : Dev nD) : (dats m 0 c).arrAt 2 cfg0.N
    = arr (m ((c.tc : Thread nD τ).loc main_arg0)) (m ((c.tc : Thread nD τ).loc main_arg1)) := by
  refine (dats m 0 c).arrAt_eq_of_covers 2 _ (by decide +kernel) fun t hf y => ?_
  have hl := (flush0_2 t).mp hf
  have ht : t.val < 32 := lt_of_lt_of_eq t.isLt N_0
  refine Eq.trans ?_ (parts m c t hl (y 1) (col (y 0) (y 2)) _ _ ?_ ?_)
  · blk_simp
    rw [after0_2]
    exact (left_out m c t hl y).trans (left_acc m c t hl (y 1) (col (y 0) (y 2)))
  all_goals (simp only [col]; blk_simp [idx t] <;> try omega)

theorem reference_apply (x0 : FVec Ideal S16384x1024 .bf16) (x1 : FVec Ideal S16384x4096 .bf16) (d : Fin 8) (p : Fin 1024) (q : Fin 512) :
    Cert.Reference3Ideal.Read.val_main_v8 (F := Ideal) x0 x1 (ix3 d p q) = tok x0 x1 p (col d q) := by
  pointwise [Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v1]
  simp only [tok, col]
  refine Finset.sum_congr rfl fun l _ => ?_
  rw [mul_comm]
  try blk_ext

theorem algebraic : Cert.algebraic_Kernel3Ideal_Reference3Ideal := by
  pair_intro
  · run_from Cert.Kernel3Ideal.Gen.run_main m g
  · refine (θ_run _ _ _).mono (fun r h c => ?_) (Cert.Reference3Ideal.Value.run m' g')
    refine ⟨(h c).1.trans ?_, (h c).2.1, (h c).2.2⟩
    refine (Cert.Reference3Ideal.Read.val_main_v8_eq ..).trans (Eq.trans ?_ (final m c).symm)
    obtain ⟨h0, h1⟩ := hagree c
    rw [h0, h1]
    refine funext fun i => ?_
    rw [← ix3_eta i]
    exact reference_apply _ _ (i 0) (i 1) (i 2)

theorem frame_reference : Cert.quiescent_Reference3Ideal := by
  intro m g _
  exact (θ_run Cert.Reference3Ideal.defs _ _).mono
    (fun r h => ⟨fun c => (h c).2, sem_eq_zero_of_no_sems (by decide) r.2⟩) (Cert.Reference3Ideal.Value.run (F := Ideal) m g)

end Cert.Kernel3Ideal.Product

end
-- ==== Proof.DwMlp2.lean ====
/-
  The gradient of the second MLP weight: the kernel multiplies the tokens' blocks of a thousand and twenty-four into an accumulator, one output block after
  the other, and the reference contracts all tokens at once. Both are the same sum over the tokens.
-/
module

public import proofs.«01_k».proof.Defs
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Product

open Cert.Kernel4Ideal Cert.Kernel4Ideal.Gen

theorem hz : (![0, 0] : Fin 2 → Nat) = fun _ => 0 := funext fun a => by fin_cases a <;> rfl

/-- One block's part of the product at row `p`, column `q`. -/
def part (x0 : Vec Ideal S1024x1024 .bf16) (x1 : Vec Ideal S1024x1024 .f32) (p q : Fin 1024) : EReal :=
  ∑ k : Fin 1024, (max (x0 (ix2 k p)) 0 * max (x0 (ix2 k p)) 0) * x1 (ix2 k q)

section
variable (c : Dev nD) (i : grid0.Coords) (arg2 : Memref sig .tc .vmem S1024x1024 .bf16) (harg2 : arg2.IsWhole) (arg3 : Memref sig .tc .vmem S1024x1024 .f32) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S1024x1024 .bf16) (x1 xs : Vec Ideal S1024x1024 .f32)

theorem acc_A (hc0 : cond0_0 i) (hc1 : ¬cond0_1 i) (p q : Fin 1024) :
    sout0_A_0 c i arg2 harg2 arg3 harg3 arg4 harg4 arg5 harg5 hc0 hc1 x0 x1 (ix2 p q) = 0 + part x0 x1 p q := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) hz, View.readCov_unit_zero (S := S1024x1024) _ hz]
  simp only [View.readAt_eq_ld, harg2.read_unread, harg3.read_unread]
  pointwise [k0_pay1, k0_pay2, k0_pay3]
  simp only [part] <;> rfl

theorem acc_B (hc0 : ¬cond0_0 i) (hc1 : ¬cond0_1 i) (p q : Fin 1024) :
    sout0_B_0 c i arg2 harg2 arg3 harg3 arg4 harg4 arg5 harg5 hc0 hc1 x0 x1 xs (ix2 p q) = xs (ix2 p q) + part x0 x1 p q := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  rw [View.canon_unit_zero hz]
  simp only [View.readAt_eq_ld, harg2.read_unread, harg3.read_unread, harg5.read_unread]
  pointwise [k0_pay1, k0_pay2, k0_pay3]
  simp only [part] <;> rfl

theorem acc_C (hc0 : ¬cond0_0 i) (hc1 : cond0_1 i) (p q : Fin 1024) :
    sout0_C_0 c i arg2 harg2 arg3 harg3 arg4 harg4 arg5 harg5 hc0 hc1 x0 x1 xs (ix2 p q) = xs (ix2 p q) + part x0 x1 p q := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  rw [View.canon_unit_zero hz]
  simp only [View.readAt_eq_ld, harg2.read_unread, harg3.read_unread, harg5.read_unread]
  pointwise [k0_pay1, k0_pay2, k0_pay3]
  simp only [part] <;> rfl

/-- The last point of a block copies the accumulator out. -/
theorem out_C (hc0 : ¬cond0_0 i) (hc1 : cond0_1 i) (p q : Fin 1024) :
    out0_C_2 c i arg2 harg2 arg3 harg3 arg4 harg4 arg5 harg5 hc0 hc1 x0 x1 xs (ix2 p q) = xs (ix2 p q) + part x0 x1 p q := by
  unfold out0_C_2
  rw [View.read_writes_eq_canon _ _ _ (cover0_C_2 c i arg2 harg2 arg3 harg3 arg4 harg4 arg5 harg5 hc0 hc1 x0 x1 xs)]
  unfold kernelRun0_C
  dsimp only
  sl_unfold_words
  rw [View.canon_unit_zero hz]
  try rw [View.readCov_unit_zero (S := S1024x1024) _ hz]
  simp only [View.readAt_eq_ld, harg2.read_unread, harg3.read_unread, harg5.read_unread]
  pointwise [k0_pay1, k0_pay2, k0_pay3]
  simp only [part] <;> rfl

end

variable (m : (ℓ : Loc nD τ sig) → Buf (Elt Ideal) ℓ)

/-- Where each window's block of point `t` sits. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- The product over all tokens at row `p`, column `q`. -/
def tok (x0 : FVec Ideal S16384x4096 .bf16) (x1 : FVec Ideal S16384x1024 .f32) (p : Fin 4096) (q : Fin 1024) : EReal :=
  ∑ l : Fin 16384, (max (x0 (ix2 l p)) 0 * max (x0 (ix2 l p)) 0) * x1 (ix2 l q)

/-- The product over all tokens. -/
def arr (x0 : FVec Ideal S16384x4096 .bf16) (x1 : FVec Ideal S16384x1024 .f32) : FVec Ideal S4096x1024 .bf16 := fun i => tok x0 x1 (i 0) (i 1)

theorem left_out (c : Dev nD) (t : Fin cfg0.N) (h : t.val % 16 = 15) (p q : Fin 1024) :
    (outsAt0 m c t.val t.isLt).1 (ix2 p q) = (outsAt0 m c t.val t.isLt).2 (ix2 p q) := by
  rw [outsAt0_C m c t (by omega) h]
  dsimp only
  rw [acc_C, out_C]

/-- The accumulator at the last point of a block: the parts of the block's sixteen points. -/
theorem left_acc (c : Dev nD) (t : Fin cfg0.N) (h : t.val % 16 = 15) (p q : Fin 1024) :
    (outsAt0 m c t.val t.isLt).2 (ix2 p q) = ∑ s : Fin 16, part (iblk m c 0 ⟨16 * (t.val / 16) + s.val, Pipeline.run_point_lt_of_flush t h s⟩) (iblk m c 1 ⟨16 * (t.val / 16) + s.val, Pipeline.run_point_lt_of_flush t h s⟩) p q := by
  refine (Pipeline.eq_sum_fin_of_reset_step_of_flush (fun n hn => (outsAt0 m c n hn).2 (ix2 p q)) 16 (0 : EReal)
    (fun t => part (iblk m c 0 t) (iblk m c 1 t) p q) (fun t h => ?_) (fun t h => ?_) t h).trans (zero_add _)
  · rw [outsAt0_A m c t h (by omega)]
    dsimp only
    rw [acc_A]
  · by_cases h1 : t.val % 16 = 15
    · rw [outsAt0_C m c t h h1]
      dsimp only
      rw [acc_C]
    · rw [outsAt0_B m c t h h1]
      dsimp only
      rw [acc_B]

theorem parts (c : Dev nD) (t : Fin cfg0.N) (h : t.val % 16 = 15) (p q : Fin 1024) (i : S4096x1024.Idx)
    (h0 : (i 0).val = t.val / 16 * 1024 + p.val) (h1 : (i 1).val = q.val) :
    (∑ s : Fin 16, part (iblk m c 0 ⟨16 * (t.val / 16) + s.val, Pipeline.run_point_lt_of_flush t h s⟩) (iblk m c 1 ⟨16 * (t.val / 16) + s.val, Pipeline.run_point_lt_of_flush t h s⟩) p q)
      = arr (m ((c.tc : Thread nD τ).loc main_arg0)) (m ((c.tc : Thread nD τ).loc main_arg1)) i := by
  simp only [part, arr, tok]
  refine Fin.sum_mul_add_congr fun s k hl => ?_
  blk_point [iblk, V, idx t, idx ⟨_, Pipeline.run_point_lt_of_flush t h s⟩, h0, h1]

/-- The kernel's output array after the run. -/
theorem final (c : Dev nD) : (dats m 0 c).arrAt 2 cfg0.N
    = arr (m ((c.tc : Thread nD τ).loc main_arg0)) (m ((c.tc : Thread nD τ).loc main_arg1)) := by
  refine (dats m 0 c).arrAt_eq_of_covers 2 _ (by decide +kernel) fun t hf y => ?_
  have hl := (flush0_2 t).mp hf
  refine Eq.trans ?_ (parts m c t hl (y 0) (y 1) _ ?_ ?_)
  · blk_simp
    rw [after0_2]
    refine (congrArg (outsAt0 m c t.val t.isLt).1 (ix2_eta y).symm).trans ?_
    exact (left_out m c t hl (y 0) (y 1)).trans (left_acc m c t hl (y 0) (y 1))
  all_goals (blk_simp [idx t] <;> try omega)

/-- The result, cut into the devices' rows. -/
theorem result (c : Dev nD) (d : Fin 8) (p : Fin 512) (q : Fin 1024) :
    (Pipeline.afterTail₀ cfgs (dats m) 0 (V0 m) [hostOps1] c main_v1) (ix3 d p q)
      = tok (m ((c.tc : Thread nD τ).loc main_arg0)) (m ((c.tc : Thread nD τ).loc main_arg1)) ⟨d.val * 512 + p.val, by omega⟩ q := by
  have hw := Pipeline.withArrays_arr (τ := τ) cfg0.spec (by decide) c (V0 m c) (fun w => (dats m 0 c).arrAt w cfg0.N) 2
  have e : Pipeline.afterTail₀ cfgs (dats m) 0 (V0 m) [hostOps1] c main_v1
      = shapeCast S8x512x1024 ((dats m 0 c).arrAt 2 cfg0.N) shapeCasts_S4096x1024_S8x512x1024 := by
    rw [← hw]; unfold Pipeline.afterTail₀; after_results; rfl
  have s : ∀ y : FVec Ideal S4096x1024 .bf16, shapeCast S8x512x1024 y shapeCasts_S4096x1024_S8x512x1024 (ix3 d p q)
      = y (ix2 ⟨d.val * 512 + p.val, by omega⟩ q) := fun y => by pointwise
  rw [e, final]
  exact s _

theorem reference_apply (x0 : FVec Ideal S16384x4096 .bf16) (x1 : FVec Ideal S16384x1024 .f32) (d : Fin 8) (p : Fin 512) (q : Fin 1024) :
    Cert.Reference4Ideal.Read.val_main_v8 (F := Ideal) x0 x1 (ix3 d p q) = tok x0 x1 ⟨d.val * 512 + p.val, by omega⟩ q := by
  pointwise [Cert.Reference4Ideal.Read.val_main_v8, Cert.Reference4Ideal.Read.val_main_v7, Cert.Reference4Ideal.Read.val_main_v6, Cert.Reference4Ideal.Read.val_main_v5, Cert.Reference4Ideal.Read.val_main_v3, Cert.Reference4Ideal.Read.val_main_v2, Cert.Reference4Ideal.Read.val_main_v1, Cert.Reference4Ideal.Read.val_main_call0_v0, Cert.Reference4Ideal.Read.val_main_call0_cst]
  simp only [tok]
  refine Finset.sum_congr rfl fun l _ => ?_
  rw [mul_comm]
  blk_ext

theorem algebraic : Cert.algebraic_Kernel4Ideal_Reference4Ideal := by
  pair_intro
  · run_from Cert.Kernel4Ideal.Gen.run_main m g
  · refine (θ_run _ _ _).mono (fun r h c => ?_) (Cert.Reference4Ideal.Value.run m' g')
    refine ⟨(h c).1.trans ?_, (h c).2.1, (h c).2.2⟩
    refine (Cert.Reference4Ideal.Read.val_main_v8_eq ..).trans ?_
    obtain ⟨h0, h1⟩ := hagree c
    rw [h0, h1]
    refine funext fun i => ?_
    rw [← ix3_eta i]
    exact (reference_apply _ _ (i 0) (i 1) (i 2)).trans (result m c (i 0) (i 1) (i 2)).symm

theorem frame_reference : Cert.quiescent_Reference4Ideal := by
  intro m g _
  exact (θ_run Cert.Reference4Ideal.defs _ _).mono
    (fun r h => ⟨fun c => (h c).2, sem_eq_zero_of_no_sems (by decide) r.2⟩) (Cert.Reference4Ideal.Value.run (F := Ideal) m g)

end Cert.Kernel4Ideal.Product

end
-- ==== Proof.DwIn.lean ====
/-
  The gradient of the input projection: the kernel multiplies the tokens' blocks of a thousand and twenty-four into an accumulator and deals its columns
  out to the eight devices, and the reference contracts all tokens at once. Both are the same sum over the tokens.
-/
module

public import proofs.«01_k».proof.Defs
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Product

open Cert.Kernel5Ideal Cert.Kernel5Ideal.Gen

theorem hz : (![0, 0] : Fin 2 → Nat) = fun _ => 0 := funext fun a => by fin_cases a <;> rfl

/-- One block's part of the product at row `p`, column `q`. -/
def part (x0 : Vec Ideal S1024x512 .bf16) (x1 : Vec Ideal S1024x3840 .bf16) (p : Fin 512) (q : Fin 3840) : EReal :=
  ∑ k : Fin 1024, x0 (ix2 k p) * x1 (ix2 k q)

theorem cut_congr (x0 : Vec Ideal S1024x512 .bf16) (x1 : Vec Ideal S1024x3840 .bf16) (xs : Vec Ideal S512x3840 .f32)
    {p p' : Fin 512} {q q' : Fin 3840} (hp : p'.val = p.val) (hq : q'.val = q.val) :
    xs (ix2 p q) + part x0 x1 p q = xs (ix2 p' q') + part x0 x1 p' q' := by
  obtain rfl := Fin.ext hp; obtain rfl := Fin.ext hq; rfl

/-- A load from the accumulator right after it was stored whole. -/
theorem ld_stored (v : View sig .tc .vmem S512x3840 .f32) (inb : ∀ a, (![0, 0] : Fin 2 → Nat) a + S512x3840.size a ≤ S512x3840.size a)
    (x : Vec Ideal S512x3840 .f32) (r : Rect S512x3840) :
    v.readCov [(⟨Rect.unit ![0, 0] (no_index S512x3840.size) inb, x⟩ : View.Piece (Elt Ideal) S512x3840 .f32)] r.toLoadRect = View.ld x r := by
  rw [View.readCov_eq_canon', View.canon_unit_zero hz]

/-- Column `j` of device `d`. -/
def col (d : Fin 8) (j : Fin 480) : Fin 3840 := ⟨d.val * 480 + j.val, by omega⟩

theorem col_val {d : Fin 8} {j : Fin 480} {a b s : Nat} (hd : d.val = a) (hj : j.val = b) (h : a * 480 + b = s) : (col d j).val = s := by
  subst hd hj h; rfl

section
variable (c : Dev nD) (i : grid0.Coords) (arg2 : Memref sig .tc .vmem S1024x512 .bf16) (harg2 : arg2.IsWhole) (arg3 : Memref sig .tc .vmem S1024x3840 .bf16) (harg3 : arg3.IsWhole)
  (arg4 : Memref sig .tc .vmem S8x512x480 .bf16) (harg4 : arg4.IsWhole) (arg5 : Memref sig .tc .vmem S512x3840 .f32) (harg5 : arg5.IsWhole)
  (x0 : Vec Ideal S1024x512 .bf16) (x1 : Vec Ideal S1024x3840 .bf16) (xs : Vec Ideal S512x3840 .f32)

theorem acc_A (hc0 : cond0_0 i) (hc1 : ¬cond0_1 i) (p : Fin 512) (q : Fin 3840) :
    sout0_A_0 c i arg2 harg2 arg3 harg3 arg4 harg4 arg5 harg5 hc0 hc1 x0 x1 (ix2 p q) = 0 + part x0 x1 p q := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x3840) hz, View.readCov_unit_zero (S := S512x3840) _ hz]
  simp only [View.readAt_eq_ld, harg2.read_unread, harg3.read_unread]
  pointwise [k0_pay1, k0_pay2, k0_pay3, k0_pay4, k0_pay5, k0_pay6, k0_pay7, k0_pay8, k0_pay9, k0_pay10, k0_pay11]
  simp only [part] <;> rfl

theorem acc_B (hc0 : ¬cond0_0 i) (hc1 : ¬cond0_1 i) (p : Fin 512) (q : Fin 3840) :
    sout0_B_0 c i arg2 harg2 arg3 harg3 arg4 harg4 arg5 harg5 hc0 hc1 x0 x1 xs (ix2 p q) = xs (ix2 p q) + part x0 x1 p q := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

theorem acc_C (hc0 : ¬cond0_0 i) (hc1 : cond0_1 i) (p : Fin 512) (q : Fin 3840) :
    sout0_C_0 c i arg2 harg2 arg3 harg3 arg4 harg4 arg5 harg5 hc0 hc1 x0 x1 xs (ix2 p q) = xs (ix2 p q) + part x0 x1 p q := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

/-- The last point of a block deals the accumulator's columns out to the devices. -/
theorem out_C (hc0 : ¬cond0_0 i) (hc1 : cond0_1 i) (y : S8x512x480.Idx) :
    out0_C_2 c i arg2 harg2 arg3 harg3 arg4 harg4 arg5 harg5 hc0 hc1 x0 x1 xs y = xs (ix2 (y 1) (col (y 0) (y 2))) + part x0 x1 (y 1) (col (y 0) (y 2)) := by
  unfold out0_C_2
  rw [View.read_writes_eq_canon _ _ _ (cover0_C_2 c i arg2 harg2 arg3 harg3 arg4 harg4 arg5 harg5 hc0 hc1 x0 x1 xs)]
  refine View.canon_apply_of_pieces (fun y => xs (ix2 (y 1) (col (y 0) (y 2))) + part x0 x1 (y 1) (col (y 0) (y 2))) _ ?_ y (cover0_C_2 c i arg2 harg2 arg3 harg3 arg4 harg4 arg5 harg5 hc0 hc1 x0 x1 xs y)
  unfold kernelRun0_C
  dsimp only
  sl_unfold_words
  simp only [View.readAt_eq_ld, ld_stored, harg2.read_unread, harg3.read_unread, harg5.read_unread]
  intro pc hpc x
  simp only [List.mem_cons, List.not_mem_nil, or_false] at hpc
  rcases hpc with rfl | rfl | rfl | rfl | rfl | rfl | rfl | rfl
  · pointwise [k0_pay1, k0_pay2, k0_pay3, k0_pay4, k0_pay5, k0_pay6, k0_pay7, k0_pay8, k0_pay9, k0_pay10, k0_pay11]
    exact cut_congr x0 x1 xs (p := x 1) (q := ⟨3360 + (x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (7 + (x 0).val) * 480 + (0 + (x 2).val) = 3360 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨2880 + (x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (6 + (x 0).val) * 480 + (0 + (x 2).val) = 2880 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨2400 + (x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (5 + (x 0).val) * 480 + (0 + (x 2).val) = 2400 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨1920 + (x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (4 + (x 0).val) * 480 + (0 + (x 2).val) = 1920 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨1440 + (x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (3 + (x 0).val) * 480 + (0 + (x 2).val) = 1440 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨960 + (x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (2 + (x 0).val) * 480 + (0 + (x 2).val) = 960 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨480 + (x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (1 + (x 0).val) * 480 + (0 + (x 2).val) = 480 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨(x 2).val, by have h : (x 2).val < 480 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (0 + (x 0).val) * 480 + (0 + (x 2).val) = (x 2).val
            omega))

end

variable (m : (ℓ : Loc nD τ sig) → Buf (Elt Ideal) ℓ)

/-- Where each window's block of point `t` sits. -/
theorem idx : ∀ t : Fin cfg0.N, win0_0.index t = ![t.val % 16, t.val / 16] ∧ win0_1.index t = ![t.val % 16, 0] ∧ win0_2.index t = ![0, t.val / 16, 0] ∧ t.val / 16 < 2 :=
  (by decide +kernel : ∀ t : Fin grid0.N, _)

/-- The product over all tokens at row `p`, column `q`. -/
def tok (x0 : FVec Ideal S16384x1024 .bf16) (x1 : FVec Ideal S16384x3840 .bf16) (p : Fin 1024) (q : Fin 3840) : EReal :=
  ∑ l : Fin 16384, x0 (ix2 l p) * x1 (ix2 l q)

/-- The product over all tokens, cut into the devices' columns. -/
def arr (x0 : FVec Ideal S16384x1024 .bf16) (x1 : FVec Ideal S16384x3840 .bf16) : FVec Ideal S8x1024x480 .bf16 :=
  fun i => tok x0 x1 (i 1) (col (i 0) (i 2))

theorem left_out (c : Dev nD) (t : Fin cfg0.N) (h : t.val % 16 = 15) (y : S8x512x480.Idx) :
    (outsAt0 m c t.val t.isLt).1 y = (outsAt0 m c t.val t.isLt).2 (ix2 (y 1) (col (y 0) (y 2))) := by
  rw [outsAt0_C m c t (by omega) h]
  dsimp only
  exact (out_C ..).trans (acc_C ..).symm

/-- The accumulator at the last point of a block: the parts of the block's sixteen points. -/
theorem left_acc (c : Dev nD) (t : Fin cfg0.N) (h : t.val % 16 = 15) (p : Fin 512) (q : Fin 3840) :
    (outsAt0 m c t.val t.isLt).2 (ix2 p q) = ∑ s : Fin 16, part (iblk m c 0 ⟨16 * (t.val / 16) + s.val, Pipeline.run_point_lt_of_flush t h s⟩) (iblk m c 1 ⟨16 * (t.val / 16) + s.val, Pipeline.run_point_lt_of_flush t h s⟩) p q := by
  refine (Pipeline.eq_sum_fin_of_reset_step_of_flush (fun n hn => (outsAt0 m c n hn).2 (ix2 p q)) 16 (0 : EReal)
    (fun t => part (iblk m c 0 t) (iblk m c 1 t) p q) (fun t h => ?_) (fun t h => ?_) t h).trans (zero_add _)
  · rw [outsAt0_A m c t h (by omega)]
    dsimp only
    rw [acc_A]
  · by_cases h1 : t.val % 16 = 15
    · rw [outsAt0_C m c t h h1]
      dsimp only
      rw [acc_C]
    · rw [outsAt0_B m c t h h1]
      dsimp only
      rw [acc_B]

theorem parts (c : Dev nD) (t : Fin cfg0.N) (h : t.val % 16 = 15) (p : Fin 512) (q : Fin 3840) (P : Fin 1024) (Q : Fin 3840)
    (h0 : P.val = t.val / 16 * 512 + p.val) (h1 : Q.val = q.val) :
    (∑ s : Fin 16, part (iblk m c 0 ⟨16 * (t.val / 16) + s.val, Pipeline.run_point_lt_of_flush t h s⟩) (iblk m c 1 ⟨16 * (t.val / 16) + s.val, Pipeline.run_point_lt_of_flush t h s⟩) p q)
      = tok (m ((c.tc : Thread nD τ).loc main_arg0)) (m ((c.tc : Thread nD τ).loc main_arg1)) P Q := by
  simp only [part, tok]
  refine Fin.sum_mul_add_congr fun s k hl => ?_
  blk_point [iblk, V, idx t, idx ⟨_, Pipeline.run_point_lt_of_flush t h s⟩, h0, h1]

/-- The kernel's output array after the run. -/
theorem final (c : Dev nD) : (dats m 0 c).arrAt 2 cfg0.N
    = arr (m ((c.tc : Thread nD τ).loc main_arg0)) (m ((c.tc : Thread nD τ).loc main_arg1)) := by
  refine (dats m 0 c).arrAt_eq_of_covers 2 _ (by decide +kernel) fun t hf y => ?_
  have hl := (flush0_2 t).mp hf
  have ht : t.val < 32 := lt_of_lt_of_eq t.isLt N_0
  refine Eq.trans ?_ (parts m c t hl (y 1) (col (y 0) (y 2)) _ _ ?_ ?_)
  · blk_simp
    rw [after0_2]
    exact (left_out m c t hl y).trans (left_acc m c t hl (y 1) (col (y 0) (y 2)))
  all_goals (simp only [col]; blk_simp [idx t] <;> try omega)

theorem reference_apply (x0 : FVec Ideal S16384x1024 .bf16) (x1 : FVec Ideal S16384x3840 .bf16) (d : Fin 8) (p : Fin 1024) (q : Fin 480) :
    Cert.Reference5Ideal.Read.val_main_v8 (F := Ideal) x0 x1 (ix3 d p q) = tok x0 x1 p (col d q) := by
  pointwise [Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v1]
  simp only [tok, col]
  refine Finset.sum_congr rfl fun l _ => ?_
  rw [mul_comm]
  try blk_ext

theorem algebraic : Cert.algebraic_Kernel5Ideal_Reference5Ideal := by
  pair_intro
  · run_from Cert.Kernel5Ideal.Gen.run_main m g
  · refine (θ_run _ _ _).mono (fun r h c => ?_) (Cert.Reference5Ideal.Value.run m' g')
    refine ⟨(h c).1.trans ?_, (h c).2.1, (h c).2.2⟩
    refine (Cert.Reference5Ideal.Read.val_main_v8_eq ..).trans (Eq.trans ?_ (final m c).symm)
    obtain ⟨h0, h1⟩ := hagree c
    rw [h0, h1]
    refine funext fun i => ?_
    rw [← ix3_eta i]
    exact reference_apply _ _ (i 0) (i 1) (i 2)

theorem frame_reference : Cert.quiescent_Reference5Ideal := by
  intro m g _
  exact (θ_run Cert.Reference5Ideal.defs _ _).mono
    (fun r h => ⟨fun c => (h c).2, sem_eq_zero_of_no_sems (by decide) r.2⟩) (Cert.Reference5Ideal.Value.run (F := Ideal) m g)

end Cert.Kernel5Ideal.Product

end
-- ==== Proof.DwOut.lean ====
/-
  The gradient of the output projection: the kernel multiplies the tokens' blocks of a thousand and twenty-four into an accumulator, one output block after
  the other, and the reference contracts all tokens at once. Both are the same sum over the tokens.
-/
module

public import proofs.«01_k».proof.Defs
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Product

open Cert.Kernel6Ideal Cert.Kernel6Ideal.Gen

theorem hz : (![0, 0] : Fin 2 → Nat) = fun _ => 0 := funext fun a => by fin_cases a <;> rfl

/-- One block's part of the product at row `p`, column `q`. -/
def part (x0 : Vec Ideal S1024x1024 .bf16) (x1 : Vec Ideal S1024x1024 .f32) (p q : Fin 1024) : EReal :=
  ∑ k : Fin 1024, x0 (ix2 k p) * x1 (ix2 k q)

section
variable (c : Dev nD) (i : grid0.Coords) (arg2 : Memref sig .tc .vmem S1024x1024 .bf16) (harg2 : arg2.IsWhole) (arg3 : Memref sig .tc .vmem S1024x1024 .f32) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S1024x1024 .bf16) (x1 xs : Vec Ideal S1024x1024 .f32)

theorem acc_A (hc0 : cond0_0 i) (hc1 : ¬cond0_1 i) (p q : Fin 1024) :
    sout0_A_0 c i arg2 harg2 arg3 harg3 arg4 harg4 arg5 harg5 hc0 hc1 x0 x1 (ix2 p q) = 0 + part x0 x1 p q := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) hz, View.readCov_unit_zero (S := S1024x1024) _ hz]
  simp only [View.readAt_eq_ld, harg2.read_unread, harg3.read_unread]
  pointwise [k0_pay1, k0_pay2, k0_pay3]
  simp only [part] <;> rfl

theorem acc_B (hc0 : ¬cond0_0 i) (hc1 : ¬cond0_1 i) (p q : Fin 1024) :
    sout0_B_0 c i arg2 harg2 arg3 harg3 arg4 harg4 arg5 harg5 hc0 hc1 x0 x1 xs (ix2 p q) = xs (ix2 p q) + part x0 x1 p q := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  rw [View.canon_unit_zero hz]
  simp only [View.readAt_eq_ld, harg2.read_unread, harg3.read_unread, harg5.read_unread]
  pointwise [k0_pay1, k0_pay2, k0_pay3]
  simp only [part] <;> rfl

theorem acc_C (hc0 : ¬cond0_0 i) (hc1 : cond0_1 i) (p q : Fin 1024) :
    sout0_C_0 c i arg2 harg2 arg3 harg3 arg4 harg4 arg5 harg5 hc0 hc1 x0 x1 xs (ix2 p q) = xs (ix2 p q) + part x0 x1 p q := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  rw [View.canon_unit_zero hz]
  simp only [View.readAt_eq_ld, harg2.read_unread, harg3.read_unread, harg5.read_unread]
  pointwise [k0_pay1, k0_pay2, k0_pay3]
  simp only [part] <;> rfl

/-- The last point of a block copies the accumulator out. -/
theorem out_C (hc0 : ¬cond0_0 i) (hc1 : cond0_1 i) (p q : Fin 1024) :
    out0_C_2 c i arg2 harg2 arg3 harg3 arg4 harg4 arg5 harg5 hc0 hc1 x0 x1 xs (ix2 p q) = xs (ix2 p q) + part x0 x1 p q := by
  unfold out0_C_2
  rw [View.read_writes_eq_canon _ _ _ (cover0_C_2 c i arg2 harg2 arg3 harg3 arg4 harg4 arg5 harg5 hc0 hc1 x0 x1 xs)]
  unfold kernelRun0_C
  dsimp only
  sl_unfold_words
  rw [View.canon_unit_zero hz]
  try rw [View.readCov_unit_zero (S := S1024x1024) _ hz]
  simp only [View.readAt_eq_ld, harg2.read_unread, harg3.read_unread, harg5.read_unread]
  pointwise [k0_pay1, k0_pay2, k0_pay3]
  simp only [part] <;> rfl

end

variable (m : (ℓ : Loc nD τ sig) → Buf (Elt Ideal) ℓ)

/-- Where each window's block of point `t` sits. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- The product over all tokens at row `p`, column `q`. -/
def tok (x0 : FVec Ideal S16384x1024 .bf16) (x1 : FVec Ideal S16384x1024 .f32) (p : Fin 1024) (q : Fin 1024) : EReal :=
  ∑ l : Fin 16384, x0 (ix2 l p) * x1 (ix2 l q)

/-- The product over all tokens. -/
def arr (x0 : FVec Ideal S16384x1024 .bf16) (x1 : FVec Ideal S16384x1024 .f32) : FVec Ideal S1024x1024 .bf16 := fun i => tok x0 x1 (i 0) (i 1)

theorem left_out (c : Dev nD) (t : Fin cfg0.N) (h : t.val % 16 = 15) (p q : Fin 1024) :
    (outsAt0 m c t.val t.isLt).1 (ix2 p q) = (outsAt0 m c t.val t.isLt).2 (ix2 p q) := by
  rw [outsAt0_C m c t (by omega) h]
  dsimp only
  rw [acc_C, out_C]

/-- The accumulator at the last point of a block: the parts of the block's sixteen points. -/
theorem left_acc (c : Dev nD) (t : Fin cfg0.N) (h : t.val % 16 = 15) (p q : Fin 1024) :
    (outsAt0 m c t.val t.isLt).2 (ix2 p q) = ∑ s : Fin 16, part (iblk m c 0 ⟨16 * (t.val / 16) + s.val, Pipeline.run_point_lt_of_flush t h s⟩) (iblk m c 1 ⟨16 * (t.val / 16) + s.val, Pipeline.run_point_lt_of_flush t h s⟩) p q := by
  refine (Pipeline.eq_sum_fin_of_reset_step_of_flush (fun n hn => (outsAt0 m c n hn).2 (ix2 p q)) 16 (0 : EReal)
    (fun t => part (iblk m c 0 t) (iblk m c 1 t) p q) (fun t h => ?_) (fun t h => ?_) t h).trans (zero_add _)
  · rw [outsAt0_A m c t h (by omega)]
    dsimp only
    rw [acc_A]
  · by_cases h1 : t.val % 16 = 15
    · rw [outsAt0_C m c t h h1]
      dsimp only
      rw [acc_C]
    · rw [outsAt0_B m c t h h1]
      dsimp only
      rw [acc_B]

theorem parts (c : Dev nD) (t : Fin cfg0.N) (h : t.val % 16 = 15) (p q : Fin 1024) (i : S1024x1024.Idx)
    (h0 : (i 0).val = t.val / 16 * 1024 + p.val) (h1 : (i 1).val = q.val) :
    (∑ s : Fin 16, part (iblk m c 0 ⟨16 * (t.val / 16) + s.val, Pipeline.run_point_lt_of_flush t h s⟩) (iblk m c 1 ⟨16 * (t.val / 16) + s.val, Pipeline.run_point_lt_of_flush t h s⟩) p q)
      = arr (m ((c.tc : Thread nD τ).loc main_arg0)) (m ((c.tc : Thread nD τ).loc main_arg1)) i := by
  simp only [part, arr, tok]
  refine Fin.sum_mul_add_congr fun s k hl => ?_
  blk_point [iblk, V, idx t, idx ⟨_, Pipeline.run_point_lt_of_flush t h s⟩, h0, h1]

/-- The kernel's output array after the run. -/
theorem final (c : Dev nD) : (dats m 0 c).arrAt 2 cfg0.N
    = arr (m ((c.tc : Thread nD τ).loc main_arg0)) (m ((c.tc : Thread nD τ).loc main_arg1)) := by
  refine (dats m 0 c).arrAt_eq_of_covers 2 _ (by decide +kernel) fun t hf y => ?_
  have hl := (flush0_2 t).mp hf
  refine Eq.trans ?_ (parts m c t hl (y 0) (y 1) _ ?_ ?_)
  · blk_simp
    rw [after0_2]
    refine (congrArg (outsAt0 m c t.val t.isLt).1 (ix2_eta y).symm).trans ?_
    exact (left_out m c t hl (y 0) (y 1)).trans (left_acc m c t hl (y 0) (y 1))
  all_goals (blk_simp [idx t] <;> try omega)

/-- The result, cut into the devices' rows. -/
theorem result (c : Dev nD) (d : Fin 8) (p : Fin 128) (q : Fin 1024) :
    (Pipeline.afterTail₀ cfgs (dats m) 0 (V0 m) [hostOps1] c main_v1) (ix3 d p q)
      = tok (m ((c.tc : Thread nD τ).loc main_arg0)) (m ((c.tc : Thread nD τ).loc main_arg1)) ⟨d.val * 128 + p.val, by omega⟩ q := by
  have hw := Pipeline.withArrays_arr (τ := τ) cfg0.spec (by decide) c (V0 m c) (fun w => (dats m 0 c).arrAt w cfg0.N) 2
  have e : Pipeline.afterTail₀ cfgs (dats m) 0 (V0 m) [hostOps1] c main_v1
      = shapeCast S8x128x1024 ((dats m 0 c).arrAt 2 cfg0.N) shapeCasts_S1024x1024_S8x128x1024 := by
    rw [← hw]; unfold Pipeline.afterTail₀; after_results; rfl
  have s : ∀ y : FVec Ideal S1024x1024 .bf16, shapeCast S8x128x1024 y shapeCasts_S1024x1024_S8x128x1024 (ix3 d p q)
      = y (ix2 ⟨d.val * 128 + p.val, by omega⟩ q) := fun y => by pointwise
  rw [e, final]
  exact s _

theorem reference_apply (x0 : FVec Ideal S16384x1024 .bf16) (x1 : FVec Ideal S16384x1024 .f32) (d : Fin 8) (p : Fin 128) (q : Fin 1024) :
    Cert.Reference6Ideal.Read.val_main_v6 (F := Ideal) x0 x1 (ix3 d p q) = tok x0 x1 ⟨d.val * 128 + p.val, by omega⟩ q := by
  pointwise [Cert.Reference6Ideal.Read.val_main_v6, Cert.Reference6Ideal.Read.val_main_v5, Cert.Reference6Ideal.Read.val_main_v4, Cert.Reference6Ideal.Read.val_main_v3, Cert.Reference6Ideal.Read.val_main_v1]
  simp only [tok]
  refine Finset.sum_congr rfl fun l _ => ?_
  rw [mul_comm]
  blk_ext

theorem algebraic : Cert.algebraic_Kernel6Ideal_Reference6Ideal := by
  pair_intro
  · run_from Cert.Kernel6Ideal.Gen.run_main m g
  · refine (θ_run _ _ _).mono (fun r h c => ?_) (Cert.Reference6Ideal.Value.run m' g')
    refine ⟨(h c).1.trans ?_, (h c).2.1, (h c).2.2⟩
    refine (Cert.Reference6Ideal.Read.val_main_v6_eq ..).trans ?_
    obtain ⟨h0, h1⟩ := hagree c
    rw [h0, h1]
    refine funext fun i => ?_
    rw [← ix3_eta i]
    exact (reference_apply _ _ (i 0) (i 1) (i 2)).trans (result m c (i 0) (i 1) (i 2)).symm

theorem frame_reference : Cert.quiescent_Reference6Ideal := by
  intro m g _
  exact (θ_run Cert.Reference6Ideal.defs _ _).mono
    (fun r h => ⟨fun c => (h c).2, sem_eq_zero_of_no_sems (by decide) r.2⟩) (Cert.Reference6Ideal.Value.run (F := Ideal) m g)

end Cert.Kernel6Ideal.Product

end
-- ==== Proof.DwAttn.lean ====
/-
  The gradient of the attention branch's projection: the kernel multiplies the tokens' blocks of a thousand and twenty-four into an accumulator and deals its columns
  out to the eight devices, and the reference contracts all tokens at once. Both are the same sum over the tokens.
-/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen

theorem hz : (![0, 0] : Fin 2 → Nat) = fun _ => 0 := funext fun a => by fin_cases a <;> rfl

/-- One block's part of the product at row `p`, column `q`. -/
def part (x0 : Vec Ideal S1024x512 .bf16) (x1 : Vec Ideal S1024x1024 .bf16) (p : Fin 512) (q : Fin 1024) : EReal :=
  ∑ k : Fin 1024, x0 (ix2 k p) * x1 (ix2 k q)

theorem cut_congr (x0 : Vec Ideal S1024x512 .bf16) (x1 : Vec Ideal S1024x1024 .bf16) (xs : Vec Ideal S512x1024 .f32)
    {p p' : Fin 512} {q q' : Fin 1024} (hp : p'.val = p.val) (hq : q'.val = q.val) :
    xs (ix2 p q) + part x0 x1 p q = xs (ix2 p' q') + part x0 x1 p' q' := by
  obtain rfl := Fin.ext hp; obtain rfl := Fin.ext hq; rfl

/-- A load from the accumulator right after it was stored whole. -/
theorem ld_stored (v : View sig .tc .vmem S512x1024 .f32) (inb : ∀ a, (![0, 0] : Fin 2 → Nat) a + S512x1024.size a ≤ S512x1024.size a)
    (x : Vec Ideal S512x1024 .f32) (r : Rect S512x1024) :
    v.readCov [(⟨Rect.unit ![0, 0] (no_index S512x1024.size) inb, x⟩ : View.Piece (Elt Ideal) S512x1024 .f32)] r.toLoadRect = View.ld x r := by
  rw [View.readCov_eq_canon', View.canon_unit_zero hz]

/-- Column `j` of device `d`. -/
def col (d : Fin 8) (j : Fin 128) : Fin 1024 := ⟨d.val * 128 + j.val, by omega⟩

theorem col_val {d : Fin 8} {j : Fin 128} {a b s : Nat} (hd : d.val = a) (hj : j.val = b) (h : a * 128 + b = s) : (col d j).val = s := by
  subst hd hj h; rfl

section
variable (c : Dev nD) (i : grid0.Coords) (arg2 : Memref sig .tc .vmem S1024x512 .bf16) (harg2 : arg2.IsWhole) (arg3 : Memref sig .tc .vmem S1024x1024 .bf16) (harg3 : arg3.IsWhole)
  (arg4 : Memref sig .tc .vmem S8x512x128 .bf16) (harg4 : arg4.IsWhole) (arg5 : Memref sig .tc .vmem S512x1024 .f32) (harg5 : arg5.IsWhole)
  (x0 : Vec Ideal S1024x512 .bf16) (x1 : Vec Ideal S1024x1024 .bf16) (xs : Vec Ideal S512x1024 .f32)

theorem acc_A (hc0 : cond0_0 i) (hc1 : ¬cond0_1 i) (p : Fin 512) (q : Fin 1024) :
    sout0_A_0 c i arg2 harg2 arg3 harg3 arg4 harg4 arg5 harg5 hc0 hc1 x0 x1 (ix2 p q) = 0 + part x0 x1 p q := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1024) hz, View.readCov_unit_zero (S := S512x1024) _ hz]
  simp only [View.readAt_eq_ld, harg2.read_unread, harg3.read_unread]
  pointwise [k0_pay1, k0_pay2, k0_pay3, k0_pay4, k0_pay5, k0_pay6, k0_pay7, k0_pay8, k0_pay9, k0_pay10, k0_pay11]
  simp only [part] <;> rfl

theorem acc_B (hc0 : ¬cond0_0 i) (hc1 : ¬cond0_1 i) (p : Fin 512) (q : Fin 1024) :
    sout0_B_0 c i arg2 harg2 arg3 harg3 arg4 harg4 arg5 harg5 hc0 hc1 x0 x1 xs (ix2 p q) = xs (ix2 p q) + part x0 x1 p q := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

theorem acc_C (hc0 : ¬cond0_0 i) (hc1 : cond0_1 i) (p : Fin 512) (q : Fin 1024) :
    sout0_C_0 c i arg2 harg2 arg3 harg3 arg4 harg4 arg5 harg5 hc0 hc1 x0 x1 xs (ix2 p q) = xs (ix2 p q) + part x0 x1 p q := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

/-- The last point of a block deals the accumulator's columns out to the devices. -/
theorem out_C (hc0 : ¬cond0_0 i) (hc1 : cond0_1 i) (y : S8x512x128.Idx) :
    out0_C_2 c i arg2 harg2 arg3 harg3 arg4 harg4 arg5 harg5 hc0 hc1 x0 x1 xs y = xs (ix2 (y 1) (col (y 0) (y 2))) + part x0 x1 (y 1) (col (y 0) (y 2)) := by
  unfold out0_C_2
  rw [View.read_writes_eq_canon _ _ _ (cover0_C_2 c i arg2 harg2 arg3 harg3 arg4 harg4 arg5 harg5 hc0 hc1 x0 x1 xs)]
  refine View.canon_apply_of_pieces (fun y => xs (ix2 (y 1) (col (y 0) (y 2))) + part x0 x1 (y 1) (col (y 0) (y 2))) _ ?_ y (cover0_C_2 c i arg2 harg2 arg3 harg3 arg4 harg4 arg5 harg5 hc0 hc1 x0 x1 xs y)
  unfold kernelRun0_C
  dsimp only
  sl_unfold_words
  simp only [View.readAt_eq_ld, ld_stored, harg2.read_unread, harg3.read_unread, harg5.read_unread]
  intro pc hpc x
  simp only [List.mem_cons, List.not_mem_nil, or_false] at hpc
  rcases hpc with rfl | rfl | rfl | rfl | rfl | rfl | rfl | rfl
  · pointwise [k0_pay1, k0_pay2, k0_pay3, k0_pay4, k0_pay5, k0_pay6, k0_pay7, k0_pay8, k0_pay9, k0_pay10, k0_pay11]
    exact cut_congr x0 x1 xs (p := x 1) (q := ⟨896 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (7 + (x 0).val) * 128 + (0 + (x 2).val) = 896 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨768 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (6 + (x 0).val) * 128 + (0 + (x 2).val) = 768 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨640 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (5 + (x 0).val) * 128 + (0 + (x 2).val) = 640 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨512 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (4 + (x 0).val) * 128 + (0 + (x 2).val) = 512 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨384 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (3 + (x 0).val) * 128 + (0 + (x 2).val) = 384 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨256 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (2 + (x 0).val) * 128 + (0 + (x 2).val) = 256 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨128 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (1 + (x 0).val) * 128 + (0 + (x 2).val) = 128 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨(x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (0 + (x 0).val) * 128 + (0 + (x 2).val) = (x 2).val
            omega))

end

variable (m : (ℓ : Loc nD τ sig) → Buf (Elt Ideal) ℓ)

/-- Where each window's block of point `t` sits. -/
theorem idx : ∀ t : Fin cfg0.N, win0_0.index t = ![t.val % 16, 0] ∧ win0_1.index t = ![t.val % 16, 0] ∧ win0_2.index t = ![0, 0, 0] :=
  (by decide +kernel : ∀ t : Fin grid0.N, _)

/-- The product over all tokens at row `p`, column `q`. -/
def tok (x0 : FVec Ideal S16384x512 .bf16) (x1 : FVec Ideal S16384x1024 .bf16) (p : Fin 512) (q : Fin 1024) : EReal :=
  ∑ l : Fin 16384, x0 (ix2 l p) * x1 (ix2 l q)

/-- The product over all tokens, cut into the devices' columns. -/
def arr (x0 : FVec Ideal S16384x512 .bf16) (x1 : FVec Ideal S16384x1024 .bf16) : FVec Ideal S8x512x128 .bf16 :=
  fun i => tok x0 x1 (i 1) (col (i 0) (i 2))

theorem left_out (c : Dev nD) (t : Fin cfg0.N) (h : t.val % 16 = 15) (y : S8x512x128.Idx) :
    (outsAt0 m c t.val t.isLt).1 y = (outsAt0 m c t.val t.isLt).2 (ix2 (y 1) (col (y 0) (y 2))) := by
  rw [outsAt0_C m c t (by omega) h]
  dsimp only
  exact (out_C ..).trans (acc_C ..).symm

/-- The accumulator at the last point of a block: the parts of the block's sixteen points. -/
theorem left_acc (c : Dev nD) (t : Fin cfg0.N) (h : t.val % 16 = 15) (p : Fin 512) (q : Fin 1024) :
    (outsAt0 m c t.val t.isLt).2 (ix2 p q) = ∑ s : Fin 16, part (iblk m c 0 ⟨16 * (t.val / 16) + s.val, Pipeline.run_point_lt_of_flush t h s⟩) (iblk m c 1 ⟨16 * (t.val / 16) + s.val, Pipeline.run_point_lt_of_flush t h s⟩) p q := by
  refine (Pipeline.eq_sum_fin_of_reset_step_of_flush (fun n hn => (outsAt0 m c n hn).2 (ix2 p q)) 16 (0 : EReal)
    (fun t => part (iblk m c 0 t) (iblk m c 1 t) p q) (fun t h => ?_) (fun t h => ?_) t h).trans (zero_add _)
  · rw [outsAt0_A m c t h (by omega)]
    dsimp only
    rw [acc_A]
  · by_cases h1 : t.val % 16 = 15
    · rw [outsAt0_C m c t h h1]
      dsimp only
      rw [acc_C]
    · rw [outsAt0_B m c t h h1]
      dsimp only
      rw [acc_B]

theorem parts (c : Dev nD) (t : Fin cfg0.N) (h : t.val % 16 = 15) (p : Fin 512) (q : Fin 1024) (P : Fin 512) (Q : Fin 1024)
    (h0 : P.val = t.val / 16 * 512 + p.val) (h1 : Q.val = q.val) :
    (∑ s : Fin 16, part (iblk m c 0 ⟨16 * (t.val / 16) + s.val, Pipeline.run_point_lt_of_flush t h s⟩) (iblk m c 1 ⟨16 * (t.val / 16) + s.val, Pipeline.run_point_lt_of_flush t h s⟩) p q)
      = tok (m ((c.tc : Thread nD τ).loc main_arg0)) (m ((c.tc : Thread nD τ).loc main_arg1)) P Q := by
  simp only [part, tok]
  refine Fin.sum_mul_add_congr fun s k hl => ?_
  blk_point [iblk, V, idx t, idx ⟨_, Pipeline.run_point_lt_of_flush t h s⟩, h0, h1]

/-- The kernel's output array after the run. -/
theorem final (c : Dev nD) : (dats m 0 c).arrAt 2 cfg0.N
    = arr (m ((c.tc : Thread nD τ).loc main_arg0)) (m ((c.tc : Thread nD τ).loc main_arg1)) := by
  refine (dats m 0 c).arrAt_eq_of_covers 2 _ (by decide +kernel) fun t hf y => ?_
  have hl := (flush0_2 t).mp hf
  have ht : t.val < 16 := lt_of_lt_of_eq t.isLt N_0
  refine Eq.trans ?_ (parts m c t hl (y 1) (col (y 0) (y 2)) _ _ ?_ ?_)
  · blk_simp
    rw [after0_2]
    exact (left_out m c t hl y).trans (left_acc m c t hl (y 1) (col (y 0) (y 2)))
  all_goals (simp only [col]; blk_simp [idx t] <;> try omega)

theorem reference_apply (x0 : FVec Ideal S16384x512 .bf16) (x1 : FVec Ideal S16384x1024 .bf16) (d : Fin 8) (p : Fin 512) (q : Fin 128) :
    Cert.Reference7Ideal.Read.val_main_v8 (F := Ideal) x0 x1 (ix3 d p q) = tok x0 x1 p (col d q) := by
  pointwise [Cert.Reference7Ideal.Read.val_main_v8, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v1]
  simp only [tok, col]
  refine Finset.sum_congr rfl fun l _ => ?_
  rw [mul_comm]
  try blk_ext

theorem algebraic : Cert.algebraic_Kernel7Ideal_Reference7Ideal := by
  pair_intro
  · run_from Cert.Kernel7Ideal.Gen.run_main m g
  · refine (θ_run _ _ _).mono (fun r h c => ?_) (Cert.Reference7Ideal.Value.run m' g')
    refine ⟨(h c).1.trans ?_, (h c).2.1, (h c).2.2⟩
    refine (Cert.Reference7Ideal.Read.val_main_v8_eq ..).trans (Eq.trans ?_ (final m c).symm)
    obtain ⟨h0, h1⟩ := hagree c
    rw [h0, h1]
    refine funext fun i => ?_
    rw [← ix3_eta i]
    exact reference_apply _ _ (i 0) (i 1) (i 2)

theorem frame_reference : Cert.quiescent_Reference7Ideal := by
  intro m g _
  exact (θ_run Cert.Reference7Ideal.defs _ _).mono
    (fun r h => ⟨fun c => (h c).2, sem_eq_zero_of_no_sems (by decide) r.2⟩) (Cert.Reference7Ideal.Value.run (F := Ideal) m g)

end Cert.Kernel7Ideal.Product

end
-- ==== Proof.DwConv.lean ====
/-
  The gradient of the convolution branch's projection: the kernel multiplies the tokens' blocks of a thousand and twenty-four into an accumulator and deals its columns
  out to the eight devices, and the reference contracts all tokens at once. Both are the same sum over the tokens.
-/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen

theorem hz : (![0, 0] : Fin 2 → Nat) = fun _ => 0 := funext fun a => by fin_cases a <;> rfl

/-- One block's part of the product at row `p`, column `q`. -/
def part (x0 : Vec Ideal S1024x512 .bf16) (x1 : Vec Ideal S1024x1024 .bf16) (p : Fin 512) (q : Fin 1024) : EReal :=
  ∑ k : Fin 1024, x0 (ix2 k p) * x1 (ix2 k q)

theorem cut_congr (x0 : Vec Ideal S1024x512 .bf16) (x1 : Vec Ideal S1024x1024 .bf16) (xs : Vec Ideal S512x1024 .f32)
    {p p' : Fin 512} {q q' : Fin 1024} (hp : p'.val = p.val) (hq : q'.val = q.val) :
    xs (ix2 p q) + part x0 x1 p q = xs (ix2 p' q') + part x0 x1 p' q' := by
  obtain rfl := Fin.ext hp; obtain rfl := Fin.ext hq; rfl

/-- A load from the accumulator right after it was stored whole. -/
theorem ld_stored (v : View sig .tc .vmem S512x1024 .f32) (inb : ∀ a, (![0, 0] : Fin 2 → Nat) a + S512x1024.size a ≤ S512x1024.size a)
    (x : Vec Ideal S512x1024 .f32) (r : Rect S512x1024) :
    v.readCov [(⟨Rect.unit ![0, 0] (no_index S512x1024.size) inb, x⟩ : View.Piece (Elt Ideal) S512x1024 .f32)] r.toLoadRect = View.ld x r := by
  rw [View.readCov_eq_canon', View.canon_unit_zero hz]

/-- Column `j` of device `d`. -/
def col (d : Fin 8) (j : Fin 128) : Fin 1024 := ⟨d.val * 128 + j.val, by omega⟩

theorem col_val {d : Fin 8} {j : Fin 128} {a b s : Nat} (hd : d.val = a) (hj : j.val = b) (h : a * 128 + b = s) : (col d j).val = s := by
  subst hd hj h; rfl

section
variable (c : Dev nD) (i : grid0.Coords) (arg2 : Memref sig .tc .vmem S1024x512 .bf16) (harg2 : arg2.IsWhole) (arg3 : Memref sig .tc .vmem S1024x1024 .bf16) (harg3 : arg3.IsWhole)
  (arg4 : Memref sig .tc .vmem S8x512x128 .bf16) (harg4 : arg4.IsWhole) (arg5 : Memref sig .tc .vmem S512x1024 .f32) (harg5 : arg5.IsWhole)
  (x0 : Vec Ideal S1024x512 .bf16) (x1 : Vec Ideal S1024x1024 .bf16) (xs : Vec Ideal S512x1024 .f32)

theorem acc_A (hc0 : cond0_0 i) (hc1 : ¬cond0_1 i) (p : Fin 512) (q : Fin 1024) :
    sout0_A_0 c i arg2 harg2 arg3 harg3 arg4 harg4 arg5 harg5 hc0 hc1 x0 x1 (ix2 p q) = 0 + part x0 x1 p q := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1024) hz, View.readCov_unit_zero (S := S512x1024) _ hz]
  simp only [View.readAt_eq_ld, harg2.read_unread, harg3.read_unread]
  pointwise [k0_pay1, k0_pay2, k0_pay3, k0_pay4, k0_pay5, k0_pay6, k0_pay7, k0_pay8, k0_pay9, k0_pay10, k0_pay11]
  simp only [part] <;> rfl

theorem acc_B (hc0 : ¬cond0_0 i) (hc1 : ¬cond0_1 i) (p : Fin 512) (q : Fin 1024) :
    sout0_B_0 c i arg2 harg2 arg3 harg3 arg4 harg4 arg5 harg5 hc0 hc1 x0 x1 xs (ix2 p q) = xs (ix2 p q) + part x0 x1 p q := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

theorem acc_C (hc0 : ¬cond0_0 i) (hc1 : cond0_1 i) (p : Fin 512) (q : Fin 1024) :
    sout0_C_0 c i arg2 harg2 arg3 harg3 arg4 harg4 arg5 harg5 hc0 hc1 x0 x1 xs (ix2 p q) = xs (ix2 p q) + part x0 x1 p q := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  rw [View.canon_unit_zero hz]
  simp only [View.readAt_eq_ld, harg2.read_unread, harg3.read_unread, harg5.read_unread]
  pointwise [k0_pay1, k0_pay2, k0_pay3, k0_pay4, k0_pay5, k0_pay6, k0_pay7, k0_pay8, k0_pay9, k0_pay10, k0_pay11]
  simp only [part] <;> rfl

/-- The last point of a block deals the accumulator's columns out to the devices. -/
theorem out_C (hc0 : ¬cond0_0 i) (hc1 : cond0_1 i) (y : S8x512x128.Idx) :
    out0_C_2 c i arg2 harg2 arg3 harg3 arg4 harg4 arg5 harg5 hc0 hc1 x0 x1 xs y = xs (ix2 (y 1) (col (y 0) (y 2))) + part x0 x1 (y 1) (col (y 0) (y 2)) := by
  unfold out0_C_2
  rw [View.read_writes_eq_canon _ _ _ (cover0_C_2 c i arg2 harg2 arg3 harg3 arg4 harg4 arg5 harg5 hc0 hc1 x0 x1 xs)]
  refine View.canon_apply_of_pieces (fun y => xs (ix2 (y 1) (col (y 0) (y 2))) + part x0 x1 (y 1) (col (y 0) (y 2))) _ ?_ y (cover0_C_2 c i arg2 harg2 arg3 harg3 arg4 harg4 arg5 harg5 hc0 hc1 x0 x1 xs y)
  unfold kernelRun0_C
  dsimp only
  sl_unfold_words
  simp only [View.readAt_eq_ld, ld_stored, harg2.read_unread, harg3.read_unread, harg5.read_unread]
  intro pc hpc x
  simp only [List.mem_cons, List.not_mem_nil, or_false] at hpc
  rcases hpc with rfl | rfl | rfl | rfl | rfl | rfl | rfl | rfl
  · pointwise [k0_pay1, k0_pay2, k0_pay3, k0_pay4, k0_pay5, k0_pay6, k0_pay7, k0_pay8, k0_pay9, k0_pay10, k0_pay11]
    exact cut_congr x0 x1 xs (p := x 1) (q := ⟨896 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (7 + (x 0).val) * 128 + (0 + (x 2).val) = 896 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨768 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (6 + (x 0).val) * 128 + (0 + (x 2).val) = 768 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨640 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (5 + (x 0).val) * 128 + (0 + (x 2).val) = 640 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨512 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (4 + (x 0).val) * 128 + (0 + (x 2).val) = 512 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨384 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (3 + (x 0).val) * 128 + (0 + (x 2).val) = 384 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨256 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (2 + (x 0).val) * 128 + (0 + (x 2).val) = 256 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨128 + (x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (1 + (x 0).val) * 128 + (0 + (x 2).val) = 128 + (x 2).val
            omega))
  · pointwise [k0_pay1, k0_pay2, k0_pay3, k0_pay4, k0_pay5, k0_pay6, k0_pay7, k0_pay8, k0_pay9, k0_pay10, k0_pay11]
    exact cut_congr x0 x1 xs (p := x 1) (q := ⟨(x 2).val, by have h : (x 2).val < 128 := (x 2).isLt; omega⟩)
      ((ValueKit.rect_emb_unit_val _ _ _ x 1).trans (Nat.zero_add _))
      (col_val (ValueKit.rect_emb_unit_val _ _ _ x 0) (ValueKit.rect_emb_unit_val _ _ _ x 2)
        (by have h : (x 0).val < 1 := (x 0).isLt
            show (0 + (x 0).val) * 128 + (0 + (x 2).val) = (x 2).val
            omega))

end

variable (m : (ℓ : Loc nD τ sig) → Buf (Elt Ideal) ℓ)

/-- Where each window's block of point `t` sits. -/
theorem idx : ∀ t : Fin cfg0.N, win0_0.index t = ![t.val % 16, 0] ∧ win0_1.index t = ![t.val % 16, 0] ∧ win0_2.index t = ![0, 0, 0] :=
  (by decide +kernel : ∀ t : Fin grid0.N, _)

/-- The product over all tokens at row `p`, column `q`. -/
def tok (x0 : FVec Ideal S16384x512 .bf16) (x1 : FVec Ideal S16384x1024 .bf16) (p : Fin 512) (q : Fin 1024) : EReal :=
  ∑ l : Fin 16384, x0 (ix2 l p) * x1 (ix2 l q)

/-- The product over all tokens, cut into the devices' columns. -/
def arr (x0 : FVec Ideal S16384x512 .bf16) (x1 : FVec Ideal S16384x1024 .bf16) : FVec Ideal S8x512x128 .bf16 :=
  fun i => tok x0 x1 (i 1) (col (i 0) (i 2))

theorem left_out (c : Dev nD) (t : Fin cfg0.N) (h : t.val % 16 = 15) (y : S8x512x128.Idx) :
    (outsAt0 m c t.val t.isLt).1 y = (outsAt0 m c t.val t.isLt).2 (ix2 (y 1) (col (y 0) (y 2))) := by
  rw [outsAt0_C m c t (by omega) h]
  dsimp only
  exact (out_C ..).trans (acc_C ..).symm

/-- The accumulator at the last point of a block: the parts of the block's sixteen points. -/
theorem left_acc (c : Dev nD) (t : Fin cfg0.N) (h : t.val % 16 = 15) (p : Fin 512) (q : Fin 1024) :
    (outsAt0 m c t.val t.isLt).2 (ix2 p q) = ∑ s : Fin 16, part (iblk m c 0 ⟨16 * (t.val / 16) + s.val, Pipeline.run_point_lt_of_flush t h s⟩) (iblk m c 1 ⟨16 * (t.val / 16) + s.val, Pipeline.run_point_lt_of_flush t h s⟩) p q := by
  refine (Pipeline.eq_sum_fin_of_reset_step_of_flush (fun n hn => (outsAt0 m c n hn).2 (ix2 p q)) 16 (0 : EReal)
    (fun t => part (iblk m c 0 t) (iblk m c 1 t) p q) (fun t h => ?_) (fun t h => ?_) t h).trans (zero_add _)
  · rw [outsAt0_A m c t h (by omega)]
    dsimp only
    rw [acc_A]
  · by_cases h1 : t.val % 16 = 15
    · rw [outsAt0_C m c t h h1]
      dsimp only
      rw [acc_C]
    · rw [outsAt0_B m c t h h1]
      dsimp only
      rw [acc_B]

theorem parts (c : Dev nD) (t : Fin cfg0.N) (h : t.val % 16 = 15) (p : Fin 512) (q : Fin 1024) (P : Fin 512) (Q : Fin 1024)
    (h0 : P.val = t.val / 16 * 512 + p.val) (h1 : Q.val = q.val) :
    (∑ s : Fin 16, part (iblk m c 0 ⟨16 * (t.val / 16) + s.val, Pipeline.run_point_lt_of_flush t h s⟩) (iblk m c 1 ⟨16 * (t.val / 16) + s.val, Pipeline.run_point_lt_of_flush t h s⟩) p q)
      = tok (m ((c.tc : Thread nD τ).loc main_arg0)) (m ((c.tc : Thread nD τ).loc main_arg1)) P Q := by
  simp only [part, tok]
  refine Fin.sum_mul_add_congr fun s k hl => ?_
  blk_point [iblk, V, idx t, idx ⟨_, Pipeline.run_point_lt_of_flush t h s⟩, h0, h1]

/-- The kernel's output array after the run. -/
theorem final (c : Dev nD) : (dats m 0 c).arrAt 2 cfg0.N
    = arr (m ((c.tc : Thread nD τ).loc main_arg0)) (m ((c.tc : Thread nD τ).loc main_arg1)) := by
  refine (dats m 0 c).arrAt_eq_of_covers 2 _ (by decide +kernel) fun t hf y => ?_
  have hl := (flush0_2 t).mp hf
  have ht : t.val < 16 := lt_of_lt_of_eq t.isLt N_0
  refine Eq.trans ?_ (parts m c t hl (y 1) (col (y 0) (y 2)) _ _ ?_ ?_)
  · blk_simp
    rw [after0_2]
    exact (left_out m c t hl y).trans (left_acc m c t hl (y 1) (col (y 0) (y 2)))
  all_goals (simp only [col]; blk_simp [idx t] <;> try omega)

theorem reference_apply (x0 : FVec Ideal S16384x512 .bf16) (x1 : FVec Ideal S16384x1024 .bf16) (d : Fin 8) (p : Fin 512) (q : Fin 128) :
    Cert.Reference8Ideal.Read.val_main_v8 (F := Ideal) x0 x1 (ix3 d p q) = tok x0 x1 p (col d q) := by
  pointwise [Cert.Reference8Ideal.Read.val_main_v8, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v1]
  simp only [tok, col]
  refine Finset.sum_congr rfl fun l _ => ?_
  rw [mul_comm]
  try blk_ext

theorem algebraic : Cert.algebraic_Kernel8Ideal_Reference8Ideal := by
  pair_intro
  · run_from Cert.Kernel8Ideal.Gen.run_main m g
  · refine (θ_run _ _ _).mono (fun r h c => ?_) (Cert.Reference8Ideal.Value.run m' g')
    refine ⟨(h c).1.trans ?_, (h c).2.1, (h c).2.2⟩
    refine (Cert.Reference8Ideal.Read.val_main_v8_eq ..).trans (Eq.trans ?_ (final m c).symm)
    obtain ⟨h0, h1⟩ := hagree c
    rw [h0, h1]
    refine funext fun i => ?_
    rw [← ix3_eta i]
    exact reference_apply _ _ (i 0) (i 1) (i 2)

theorem frame_reference : Cert.quiescent_Reference8Ideal := by
  intro m g _
  exact (θ_run Cert.Reference8Ideal.defs _ _).mono
    (fun r h => ⟨fun c => (h c).2, sem_eq_zero_of_no_sems (by decide) r.2⟩) (Cert.Reference8Ideal.Value.run (F := Ideal) m g)

end Cert.Kernel8Ideal.Product

end
-- ==== Proof.FwdMath.lean ====
/-
  The forward pass of one token through the RMS norm and the squared-ReLU MLP, as formulas over the extended reals.
-/
module

public import proofs.«01_k».proof.Proof.MlpMath

@[expose] public section

noncomputable section

open Idealize.ShloMosaic

namespace Cert.Mlp

/-- The norm's output, column `d`. -/
def hid (x g : Fin 1024 → EReal) (d : Fin 1024) : EReal := x d * rstd x * g d

/-- The hidden unit `f` before the activation. -/
def zed (x g : Fin 1024 → EReal) (w1 : Fin 1024 → Fin 4096 → EReal) (f : Fin 4096) : EReal := ∑ d, hid x g d * w1 d f

/-- The hidden unit's part of output column `q`. -/
def act (x g : Fin 1024 → EReal) (w1 : Fin 1024 → Fin 4096 → EReal) (w2 : Fin 4096 → Fin 1024 → EReal) (q : Fin 1024) (f : Fin 4096) : EReal :=
  max (zed x g w1 f) 0 * max (zed x g w1 f) 0 * w2 f q

/-- The residual stream after the MLP, column `q`. -/
def next (x g : Fin 1024 → EReal) (w1 : Fin 1024 → Fin 4096 → EReal) (w2 : Fin 4096 → Fin 1024 → EReal) (q : Fin 1024) : EReal :=
  x q + ∑ f, act x g w1 w2 q f

/-- Adding the four tiles' sums one after the other. -/
theorem next_tiles (x g : Fin 1024 → EReal) (w1 : Fin 1024 → Fin 4096 → EReal) (w2 : Fin 4096 → Fin 1024 → EReal) (q : Fin 1024) :
    x q + ∑ k : Fin 1024, act x g w1 w2 q ⟨k.val, by omega⟩ + ∑ k : Fin 1024, act x g w1 w2 q ⟨1024 + k.val, by omega⟩
      + ∑ k : Fin 1024, act x g w1 w2 q ⟨2048 + k.val, by omega⟩ + ∑ k : Fin 1024, act x g w1 w2 q ⟨3072 + k.val, by omega⟩
      = next x g w1 w2 q := by
  rw [next, sum_tiles]
  simp only [add_assoc]

end Cert.Mlp

end
-- ==== Proof.Fwd.lean ====
/-
  The forward MLP call at the ideal instance: each block's rows go through the norm, the first product tile by tile, and
  the squared ReLU's product added tile by tile to the residual stream, which is what the reference computes at once.
-/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import proofs.«01_k».proof.Proof.FwdMath
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Forward

open Cert.Kernel9Ideal Cert.Kernel9Ideal.Gen Cert.Mlp

theorem hz : (![0, 0] : Fin 2 → Nat) = fun _ => 0 := funext fun a => by fin_cases a <;> rfl

section
variable (x0 : Vec Ideal S512x1024 .f32) (x1 : Vec Ideal S1x1024 .f32) (x2 : Vec Ideal S1024x4096 .bf16) (x3 : Vec Ideal S4096x1024 .bf16)

def hidRow (p : Fin 512) : Fin 1024 → EReal := hid (fun d => x0 (ix2 p d)) fun d => x1 (ix2 0 d)

def zedRow (p : Fin 512) : Fin 4096 → EReal := zed (fun d => x0 (ix2 p d)) (fun d => x1 (ix2 0 d)) fun d f => x2 (ix2 d f)

def nextRow (p : Fin 512) : Fin 1024 → EReal :=
  next (fun d => x0 (ix2 p d)) (fun d => x1 (ix2 0 d)) (fun d f => x2 (ix2 d f)) fun f d => x3 (ix2 f d)

theorem zedRow_congr {p p' : Fin 512} {f f' : Fin 4096} (hp : p'.val = p.val) (hf : f'.val = f.val) :
    zedRow x0 x1 x2 p f = zedRow x0 x1 x2 p' f' := by
  obtain rfl := Fin.ext hp; obtain rfl := Fin.ext hf; rfl

theorem out4 (p : Fin 512) (q : Fin 1024) : out0_4 x0 x1 x2 x3 (ix2 p q) = hidRow x0 x1 p q := by
  unfold_out out0_4
  rw [View.canon_unit_zero hz]
  pointwise [k0_pay6]
  simp only [hidRow, hid, rstd] <;> rfl

theorem out5 (y : S512x4096.Idx) : out0_5 x0 x1 x2 x3 y = zedRow x0 x1 x2 (y 0) (y 1) := by
  unfold_out out0_5
  refine View.canon_apply_of_pieces (Val := Elt Ideal) (e := .bf16) (fun y => zedRow x0 x1 x2 (y 0) (y 1)) _ ?_ y (cover0_5 _ _ _ _ y)
  intro pc hpc x
  simp only [List.mem_cons, List.not_mem_nil, or_false] at hpc
  rcases hpc with rfl | rfl | rfl | rfl
  · pointwise [k0_pay1, k0_pay2, k0_pay3, k0_pay4, k0_pay5, k0_pay6, k0_pay7, k0_pay8, k0_pay9, k0_pay10, k0_pay11, k0_pay12]
    exact zedRow_congr x0 x1 x2 (p := x 0) (f := ⟨3072 + (x 1).val, by have h : (x 1).val < 1024 := (x 1).isLt; omega⟩)
      ((ValueKit.rect_emb_unit_val _ _ _ x 0).trans (Nat.zero_add _)) (ValueKit.rect_emb_unit_val _ _ _ x 1)
  · pointwise [k0_pay1, k0_pay2, k0_pay3, k0_pay4, k0_pay5, k0_pay6, k0_pay7, k0_pay8, k0_pay9, k0_pay10, k0_pay11, k0_pay12]
    exact zedRow_congr x0 x1 x2 (p := x 0) (f := ⟨2048 + (x 1).val, by have h : (x 1).val < 1024 := (x 1).isLt; omega⟩)
      ((ValueKit.rect_emb_unit_val _ _ _ x 0).trans (Nat.zero_add _)) (ValueKit.rect_emb_unit_val _ _ _ x 1)
  · pointwise [k0_pay1, k0_pay2, k0_pay3, k0_pay4, k0_pay5, k0_pay6, k0_pay7, k0_pay8, k0_pay9, k0_pay10, k0_pay11, k0_pay12]
    exact zedRow_congr x0 x1 x2 (p := x 0) (f := ⟨1024 + (x 1).val, by have h : (x 1).val < 1024 := (x 1).isLt; omega⟩)
      ((ValueKit.rect_emb_unit_val _ _ _ x 0).trans (Nat.zero_add _)) (ValueKit.rect_emb_unit_val _ _ _ x 1)
  · pointwise [k0_pay1, k0_pay2, k0_pay3, k0_pay4, k0_pay5, k0_pay6, k0_pay7, k0_pay8, k0_pay9, k0_pay10, k0_pay11, k0_pay12]
    exact zedRow_congr x0 x1 x2 (p := x 0) (f := ⟨(x 1).val, by have h : (x 1).val < 1024 := (x 1).isLt; omega⟩)
      ((ValueKit.rect_emb_unit_val _ _ _ x 0).trans (Nat.zero_add _)) ((ValueKit.rect_emb_unit_val _ _ _ x 1).trans (Nat.zero_add _))

theorem out6 (p : Fin 512) (q : Fin 1024) : out0_6 x0 x1 x2 x3 (ix2 p q) = nextRow x0 x1 x2 x3 p q := by
  unfold_out out0_6
  rw [View.canon_unit_zero hz, nextRow, ← next_tiles]
  pointwise [k0_pay1, k0_pay2, k0_pay3, k0_pay4, k0_pay5, k0_pay6, k0_pay7, k0_pay8, k0_pay9, k0_pay10, k0_pay11, k0_pay12]
  simp only [act, zed, hid, rstd] <;> rfl

end

section
variable (x0 : FVec Ideal S16384x1024 .f32) (x1 : FVec Ideal S1x1024 .f32) (x2 : FVec Ideal S1024x4096 .bf16) (x3 : FVec Ideal S4096x1024 .bf16)

def hidTok (p : Fin 16384) (q : Fin 1024) : EReal := hid (fun d => x0 (ix2 p d)) (fun d => x1 (ix2 0 d)) q

def zedTok (p : Fin 16384) (f : Fin 4096) : EReal := zed (fun d => x0 (ix2 p d)) (fun d => x1 (ix2 0 d)) (fun d f => x2 (ix2 d f)) f

def nextTok (p : Fin 16384) (q : Fin 1024) : EReal :=
  next (fun d => x0 (ix2 p d)) (fun d => x1 (ix2 0 d)) (fun d f => x2 (ix2 d f)) (fun f d => x3 (ix2 f d)) q

/-- The norm's output. -/
def hidArr : FVec Ideal S16384x1024 .bf16 := fun i => hidTok x0 x1 (i 0) (i 1)

/-- The hidden layer before the activation. -/
def zedArr : FVec Ideal S16384x4096 .bf16 := fun i => zedTok x0 x1 x2 (i 0) (i 1)

/-- The residual stream after the MLP. -/
def nextArr : FVec Ideal S16384x1024 .f32 := fun i => nextTok x0 x1 x2 x3 (i 0) (i 1)

end

variable (m : (ℓ : Loc nD τ sig) → Buf (Elt Ideal) ℓ)

/-- Where each window's block of point `t` sits. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] ∧ t.val < 32 :=
  (by decide +kernel : ∀ t : Fin grid0.N, _)

theorem hid_blk (c : Dev nD) (t : Fin cfg0.N) (y : S512x1024.Idx) :
    hidRow (iblk m c 0 t) (iblk m c 1 t) (y 0) (y 1)
      = hidArr (m ((c.tc : Thread nD τ).loc main_arg0)) (m ((c.tc : Thread nD τ).loc main_arg1)) (((cfg0.win 4).blk t).view.emb y) := by
  simp only [hidArr, hidTok, hidRow, hid, rstd]
  blk_point [iblk, V, idx t]

theorem zed_blk (c : Dev nD) (t : Fin cfg0.N) (y : S512x4096.Idx) :
    zedRow (iblk m c 0 t) (iblk m c 1 t) (iblk m c 2 t) (y 0) (y 1)
      = zedArr (m ((c.tc : Thread nD τ).loc main_arg0)) (m ((c.tc : Thread nD τ).loc main_arg1)) (m ((c.tc : Thread nD τ).loc main_arg2)) (((cfg0.win 5).blk t).view.emb y) := by
  simp only [zedArr, zedTok, zedRow, zed, hid, rstd]
  blk_point [iblk, V, idx t]

theorem next_blk (c : Dev nD) (t : Fin cfg0.N) (y : S512x1024.Idx) :
    nextRow (iblk m c 0 t) (iblk m c 1 t) (iblk m c 2 t) (iblk m c 3 t) (y 0) (y 1)
      = nextArr (m ((c.tc : Thread nD τ).loc main_arg0)) (m ((c.tc : Thread nD τ).loc main_arg1)) (m ((c.tc : Thread nD τ).loc main_arg2)) (m ((c.tc : Thread nD τ).loc main_arg3)) (((cfg0.win 6).blk t).view.emb y) := by
  simp only [nextArr, nextTok, nextRow, next, act, zed, hid, rstd]
  blk_point [iblk, V, idx t]

theorem final_hid (c : Dev nD) : (dats m 0 c).arrAt 4 cfg0.N
    = hidArr (m ((c.tc : Thread nD τ).loc main_arg0)) (m ((c.tc : Thread nD τ).loc main_arg1)) := by
  refine (dats m 0 c).arrAt_eq_of_covers 4 _ (by decide +kernel) fun t _ y => ?_
  refine Eq.trans ?_ (hid_blk m c t y)
  blk_simp
  rw [after0_4]
  exact (congrArg (out0_4 (iblk m c 0 t) (iblk m c 1 t) (iblk m c 2 t) (iblk m c 3 t)) (ix2_eta y).symm).trans (out4 _ _ _ _ (y 0) (y 1))

theorem final_zed (c : Dev nD) : (dats m 0 c).arrAt 5 cfg0.N
    = zedArr (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  refine Eq.trans ?_ (zed_blk m c t y)
  blk_simp
  rw [after0_5]
  exact out5 _ _ _ _ y

theorem final_next (c : Dev nD) : (dats m 0 c).arrAt 6 cfg0.N
    = nextArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  refine Eq.trans ?_ (next_blk m c t y)
  blk_simp
  rw [after0_6]
  exact (congrArg (out0_6 (iblk m c 0 t) (iblk m c 1 t) (iblk m c 2 t) (iblk m c 3 t)) (ix2_eta y).symm).trans (out6 _ _ _ _ (y 0) (y 1))

section
open Cert.Reference9Ideal.Read
variable (x0 : FVec Ideal S16384x1024 .f32) (x1 : FVec Ideal S1x1024 .f32) (x2 : FVec Ideal S1024x4096 .bf16) (x3 : FVec Ideal S4096x1024 .bf16)

/-- The reference's norm. -/
theorem ref_hid (p : Fin 16384) (q : Fin 1024) : val_main_v15 (F := Ideal) x0 x1 (ix2 p q) = hidTok x0 x1 p q := by
  pointwise [val_main_v15, val_main_v14, val_main_v13, val_main_v12, val_main_v11, val_main_v10, val_main_v9, val_main_v8, val_main_v7, val_main_v6, val_main_v5, val_main_v4, val_main_v3, val_main_v0, val_main_cst, val_main_cst_0, val_main_cst_1]
  simp only [hidTok, hid, rstd] <;> rfl

/-- The reference's hidden layer. -/
theorem ref_zed (p : Fin 16384) (f : Fin 4096) : val_main_v16 (F := Ideal) x0 x1 x2 (ix2 p f) = zedTok x0 x1 x2 p f := by
  pointwise [val_main_v16, val_main_v1]
  rw [zedTok, zed]
  exact Finset.sum_congr rfl fun d _ => by rw [ref_hid]; rfl

theorem ref_next (p : Fin 16384) (q : Fin 1024) : val_main_v20 (F := Ideal) x0 x1 x2 x3 (ix2 p q) = nextTok x0 x1 x2 x3 p q := by
  pointwise [val_main_v20, val_main_v19, val_main_v18, val_main_v17, val_main_v2, val_main_call0_v0, val_main_call0_cst]
  simp only [ref_zed]
  rfl

end

theorem algebraic : Cert.algebraic_Kernel9Ideal_Reference9Ideal := by
  pair_intro
  · run_from Cert.Kernel9Ideal.Gen.run_main m g
  · refine (θ_run _ _ _).mono (fun r h c => ?_) (Cert.Reference9Ideal.Value.run m' g')
    obtain ⟨h0, h1, h2, h3⟩ := hagree c
    refine ⟨(h c).1.trans ?_, (h c).2.1.trans ?_, (h c).2.2.1.trans ?_, (h c).2.2.2⟩
    · refine (Cert.Reference9Ideal.Read.val_main_v21_eq ..).trans (Eq.trans ?_ (final_hid m c).symm)
      rw [h0, h1]
      refine funext fun i => ?_
      pointwise [Cert.Reference9Ideal.Read.val_main_v21]
      exact (congrArg _ (ix2_eta i).symm).trans (ref_hid _ _ (i 0) (i 1))
    · refine (Cert.Reference9Ideal.Read.val_main_v22_eq ..).trans (Eq.trans ?_ (final_zed m c).symm)
      rw [h0, h1, h2]
      refine funext fun i => ?_
      pointwise [Cert.Reference9Ideal.Read.val_main_v22]
      exact (congrArg _ (ix2_eta i).symm).trans (ref_zed _ _ _ (i 0) (i 1))
    · refine (Cert.Reference9Ideal.Read.val_main_v20_eq ..).trans (Eq.trans ?_ (final_next m c).symm)
      rw [h0, h1, h2, h3]
      refine funext fun i => ?_
      exact (congrArg _ (ix2_eta i).symm).trans (ref_next _ _ _ _ (i 0) (i 1))

theorem frame_reference : Cert.quiescent_Reference9Ideal := by
  intro m g _
  exact (θ_run Cert.Reference9Ideal.defs _ _).mono
    (fun r h => ⟨fun c => (h c).2.2.2, sem_eq_zero_of_no_sems (by decide) r.2⟩) (Cert.Reference9Ideal.Value.run (F := Ideal) m g)

end Cert.Kernel9Ideal.Forward

end
-- ==== Proof.LossMath.lean ====
/-
  The loss of one token, half the mean square of the last norm's difference from the target, and its gradient at the
  norm's output, as formulas over the extended reals.
-/
module

public import proofs.«01_k».proof.Proof.FwdMath
public import proofs.«01_k».proof.Proof.MlpNorm

@[expose] public section

noncomputable section

open Idealize.ShloMosaic

namespace Cert.Mlp

/-- The constant 1/1024 as printed. -/
abbrev inv : EReal := Ideal.ofBits .f32 0x3A800000#32

/-- The constant 1/2048 as printed. -/
abbrev halfInv : EReal := Ideal.ofBits .f32 0x3A000000#32

/-- The constant 1/2 as printed. -/
abbrev half : EReal := Ideal.ofBits .f32 0x3F000000#32

/-- The norm's output minus the target, column `q`. -/
def err (y g t : Fin 1024 → EReal) (q : Fin 1024) : EReal := y q * rstd y * g q - t q

/-- The loss's gradient at the norm's output, from the difference. -/
def cot (e : Fin 1024 → EReal) (q : Fin 1024) : EReal := e q * inv

theorem inv_eq : inv = ((1 / 1024 : ℝ) : EReal) := by
  simp [inv, Ideal.ofBits, Ideal.ieee, -EReal.coe_mul]; norm_num

theorem halfInv_eq : halfInv = ((1 / 2048 : ℝ) : EReal) := by
  simp [halfInv, Ideal.ofBits, Ideal.ieee, -EReal.coe_mul]; norm_num

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

/-- The chain rule's factor at the square: half of the mean's share times twice the difference. -/
theorem cot_chain (e : EReal) : Ideal.div half width * (two * e) = e * inv := by
  rw [div_width, half_eq, two_eq, inv_eq, ← mul_assoc, ← EReal.coe_mul, ← EReal.coe_mul, mul_comm]
  congr 2; norm_num

/-- Half of the sum of the tokens' means is the sum of the squares over 2048. -/
theorem loss_sum {T : Type} [Fintype T] (s : T → Fin 1024 → EReal) :
    half * ∑ p, Ideal.div (∑ q, s p q) width = ∑ p, ∑ q, s p q * halfInv := by
  rw [half_eq, halfInv_eq, mul_comm, sum_mul_coe _ (by norm_num)]
  refine Finset.sum_congr rfl fun p _ => ?_
  rw [div_width, mul_assoc, ← EReal.coe_mul, sum_mul_coe _ (by norm_num)]
  refine Finset.sum_congr rfl fun q _ => ?_
  congr 2; norm_num

end Cert.Mlp

end
-- ==== Proof.LossT.lean ====
/-
  The forward MLP call with the loss: what one block's run leaves in each of its five output buffers, at the ideal
  instance. The rows after the MLP meet the target through the last norm; the loss and the norm weight's gradient
  accumulate in eight rows, set to zero at the first block.
-/
module

public import proofs.«01_k».proof.Defs
public import proofs.«01_k».proof.Proof.Gen.Kernel10Ideal.Frame
public import proofs.«01_k».proof.Proof.LossMath
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel10Ideal.Forward

open Cert.Kernel10Ideal Cert.Kernel10Ideal.Gen Cert.Mlp

theorem hz : (![0, 0] : Fin 2 → Nat) = fun _ => 0 := funext fun a => by fin_cases a <;> rfl

section
variable (x0 : Vec Ideal S512x1024 .f32) (x1 : Vec Ideal S1x1024 .f32) (x2 : Vec Ideal S1024x4096 .bf16) (x3 : Vec Ideal S4096x1024 .bf16)
  (x4 : Vec Ideal S1x1024 .f32) (x5 : Vec Ideal S512x1024 .f32)

def hidRow (p : Fin 512) : Fin 1024 → EReal := hid (fun d => x0 (ix2 p d)) fun d => x1 (ix2 0 d)

def zedRow (p : Fin 512) : Fin 4096 → EReal := zed (fun d => x0 (ix2 p d)) (fun d => x1 (ix2 0 d)) fun d f => x2 (ix2 d f)

def nextRow (p : Fin 512) : Fin 1024 → EReal :=
  next (fun d => x0 (ix2 p d)) (fun d => x1 (ix2 0 d)) (fun d f => x2 (ix2 d f)) fun f d => x3 (ix2 f d)

/-- The row's difference from the target. -/
def errRow (p : Fin 512) : Fin 1024 → EReal := err (nextRow x0 x1 x2 x3 p) (fun d => x4 (ix2 0 d)) fun d => x5 (ix2 p d)

/-- The row's gradient at the residual stream. -/
def dxRow (p : Fin 512) : Fin 1024 → EReal := dx (nextRow x0 x1 x2 x3 p) (fun d => x4 (ix2 0 d)) (cot (errRow x0 x1 x2 x3 x4 x5 p))

/-- The row's part of the last norm weight's gradient. -/
def dgRow (p : Fin 512) (q : Fin 1024) : EReal :=
  cot (errRow x0 x1 x2 x3 x4 x5 p) q * (nextRow x0 x1 x2 x3 p q * rstd (nextRow x0 x1 x2 x3 p))

/-- The square of the row's difference. -/
def sqRow (p : Fin 512) (q : Fin 1024) : EReal := errRow x0 x1 x2 x3 x4 x5 p q * errRow x0 x1 x2 x3 x4 x5 p q

theorem zedRow_congr {p p' : Fin 512} {f f' : Fin 4096} (hp : p'.val = p.val) (hf : f'.val = f.val) :
    zedRow x0 x1 x2 p f = zedRow x0 x1 x2 p' f' := by
  obtain rfl := Fin.ext hp; obtain rfl := Fin.ext hf; rfl

/-- The block's rows after the MLP, as the body computes them. -/
theorem upd_eq (p : Fin 512) (q : Fin 1024) : k0_pay15 (F := Ideal)
    (k0_pay5 (View.ld x0 (Rect.unit (s := S512x1024) ![0, 0] ![512, 1024] inb_S512x1024_S512x1024_0_0)) (View.ld x1 (Rect.unit (s := S1x1024) ![0, 0] ![1, 1024] inb_S1x1024_S1x1024_0_0)))
    (k0_pay8 (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x4096) ![0, 0] ![1024, 1024] inb_S1024x4096_S1024x1024_0_0)) (View.ld x3 (Rect.unit (s := S4096x1024) ![0, 0] ![1024, 1024] inb_S4096x1024_S1024x1024_0_0)))
    (k0_pay9 (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x4096) ![0, 1024] ![1024, 1024] inb_S1024x4096_S1024x1024_0_1024)))
    (View.ld x3 (Rect.unit (s := S4096x1024) ![1024, 0] ![1024, 1024] inb_S4096x1024_S1024x1024_1024_0)) (View.ld x2 (Rect.unit (s := S1024x4096) ![0, 2048] ![1024, 1024] inb_S1024x4096_S1024x1024_0_2048)) (View.ld x3 (Rect.unit (s := S4096x1024) ![2048, 0] ![1024, 1024] inb_S4096x1024_S1024x1024_2048_0)) (View.ld x2 (Rect.unit (s := S1024x4096) ![0, 3072] ![1024, 1024] inb_S1024x4096_S1024x1024_0_3072)) (View.ld x3 (Rect.unit (s := S4096x1024) ![3072, 0] ![1024, 1024] inb_S4096x1024_S1024x1024_3072_0)) (ix2 p q) = nextRow x0 x1 x2 x3 p q := by
  rw [nextRow, ← next_tiles]
  pointwise [k0_pay5, k0_pay6, k0_pay7, k0_pay8, k0_pay9, k0_pay10, k0_pay11, k0_pay12, k0_pay13, k0_pay14, k0_pay15]
  simp only [act, zed, hid, rstd] <;> rfl

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x4096 .bf16) (harg8 : arg8.IsWhole) (arg9 : Memref sig .tc .vmem S8x1024 .f32) (harg9 : arg9.IsWhole) (arg10 : Memref sig .tc .vmem S512x1024 .f32) (harg10 : arg10.IsWhole) (arg11 : Memref sig .tc .vmem S8x1024 .f32) (harg11 : arg11.IsWhole)
  (x0 : Vec Ideal S512x1024 .f32) (x1 : Vec Ideal S1x1024 .f32) (x2 : Vec Ideal S1024x4096 .bf16) (x3 : Vec Ideal S4096x1024 .bf16) (x4 : Vec Ideal S1x1024 .f32) (x5 : Vec Ideal S512x1024 .f32)

theorem out6_A (hc0 : cond0_0 i) (p : Fin 512) (q : Fin 1024) :
    out0_A_6 c i arg1 harg1 arg2 harg2 arg3 harg3 arg4 harg4 arg5 harg5 arg6 harg6 arg7 harg7 arg8 harg8 arg9 harg9 arg10 harg10 arg11 harg11 hc0 x0 x1 x2 x3 x4 x5 (ix2 p q) = hidRow x0 x1 p q := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread]
  pointwise [k0_pay5]
  simp only [hidRow, hid, rstd] <;> rfl

theorem out7_A (hc0 : cond0_0 i) (y : S512x4096.Idx) :
    out0_A_7 c i arg1 harg1 arg2 harg2 arg3 harg3 arg4 harg4 arg5 harg5 arg6 harg6 arg7 harg7 arg8 harg8 arg9 harg9 arg10 harg10 arg11 harg11 hc0 x0 x1 x2 x3 x4 x5 y = zedRow x0 x1 x2 (y 0) (y 1) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  refine View.canon_apply_of_pieces (Val := Elt Ideal) (e := .bf16) (fun y => zedRow x0 x1 x2 (y 0) (y 1)) _ ?_ y (cover0_A_7 c i arg1 harg1 arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  intro pc hpc x
  simp only [List.mem_cons, List.not_mem_nil, or_false] at hpc
  rcases hpc with rfl | rfl | rfl | rfl
  · pointwise [k0_pay5, k0_pay6, k0_pay7, k0_pay8, k0_pay9, k0_pay10, k0_pay11, k0_pay12, k0_pay13, k0_pay14]
    exact zedRow_congr x0 x1 x2 (p := x 0) (f := ⟨3072 + (x 1).val, by have h : (x 1).val < 1024 := (x 1).isLt; omega⟩)
      ((ValueKit.rect_emb_unit_val _ _ _ x 0).trans (Nat.zero_add _)) (ValueKit.rect_emb_unit_val _ _ _ x 1)
  · pointwise [k0_pay5, k0_pay6, k0_pay7, k0_pay8, k0_pay9, k0_pay10, k0_pay11, k0_pay12, k0_pay13, k0_pay14]
    exact zedRow_congr x0 x1 x2 (p := x 0) (f := ⟨2048 + (x 1).val, by have h : (x 1).val < 1024 := (x 1).isLt; omega⟩)
      ((ValueKit.rect_emb_unit_val _ _ _ x 0).trans (Nat.zero_add _)) (ValueKit.rect_emb_unit_val _ _ _ x 1)
  · pointwise [k0_pay5, k0_pay6, k0_pay7, k0_pay8, k0_pay9, k0_pay10, k0_pay11, k0_pay12, k0_pay13, k0_pay14]
    exact zedRow_congr x0 x1 x2 (p := x 0) (f := ⟨1024 + (x 1).val, by have h : (x 1).val < 1024 := (x 1).isLt; omega⟩)
      ((ValueKit.rect_emb_unit_val _ _ _ x 0).trans (Nat.zero_add _)) (ValueKit.rect_emb_unit_val _ _ _ x 1)
  · pointwise [k0_pay5, k0_pay6, k0_pay7, k0_pay8, k0_pay9, k0_pay10, k0_pay11, k0_pay12, k0_pay13, k0_pay14]
    exact zedRow_congr x0 x1 x2 (p := x 0) (f := ⟨(x 1).val, by have h : (x 1).val < 1024 := (x 1).isLt; omega⟩)
      ((ValueKit.rect_emb_unit_val _ _ _ x 0).trans (Nat.zero_add _)) ((ValueKit.rect_emb_unit_val _ _ _ x 1).trans (Nat.zero_add _))

theorem out9_A (hc0 : cond0_0 i) (p : Fin 512) (q : Fin 1024) :
    out0_A_9 c i arg1 harg1 arg2 harg2 arg3 harg3 arg4 harg4 arg5 harg5 arg6 harg6 arg7 harg7 arg8 harg8 arg9 harg9 arg10 harg10 arg11 harg11 hc0 x0 x1 x2 x3 x4 x5 (ix2 p q) = dxRow x0 x1 x2 x3 x4 x5 p q := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread]
  simp only [k0_pay16]
  pointwise [k0_pay1, k0_pay2, k0_pay3, k0_pay4, k0_pay17, k0_pay18, k0_pay19, k0_pay20, k0_pay21, k0_pay22, k0_pay23]
  simp only [upd_eq, dxRow, dx, cot, errRow, err, rstd] <;> rfl

theorem out8_A (hc0 : cond0_0 i) (p : Fin 8) (q : Fin 1024) :
    out0_A_8 c i arg1 harg1 arg2 harg2 arg3 harg3 arg4 harg4 arg5 harg5 arg6 harg6 arg7 harg7 arg8 harg8 arg9 harg9 arg10 harg10 arg11 harg11 hc0 x0 x1 x2 x3 x4 x5 (ix2 p q) = 0 + (∑ k : Fin 64, sqRow x0 x1 x2 x3 x4 x5 ⟨k.val * 8 + p.val, by omega⟩ q) * halfInv := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S8x1024) hz, View.readCov_unit_zero (S := S8x1024) _ hz]
  simp only [View.readAt_eq_ld, harg1.read_unread, harg2.read_unread, harg3.read_unread, harg4.read_unread, harg5.read_unread, harg6.read_unread, harg7.read_unread, harg8.read_unread, harg9.read_unread, harg10.read_unread, harg11.read_unread]
  simp only [k0_pay16]
  pointwise [k0_pay1, k0_pay2, k0_pay3, k0_pay4, k0_pay17, k0_pay18, k0_pay19, k0_pay20, k0_pay21, k0_pay22, k0_pay23]
  simp only [upd_eq, sqRow, dgRow, cot, errRow, err, rstd] <;> rfl

theorem out10_A (hc0 : cond0_0 i) (p : Fin 8) (q : Fin 1024) :
    out0_A_10 c i arg1 harg1 arg2 harg2 arg3 harg3 arg4 harg4 arg5 harg5 arg6 harg6 arg7 harg7 arg8 harg8 arg9 harg9 arg10 harg10 arg11 harg11 hc0 x0 x1 x2 x3 x4 x5 (ix2 p q) = 0 + ∑ k : Fin 64, dgRow x0 x1 x2 x3 x4 x5 ⟨k.val * 8 + p.val, by omega⟩ q := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S8x1024) hz, View.readCov_unit_zero (S := S8x1024) _ hz]
  simp only [View.readAt_eq_ld, harg1.read_unread, harg2.read_unread, harg3.read_unread, harg4.read_unread, harg5.read_unread, harg6.read_unread, harg7.read_unread, harg8.read_unread, harg9.read_unread, harg10.read_unread, harg11.read_unread]
  simp only [k0_pay16]
  pointwise [k0_pay1, k0_pay2, k0_pay3, k0_pay4, k0_pay17, k0_pay18, k0_pay19, k0_pay20, k0_pay21, k0_pay22, k0_pay23]
  simp only [upd_eq, sqRow, dgRow, cot, errRow, err, rstd] <;> rfl

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x4096 .bf16) (harg8 : arg8.IsWhole) (arg9 : Memref sig .tc .vmem S8x1024 .f32) (harg9 : arg9.IsWhole) (arg10 : Memref sig .tc .vmem S512x1024 .f32) (harg10 : arg10.IsWhole) (arg11 : Memref sig .tc .vmem S8x1024 .f32) (harg11 : arg11.IsWhole)
  (x0 : Vec Ideal S512x1024 .f32) (x1 : Vec Ideal S1x1024 .f32) (x2 : Vec Ideal S1024x4096 .bf16) (x3 : Vec Ideal S4096x1024 .bf16) (x4 : Vec Ideal S1x1024 .f32) (x5 : Vec Ideal S512x1024 .f32)
  (xo8 : Vec Ideal S8x1024 .f32) (xo10 : Vec Ideal S8x1024 .f32)

theorem out6_B (hc0 : ¬cond0_0 i) (p : Fin 512) (q : Fin 1024) :
    out0_B_6 c i arg1 harg1 arg2 harg2 arg3 harg3 arg4 harg4 arg5 harg5 arg6 harg6 arg7 harg7 arg8 harg8 arg9 harg9 arg10 harg10 arg11 harg11 hc0 x0 x1 x2 x3 x4 x5 xo8 xo10 (ix2 p q) = hidRow x0 x1 p q := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xo8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread]
  pointwise [k0_pay5]
  simp only [hidRow, hid, rstd] <;> rfl

theorem out7_B (hc0 : ¬cond0_0 i) (y : S512x4096.Idx) :
    out0_B_7 c i arg1 harg1 arg2 harg2 arg3 harg3 arg4 harg4 arg5 harg5 arg6 harg6 arg7 harg7 arg8 harg8 arg9 harg9 arg10 harg10 arg11 harg11 hc0 x0 x1 x2 x3 x4 x5 xo8 xo10 y = zedRow x0 x1 x2 (y 0) (y 1) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xo8 xo10)]
  refine View.canon_apply_of_pieces (Val := Elt Ideal) (e := .bf16) (fun y => zedRow x0 x1 x2 (y 0) (y 1)) _ ?_ y (cover0_B_7 c i arg1 harg1 arg2 harg2 arg3 harg3 arg4 harg4 arg5 harg5 arg6 harg6 arg7 harg7 arg8 harg8 arg9 harg9 arg10 harg10 arg11 harg11 hc0 x0 x1 x2 x3 x4 x5 xo8 xo10 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  intro pc hpc x
  simp only [List.mem_cons, List.not_mem_nil, or_false] at hpc
  rcases hpc with rfl | rfl | rfl | rfl
  · pointwise [k0_pay5, k0_pay6, k0_pay7, k0_pay8, k0_pay9, k0_pay10, k0_pay11, k0_pay12, k0_pay13, k0_pay14]
    exact zedRow_congr x0 x1 x2 (p := x 0) (f := ⟨3072 + (x 1).val, by have h : (x 1).val < 1024 := (x 1).isLt; omega⟩)
      ((ValueKit.rect_emb_unit_val _ _ _ x 0).trans (Nat.zero_add _)) (ValueKit.rect_emb_unit_val _ _ _ x 1)
  · pointwise [k0_pay5, k0_pay6, k0_pay7, k0_pay8, k0_pay9, k0_pay10, k0_pay11, k0_pay12, k0_pay13, k0_pay14]
    exact zedRow_congr x0 x1 x2 (p := x 0) (f := ⟨2048 + (x 1).val, by have h : (x 1).val < 1024 := (x 1).isLt; omega⟩)
      ((ValueKit.rect_emb_unit_val _ _ _ x 0).trans (Nat.zero_add _)) (ValueKit.rect_emb_unit_val _ _ _ x 1)
  · pointwise [k0_pay5, k0_pay6, k0_pay7, k0_pay8, k0_pay9, k0_pay10, k0_pay11, k0_pay12, k0_pay13, k0_pay14]
    exact zedRow_congr x0 x1 x2 (p := x 0) (f := ⟨1024 + (x 1).val, by have h : (x 1).val < 1024 := (x 1).isLt; omega⟩)
      ((ValueKit.rect_emb_unit_val _ _ _ x 0).trans (Nat.zero_add _)) (ValueKit.rect_emb_unit_val _ _ _ x 1)
  · pointwise [k0_pay5, k0_pay6, k0_pay7, k0_pay8, k0_pay9, k0_pay10, k0_pay11, k0_pay12, k0_pay13, k0_pay14]
    exact zedRow_congr x0 x1 x2 (p := x 0) (f := ⟨(x 1).val, by have h : (x 1).val < 1024 := (x 1).isLt; omega⟩)
      ((ValueKit.rect_emb_unit_val _ _ _ x 0).trans (Nat.zero_add _)) ((ValueKit.rect_emb_unit_val _ _ _ x 1).trans (Nat.zero_add _))

theorem out9_B (hc0 : ¬cond0_0 i) (p : Fin 512) (q : Fin 1024) :
    out0_B_9 c i arg1 harg1 arg2 harg2 arg3 harg3 arg4 harg4 arg5 harg5 arg6 harg6 arg7 harg7 arg8 harg8 arg9 harg9 arg10 harg10 arg11 harg11 hc0 x0 x1 x2 x3 x4 x5 xo8 xo10 (ix2 p q) = dxRow x0 x1 x2 x3 x4 x5 p q := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 xo8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread]
  simp only [k0_pay16]
  pointwise [k0_pay1, k0_pay2, k0_pay3, k0_pay4, k0_pay17, k0_pay18, k0_pay19, k0_pay20, k0_pay21, k0_pay22, k0_pay23]
  simp only [upd_eq, dxRow, dx, cot, errRow, err, rstd] <;> rfl

theorem out8_B (hc0 : ¬cond0_0 i) (p : Fin 8) (q : Fin 1024) :
    out0_B_8 c i arg1 harg1 arg2 harg2 arg3 harg3 arg4 harg4 arg5 harg5 arg6 harg6 arg7 harg7 arg8 harg8 arg9 harg9 arg10 harg10 arg11 harg11 hc0 x0 x1 x2 x3 x4 x5 xo8 xo10 (ix2 p q) = xo8 (ix2 p q) + (∑ k : Fin 64, sqRow x0 x1 x2 x3 x4 x5 ⟨k.val * 8 + p.val, by omega⟩ q) * halfInv := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 xo8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread]
  simp only [k0_pay16]
  pointwise [k0_pay1, k0_pay2, k0_pay3, k0_pay4, k0_pay17, k0_pay18, k0_pay19, k0_pay20, k0_pay21, k0_pay22, k0_pay23]
  simp only [upd_eq, sqRow, dgRow, cot, errRow, err, rstd] <;> rfl

theorem out10_B (hc0 : ¬cond0_0 i) (p : Fin 8) (q : Fin 1024) :
    out0_B_10 c i arg1 harg1 arg2 harg2 arg3 harg3 arg4 harg4 arg5 harg5 arg6 harg6 arg7 harg7 arg8 harg8 arg9 harg9 arg10 harg10 arg11 harg11 hc0 x0 x1 x2 x3 x4 x5 xo8 xo10 (ix2 p q) = xo10 (ix2 p q) + ∑ k : Fin 64, dgRow x0 x1 x2 x3 x4 x5 ⟨k.val * 8 + p.val, by omega⟩ q := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 xo8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread]
  simp only [k0_pay16]
  pointwise [k0_pay1, k0_pay2, k0_pay3, k0_pay4, k0_pay17, k0_pay18, k0_pay19, k0_pay20, k0_pay21, k0_pay22, k0_pay23]
  simp only [upd_eq, sqRow, dgRow, cot, errRow, err, rstd] <;> rfl

end

end Cert.Kernel10Ideal.Forward

end
-- ==== Proof.Loss.lean ====
/-
  The forward MLP call with the loss, at the ideal instance: its five output arrays as functions of its arguments, the
  reference's five results token by token, and the value claim that they are the same.
-/
module

public import proofs.«01_k».proof.Defs
public import proofs.«01_k».proof.Proof.LossT
public import proofs.«01_k».proof.Proof.MlpArray
public import proofs.«01_k».proof.Proof.Gen.Reference10Ideal.Run
public import proofs.«01_k».proof.Proof.Gen.Reference10Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Forward

open Cert.Kernel10Ideal Cert.Kernel10Ideal.Gen Cert.Mlp

section
variable (x0 : FVec Ideal S16384x1024 .f32) (x1 : FVec Ideal S1x1024 .f32) (x2 : FVec Ideal S1024x4096 .bf16) (x3 : FVec Ideal S4096x1024 .bf16)
  (x4 : FVec Ideal S1x1024 .f32) (x5 : FVec Ideal S16384x1024 .f32)

def hidTok (p : Fin 16384) (q : Fin 1024) : EReal := hid (fun d => x0 (ix2 p d)) (fun d => x1 (ix2 0 d)) q

def zedTok (p : Fin 16384) (f : Fin 4096) : EReal := zed (fun d => x0 (ix2 p d)) (fun d => x1 (ix2 0 d)) (fun d f => x2 (ix2 d f)) f

def nextTok (p : Fin 16384) : Fin 1024 → EReal :=
  next (fun d => x0 (ix2 p d)) (fun d => x1 (ix2 0 d)) (fun d f => x2 (ix2 d f)) (fun f d => x3 (ix2 f d))

def errTok (p : Fin 16384) : Fin 1024 → EReal := err (nextTok x0 x1 x2 x3 p) (fun d => x4 (ix2 0 d)) fun d => x5 (ix2 p d)

/-- Token `p`'s gradient at the residual stream. -/
def dxTok (p : Fin 16384) : Fin 1024 → EReal := dx (nextTok x0 x1 x2 x3 p) (fun d => x4 (ix2 0 d)) (cot (errTok x0 x1 x2 x3 x4 x5 p))

/-- Token `p`'s part of the last norm weight's gradient. -/
def dgTok (p : Fin 16384) (q : Fin 1024) : EReal :=
  cot (errTok x0 x1 x2 x3 x4 x5 p) q * (nextTok x0 x1 x2 x3 p q * rstd (nextTok x0 x1 x2 x3 p))

def sqTok (p : Fin 16384) (q : Fin 1024) : EReal := errTok x0 x1 x2 x3 x4 x5 p q * errTok x0 x1 x2 x3 x4 x5 p q

/-- The norm's output. -/
def hidArr : FVec Ideal S16384x1024 .bf16 := fun i => hidTok x0 x1 (i 0) (i 1)

/-- The hidden layer before the activation. -/
def zedArr : FVec Ideal S16384x4096 .bf16 := fun i => zedTok x0 x1 x2 (i 0) (i 1)

/-- The residual stream's gradient. -/
def dxArr : FVec Ideal S16384x1024 .f32 := fun i => dxTok x0 x1 x2 x3 x4 x5 (i 0) (i 1)

end

variable (m : (ℓ : Loc nD τ sig) → Buf (Elt Ideal) ℓ)

/-- Where each window's block of point `t` sits. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, 0] ∧ win0_9.index t = ![t.val, 0] ∧ win0_10.index t = ![0, 0] ∧ t.val < 32 :=
  (by decide +kernel : ∀ t : Fin grid0.N, _)

theorem hid_blk (c : Dev nD) (t : Fin cfg0.N) (y : S512x1024.Idx) :
    hidRow (iblk m c 0 t) (iblk m c 1 t) (y 0) (y 1) = hidArr (m ((c.tc : Thread nD τ).loc main_arg0)) (m ((c.tc : Thread nD τ).loc main_arg1)) (((cfg0.win 6).blk t).view.emb y) := by
  simp only [hidArr, hidTok, hidRow, hid, rstd]
  blk_point [iblk, V, idx t]

theorem zed_blk (c : Dev nD) (t : Fin cfg0.N) (y : S512x4096.Idx) :
    zedRow (iblk m c 0 t) (iblk m c 1 t) (iblk m c 2 t) (y 0) (y 1) = zedArr (m ((c.tc : Thread nD τ).loc main_arg0)) (m ((c.tc : Thread nD τ).loc main_arg1)) (m ((c.tc : Thread nD τ).loc main_arg2)) (((cfg0.win 7).blk t).view.emb y) := by
  simp only [zedArr, zedTok, zedRow, zed, hid, rstd]
  blk_point [iblk, V, idx t]

theorem next_blk (c : Dev nD) (t : Fin cfg0.N) (p : Fin 512) (P : Fin 16384) (hP : P.val = t.val * 512 + p.val) (q : Fin 1024) :
    nextRow (iblk m c 0 t) (iblk m c 1 t) (iblk m c 2 t) (iblk m c 3 t) p q = nextTok (m ((c.tc : Thread nD τ).loc main_arg0)) (m ((c.tc : Thread nD τ).loc main_arg1)) (m ((c.tc : Thread nD τ).loc main_arg2)) (m ((c.tc : Thread nD τ).loc main_arg3)) P q := by
  simp only [nextTok, nextRow, next, act, zed, hid, rstd]
  blk_point [iblk, V, idx t, hP]

theorem gf_blk (c : Dev nD) (t : Fin cfg0.N) (q : Fin 1024) :
    (iblk m c 4 t : FVec Ideal S1x1024 .f32) (ix2 0 q) = ((m ((c.tc : Thread nD τ).loc main_arg4)) : FVec Ideal S1x1024 .f32) (ix2 0 q) := by
  blk_point [iblk, V, idx t]

theorem target_blk (c : Dev nD) (t : Fin cfg0.N) (p : Fin 512) (P : Fin 16384) (hP : P.val = t.val * 512 + p.val) (q : Fin 1024) :
    (iblk m c 5 t : FVec Ideal S512x1024 .f32) (ix2 p q) = ((m ((c.tc : Thread nD τ).loc main_arg5)) : FVec Ideal S16384x1024 .f32) (ix2 P q) := by
  blk_point [iblk, V, idx t, hP]

theorem err_blk (c : Dev nD) (t : Fin cfg0.N) (p : Fin 512) (P : Fin 16384) (hP : P.val = t.val * 512 + p.val) :
    errRow (iblk m c 0 t) (iblk m c 1 t) (iblk m c 2 t) (iblk m c 3 t) (iblk m c 4 t) (iblk m c 5 t) p = errTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) P := by
  rw [errRow, errTok, funext (next_blk m c t p P hP), funext (gf_blk m c t), funext (target_blk m c t p P hP)]

theorem dxRow_blk (c : Dev nD) (t : Fin cfg0.N) (p : Fin 512) (P : Fin 16384) (hP : P.val = t.val * 512 + p.val) :
    dxRow (iblk m c 0 t) (iblk m c 1 t) (iblk m c 2 t) (iblk m c 3 t) (iblk m c 4 t) (iblk m c 5 t) p = dxTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) P := by
  rw [dxRow, dxTok, err_blk m c t p P hP, funext (next_blk m c t p P hP), funext (gf_blk m c t)]

theorem dgRow_blk (c : Dev nD) (t : Fin cfg0.N) (p : Fin 512) (P : Fin 16384) (hP : P.val = t.val * 512 + p.val) (q : Fin 1024) :
    dgRow (iblk m c 0 t) (iblk m c 1 t) (iblk m c 2 t) (iblk m c 3 t) (iblk m c 4 t) (iblk m c 5 t) p q = dgTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) P q := by
  rw [dgRow, dgTok, err_blk m c t p P hP, funext (next_blk m c t p P hP)]

theorem sqRow_blk (c : Dev nD) (t : Fin cfg0.N) (p : Fin 512) (P : Fin 16384) (hP : P.val = t.val * 512 + p.val) (q : Fin 1024) :
    sqRow (iblk m c 0 t) (iblk m c 1 t) (iblk m c 2 t) (iblk m c 3 t) (iblk m c 4 t) (iblk m c 5 t) p q = sqTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) P q := by
  rw [sqRow, sqTok, err_blk m c t p P hP]

theorem dx_blk (c : Dev nD) (t : Fin cfg0.N) (y : S512x1024.Idx) :
    dxRow (iblk m c 0 t) (iblk m c 1 t) (iblk m c 2 t) (iblk m c 3 t) (iblk m c 4 t) (iblk m c 5 t) (y 0) (y 1) = dxArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 9).blk t).view.emb y) := by
  have h0 : ((((cfg0.win 9).blk t).view.emb y) 0).val = t.val * 512 + (y 0).val := by blk_point [idx t]
  have h1 : (((cfg0.win 9).blk t).view.emb y) 1 = y 1 := Fin.ext (by blk_point [idx t])
  rw [dxArr, dxRow_blk m c t (y 0) _ h0, h1]

/-- What point `t` leaves in the outputs written whole at each point. -/
theorem left_hid (c : Dev nD) (t : Fin cfg0.N) (p : Fin 512) (q : Fin 1024) :
    (outsAt0 m c t.val t.isLt).1 (ix2 p q) = hidRow (iblk m c 0 t) (iblk m c 1 t) p q := by
  by_cases h : t.val % 32 = 0
  · rw [outsAt0_A m c t h]
    dsimp only
    rw [out6_A]
  · rw [outsAt0_B m c t h]
    dsimp only
    rw [out6_B]

theorem left_zed (c : Dev nD) (t : Fin cfg0.N) (y : S512x4096.Idx) :
    (outsAt0 m c t.val t.isLt).2.1 y = zedRow (iblk m c 0 t) (iblk m c 1 t) (iblk m c 2 t) (y 0) (y 1) := by
  by_cases h : t.val % 32 = 0
  · rw [outsAt0_A m c t h]
    dsimp only
    rw [out7_A]
  · rw [outsAt0_B m c t h]
    dsimp only
    rw [out7_B]

theorem left_dx (c : Dev nD) (t : Fin cfg0.N) (p : Fin 512) (q : Fin 1024) :
    (outsAt0 m c t.val t.isLt).2.2.2.1 (ix2 p q) = dxRow (iblk m c 0 t) (iblk m c 1 t) (iblk m c 2 t) (iblk m c 3 t) (iblk m c 4 t) (iblk m c 5 t) p q := by
  by_cases h : t.val % 32 = 0
  · rw [outsAt0_A m c t h]
    dsimp only
    rw [out9_A]
  · rw [outsAt0_B m c t h]
    dsimp only
    rw [out9_B]

theorem final_hid (c : Dev nD) : (dats m 0 c).arrAt 6 cfg0.N = hidArr (m ((c.tc : Thread nD τ).loc main_arg0)) (m ((c.tc : Thread nD τ).loc main_arg1)) := by
  refine (dats m 0 c).arrAt_eq_of_covers 6 _ (by decide +kernel) fun t _ y => ?_
  refine Eq.trans ?_ (hid_blk m c t y)
  blk_simp
  rw [after0_6]
  exact (congrArg (outsAt0 m c t.val t.isLt).1 (ix2_eta y).symm).trans (left_hid m c t (y 0) (y 1))

theorem final_zed (c : Dev nD) : (dats m 0 c).arrAt 7 cfg0.N = zedArr (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  refine Eq.trans ?_ (zed_blk m c t y)
  blk_simp
  rw [after0_7]
  exact left_zed m c t y

theorem final_dx (c : Dev nD) : (dats m 0 c).arrAt 9 cfg0.N = dxArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 9 _ (by decide +kernel) fun t _ y => ?_
  refine Eq.trans ?_ (dx_blk m c t y)
  blk_simp
  rw [after0_9]
  exact (congrArg (outsAt0 m c t.val t.isLt).2.2.2.1 (ix2_eta y).symm).trans (left_dx m c t (y 0) (y 1))

/-- The first point leaves its own rows' parts in the accumulators. -/
theorem lacc_first (c : Dev nD) (t : Fin cfg0.N) (h : t.val % 32 = 0) (s : Fin 8) (q : Fin 1024) :
    (outsAt0 m c t.val t.isLt).2.2.1 (ix2 s q)
      = 0 + (∑ k : Fin 64, sqRow (iblk m c 0 t) (iblk m c 1 t) (iblk m c 2 t) (iblk m c 3 t) (iblk m c 4 t) (iblk m c 5 t) ⟨k.val * 8 + s.val, by omega⟩ q) * halfInv := by
  rw [outsAt0_A m c t h]
  dsimp only
  rw [out8_A]

theorem gacc_first (c : Dev nD) (t : Fin cfg0.N) (h : t.val % 32 = 0) (s : Fin 8) (q : Fin 1024) :
    (outsAt0 m c t.val t.isLt).2.2.2.2 (ix2 s q)
      = 0 + ∑ k : Fin 64, dgRow (iblk m c 0 t) (iblk m c 1 t) (iblk m c 2 t) (iblk m c 3 t) (iblk m c 4 t) (iblk m c 5 t) ⟨k.val * 8 + s.val, by omega⟩ q := by
  rw [outsAt0_A m c t h]
  dsimp only
  rw [out10_A]

/-- Every other point adds its rows' parts to what it finds. -/
theorem lacc_next (c : Dev nD) (t : Fin cfg0.N) (h : ¬t.val % 32 = 0) (s : Fin 8) (q : Fin 1024) :
    (outsAt0 m c t.val t.isLt).2.2.1 (ix2 s q)
      = (outsAt0 m c (t.val - 1) (Nat.lt_of_le_of_lt (Nat.sub_le _ _) t.isLt)).2.2.1 (ix2 s q)
        + (∑ k : Fin 64, sqRow (iblk m c 0 t) (iblk m c 1 t) (iblk m c 2 t) (iblk m c 3 t) (iblk m c 4 t) (iblk m c 5 t) ⟨k.val * 8 + s.val, by omega⟩ q) * halfInv := by
  rw [outsAt0_B m c t h]
  dsimp only
  rw [out8_B]

theorem gacc_next (c : Dev nD) (t : Fin cfg0.N) (h : ¬t.val % 32 = 0) (s : Fin 8) (q : Fin 1024) :
    (outsAt0 m c t.val t.isLt).2.2.2.2 (ix2 s q)
      = (outsAt0 m c (t.val - 1) (Nat.lt_of_le_of_lt (Nat.sub_le _ _) t.isLt)).2.2.2.2 (ix2 s q)
        + ∑ k : Fin 64, dgRow (iblk m c 0 t) (iblk m c 1 t) (iblk m c 2 t) (iblk m c 3 t) (iblk m c 4 t) (iblk m c 5 t) ⟨k.val * 8 + s.val, by omega⟩ q := by
  rw [outsAt0_B m c t h]
  dsimp only
  rw [out10_B]

/-- The last grid point. -/
def tLast : Fin cfg0.N := ⟨31, lt_of_lt_of_eq (by decide) N_0.symm⟩

theorem lacc_eq (c : Dev nD) (s : Fin 8) (q : Fin 1024) :
    (outsAt0 m c tLast.val tLast.isLt).2.2.1 (ix2 s q)
      = ∑ t : Fin 32, ∑ k : Fin 64, sqTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨t.val * 512 + (k.val * 8 + s.val), by omega⟩ q * halfInv := by
  have e := Pipeline.eq_sum_fin_of_reset_step_last (fun n h => (outsAt0 m c n h).2.2.1 (ix2 s q)) 32 (0 : EReal)
    (fun t => (∑ k : Fin 64, sqRow (iblk m c 0 t) (iblk m c 1 t) (iblk m c 2 t) (iblk m c 3 t) (iblk m c 4 t) (iblk m c 5 t) ⟨k.val * 8 + s.val, by omega⟩ q) * halfInv)
    (fun t h => lacc_first m c t h s q) (fun t h => lacc_next m c t h s q) (le_of_eq N_0) tLast rfl
  refine e.trans ((zero_add _).trans ?_)
  refine Finset.sum_congr rfl fun t _ => ?_
  rw [halfInv_eq, sum_mul_coe _ (by norm_num)]
  exact Finset.sum_congr rfl fun k _ => congrArg (· * _) (sqRow_blk m c t _ _ rfl q)

theorem gacc_eq (c : Dev nD) (s : Fin 8) (q : Fin 1024) :
    (outsAt0 m c tLast.val tLast.isLt).2.2.2.2 (ix2 s q)
      = ∑ t : Fin 32, ∑ k : Fin 64, dgTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨t.val * 512 + (k.val * 8 + s.val), by omega⟩ q := by
  have e := Pipeline.eq_sum_fin_of_reset_step_last (fun n h => (outsAt0 m c n h).2.2.2.2 (ix2 s q)) 32 (0 : EReal)
    (fun t => ∑ k : Fin 64, dgRow (iblk m c 0 t) (iblk m c 1 t) (iblk m c 2 t) (iblk m c 3 t) (iblk m c 4 t) (iblk m c 5 t) ⟨k.val * 8 + s.val, by omega⟩ q)
    (fun t h => gacc_first m c t h s q) (fun t h => gacc_next m c t h s q) (le_of_eq N_0) tLast rfl
  refine e.trans ((zero_add _).trans ?_)
  exact Finset.sum_congr rfl fun t _ => Finset.sum_congr rfl fun k _ => dgRow_blk m c t _ _ rfl q

/-- The accumulators' arrays after the run. -/
theorem final_lacc (c : Dev nD) : (dats m 0 c).arrAt 8 cfg0.N
    = ((outsAt0 m c tLast.val tLast.isLt).2.2.1 : FVec Ideal S8x1024 .f32) := by
  refine (dats m 0 c).arrAt_eq_of_after_last 8 tLast (by decide +kernel) _ fun j => ?_
  blk_simp
  rw [after0_8]

theorem final_gacc (c : Dev nD) : (dats m 0 c).arrAt 10 cfg0.N
    = ((outsAt0 m c tLast.val tLast.isLt).2.2.2.2 : FVec Ideal S8x1024 .f32) := by
  refine (dats m 0 c).arrAt_eq_of_after_last 10 tLast (by decide +kernel) _ fun j => ?_
  blk_simp
  rw [after0_10]

/-- The host's sum of the gradient's eight rows. -/
theorem final_dg (c : Dev nD) (q : Fin 1024) :
    Pipeline.afterTail₀ cfgs (dats m) 0 (V0 m) [hostOps1] c main_v3 (ix1 q) = ∑ p, dgTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q := by
  have hw := Pipeline.withArrays_arr (τ := τ) cfg0.spec (by decide) c (V0 m c) (fun w => (dats m 0 c).arrAt w cfg0.N) 10
  have e : Pipeline.afterTail₀ cfgs (dats m) 0 (V0 m) [hostOps1] c main_v3
      = Host.reduceAdd (F := Ideal) (s := S8x1024) (φ := .f32) ((dats m 0 c).arrAt 10 cfg0.N) (constant S_ .f32 0x00000000#32) reducesTo_S8x1024_S1024_d0 h_S_ := by
    rw [← hw]
    unfold Pipeline.afterTail₀
    after_results
    rfl
  rw [e, final_gacc]
  pointwise
  simp only [gacc_eq]
  exact Cert.KernelIdeal.Arrays.acc_total fun p => dgTok _ _ _ _ _ _ p q

/-- Summing both axes of eight accumulated rows sums every token's row. -/
theorem total_swap (F : Fin 16384 → Fin 1024 → EReal) :
    ∑ s : Fin 8, ∑ q : Fin 1024, ∑ t : Fin 32, ∑ k : Fin 64, F ⟨t.val * 512 + (k.val * 8 + s.val), by omega⟩ q = ∑ p, ∑ q, F p q := by
  rw [Finset.sum_comm]
  refine Eq.trans (Finset.sum_congr rfl fun q _ => ?_) Finset.sum_comm
  exact Cert.KernelIdeal.Arrays.acc_total fun p => F p q

/-- The host's sum of the whole loss accumulator. -/
theorem final_loss (c : Dev nD) :
    Pipeline.afterTail₀ cfgs (dats m) 0 (V0 m) [hostOps1] c main_v2 (ix1 0) = ∑ p, ∑ q, sqTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q * halfInv := by
  have hw := Pipeline.withArrays_arr (τ := τ) cfg0.spec (by decide) c (V0 m c) (fun w => (dats m 0 c).arrAt w cfg0.N) 8
  have e : Pipeline.afterTail₀ cfgs (dats m) 0 (V0 m) [hostOps1] c main_v2
      = shapeCast S1 (Host.reduceAdd (F := Ideal) (s := S8x1024) (φ := .f32) ((dats m 0 c).arrAt 8 cfg0.N) (constant S_ .f32 0x00000000#32) reducesTo_S8x1024_S_d0_1 h_S_) shapeCasts_S_S1 := by
    rw [← hw]
    unfold Pipeline.afterTail₀
    after_results
    rfl
  rw [e, final_lacc]
  pointwise
  simp only [lacc_eq]
  exact total_swap fun p q => sqTok _ _ _ _ _ _ p q * halfInv

section
open Cert.Reference10Ideal.Read
variable (x0 : FVec Ideal S16384x1024 .f32) (x1 : FVec Ideal S1x1024 .f32) (x2 : FVec Ideal S1024x4096 .bf16) (x3 : FVec Ideal S4096x1024 .bf16)
  (x4 : FVec Ideal S1x1024 .f32) (x5 : FVec Ideal S16384x1024 .f32)

/-- The reference's norm. -/
theorem ref_hid (p : Fin 16384) (q : Fin 1024) : val_main_v15 (F := Ideal) x0 x1 (ix2 p q) = hidTok x0 x1 p q := by
  pointwise [val_main_v15, val_main_v14, val_main_v13, val_main_v12, val_main_v11, val_main_v10, val_main_v9, val_main_v8, val_main_v7, val_main_v6, val_main_v5, val_main_v4, val_main_v3, val_main_v0, val_main_cst, val_main_cst_0, val_main_cst_1]
  simp only [hidTok, hid, rstd] <;> rfl

/-- The reference's hidden layer. -/
theorem ref_zed (p : Fin 16384) (f : Fin 4096) : val_main_v16 (F := Ideal) x0 x1 x2 (ix2 p f) = zedTok x0 x1 x2 p f := by
  pointwise [val_main_v16, val_main_v1]
  rw [zedTok, zed]
  exact Finset.sum_congr rfl fun d _ => by rw [ref_hid]; rfl

theorem ref_next (p : Fin 16384) (q : Fin 1024) : val_main_v20 (F := Ideal) x0 x1 x2 x3 (ix2 p q) = nextTok x0 x1 x2 x3 p q := by
  pointwise [val_main_v20, val_main_v19, val_main_v18, val_main_v17, val_main_v2, val_main_call0_v0, val_main_call0_cst]
  simp only [ref_zed]
  rfl

/-- The reference's reciprocal root of the mean square, and its radicand. -/
theorem ref_msq (p : Fin 16384) : val_main_v28 (F := Ideal) x0 x1 x2 x3 (ix2 p 0) = msq (nextTok x0 x1 x2 x3 p) := by
  pointwise [val_main_v28, val_main_v27, val_main_v26, val_main_v25, val_main_v24, val_main_v23, val_main_v22, val_main_cst_2, val_main_cst_3, val_main_cst_4]
  simp only [ref_next]
  rfl

theorem ref_rstd (p : Fin 16384) : val_main_v29 (F := Ideal) x0 x1 x2 x3 (ix2 p 0) = rstd (nextTok x0 x1 x2 x3 p) := by
  pointwise [val_main_v29]
  rw [ref_msq]; rfl

theorem ref_err (p : Fin 16384) (q : Fin 1024) : val_main_v38 (F := Ideal) x0 x1 x2 x3 x4 x5 (ix2 p q) = errTok x0 x1 x2 x3 x4 x5 p q := by
  pointwise [val_main_v38, val_main_v37, val_main_v36, val_main_v35, val_main_v34, val_main_v33, val_main_v21]
  rw [ref_next, ref_rstd]; rfl

theorem ref_cot (p : Fin 16384) (q : Fin 1024) : val_main_v52 (F := Ideal) x0 x1 x2 x3 x4 x5 (ix2 p q) = cot (errTok x0 x1 x2 x3 x4 x5 p) q := by
  pointwise [val_main_v52, val_main_v51, val_main_v50, val_main_v49, val_main_v48, val_main_v47, val_main_v41, val_main_v40, val_main_cst_6, val_main_cst_11, val_main_cst_12, val_main_cst_13]
  rw [ref_err, cot, ← cot_chain]

theorem ref_dx (p : Fin 16384) (q : Fin 1024) : val_main_v72 (F := Ideal) x0 x1 x2 x3 x4 x5 (ix2 p q) = dxTok x0 x1 x2 x3 x4 x5 p q := by
  rw [dxTok, ← dx_chain]
  pointwise [val_main_v72, val_main_v71, val_main_v70, val_main_v69, val_main_v68, val_main_v67, val_main_v66, val_main_v65, val_main_v64, val_main_v63, val_main_v62, val_main_v61, val_main_v60, val_main_v59, val_main_v57, val_main_v56, val_main_v35, val_main_v21, val_main_v33, val_main_v32, val_main_v31, val_main_v30, val_main_cst_5, val_main_cst_16, val_main_cst_17, val_main_cst_18]
  simp only [Fin.sum_univ_one, ref_cot, ref_next, ref_rstd, ref_msq]

theorem ref_dg (q : Fin 1024) : val_main_v58 (F := Ideal) x0 x1 x2 x3 x4 x5 (ix1 q) = ∑ p, dgTok x0 x1 x2 x3 x4 x5 p q := by
  pointwise [val_main_v58, val_main_v55, val_main_v54, val_main_v53, val_main_v34, val_main_v33, val_main_cst_14, val_main_cst_15]
  simp only [Fin.sum_univ_one, ref_cot, ref_next, ref_rstd]
  exact Finset.sum_congr rfl fun p _ => by rw [dgTok, mul_comm]

theorem ref_loss : val_main_v75 (F := Ideal) x0 x1 x2 x3 x4 x5 (ix1 0) = ∑ p, ∑ q, sqTok x0 x1 x2 x3 x4 x5 p q * halfInv := by
  rw [← loss_sum]
  pointwise [val_main_v75, val_main_v46, val_main_v45, val_main_v44, val_main_v43, val_main_v42, val_main_v39, val_main_cst_7, val_main_cst_8, val_main_cst_9, val_main_cst_10]
  simp only [ref_err]
  rfl

end

theorem algebraic : Cert.algebraic_Kernel10Ideal_Reference10Ideal := by
  pair_intro
  · run_from Cert.Kernel10Ideal.Gen.run_main m g
  · refine (θ_run _ _ _).mono (fun r h c => ?_) (Cert.Reference10Ideal.Value.run m' g')
    obtain ⟨h0, h1, h2, h3, h4, h5⟩ := hagree c
    refine ⟨(h c).1.trans ?_, (h c).2.1.trans ?_, (h c).2.2.1.trans ?_, (h c).2.2.2.1.trans ?_, (h c).2.2.2.2.1.trans ?_, (h c).2.2.2.2.2⟩
    · refine (Cert.Reference10Ideal.Read.val_main_v73_eq ..).trans (Eq.trans ?_ (final_hid m c).symm)
      rw [h0, h1]
      refine funext fun i => ?_
      pointwise [Cert.Reference10Ideal.Read.val_main_v73]
      exact (congrArg _ (ix2_eta i).symm).trans (ref_hid _ _ (i 0) (i 1))
    · refine (Cert.Reference10Ideal.Read.val_main_v74_eq ..).trans (Eq.trans ?_ (final_zed m c).symm)
      rw [h0, h1, h2]
      refine funext fun i => ?_
      pointwise [Cert.Reference10Ideal.Read.val_main_v74]
      exact (congrArg _ (ix2_eta i).symm).trans (ref_zed _ _ _ (i 0) (i 1))
    · refine (Cert.Reference10Ideal.Read.val_main_v75_eq ..).trans ?_
      rw [h0, h1, h2, h3, h4, h5]
      funext i
      rw [← ix1_eta i, show i 0 = (0 : Fin 1) from Subsingleton.elim (α := Fin 1) _ _]
      exact (ref_loss ..).trans (final_loss m c).symm
    · refine (Cert.Reference10Ideal.Read.val_main_v72_eq ..).trans (Eq.trans ?_ (final_dx m c).symm)
      rw [h0, h1, h2, h3, h4, h5]
      refine funext fun i => ?_
      exact (congrArg _ (ix2_eta i).symm).trans (ref_dx _ _ _ _ _ _ (i 0) (i 1))
    · refine (Cert.Reference10Ideal.Read.val_main_v58_eq ..).trans ?_
      rw [h0, h1, h2, h3, h4, h5]
      funext i
      rw [← ix1_eta i]
      exact (ref_dg ..).trans (final_dg m c (i 0)).symm

theorem frame_reference : Cert.quiescent_Reference10Ideal := by
  intro m g _
  exact (θ_run Cert.Reference10Ideal.defs _ _).mono
    (fun r h => ⟨fun c => (h c).2.2.2.2.2, sem_eq_zero_of_no_sems (by decide) r.2⟩) (Cert.Reference10Ideal.Value.run (F := Ideal) m g)

end Cert.Kernel10Ideal.Forward

end
-- ==== Proof.Merge.lean ====
/-
  The forward merge call at the ideal instance: both branch products, gated by the sigmoid of their halves of the
  input, summed and multiplied into the residual stream, block by block, against the same formulas on whole arrays.
-/
module

public import proofs.«01_k».proof.Defs
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Forward

open Cert.Kernel11Ideal Cert.Kernel11Ideal.Gen

theorem hz : (![0, 0] : Fin 2 → Nat) = fun _ => 0 := funext fun a => by fin_cases a <;> rfl

/-- The sigmoid gate. -/
def gate (v : EReal) : EReal := Ideal.div 1 (1 + Ideal.exp (-v))

/-- One token's merged row at column `k`: the attention branch and the convolution branch behind their gates. -/
def mix (a u : Fin 512 → EReal) (ga gc : Fin 1024 → EReal) (wa wc : Fin 512 → Fin 1024 → EReal) (bc : Fin 1024 → EReal) (k : Fin 1024) : EReal :=
  gate (ga k) * (∑ d, a d * wa d k) + gate (gc k) * (∑ d, u d * wc d k + bc k)

/-- The residual stream after the output product, column `q`. -/
def after (x r : Fin 1024 → EReal) (wo : Fin 1024 → Fin 1024 → EReal) (q : Fin 1024) : EReal := x q + ∑ k, r k * wo k q

section
variable (x0 x1 : Vec Ideal S512x512 .bf16) (x2 x3 : Vec Ideal S512x1024 .bf16) (x4 : Vec Ideal S512x1024 .f32)
  (x5 x6 : Vec Ideal S512x1024 .bf16) (x7 : Vec Ideal S1x1024 .f32) (x8 : Vec Ideal S1024x1024 .bf16)

def mixRow (p : Fin 512) : Fin 1024 → EReal :=
  mix (fun d => x0 (ix2 p d)) (fun d => x1 (ix2 p d)) (fun d => x2 (ix2 p d)) (fun d => x3 (ix2 p d)) (fun d k => x5 (ix2 d k)) (fun d k => x6 (ix2 d k)) fun d => x7 (ix2 0 d)

def afterRow (p : Fin 512) : Fin 1024 → EReal :=
  after (fun d => x4 (ix2 p d)) (mixRow x0 x1 x2 x3 x5 x6 x7 p) fun d k => x8 (ix2 d k)

theorem out9 (p : Fin 512) (q : Fin 1024) : out0_9 x0 x1 x2 x3 x4 x5 x6 x7 x8 (ix2 p q) = mixRow x0 x1 x2 x3 x5 x6 x7 p q := by
  unfold out0_9
  rw [View.canon_unit_zero hz]
  pointwise [k0_pay2]
  simp only [mixRow, mix, gate, zero_sub] <;> rfl

theorem out10 (p : Fin 512) (q : Fin 1024) : out0_10 x0 x1 x2 x3 x4 x5 x6 x7 x8 (ix2 p q) = afterRow x0 x1 x2 x3 x4 x5 x6 x7 x8 p q := by
  unfold out0_10
  rw [View.canon_unit_zero hz]
  pointwise [k0_pay1, k0_pay2]
  simp only [afterRow, after, mixRow, mix, gate, zero_sub] <;> rfl

end

section
variable (x0 x1 : FVec Ideal S16384x512 .bf16) (x2 : FVec Ideal S16384x3072 .bf16) (x3 : FVec Ideal S16384x1024 .f32)
  (x4 x5 : FVec Ideal S512x1024 .bf16) (x6 : FVec Ideal S1x1024 .f32) (x7 : FVec Ideal S1024x1024 .bf16)

def mixTok (p : Fin 16384) : Fin 1024 → EReal :=
  mix (fun d => x0 (ix2 p d)) (fun d => x1 (ix2 p d)) (fun d => x2 (ix2 p ⟨1024 + d.val, by omega⟩)) (fun d => x2 (ix2 p ⟨2048 + d.val, by omega⟩))
    (fun d k => x4 (ix2 d k)) (fun d k => x5 (ix2 d k)) fun d => x6 (ix2 0 d)

def afterTok (p : Fin 16384) : Fin 1024 → EReal :=
  after (fun d => x3 (ix2 p d)) (mixTok x0 x1 x2 x4 x5 x6 p) fun d k => x7 (ix2 d k)

/-- The merged rows. -/
def mixArr : FVec Ideal S16384x1024 .bf16 := fun i => mixTok x0 x1 x2 x4 x5 x6 (i 0) (i 1)

/-- The residual stream after the output product. -/
def afterArr : FVec Ideal S16384x1024 .f32 := fun i => afterTok x0 x1 x2 x3 x4 x5 x6 x7 (i 0) (i 1)

end

variable (m : (ℓ : Loc nD τ sig) → Buf (Elt Ideal) ℓ)

/-- Where each window's block of point `t` sits. -/
theorem idx : ∀ t : Fin cfg0.N, win0_0.index t = ![t.val, 0] ∧ win0_1.index t = ![t.val, 0] ∧ win0_2.index t = ![t.val, 1]
    ∧ win0_3.index t = ![t.val, 2] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0] ∧ t.val < 32 :=
  (by decide +kernel : ∀ t : Fin grid0.N, _)

theorem mix_blk (c : Dev nD) (t : Fin cfg0.N) (y : S512x1024.Idx) :
    mixRow (iblk m c 0 t) (iblk m c 1 t) (iblk m c 2 t) (iblk m c 3 t) (iblk m c 5 t) (iblk m c 6 t) (iblk m c 7 t) (y 0) (y 1)
      = mixArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (((cfg0.win 9).blk t).view.emb y) := by
  simp only [mixArr, mixTok, mixRow, mix, gate]
  blk_point [iblk, V, idx t]

theorem after_blk (c : Dev nD) (t : Fin cfg0.N) (y : S512x1024.Idx) :
    afterRow (iblk m c 0 t) (iblk m c 1 t) (iblk m c 2 t) (iblk m c 3 t) (iblk m c 4 t) (iblk m c 5 t) (iblk m c 6 t) (iblk m c 7 t) (iblk m c 8 t) (y 0) (y 1) = afterArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 10).blk t).view.emb y) := by
  simp only [afterArr, afterTok, afterRow, after, mixTok, mixRow, mix, gate]
  blk_point [iblk, V, idx t]

theorem final_mix (c : Dev nD) : (dats m 0 c).arrAt 9 cfg0.N = mixArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (dats m 0 c).arrAt_eq_of_covers 9 _ (by decide +kernel) fun t _ y => ?_
  refine Eq.trans ?_ (mix_blk m c t y)
  blk_simp
  rw [after0_9]
  exact (congrArg (out0_9 (iblk m c 0 t) (iblk m c 1 t) (iblk m c 2 t) (iblk m c 3 t) (iblk m c 4 t) (iblk m c 5 t) (iblk m c 6 t) (iblk m c 7 t) (iblk m c 8 t)) (ix2_eta y).symm).trans (out9 _ _ _ _ _ _ _ _ _ (y 0) (y 1))

theorem final_after (c : Dev nD) : (dats m 0 c).arrAt 10 cfg0.N = afterArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 10 _ (by decide +kernel) fun t _ y => ?_
  refine Eq.trans ?_ (after_blk m c t y)
  blk_simp
  rw [after0_10]
  exact (congrArg (out0_10 (iblk m c 0 t) (iblk m c 1 t) (iblk m c 2 t) (iblk m c 3 t) (iblk m c 4 t) (iblk m c 5 t) (iblk m c 6 t) (iblk m c 7 t) (iblk m c 8 t)) (ix2_eta y).symm).trans (out10 _ _ _ _ _ _ _ _ _ (y 0) (y 1))

section
open Cert.Reference11Ideal.Read
variable (x0 x1 : FVec Ideal S16384x512 .bf16) (x2 : FVec Ideal S16384x3072 .bf16) (x3 : FVec Ideal S16384x1024 .f32)
  (x4 x5 : FVec Ideal S512x1024 .bf16) (x6 : FVec Ideal S1x1024 .f32) (x7 : FVec Ideal S1024x1024 .bf16)

theorem ref_mix (p : Fin 16384) (q : Fin 1024) : val_main_v27 (F := Ideal) x0 x1 x2 x4 x5 x6 (ix2 p q) = mixTok x0 x1 x2 x4 x5 x6 p q := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [mixTok, mix, gate] <;> rfl

theorem ref_after (p : Fin 16384) (q : Fin 1024) : val_main_v31 (F := Ideal) x0 x1 x2 x3 x4 x5 x6 x7 (ix2 p q) = afterTok x0 x1 x2 x3 x4 x5 x6 x7 p q := by
  pointwise [val_main_v31, val_main_v30, val_main_v29]
  simp only [ref_mix]
  rfl

end

theorem algebraic : Cert.algebraic_Kernel11Ideal_Reference11Ideal := by
  pair_intro
  · run_from Cert.Kernel11Ideal.Gen.run_main m g
  · refine (θ_run _ _ _).mono (fun r h c => ?_) (Cert.Reference11Ideal.Value.run m' g')
    obtain ⟨h0, h1, h2, h3, h4, h5, h6, h7⟩ := hagree c
    refine ⟨(h c).1.trans ?_, (h c).2.1.trans ?_, (h c).2.2⟩
    · refine (Cert.Reference11Ideal.Read.val_main_v28_eq ..).trans (Eq.trans ?_ (final_mix m c).symm)
      rw [h0, h1, h2, h4, h5, h6]
      refine funext fun i => ?_
      pointwise [Cert.Reference11Ideal.Read.val_main_v28]
      exact (congrArg _ (ix2_eta i).symm).trans (ref_mix _ _ _ _ _ _ (i 0) (i 1))
    · refine (Cert.Reference11Ideal.Read.val_main_v31_eq ..).trans (Eq.trans ?_ (final_after m c).symm)
      rw [h0, h1, h2, h3, h4, h5, h6, h7]
      refine funext fun i => ?_
      exact (congrArg _ (ix2_eta i).symm).trans (ref_after _ _ _ _ _ _ _ _ (i 0) (i 1))

theorem frame_reference : Cert.quiescent_Reference11Ideal := by
  intro m g _
  exact (θ_run Cert.Reference11Ideal.defs _ _).mono
    (fun r h => ⟨fun c => (h c).2.2, sem_eq_zero_of_no_sems (by decide) r.2⟩) (Cert.Reference11Ideal.Value.run (F := Ideal) m g)

end Cert.Kernel11Ideal.Forward

end
-- ==== Proof.InMath.lean ====
/-
  The forward input projection of one token and the causal depthwise convolution behind it, as formulas over the extended
  reals: the token's rows are functions of a column, the sequence of rows a function of the position.
-/
module

public import proofs.«01_k».proof.Proof.FwdMath
public import proofs.«01_k».proof.Proof.GateMath

@[expose] public section

noncomputable section

open Idealize.ShloMosaic

namespace Cert.Input

open Cert.Gate (gate)

/-- The input projection of the normalised row, column `k`. -/
def proj (x g : Fin 1024 → EReal) (w : Fin 1024 → Fin 3840 → EReal) (b : Fin 3840 → EReal) (k : Fin 3840) : EReal :=
  ∑ d, Cert.Mlp.hid x g d * w d k + b k

/-- The convolution's input: one part of the projection behind the sigmoid of the next. -/
def glu (r : Fin 3840 → EReal) (q : Fin 512) : EReal := r ⟨768 + q.val, by omega⟩ * gate (r ⟨1280 + q.val, by omega⟩)

/-- The causal convolution of 31 taps over a sequence that starts 30 rows early, at row `p` and channel `q`. -/
def conv (u : ℕ → Fin 512 → EReal) (w : Fin 31 → Fin 512 → EReal) (b : Fin 512 → EReal) (p : ℕ) (q : Fin 512) : EReal :=
  ∑ j : Fin 31, w j q * u (j.val + p) q + b q

/-- A sum over the 31 taps, one after the other. -/
theorem sum_taps (t : Fin 31 → EReal) :
    ∑ j, t j = 0 + t 0 + t 1 + t 2 + t 3 + t 4 + t 5 + t 6 + t 7 + t 8 + t 9 + t 10 + t 11 + t 12 + t 13 + t 14 + t 15
      + t 16 + t 17 + t 18 + t 19 + t 20 + t 21 + t 22 + t 23 + t 24 + t 25 + t 26 + t 27 + t 28 + t 29 + t 30 := by
  simp only [Fin.sum_univ_castSucc, Fin.sum_univ_zero]
  rfl

end Cert.Input

end
-- ==== Proof.InRef.lean ====
/-
  The reference of the forward input projection, read entry by entry.
-/
module

public import proofs.«01_k».proof.Proof.Gen.Reference12Ideal.Run
public import proofs.«01_k».proof.Proof.Gen.Reference12Ideal.Read
public import proofs.«01_k».proof.Proof.InMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Input

open Cert.Reference12Ideal Cert.Reference12Ideal.Read
open Cert.Gate (silu ln xhat cen rstd vare gate)

variable (x0 : FVec Ideal S16384x1024 .f32) (x1 : FVec Ideal S1x1024 .f32) (x2 : FVec Ideal S1024x3840 .bf16) (x3 : FVec Ideal S1x3840 .f32)
  (x4 : FVec Ideal S31x512 .f32) (x5 x6 x7 : FVec Ideal S1x512 .f32)

def hidTok (p : Fin 16384) : Fin 1024 → EReal := Cert.Mlp.hid (fun d => x0 (ix2 p d)) fun d => x1 (ix2 0 d)

def projTok (p : Fin 16384) : Fin 3840 → EReal :=
  proj (fun d => x0 (ix2 p d)) (fun d => x1 (ix2 0 d)) (fun d k => x2 (ix2 d k)) fun k => x3 (ix2 0 k)

def gluTok (p : Fin 16384) : Fin 512 → EReal := glu (projTok x0 x1 x2 x3 p)

/-- The convolution's input after 30 rows of zeros. -/
def padded (n : ℕ) (q : Fin 512) : EReal := if h : 30 ≤ n ∧ n < 16414 then gluTok x0 x1 x2 x3 ⟨n - 30, by omega⟩ q else 0

def convTok (p : Fin 16384) : Fin 512 → EReal := conv (padded x0 x1 x2 x3) (fun j q => x4 (ix2 j q)) (fun q => x5 (ix2 0 q)) p.val

def siluTok (p : Fin 16384) : Fin 512 → EReal := silu (convTok x0 x1 x2 x3 x4 x5 p) (fun q => x6 (ix2 0 q)) fun q => x7 (ix2 0 q)

theorem ref_hid (p : Fin 16384) (q : Fin 1024) : val_main_v13 (F := Ideal) x0 x1 (ix2 p q) = hidTok x0 x1 p q := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [hidTok, Cert.Mlp.hid, Cert.Mlp.rstd] <;> rfl

theorem ref_proj (p : Fin 16384) (q : Fin 3840) : val_main_v19 (F := Ideal) x0 x1 x2 x3 (ix2 p q) = projTok x0 x1 x2 x3 p q := by
  pointwise [val_main_v19, val_main_v18, val_main_v17, val_main_v16, val_main_v15, val_main_v14]
  simp only [ref_hid]
  rfl

theorem ref_hidOut (p : Fin 16384) (q : Fin 1024) : val_main_v252 (F := Ideal) x0 x1 (ix2 p q) = hidTok x0 x1 p q := by
  pointwise [val_main_v252]
  exact ref_hid x0 x1 p q

theorem ref_qkvOut (p : Fin 16384) (q : Fin 768) :
    val_main_v254 (F := Ideal) x0 x1 x2 x3 (ix2 p q) = projTok x0 x1 x2 x3 p ⟨q.val, lt_of_lt_of_le q.isLt (by decide)⟩ := by
  pointwise [val_main_v254, val_main_v253]
  simp only [ref_proj] <;> rfl

theorem ref_restOut (p : Fin 16384) (q : Fin 3072) :
    val_main_v256 (F := Ideal) x0 x1 x2 x3 (ix2 p q) = projTok x0 x1 x2 x3 p ⟨768 + q.val, Nat.add_lt_add_left q.isLt 768⟩ := by
  pointwise [val_main_v256, val_main_v255]
  simp only [ref_proj] <;> rfl

theorem ref_glu (p : Fin 16384) (q : Fin 512) : val_main_v28 (F := Ideal) x0 x1 x2 x3 (ix2 p q) = gluTok x0 x1 x2 x3 p q := by
  pointwise [val_main_v28, val_main_v27, val_main_v26, val_main_v25, val_main_v24, val_main_v23, val_main_v22, val_main_v21, val_main_v20, val_main_cst_2, val_main_cst_3]
  simp only [ref_proj, gluTok, glu, gate] <;> rfl

theorem ref_pad (n : Fin 16414) (q : Fin 512) : val_main_v30 (F := Ideal) x0 x1 x2 x3 (ix2 n q) = padded x0 x1 x2 x3 n.val q := by
  pointwise [val_main_v30, val_main_call0_v0, val_main_c]
  simp only [padded, ref_glu]
  by_cases h : 30 ≤ n.val ∧ n.val < 16414
  · rw [dif_pos h, dif_pos ⟨h.1, by omega⟩]
  · rw [dif_neg h, dif_neg fun k => h ⟨k.1, by omega⟩]
    show ((((0#32 : BitVec 32).toInt : ℤ) : ℝ) : EReal) = 0
    simp

theorem ref_bias (p : Fin 16384) (q : Fin 512) : val_main_v250 (F := Ideal) x5 (ix2 p q) = x5 (ix2 0 q) := by
  pointwise [val_main_v250, val_main_v249, val_main_v29]

theorem ref_tap0 (p : Fin 16384) (q : Fin 512) :
    val_main_v36 (F := Ideal) x0 x1 x2 x3 x4 (ix2 p q) = x4 (ix2 0 q) * padded x0 x1 x2 x3 p.val q := by
  pointwise [val_main_v36, val_main_v35, val_main_v34, val_main_v33, val_main_v32, val_main_v31]
  simp only [ref_pad] <;> rfl

theorem ref_tap1 (p : Fin 16384) (q : Fin 512) :
    val_main_v44 (F := Ideal) x0 x1 x2 x3 x4 (ix2 p q) = x4 (ix2 1 q) * padded x0 x1 x2 x3 (1 + p.val) q := by
  pointwise [val_main_v44, val_main_v43, val_main_v42, val_main_v41, val_main_v40, val_main_v39]
  simp only [ref_pad] <;> rfl

theorem ref_tap2 (p : Fin 16384) (q : Fin 512) :
    val_main_v51 (F := Ideal) x0 x1 x2 x3 x4 (ix2 p q) = x4 (ix2 2 q) * padded x0 x1 x2 x3 (2 + p.val) q := by
  pointwise [val_main_v51, val_main_v50, val_main_v49, val_main_v48, val_main_v47, val_main_v46]
  simp only [ref_pad] <;> rfl

theorem ref_tap3 (p : Fin 16384) (q : Fin 512) :
    val_main_v58 (F := Ideal) x0 x1 x2 x3 x4 (ix2 p q) = x4 (ix2 3 q) * padded x0 x1 x2 x3 (3 + p.val) q := by
  pointwise [val_main_v58, val_main_v57, val_main_v56, val_main_v55, val_main_v54, val_main_v53]
  simp only [ref_pad] <;> rfl

theorem ref_tap4 (p : Fin 16384) (q : Fin 512) :
    val_main_v65 (F := Ideal) x0 x1 x2 x3 x4 (ix2 p q) = x4 (ix2 4 q) * padded x0 x1 x2 x3 (4 + p.val) q := by
  pointwise [val_main_v65, val_main_v64, val_main_v63, val_main_v62, val_main_v61, val_main_v60]
  simp only [ref_pad] <;> rfl

theorem ref_tap5 (p : Fin 16384) (q : Fin 512) :
    val_main_v72 (F := Ideal) x0 x1 x2 x3 x4 (ix2 p q) = x4 (ix2 5 q) * padded x0 x1 x2 x3 (5 + p.val) q := by
  pointwise [val_main_v72, val_main_v71, val_main_v70, val_main_v69, val_main_v68, val_main_v67]
  simp only [ref_pad] <;> rfl

theorem ref_tap6 (p : Fin 16384) (q : Fin 512) :
    val_main_v79 (F := Ideal) x0 x1 x2 x3 x4 (ix2 p q) = x4 (ix2 6 q) * padded x0 x1 x2 x3 (6 + p.val) q := by
  pointwise [val_main_v79, val_main_v78, val_main_v77, val_main_v76, val_main_v75, val_main_v74]
  simp only [ref_pad] <;> rfl

theorem ref_tap7 (p : Fin 16384) (q : Fin 512) :
    val_main_v86 (F := Ideal) x0 x1 x2 x3 x4 (ix2 p q) = x4 (ix2 7 q) * padded x0 x1 x2 x3 (7 + p.val) q := by
  pointwise [val_main_v86, val_main_v85, val_main_v84, val_main_v83, val_main_v82, val_main_v81]
  simp only [ref_pad] <;> rfl

theorem ref_tap8 (p : Fin 16384) (q : Fin 512) :
    val_main_v93 (F := Ideal) x0 x1 x2 x3 x4 (ix2 p q) = x4 (ix2 8 q) * padded x0 x1 x2 x3 (8 + p.val) q := by
  pointwise [val_main_v93, val_main_v92, val_main_v91, val_main_v90, val_main_v89, val_main_v88]
  simp only [ref_pad] <;> rfl

theorem ref_tap9 (p : Fin 16384) (q : Fin 512) :
    val_main_v100 (F := Ideal) x0 x1 x2 x3 x4 (ix2 p q) = x4 (ix2 9 q) * padded x0 x1 x2 x3 (9 + p.val) q := by
  pointwise [val_main_v100, val_main_v99, val_main_v98, val_main_v97, val_main_v96, val_main_v95]
  simp only [ref_pad] <;> rfl

theorem ref_tap10 (p : Fin 16384) (q : Fin 512) :
    val_main_v107 (F := Ideal) x0 x1 x2 x3 x4 (ix2 p q) = x4 (ix2 10 q) * padded x0 x1 x2 x3 (10 + p.val) q := by
  pointwise [val_main_v107, val_main_v106, val_main_v105, val_main_v104, val_main_v103, val_main_v102]
  simp only [ref_pad] <;> rfl

theorem ref_tap11 (p : Fin 16384) (q : Fin 512) :
    val_main_v114 (F := Ideal) x0 x1 x2 x3 x4 (ix2 p q) = x4 (ix2 11 q) * padded x0 x1 x2 x3 (11 + p.val) q := by
  pointwise [val_main_v114, val_main_v113, val_main_v112, val_main_v111, val_main_v110, val_main_v109]
  simp only [ref_pad] <;> rfl

theorem ref_tap12 (p : Fin 16384) (q : Fin 512) :
    val_main_v121 (F := Ideal) x0 x1 x2 x3 x4 (ix2 p q) = x4 (ix2 12 q) * padded x0 x1 x2 x3 (12 + p.val) q := by
  pointwise [val_main_v121, val_main_v120, val_main_v119, val_main_v118, val_main_v117, val_main_v116]
  simp only [ref_pad] <;> rfl

theorem ref_tap13 (p : Fin 16384) (q : Fin 512) :
    val_main_v128 (F := Ideal) x0 x1 x2 x3 x4 (ix2 p q) = x4 (ix2 13 q) * padded x0 x1 x2 x3 (13 + p.val) q := by
  pointwise [val_main_v128, val_main_v127, val_main_v126, val_main_v125, val_main_v124, val_main_v123]
  simp only [ref_pad] <;> rfl

theorem ref_tap14 (p : Fin 16384) (q : Fin 512) :
    val_main_v135 (F := Ideal) x0 x1 x2 x3 x4 (ix2 p q) = x4 (ix2 14 q) * padded x0 x1 x2 x3 (14 + p.val) q := by
  pointwise [val_main_v135, val_main_v134, val_main_v133, val_main_v132, val_main_v131, val_main_v130]
  simp only [ref_pad] <;> rfl

theorem ref_tap15 (p : Fin 16384) (q : Fin 512) :
    val_main_v142 (F := Ideal) x0 x1 x2 x3 x4 (ix2 p q) = x4 (ix2 15 q) * padded x0 x1 x2 x3 (15 + p.val) q := by
  pointwise [val_main_v142, val_main_v141, val_main_v140, val_main_v139, val_main_v138, val_main_v137]
  simp only [ref_pad] <;> rfl

theorem ref_tap16 (p : Fin 16384) (q : Fin 512) :
    val_main_v149 (F := Ideal) x0 x1 x2 x3 x4 (ix2 p q) = x4 (ix2 16 q) * padded x0 x1 x2 x3 (16 + p.val) q := by
  pointwise [val_main_v149, val_main_v148, val_main_v147, val_main_v146, val_main_v145, val_main_v144]
  simp only [ref_pad] <;> rfl

theorem ref_tap17 (p : Fin 16384) (q : Fin 512) :
    val_main_v156 (F := Ideal) x0 x1 x2 x3 x4 (ix2 p q) = x4 (ix2 17 q) * padded x0 x1 x2 x3 (17 + p.val) q := by
  pointwise [val_main_v156, val_main_v155, val_main_v154, val_main_v153, val_main_v152, val_main_v151]
  simp only [ref_pad] <;> rfl

theorem ref_tap18 (p : Fin 16384) (q : Fin 512) :
    val_main_v163 (F := Ideal) x0 x1 x2 x3 x4 (ix2 p q) = x4 (ix2 18 q) * padded x0 x1 x2 x3 (18 + p.val) q := by
  pointwise [val_main_v163, val_main_v162, val_main_v161, val_main_v160, val_main_v159, val_main_v158]
  simp only [ref_pad] <;> rfl

theorem ref_tap19 (p : Fin 16384) (q : Fin 512) :
    val_main_v170 (F := Ideal) x0 x1 x2 x3 x4 (ix2 p q) = x4 (ix2 19 q) * padded x0 x1 x2 x3 (19 + p.val) q := by
  pointwise [val_main_v170, val_main_v169, val_main_v168, val_main_v167, val_main_v166, val_main_v165]
  simp only [ref_pad] <;> rfl

theorem ref_tap20 (p : Fin 16384) (q : Fin 512) :
    val_main_v177 (F := Ideal) x0 x1 x2 x3 x4 (ix2 p q) = x4 (ix2 20 q) * padded x0 x1 x2 x3 (20 + p.val) q := by
  pointwise [val_main_v177, val_main_v176, val_main_v175, val_main_v174, val_main_v173, val_main_v172]
  simp only [ref_pad] <;> rfl

theorem ref_tap21 (p : Fin 16384) (q : Fin 512) :
    val_main_v184 (F := Ideal) x0 x1 x2 x3 x4 (ix2 p q) = x4 (ix2 21 q) * padded x0 x1 x2 x3 (21 + p.val) q := by
  pointwise [val_main_v184, val_main_v183, val_main_v182, val_main_v181, val_main_v180, val_main_v179]
  simp only [ref_pad] <;> rfl

theorem ref_tap22 (p : Fin 16384) (q : Fin 512) :
    val_main_v191 (F := Ideal) x0 x1 x2 x3 x4 (ix2 p q) = x4 (ix2 22 q) * padded x0 x1 x2 x3 (22 + p.val) q := by
  pointwise [val_main_v191, val_main_v190, val_main_v189, val_main_v188, val_main_v187, val_main_v186]
  simp only [ref_pad] <;> rfl

theorem ref_tap23 (p : Fin 16384) (q : Fin 512) :
    val_main_v198 (F := Ideal) x0 x1 x2 x3 x4 (ix2 p q) = x4 (ix2 23 q) * padded x0 x1 x2 x3 (23 + p.val) q := by
  pointwise [val_main_v198, val_main_v197, val_main_v196, val_main_v195, val_main_v194, val_main_v193]
  simp only [ref_pad] <;> rfl

theorem ref_tap24 (p : Fin 16384) (q : Fin 512) :
    val_main_v205 (F := Ideal) x0 x1 x2 x3 x4 (ix2 p q) = x4 (ix2 24 q) * padded x0 x1 x2 x3 (24 + p.val) q := by
  pointwise [val_main_v205, val_main_v204, val_main_v203, val_main_v202, val_main_v201, val_main_v200]
  simp only [ref_pad] <;> rfl

theorem ref_tap25 (p : Fin 16384) (q : Fin 512) :
    val_main_v212 (F := Ideal) x0 x1 x2 x3 x4 (ix2 p q) = x4 (ix2 25 q) * padded x0 x1 x2 x3 (25 + p.val) q := by
  pointwise [val_main_v212, val_main_v211, val_main_v210, val_main_v209, val_main_v208, val_main_v207]
  simp only [ref_pad] <;> rfl

theorem ref_tap26 (p : Fin 16384) (q : Fin 512) :
    val_main_v219 (F := Ideal) x0 x1 x2 x3 x4 (ix2 p q) = x4 (ix2 26 q) * padded x0 x1 x2 x3 (26 + p.val) q := by
  pointwise [val_main_v219, val_main_v218, val_main_v217, val_main_v216, val_main_v215, val_main_v214]
  simp only [ref_pad] <;> rfl

theorem ref_tap27 (p : Fin 16384) (q : Fin 512) :
    val_main_v226 (F := Ideal) x0 x1 x2 x3 x4 (ix2 p q) = x4 (ix2 27 q) * padded x0 x1 x2 x3 (27 + p.val) q := by
  pointwise [val_main_v226, val_main_v225, val_main_v224, val_main_v223, val_main_v222, val_main_v221]
  simp only [ref_pad] <;> rfl

theorem ref_tap28 (p : Fin 16384) (q : Fin 512) :
    val_main_v233 (F := Ideal) x0 x1 x2 x3 x4 (ix2 p q) = x4 (ix2 28 q) * padded x0 x1 x2 x3 (28 + p.val) q := by
  pointwise [val_main_v233, val_main_v232, val_main_v231, val_main_v230, val_main_v229, val_main_v228]
  simp only [ref_pad] <;> rfl

theorem ref_tap29 (p : Fin 16384) (q : Fin 512) :
    val_main_v240 (F := Ideal) x0 x1 x2 x3 x4 (ix2 p q) = x4 (ix2 29 q) * padded x0 x1 x2 x3 (29 + p.val) q := by
  pointwise [val_main_v240, val_main_v239, val_main_v238, val_main_v237, val_main_v236, val_main_v235]
  simp only [ref_pad] <;> rfl

theorem ref_tap30 (p : Fin 16384) (q : Fin 512) :
    val_main_v247 (F := Ideal) x0 x1 x2 x3 x4 (ix2 p q) = x4 (ix2 30 q) * padded x0 x1 x2 x3 (30 + p.val) q := by
  pointwise [val_main_v247, val_main_v246, val_main_v245, val_main_v244, val_main_v243, val_main_v242]
  simp only [ref_pad] <;> rfl

theorem ref_conv (p : Fin 16384) (q : Fin 512) : val_main_v251 (F := Ideal) x0 x1 x2 x3 x4 x5 (ix2 p q) = convTok x0 x1 x2 x3 x4 x5 p q := by
  rw [convTok, conv, sum_taps]
  pointwise [val_main_v251, val_main_v248, val_main_v241, val_main_v234, val_main_v227, val_main_v220, val_main_v213, val_main_v206, val_main_v199, val_main_v192, val_main_v185, val_main_v178, val_main_v171, val_main_v164, val_main_v157, val_main_v150, val_main_v143, val_main_v136, val_main_v129, val_main_v122, val_main_v115, val_main_v108, val_main_v101, val_main_v94, val_main_v87, val_main_v80, val_main_v73, val_main_v66, val_main_v59, val_main_v52, val_main_v45, val_main_v38, val_main_v37, val_main_cst_4]
  simp only [ref_bias, ref_tap0, ref_tap1, ref_tap2, ref_tap3, ref_tap4, ref_tap5, ref_tap6, ref_tap7, ref_tap8, ref_tap9, ref_tap10, ref_tap11, ref_tap12, ref_tap13, ref_tap14, ref_tap15, ref_tap16, ref_tap17, ref_tap18, ref_tap19, ref_tap20, ref_tap21, ref_tap22, ref_tap23, ref_tap24, ref_tap25, ref_tap26, ref_tap27, ref_tap28, ref_tap29, ref_tap30] <;> rfl

theorem ref_silu (p : Fin 16384) (q : Fin 512) : val_main_v282 (F := Ideal) x0 x1 x2 x3 x4 x5 x6 x7 (ix2 p q) = siluTok x0 x1 x2 x3 x4 x5 x6 x7 p q := by
  pointwise [val_main_v282, val_main_v281, val_main_call1_v5, val_main_call1_v4, val_main_call1_cst_0, val_main_call1_v3, val_main_call1_v2, val_main_call1_cst, val_main_call1_v1, val_main_call1_v0, val_main_v280, val_main_v279, val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_cst_5, val_main_cst_6, val_main_cst_7, val_main_cst_8, val_main_cst_9]
  simp only [ref_conv, siluTok, silu, ln, xhat, cen, rstd, vare, gate] <;> rfl

end Cert.Input

end
-- ==== Proof.InPad.lean ====
/-
  The buffer in which the input projection's body lays the convolution's input: eight shifted copies of one sequence of
  rows, the sixteen rows of a convolution read off it, and the norm with SiLU behind the convolution.
-/
module

public import proofs.«01_k».proof.Proof.Gen.Kernel12Ideal.Frame
public import proofs.«01_k».proof.Proof.InMath
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel12Ideal.Input

open Cert.Kernel12Ideal Cert.Kernel12Ideal.Gen Cert.Input
open Cert.Gate (silu ln xhat cen rstd vare gate)

theorem inb_slab {s r : ℕ} (hs : s < 8) (hr : r ≤ 272) : ∀ a, (![s, r, 0] : Fin 3 → ℕ) a + (![1, 16, 512] : Fin 3 → ℕ) a ≤ S8x288x512.size a := by
  intro a
  match a with
  | ⟨0, _⟩ => show s + 1 ≤ 8; omega
  | ⟨1, _⟩ => show r + 16 ≤ 288; omega
  | ⟨2, _⟩ => show 0 + 512 ≤ 512; omega

/-- Copy `a` of the sequence begins at its row `a`, for the copies up to `s`; copy 0 is longer. -/
def Slabs (U : ℕ → Fin 512 → EReal) (s : ℕ) (L : List (View.Piece (Elt Ideal) S8x288x512 .f32)) : Prop :=
  ∀ (a : Fin 8) (b : Fin 288) (q : Fin 512), (a.val = 0 ∨ (a.val ≤ s ∧ b.val < 280)) → View.canon L (ix3 a b q) = U (a.val + b.val) q

theorem slabs_zero {U : ℕ → Fin 512 → EReal} {V : FVec Ideal S1x256x512 .f32} {C : FVec Ideal S1x32x512 .f32}
    (L : List (View.Piece (Elt Ideal) S8x288x512 .f32)) (h1) (h2)
    (hV : ∀ (b : Fin 256) (q : Fin 512), V (ix3 0 b q) = U (32 + b.val) q) (hC : ∀ (b : Fin 32) (q : Fin 512), C (ix3 0 b q) = U b.val q) :
    Slabs U 0 (⟨Rect.unit (s := S8x288x512) ![0, 32, 0] S1x256x512.size h1, V⟩ :: ⟨Rect.unit (s := S8x288x512) ![0, 0, 0] S1x32x512.size h2, C⟩ :: L) := by
  intro a b q h
  have ha : a = 0 := Fin.ext (by show a.val = 0; omega)
  subst ha
  by_cases hb : 32 ≤ b.val
  · have e : (ix3 0 b q : S8x288x512.Idx) = (Rect.unit (s := S8x288x512) ![0, 32, 0] S1x256x512.size h1).emb (ix3 0 ⟨b.val - 32, by omega⟩ q) := by
      refine funext fun d => Fin.ext ?_
      match d with
      | ⟨0, _⟩ => refine Eq.trans ?_ (ValueKit.rect_emb_unit_val _ _ _ _ _).symm; rfl
      | ⟨1, _⟩ => refine Eq.trans ?_ (ValueKit.rect_emb_unit_val _ _ _ _ _).symm; show b.val = 32 + (b.val - 32); omega
      | ⟨2, _⟩ => refine Eq.trans ?_ (ValueKit.rect_emb_unit_val _ _ _ _ _).symm; show q.val = 0 + q.val; omega
    rw [e, View.canon_cons_emb, hV]
    congr 1
    show 32 + (b.val - 32) = 0 + b.val
    omega
  · rw [View.canon_cons_of_not_mem]
    · have e : (ix3 0 b q : S8x288x512.Idx) = (Rect.unit (s := S8x288x512) ![0, 0, 0] S1x32x512.size h2).emb (ix3 0 ⟨b.val, by omega⟩ q) := by
        refine funext fun d => Fin.ext ?_
        match d with
        | ⟨0, _⟩ => refine Eq.trans ?_ (ValueKit.rect_emb_unit_val _ _ _ _ _).symm; rfl
        | ⟨1, _⟩ => refine Eq.trans ?_ (ValueKit.rect_emb_unit_val _ _ _ _ _).symm; show b.val = 0 + b.val; omega
        | ⟨2, _⟩ => refine Eq.trans ?_ (ValueKit.rect_emb_unit_val _ _ _ _ _).symm; show q.val = 0 + q.val; omega
      rw [e, View.canon_cons_emb, hC]
      congr 1
      show b.val = 0 + b.val
      omega
    · intro hm
      have h3 := ((Rect.mem_set_unit (inb := h1)).mp hm 1).1
      have h4 : 32 ≤ b.val := h3
      omega

theorem cast_slab (v : FVec Ideal S1x280x512 .f32) (c1 c2) (b : Fin 280) (q : Fin 512) :
    shapeCast S1x280x512 (shapeCast S280x512 v c1) c2 (ix3 0 b q) = v (ix3 0 b q) := by
  pointwise []

theorem slabs_step {U : ℕ → Fin 512 → EReal} {s s' : ℕ} (hs : s' = s + 1) (hs' : s' < 8) {κ : Kind} {sp : Space} (v : View sig κ sp S8x288x512 .f32)
    {L : List (View.Piece (Elt Ideal) S8x288x512 .f32)} (h1) (h2) (c1) (c2) (hL : Slabs U s L) :
    Slabs U s' (⟨Rect.unit (s := S8x288x512) ![s', 0, 0] S1x280x512.size h1, shapeCast S1x280x512 (shapeCast S280x512
      (v.readCov L (Rect.unit (s := S8x288x512) ![0, s', 0] S1x280x512.size h2).toLoadRect) c1) c2⟩ :: L) := by
  intro a b q h
  by_cases hm : a.val = s'
  · have hb : b.val < 280 := by omega
    have e : (ix3 a b q : S8x288x512.Idx) = (Rect.unit (s := S8x288x512) ![s', 0, 0] S1x280x512.size h1).emb (ix3 0 ⟨b.val, hb⟩ q) := by
      refine funext fun d => Fin.ext ?_
      match d with
      | ⟨0, _⟩ => refine Eq.trans ?_ (ValueKit.rect_emb_unit_val _ _ _ _ _).symm; show a.val = s' + 0; omega
      | ⟨1, _⟩ => refine Eq.trans ?_ (ValueKit.rect_emb_unit_val _ _ _ _ _).symm; show b.val = 0 + b.val; omega
      | ⟨2, _⟩ => refine Eq.trans ?_ (ValueKit.rect_emb_unit_val _ _ _ _ _).symm; show q.val = 0 + q.val; omega
    have e' : (Rect.unit (s := S8x288x512) ![0, s', 0] S1x280x512.size h2).emb (ix3 0 ⟨b.val, hb⟩ q) = ix3 0 ⟨s' + b.val, by omega⟩ q := by
      refine funext fun d => Fin.ext ?_
      match d with
      | ⟨0, _⟩ => exact ValueKit.rect_emb_unit_val _ _ _ _ _
      | ⟨1, _⟩ => exact ValueKit.rect_emb_unit_val _ _ _ _ _
      | ⟨2, _⟩ => refine Eq.trans (ValueKit.rect_emb_unit_val _ _ _ _ _) ?_; show 0 + q.val = q.val; omega
    rw [e, View.canon_cons_emb, cast_slab, View.readCov_eq_canon']
    refine (congrArg (View.canon L) e').trans ((hL 0 ⟨s' + b.val, by omega⟩ q (Or.inl rfl)).trans ?_)
    congr 1
    show 0 + (s' + b.val) = a.val + b.val
    omega
  · rw [View.canon_cons_of_not_mem]
    · exact hL a b q (by omega)
    · intro hmem
      have h3 := (Rect.mem_set_unit (inb := h1)).mp hmem 0
      have h4 : s' ≤ a.val ∧ a.val < s' + 1 := h3
      omega

/-- Sixteen rows read off one copy. -/
theorem load_slab {U : ℕ → Fin 512 → EReal} {L : List (View.Piece (Elt Ideal) S8x288x512 .f32)} (hL : Slabs U 7 L) {κ : Kind} {sp : Space}
    (v : View sig κ sp S8x288x512 .f32) {s r : ℕ} (h1) (hs : s < 8) (hsr : s = 0 ∨ r + 16 ≤ 280) (hr : r ≤ 272) (p : Fin 16) (q : Fin 512) :
    v.readCov L (Rect.unit (s := S8x288x512) ![s, r, 0] ![1, 16, 512] h1).toLoadRect (ix3 0 p q) = U (s + r + p.val) q := by
  have e' : (Rect.unit (s := S8x288x512) ![s, r, 0] ![1, 16, 512] h1).emb (ix3 0 p q) = ix3 ⟨s, hs⟩ ⟨r + p.val, by omega⟩ q := by
    refine funext fun d => Fin.ext ?_
    match d with
    | ⟨0, _⟩ => exact ValueKit.rect_emb_unit_val _ _ _ _ _
    | ⟨1, _⟩ => exact ValueKit.rect_emb_unit_val _ _ _ _ _
    | ⟨2, _⟩ => refine Eq.trans (ValueKit.rect_emb_unit_val _ _ _ _ _) ?_; show 0 + q.val = q.val; omega
  rw [View.readCov_eq_canon']
  refine (congrArg (View.canon L) e').trans ((hL ⟨s, hs⟩ ⟨r + p.val, by omega⟩ q ?_).trans ?_)
  · show s = 0 ∨ (s ≤ 7 ∧ r + p.val < 280)
    omega
  · congr 1
    show s + (r + p.val) = s + r + p.val
    omega

/-- One tap's row of weights. -/
theorem load_tap (arg5 : Memref sig .tc .vmem S31x512 .f32) (harg5 : arg5.IsWhole) (x4 : Vec Ideal S31x512 .f32) (j : Fin 31) (h) (q : Fin 512) :
    View.readAt (Elt Ideal) arg5.view (Rect.unit (s := S31x512) ![j.val, 0] ![1, 512] h).toLoadRect (harg5.unread x4) (ix2 0 q) = x4 (ix2 j q) := by
  rw [View.readAt_eq_ld, harg5.read_unread]
  refine congrArg x4 (funext fun d => Fin.ext ?_)
  match d with
  | ⟨0, _⟩ => exact ValueKit.rect_emb_unit_val _ _ _ _ _
  | ⟨1, _⟩ => refine Eq.trans (ValueKit.rect_emb_unit_val _ _ _ _ _) ?_; show 0 + q.val = q.val; omega

theorem load_row (arg : Memref sig .tc .vmem S1x512 .f32) (harg : arg.IsWhole) (x : Vec Ideal S1x512 .f32) (h) (q : Fin 512) :
    View.readAt (Elt Ideal) arg.view (Rect.unit (s := S1x512) ![0, 0] ![1, 512] h).toLoadRect (harg.unread x) (ix2 0 q) = x (ix2 0 q) := by
  rw [View.readAt_eq_ld, harg.read_unread]
  refine congrArg x (funext fun d => Fin.ext ?_)
  match d with
  | ⟨0, _⟩ => exact ValueKit.rect_emb_unit_val _ _ _ _ _
  | ⟨1, _⟩ => refine Eq.trans (ValueKit.rect_emb_unit_val _ _ _ _ _) ?_; show 0 + q.val = q.val; omega

/-- Sixteen rows of the convolution, one tap after the other. -/
def acc (b w0 w1 w2 w3 w4 w5 w6 w7 w8 w9 w10 w11 w12 w13 w14 w15 w16 w17 w18 w19 w20 w21 w22 w23 w24 w25 w26 w27 w28 w29 w30 : Vec Ideal S1x512 .f32)
    (s0 s1 s2 s3 s4 s5 s6 s7 s8 s9 s10 s11 s12 s13 s14 s15 s16 s17 s18 s19 s20 s21 s22 s23 s24 s25 s26 s27 s28 s29 s30 : Vec Ideal S1x16x512 .f32) : FVec Ideal S16x512 .f32 :=
  addf (addf (addf (addf (addf (addf (addf (addf (addf (addf (addf (addf (addf (addf (addf (addf (addf (addf (addf (addf (addf (addf (addf (addf (addf (addf (addf (addf (addf (addf (addf (broadcastTo S16x512 (shapeCast S1x512 b shapeCasts_S1x512_S1x512) broadcasts_S1x512_S16x512)
    (mulf (broadcastTo S16x512 w0 broadcasts_S1x512_S16x512) (shapeCast S16x512 s0 shapeCasts_S1x16x512_S16x512)))
    (mulf (broadcastTo S16x512 w1 broadcasts_S1x512_S16x512) (shapeCast S16x512 s1 shapeCasts_S1x16x512_S16x512)))
    (mulf (broadcastTo S16x512 w2 broadcasts_S1x512_S16x512) (shapeCast S16x512 s2 shapeCasts_S1x16x512_S16x512)))
    (mulf (broadcastTo S16x512 w3 broadcasts_S1x512_S16x512) (shapeCast S16x512 s3 shapeCasts_S1x16x512_S16x512)))
    (mulf (broadcastTo S16x512 w4 broadcasts_S1x512_S16x512) (shapeCast S16x512 s4 shapeCasts_S1x16x512_S16x512)))
    (mulf (broadcastTo S16x512 w5 broadcasts_S1x512_S16x512) (shapeCast S16x512 s5 shapeCasts_S1x16x512_S16x512)))
    (mulf (broadcastTo S16x512 w6 broadcasts_S1x512_S16x512) (shapeCast S16x512 s6 shapeCasts_S1x16x512_S16x512)))
    (mulf (broadcastTo S16x512 w7 broadcasts_S1x512_S16x512) (shapeCast S16x512 s7 shapeCasts_S1x16x512_S16x512)))
    (mulf (broadcastTo S16x512 w8 broadcasts_S1x512_S16x512) (shapeCast S16x512 s8 shapeCasts_S1x16x512_S16x512)))
    (mulf (broadcastTo S16x512 w9 broadcasts_S1x512_S16x512) (shapeCast S16x512 s9 shapeCasts_S1x16x512_S16x512)))
    (mulf (broadcastTo S16x512 w10 broadcasts_S1x512_S16x512) (shapeCast S16x512 s10 shapeCasts_S1x16x512_S16x512)))
    (mulf (broadcastTo S16x512 w11 broadcasts_S1x512_S16x512) (shapeCast S16x512 s11 shapeCasts_S1x16x512_S16x512)))
    (mulf (broadcastTo S16x512 w12 broadcasts_S1x512_S16x512) (shapeCast S16x512 s12 shapeCasts_S1x16x512_S16x512)))
    (mulf (broadcastTo S16x512 w13 broadcasts_S1x512_S16x512) (shapeCast S16x512 s13 shapeCasts_S1x16x512_S16x512)))
    (mulf (broadcastTo S16x512 w14 broadcasts_S1x512_S16x512) (shapeCast S16x512 s14 shapeCasts_S1x16x512_S16x512)))
    (mulf (broadcastTo S16x512 w15 broadcasts_S1x512_S16x512) (shapeCast S16x512 s15 shapeCasts_S1x16x512_S16x512)))
    (mulf (broadcastTo S16x512 w16 broadcasts_S1x512_S16x512) (shapeCast S16x512 s16 shapeCasts_S1x16x512_S16x512)))
    (mulf (broadcastTo S16x512 w17 broadcasts_S1x512_S16x512) (shapeCast S16x512 s17 shapeCasts_S1x16x512_S16x512)))
    (mulf (broadcastTo S16x512 w18 broadcasts_S1x512_S16x512) (shapeCast S16x512 s18 shapeCasts_S1x16x512_S16x512)))
    (mulf (broadcastTo S16x512 w19 broadcasts_S1x512_S16x512) (shapeCast S16x512 s19 shapeCasts_S1x16x512_S16x512)))
    (mulf (broadcastTo S16x512 w20 broadcasts_S1x512_S16x512) (shapeCast S16x512 s20 shapeCasts_S1x16x512_S16x512)))
    (mulf (broadcastTo S16x512 w21 broadcasts_S1x512_S16x512) (shapeCast S16x512 s21 shapeCasts_S1x16x512_S16x512)))
    (mulf (broadcastTo S16x512 w22 broadcasts_S1x512_S16x512) (shapeCast S16x512 s22 shapeCasts_S1x16x512_S16x512)))
    (mulf (broadcastTo S16x512 w23 broadcasts_S1x512_S16x512) (shapeCast S16x512 s23 shapeCasts_S1x16x512_S16x512)))
    (mulf (broadcastTo S16x512 w24 broadcasts_S1x512_S16x512) (shapeCast S16x512 s24 shapeCasts_S1x16x512_S16x512)))
    (mulf (broadcastTo S16x512 w25 broadcasts_S1x512_S16x512) (shapeCast S16x512 s25 shapeCasts_S1x16x512_S16x512)))
    (mulf (broadcastTo S16x512 w26 broadcasts_S1x512_S16x512) (shapeCast S16x512 s26 shapeCasts_S1x16x512_S16x512)))
    (mulf (broadcastTo S16x512 w27 broadcasts_S1x512_S16x512) (shapeCast S16x512 s27 shapeCasts_S1x16x512_S16x512)))
    (mulf (broadcastTo S16x512 w28 broadcasts_S1x512_S16x512) (shapeCast S16x512 s28 shapeCasts_S1x16x512_S16x512)))
    (mulf (broadcastTo S16x512 w29 broadcasts_S1x512_S16x512) (shapeCast S16x512 s29 shapeCasts_S1x16x512_S16x512)))
    (mulf (broadcastTo S16x512 w30 broadcasts_S1x512_S16x512) (shapeCast S16x512 s30 shapeCasts_S1x16x512_S16x512))

theorem acc_apply {b w0 w1 w2 w3 w4 w5 w6 w7 w8 w9 w10 w11 w12 w13 w14 w15 w16 w17 w18 w19 w20 w21 w22 w23 w24 w25 w26 w27 w28 w29 w30 : Vec Ideal S1x512 .f32}
    {s0 s1 s2 s3 s4 s5 s6 s7 s8 s9 s10 s11 s12 s13 s14 s15 s16 s17 s18 s19 s20 s21 s22 s23 s24 s25 s26 s27 s28 s29 s30 : Vec Ideal S1x16x512 .f32}
    {U : ℕ → Fin 512 → EReal} {W : Fin 31 → Fin 512 → EReal} {B : Fin 512 → EReal} {P : ℕ} (p : Fin 16) (q : Fin 512) (hb : ∀ q, b (ix2 0 q) = B q)
    (hw0 : ∀ q, w0 (ix2 0 q) = W 0 q) (hs0 : ∀ p q, s0 (ix3 0 p q) = U (0 + (P + p.val)) q)
    (hw1 : ∀ q, w1 (ix2 0 q) = W 1 q) (hs1 : ∀ p q, s1 (ix3 0 p q) = U (1 + (P + p.val)) q)
    (hw2 : ∀ q, w2 (ix2 0 q) = W 2 q) (hs2 : ∀ p q, s2 (ix3 0 p q) = U (2 + (P + p.val)) q)
    (hw3 : ∀ q, w3 (ix2 0 q) = W 3 q) (hs3 : ∀ p q, s3 (ix3 0 p q) = U (3 + (P + p.val)) q)
    (hw4 : ∀ q, w4 (ix2 0 q) = W 4 q) (hs4 : ∀ p q, s4 (ix3 0 p q) = U (4 + (P + p.val)) q)
    (hw5 : ∀ q, w5 (ix2 0 q) = W 5 q) (hs5 : ∀ p q, s5 (ix3 0 p q) = U (5 + (P + p.val)) q)
    (hw6 : ∀ q, w6 (ix2 0 q) = W 6 q) (hs6 : ∀ p q, s6 (ix3 0 p q) = U (6 + (P + p.val)) q)
    (hw7 : ∀ q, w7 (ix2 0 q) = W 7 q) (hs7 : ∀ p q, s7 (ix3 0 p q) = U (7 + (P + p.val)) q)
    (hw8 : ∀ q, w8 (ix2 0 q) = W 8 q) (hs8 : ∀ p q, s8 (ix3 0 p q) = U (8 + (P + p.val)) q)
    (hw9 : ∀ q, w9 (ix2 0 q) = W 9 q) (hs9 : ∀ p q, s9 (ix3 0 p q) = U (9 + (P + p.val)) q)
    (hw10 : ∀ q, w10 (ix2 0 q) = W 10 q) (hs10 : ∀ p q, s10 (ix3 0 p q) = U (10 + (P + p.val)) q)
    (hw11 : ∀ q, w11 (ix2 0 q) = W 11 q) (hs11 : ∀ p q, s11 (ix3 0 p q) = U (11 + (P + p.val)) q)
    (hw12 : ∀ q, w12 (ix2 0 q) = W 12 q) (hs12 : ∀ p q, s12 (ix3 0 p q) = U (12 + (P + p.val)) q)
    (hw13 : ∀ q, w13 (ix2 0 q) = W 13 q) (hs13 : ∀ p q, s13 (ix3 0 p q) = U (13 + (P + p.val)) q)
    (hw14 : ∀ q, w14 (ix2 0 q) = W 14 q) (hs14 : ∀ p q, s14 (ix3 0 p q) = U (14 + (P + p.val)) q)
    (hw15 : ∀ q, w15 (ix2 0 q) = W 15 q) (hs15 : ∀ p q, s15 (ix3 0 p q) = U (15 + (P + p.val)) q)
    (hw16 : ∀ q, w16 (ix2 0 q) = W 16 q) (hs16 : ∀ p q, s16 (ix3 0 p q) = U (16 + (P + p.val)) q)
    (hw17 : ∀ q, w17 (ix2 0 q) = W 17 q) (hs17 : ∀ p q, s17 (ix3 0 p q) = U (17 + (P + p.val)) q)
    (hw18 : ∀ q, w18 (ix2 0 q) = W 18 q) (hs18 : ∀ p q, s18 (ix3 0 p q) = U (18 + (P + p.val)) q)
    (hw19 : ∀ q, w19 (ix2 0 q) = W 19 q) (hs19 : ∀ p q, s19 (ix3 0 p q) = U (19 + (P + p.val)) q)
    (hw20 : ∀ q, w20 (ix2 0 q) = W 20 q) (hs20 : ∀ p q, s20 (ix3 0 p q) = U (20 + (P + p.val)) q)
    (hw21 : ∀ q, w21 (ix2 0 q) = W 21 q) (hs21 : ∀ p q, s21 (ix3 0 p q) = U (21 + (P + p.val)) q)
    (hw22 : ∀ q, w22 (ix2 0 q) = W 22 q) (hs22 : ∀ p q, s22 (ix3 0 p q) = U (22 + (P + p.val)) q)
    (hw23 : ∀ q, w23 (ix2 0 q) = W 23 q) (hs23 : ∀ p q, s23 (ix3 0 p q) = U (23 + (P + p.val)) q)
    (hw24 : ∀ q, w24 (ix2 0 q) = W 24 q) (hs24 : ∀ p q, s24 (ix3 0 p q) = U (24 + (P + p.val)) q)
    (hw25 : ∀ q, w25 (ix2 0 q) = W 25 q) (hs25 : ∀ p q, s25 (ix3 0 p q) = U (25 + (P + p.val)) q)
    (hw26 : ∀ q, w26 (ix2 0 q) = W 26 q) (hs26 : ∀ p q, s26 (ix3 0 p q) = U (26 + (P + p.val)) q)
    (hw27 : ∀ q, w27 (ix2 0 q) = W 27 q) (hs27 : ∀ p q, s27 (ix3 0 p q) = U (27 + (P + p.val)) q)
    (hw28 : ∀ q, w28 (ix2 0 q) = W 28 q) (hs28 : ∀ p q, s28 (ix3 0 p q) = U (28 + (P + p.val)) q)
    (hw29 : ∀ q, w29 (ix2 0 q) = W 29 q) (hs29 : ∀ p q, s29 (ix3 0 p q) = U (29 + (P + p.val)) q)
    (hw30 : ∀ q, w30 (ix2 0 q) = W 30 q) (hs30 : ∀ p q, s30 (ix3 0 p q) = U (30 + (P + p.val)) q)
    : acc b w0 w1 w2 w3 w4 w5 w6 w7 w8 w9 w10 w11 w12 w13 w14 w15 w16 w17 w18 w19 w20 w21 w22 w23 w24 w25 w26 w27 w28 w29 w30 s0 s1 s2 s3 s4 s5 s6 s7 s8 s9 s10 s11 s12 s13 s14 s15 s16 s17 s18 s19 s20 s21 s22 s23 s24 s25 s26 s27 s28 s29 s30 (ix2 p q) = conv U W B (P + p.val) q := by
  have h : acc b w0 w1 w2 w3 w4 w5 w6 w7 w8 w9 w10 w11 w12 w13 w14 w15 w16 w17 w18 w19 w20 w21 w22 w23 w24 w25 w26 w27 w28 w29 w30 s0 s1 s2 s3 s4 s5 s6 s7 s8 s9 s10 s11 s12 s13 s14 s15 s16 s17 s18 s19 s20 s21 s22 s23 s24 s25 s26 s27 s28 s29 s30 (ix2 p q) = b (ix2 0 q) + w0 (ix2 0 q) * s0 (ix3 0 p q) + w1 (ix2 0 q) * s1 (ix3 0 p q) + w2 (ix2 0 q) * s2 (ix3 0 p q) + w3 (ix2 0 q) * s3 (ix3 0 p q) + w4 (ix2 0 q) * s4 (ix3 0 p q) + w5 (ix2 0 q) * s5 (ix3 0 p q) + w6 (ix2 0 q) * s6 (ix3 0 p q) + w7 (ix2 0 q) * s7 (ix3 0 p q) + w8 (ix2 0 q) * s8 (ix3 0 p q) + w9 (ix2 0 q) * s9 (ix3 0 p q) + w10 (ix2 0 q) * s10 (ix3 0 p q) + w11 (ix2 0 q) * s11 (ix3 0 p q) + w12 (ix2 0 q) * s12 (ix3 0 p q) + w13 (ix2 0 q) * s13 (ix3 0 p q) + w14 (ix2 0 q) * s14 (ix3 0 p q) + w15 (ix2 0 q) * s15 (ix3 0 p q) + w16 (ix2 0 q) * s16 (ix3 0 p q) + w17 (ix2 0 q) * s17 (ix3 0 p q) + w18 (ix2 0 q) * s18 (ix3 0 p q) + w19 (ix2 0 q) * s19 (ix3 0 p q) + w20 (ix2 0 q) * s20 (ix3 0 p q) + w21 (ix2 0 q) * s21 (ix3 0 p q) + w22 (ix2 0 q) * s22 (ix3 0 p q) + w23 (ix2 0 q) * s23 (ix3 0 p q) + w24 (ix2 0 q) * s24 (ix3 0 p q) + w25 (ix2 0 q) * s25 (ix3 0 p q) + w26 (ix2 0 q) * s26 (ix3 0 p q) + w27 (ix2 0 q) * s27 (ix3 0 p q) + w28 (ix2 0 q) * s28 (ix3 0 p q) + w29 (ix2 0 q) * s29 (ix3 0 p q) + w30 (ix2 0 q) * s30 (ix3 0 p q) := by
    pointwise [acc]
  have e : conv U W B (P + p.val) q = 0 + W 0 q * U (0 + (P + p.val)) q + W 1 q * U (1 + (P + p.val)) q + W 2 q * U (2 + (P + p.val)) q + W 3 q * U (3 + (P + p.val)) q + W 4 q * U (4 + (P + p.val)) q + W 5 q * U (5 + (P + p.val)) q + W 6 q * U (6 + (P + p.val)) q + W 7 q * U (7 + (P + p.val)) q + W 8 q * U (8 + (P + p.val)) q + W 9 q * U (9 + (P + p.val)) q + W 10 q * U (10 + (P + p.val)) q + W 11 q * U (11 + (P + p.val)) q + W 12 q * U (12 + (P + p.val)) q + W 13 q * U (13 + (P + p.val)) q + W 14 q * U (14 + (P + p.val)) q + W 15 q * U (15 + (P + p.val)) q + W 16 q * U (16 + (P + p.val)) q + W 17 q * U (17 + (P + p.val)) q + W 18 q * U (18 + (P + p.val)) q + W 19 q * U (19 + (P + p.val)) q + W 20 q * U (20 + (P + p.val)) q + W 21 q * U (21 + (P + p.val)) q + W 22 q * U (22 + (P + p.val)) q + W 23 q * U (23 + (P + p.val)) q + W 24 q * U (24 + (P + p.val)) q + W 25 q * U (25 + (P + p.val)) q + W 26 q * U (26 + (P + p.val)) q + W 27 q * U (27 + (P + p.val)) q + W 28 q * U (28 + (P + p.val)) q + W 29 q * U (29 + (P + p.val)) q + W 30 q * U (30 + (P + p.val)) q + B q := by
    rw [conv, sum_taps] <;> rfl
  rw [h, e, hb q, hw0 q, hs0 p q, hw1 q, hs1 p q, hw2 q, hs2 p q, hw3 q, hs3 p q, hw4 q, hs4 p q, hw5 q, hs5 p q, hw6 q, hs6 p q, hw7 q, hs7 p q, hw8 q, hs8 p q, hw9 q, hs9 p q, hw10 q, hs10 p q, hw11 q, hs11 p q, hw12 q, hs12 p q, hw13 q, hs13 p q, hw14 q, hs14 p q, hw15 q, hs15 p q, hw16 q, hs16 p q, hw17 q, hs17 p q, hw18 q, hs18 p q, hw19 q, hs19 p q, hw20 q, hs20 p q, hw21 q, hs21 p q, hw22 q, hs22 p q, hw23 q, hs23 p q, hw24 q, hs24 p q, hw25 q, hs25 p q, hw26 q, hs26 p q, hw27 q, hs27 p q, hw28 q, hs28 p q, hw29 q, hs29 p q, hw30 q, hs30 p q, add_comm _ (B q)]
  simp only [zero_add, add_assoc]

/-- Sixteen rows of the convolution from row `r` of a part of 256 rows. -/
def chunk (arg5 : Memref sig .tc .vmem S31x512 .f32) (harg5 : arg5.IsWhole) (arg6 : Memref sig .tc .vmem S1x512 .f32) (harg6 : arg6.IsWhole)
    (arg15 : Memref sig .tc .vmem S8x288x512 .f32) (x4 : Vec Ideal S31x512 .f32) (x5 : Vec Ideal S1x512 .f32)
    (L : List (View.Piece (Elt Ideal) S8x288x512 .f32)) (r : ℕ) (hr : r ≤ 240) : FVec Ideal S16x512 .f32 :=
  acc (View.readAt (Elt Ideal) arg6.view (Rect.unit (s := S1x512) ![0, 0] ![1, 512] inb_S1x512_S1x512_0_0).toLoadRect (harg6.unread x5))
    (View.readAt (Elt Ideal) arg5.view (Rect.unit (s := S31x512) ![0, 0] ![1, 512] inb_S31x512_S1x512_0_0).toLoadRect (harg5.unread x4))
    (View.readAt (Elt Ideal) arg5.view (Rect.unit (s := S31x512) ![1, 0] ![1, 512] inb_S31x512_S1x512_1_0).toLoadRect (harg5.unread x4))
    (View.readAt (Elt Ideal) arg5.view (Rect.unit (s := S31x512) ![2, 0] ![1, 512] inb_S31x512_S1x512_2_0).toLoadRect (harg5.unread x4))
    (View.readAt (Elt Ideal) arg5.view (Rect.unit (s := S31x512) ![3, 0] ![1, 512] inb_S31x512_S1x512_3_0).toLoadRect (harg5.unread x4))
    (View.readAt (Elt Ideal) arg5.view (Rect.unit (s := S31x512) ![4, 0] ![1, 512] inb_S31x512_S1x512_4_0).toLoadRect (harg5.unread x4))
    (View.readAt (Elt Ideal) arg5.view (Rect.unit (s := S31x512) ![5, 0] ![1, 512] inb_S31x512_S1x512_5_0).toLoadRect (harg5.unread x4))
    (View.readAt (Elt Ideal) arg5.view (Rect.unit (s := S31x512) ![6, 0] ![1, 512] inb_S31x512_S1x512_6_0).toLoadRect (harg5.unread x4))
    (View.readAt (Elt Ideal) arg5.view (Rect.unit (s := S31x512) ![7, 0] ![1, 512] inb_S31x512_S1x512_7_0).toLoadRect (harg5.unread x4))
    (View.readAt (Elt Ideal) arg5.view (Rect.unit (s := S31x512) ![8, 0] ![1, 512] inb_S31x512_S1x512_8_0).toLoadRect (harg5.unread x4))
    (View.readAt (Elt Ideal) arg5.view (Rect.unit (s := S31x512) ![9, 0] ![1, 512] inb_S31x512_S1x512_9_0).toLoadRect (harg5.unread x4))
    (View.readAt (Elt Ideal) arg5.view (Rect.unit (s := S31x512) ![10, 0] ![1, 512] inb_S31x512_S1x512_10_0).toLoadRect (harg5.unread x4))
    (View.readAt (Elt Ideal) arg5.view (Rect.unit (s := S31x512) ![11, 0] ![1, 512] inb_S31x512_S1x512_11_0).toLoadRect (harg5.unread x4))
    (View.readAt (Elt Ideal) arg5.view (Rect.unit (s := S31x512) ![12, 0] ![1, 512] inb_S31x512_S1x512_12_0).toLoadRect (harg5.unread x4))
    (View.readAt (Elt Ideal) arg5.view (Rect.unit (s := S31x512) ![13, 0] ![1, 512] inb_S31x512_S1x512_13_0).toLoadRect (harg5.unread x4))
    (View.readAt (Elt Ideal) arg5.view (Rect.unit (s := S31x512) ![14, 0] ![1, 512] inb_S31x512_S1x512_14_0).toLoadRect (harg5.unread x4))
    (View.readAt (Elt Ideal) arg5.view (Rect.unit (s := S31x512) ![15, 0] ![1, 512] inb_S31x512_S1x512_15_0).toLoadRect (harg5.unread x4))
    (View.readAt (Elt Ideal) arg5.view (Rect.unit (s := S31x512) ![16, 0] ![1, 512] inb_S31x512_S1x512_16_0).toLoadRect (harg5.unread x4))
    (View.readAt (Elt Ideal) arg5.view (Rect.unit (s := S31x512) ![17, 0] ![1, 512] inb_S31x512_S1x512_17_0).toLoadRect (harg5.unread x4))
    (View.readAt (Elt Ideal) arg5.view (Rect.unit (s := S31x512) ![18, 0] ![1, 512] inb_S31x512_S1x512_18_0).toLoadRect (harg5.unread x4))
    (View.readAt (Elt Ideal) arg5.view (Rect.unit (s := S31x512) ![19, 0] ![1, 512] inb_S31x512_S1x512_19_0).toLoadRect (harg5.unread x4))
    (View.readAt (Elt Ideal) arg5.view (Rect.unit (s := S31x512) ![20, 0] ![1, 512] inb_S31x512_S1x512_20_0).toLoadRect (harg5.unread x4))
    (View.readAt (Elt Ideal) arg5.view (Rect.unit (s := S31x512) ![21, 0] ![1, 512] inb_S31x512_S1x512_21_0).toLoadRect (harg5.unread x4))
    (View.readAt (Elt Ideal) arg5.view (Rect.unit (s := S31x512) ![22, 0] ![1, 512] inb_S31x512_S1x512_22_0).toLoadRect (harg5.unread x4))
    (View.readAt (Elt Ideal) arg5.view (Rect.unit (s := S31x512) ![23, 0] ![1, 512] inb_S31x512_S1x512_23_0).toLoadRect (harg5.unread x4))
    (View.readAt (Elt Ideal) arg5.view (Rect.unit (s := S31x512) ![24, 0] ![1, 512] inb_S31x512_S1x512_24_0).toLoadRect (harg5.unread x4))
    (View.readAt (Elt Ideal) arg5.view (Rect.unit (s := S31x512) ![25, 0] ![1, 512] inb_S31x512_S1x512_25_0).toLoadRect (harg5.unread x4))
    (View.readAt (Elt Ideal) arg5.view (Rect.unit (s := S31x512) ![26, 0] ![1, 512] inb_S31x512_S1x512_26_0).toLoadRect (harg5.unread x4))
    (View.readAt (Elt Ideal) arg5.view (Rect.unit (s := S31x512) ![27, 0] ![1, 512] inb_S31x512_S1x512_27_0).toLoadRect (harg5.unread x4))
    (View.readAt (Elt Ideal) arg5.view (Rect.unit (s := S31x512) ![28, 0] ![1, 512] inb_S31x512_S1x512_28_0).toLoadRect (harg5.unread x4))
    (View.readAt (Elt Ideal) arg5.view (Rect.unit (s := S31x512) ![29, 0] ![1, 512] inb_S31x512_S1x512_29_0).toLoadRect (harg5.unread x4))
    (View.readAt (Elt Ideal) arg5.view (Rect.unit (s := S31x512) ![30, 0] ![1, 512] inb_S31x512_S1x512_30_0).toLoadRect (harg5.unread x4))
    (arg15.view.readCov L (Rect.unit (s := S8x288x512) ![2, r, 0] ![1, 16, 512] (inb_slab (by decide) (by omega))).toLoadRect)
    (arg15.view.readCov L (Rect.unit (s := S8x288x512) ![3, r, 0] ![1, 16, 512] (inb_slab (by decide) (by omega))).toLoadRect)
    (arg15.view.readCov L (Rect.unit (s := S8x288x512) ![4, r, 0] ![1, 16, 512] (inb_slab (by decide) (by omega))).toLoadRect)
    (arg15.view.readCov L (Rect.unit (s := S8x288x512) ![5, r, 0] ![1, 16, 512] (inb_slab (by decide) (by omega))).toLoadRect)
    (arg15.view.readCov L (Rect.unit (s := S8x288x512) ![6, r, 0] ![1, 16, 512] (inb_slab (by decide) (by omega))).toLoadRect)
    (arg15.view.readCov L (Rect.unit (s := S8x288x512) ![7, r, 0] ![1, 16, 512] (inb_slab (by decide) (by omega))).toLoadRect)
    (arg15.view.readCov L (Rect.unit (s := S8x288x512) ![0, r + 8, 0] ![1, 16, 512] (inb_slab (by decide) (by omega))).toLoadRect)
    (arg15.view.readCov L (Rect.unit (s := S8x288x512) ![1, r + 8, 0] ![1, 16, 512] (inb_slab (by decide) (by omega))).toLoadRect)
    (arg15.view.readCov L (Rect.unit (s := S8x288x512) ![2, r + 8, 0] ![1, 16, 512] (inb_slab (by decide) (by omega))).toLoadRect)
    (arg15.view.readCov L (Rect.unit (s := S8x288x512) ![3, r + 8, 0] ![1, 16, 512] (inb_slab (by decide) (by omega))).toLoadRect)
    (arg15.view.readCov L (Rect.unit (s := S8x288x512) ![4, r + 8, 0] ![1, 16, 512] (inb_slab (by decide) (by omega))).toLoadRect)
    (arg15.view.readCov L (Rect.unit (s := S8x288x512) ![5, r + 8, 0] ![1, 16, 512] (inb_slab (by decide) (by omega))).toLoadRect)
    (arg15.view.readCov L (Rect.unit (s := S8x288x512) ![6, r + 8, 0] ![1, 16, 512] (inb_slab (by decide) (by omega))).toLoadRect)
    (arg15.view.readCov L (Rect.unit (s := S8x288x512) ![7, r + 8, 0] ![1, 16, 512] (inb_slab (by decide) (by omega))).toLoadRect)
    (arg15.view.readCov L (Rect.unit (s := S8x288x512) ![0, r + 16, 0] ![1, 16, 512] (inb_slab (by decide) (by omega))).toLoadRect)
    (arg15.view.readCov L (Rect.unit (s := S8x288x512) ![1, r + 16, 0] ![1, 16, 512] (inb_slab (by decide) (by omega))).toLoadRect)
    (arg15.view.readCov L (Rect.unit (s := S8x288x512) ![2, r + 16, 0] ![1, 16, 512] (inb_slab (by decide) (by omega))).toLoadRect)
    (arg15.view.readCov L (Rect.unit (s := S8x288x512) ![3, r + 16, 0] ![1, 16, 512] (inb_slab (by decide) (by omega))).toLoadRect)
    (arg15.view.readCov L (Rect.unit (s := S8x288x512) ![4, r + 16, 0] ![1, 16, 512] (inb_slab (by decide) (by omega))).toLoadRect)
    (arg15.view.readCov L (Rect.unit (s := S8x288x512) ![5, r + 16, 0] ![1, 16, 512] (inb_slab (by decide) (by omega))).toLoadRect)
    (arg15.view.readCov L (Rect.unit (s := S8x288x512) ![6, r + 16, 0] ![1, 16, 512] (inb_slab (by decide) (by omega))).toLoadRect)
    (arg15.view.readCov L (Rect.unit (s := S8x288x512) ![7, r + 16, 0] ![1, 16, 512] (inb_slab (by decide) (by omega))).toLoadRect)
    (arg15.view.readCov L (Rect.unit (s := S8x288x512) ![0, r + 24, 0] ![1, 16, 512] (inb_slab (by decide) (by omega))).toLoadRect)
    (arg15.view.readCov L (Rect.unit (s := S8x288x512) ![1, r + 24, 0] ![1, 16, 512] (inb_slab (by decide) (by omega))).toLoadRect)
    (arg15.view.readCov L (Rect.unit (s := S8x288x512) ![2, r + 24, 0] ![1, 16, 512] (inb_slab (by decide) (by omega))).toLoadRect)
    (arg15.view.readCov L (Rect.unit (s := S8x288x512) ![3, r + 24, 0] ![1, 16, 512] (inb_slab (by decide) (by omega))).toLoadRect)
    (arg15.view.readCov L (Rect.unit (s := S8x288x512) ![4, r + 24, 0] ![1, 16, 512] (inb_slab (by decide) (by omega))).toLoadRect)
    (arg15.view.readCov L (Rect.unit (s := S8x288x512) ![5, r + 24, 0] ![1, 16, 512] (inb_slab (by decide) (by omega))).toLoadRect)
    (arg15.view.readCov L (Rect.unit (s := S8x288x512) ![6, r + 24, 0] ![1, 16, 512] (inb_slab (by decide) (by omega))).toLoadRect)
    (arg15.view.readCov L (Rect.unit (s := S8x288x512) ![7, r + 24, 0] ![1, 16, 512] (inb_slab (by decide) (by omega))).toLoadRect)
    (arg15.view.readCov L (Rect.unit (s := S8x288x512) ![0, r + 32, 0] ![1, 16, 512] (inb_slab (by decide) (by omega))).toLoadRect)

theorem chunk_apply (arg5 : Memref sig .tc .vmem S31x512 .f32) (harg5 : arg5.IsWhole) (arg6 : Memref sig .tc .vmem S1x512 .f32) (harg6 : arg6.IsWhole)
    (arg15 : Memref sig .tc .vmem S8x288x512 .f32) (x4 : Vec Ideal S31x512 .f32) (x5 : Vec Ideal S1x512 .f32)
    {L : List (View.Piece (Elt Ideal) S8x288x512 .f32)} {E : ℕ → Fin 512 → EReal} {o : ℕ} (hL : Slabs (fun n => E (o + n)) 7 L) (r : ℕ) (hr : r ≤ 240)
    (p : Fin 16) (q : Fin 512) :
    chunk arg5 harg5 arg6 harg6 arg15 x4 x5 L r hr (ix2 p q) =
      conv (fun n => E (n + 2)) (fun j q => x4 (ix2 j q)) (fun q => x5 (ix2 0 q)) (o + r + p.val) q :=
  acc_apply p q (load_row arg6 harg6 x5 _)
    (load_tap arg5 harg5 x4 0 _) (fun p q => (load_slab hL arg15.view _ (by decide) (by omega) (by omega) p q).trans (congrArg (fun n => E n q) (by omega)))
    (load_tap arg5 harg5 x4 1 _) (fun p q => (load_slab hL arg15.view _ (by decide) (by omega) (by omega) p q).trans (congrArg (fun n => E n q) (by omega)))
    (load_tap arg5 harg5 x4 2 _) (fun p q => (load_slab hL arg15.view _ (by decide) (by omega) (by omega) p q).trans (congrArg (fun n => E n q) (by omega)))
    (load_tap arg5 harg5 x4 3 _) (fun p q => (load_slab hL arg15.view _ (by decide) (by omega) (by omega) p q).trans (congrArg (fun n => E n q) (by omega)))
    (load_tap arg5 harg5 x4 4 _) (fun p q => (load_slab hL arg15.view _ (by decide) (by omega) (by omega) p q).trans (congrArg (fun n => E n q) (by omega)))
    (load_tap arg5 harg5 x4 5 _) (fun p q => (load_slab hL arg15.view _ (by decide) (by omega) (by omega) p q).trans (congrArg (fun n => E n q) (by omega)))
    (load_tap arg5 harg5 x4 6 _) (fun p q => (load_slab hL arg15.view _ (by decide) (by omega) (by omega) p q).trans (congrArg (fun n => E n q) (by omega)))
    (load_tap arg5 harg5 x4 7 _) (fun p q => (load_slab hL arg15.view _ (by decide) (by omega) (by omega) p q).trans (congrArg (fun n => E n q) (by omega)))
    (load_tap arg5 harg5 x4 8 _) (fun p q => (load_slab hL arg15.view _ (by decide) (by omega) (by omega) p q).trans (congrArg (fun n => E n q) (by omega)))
    (load_tap arg5 harg5 x4 9 _) (fun p q => (load_slab hL arg15.view _ (by decide) (by omega) (by omega) p q).trans (congrArg (fun n => E n q) (by omega)))
    (load_tap arg5 harg5 x4 10 _) (fun p q => (load_slab hL arg15.view _ (by decide) (by omega) (by omega) p q).trans (congrArg (fun n => E n q) (by omega)))
    (load_tap arg5 harg5 x4 11 _) (fun p q => (load_slab hL arg15.view _ (by decide) (by omega) (by omega) p q).trans (congrArg (fun n => E n q) (by omega)))
    (load_tap arg5 harg5 x4 12 _) (fun p q => (load_slab hL arg15.view _ (by decide) (by omega) (by omega) p q).trans (congrArg (fun n => E n q) (by omega)))
    (load_tap arg5 harg5 x4 13 _) (fun p q => (load_slab hL arg15.view _ (by decide) (by omega) (by omega) p q).trans (congrArg (fun n => E n q) (by omega)))
    (load_tap arg5 harg5 x4 14 _) (fun p q => (load_slab hL arg15.view _ (by decide) (by omega) (by omega) p q).trans (congrArg (fun n => E n q) (by omega)))
    (load_tap arg5 harg5 x4 15 _) (fun p q => (load_slab hL arg15.view _ (by decide) (by omega) (by omega) p q).trans (congrArg (fun n => E n q) (by omega)))
    (load_tap arg5 harg5 x4 16 _) (fun p q => (load_slab hL arg15.view _ (by decide) (by omega) (by omega) p q).trans (congrArg (fun n => E n q) (by omega)))
    (load_tap arg5 harg5 x4 17 _) (fun p q => (load_slab hL arg15.view _ (by decide) (by omega) (by omega) p q).trans (congrArg (fun n => E n q) (by omega)))
    (load_tap arg5 harg5 x4 18 _) (fun p q => (load_slab hL arg15.view _ (by decide) (by omega) (by omega) p q).trans (congrArg (fun n => E n q) (by omega)))
    (load_tap arg5 harg5 x4 19 _) (fun p q => (load_slab hL arg15.view _ (by decide) (by omega) (by omega) p q).trans (congrArg (fun n => E n q) (by omega)))
    (load_tap arg5 harg5 x4 20 _) (fun p q => (load_slab hL arg15.view _ (by decide) (by omega) (by omega) p q).trans (congrArg (fun n => E n q) (by omega)))
    (load_tap arg5 harg5 x4 21 _) (fun p q => (load_slab hL arg15.view _ (by decide) (by omega) (by omega) p q).trans (congrArg (fun n => E n q) (by omega)))
    (load_tap arg5 harg5 x4 22 _) (fun p q => (load_slab hL arg15.view _ (by decide) (by omega) (by omega) p q).trans (congrArg (fun n => E n q) (by omega)))
    (load_tap arg5 harg5 x4 23 _) (fun p q => (load_slab hL arg15.view _ (by decide) (by omega) (by omega) p q).trans (congrArg (fun n => E n q) (by omega)))
    (load_tap arg5 harg5 x4 24 _) (fun p q => (load_slab hL arg15.view _ (by decide) (by omega) (by omega) p q).trans (congrArg (fun n => E n q) (by omega)))
    (load_tap arg5 harg5 x4 25 _) (fun p q => (load_slab hL arg15.view _ (by decide) (by omega) (by omega) p q).trans (congrArg (fun n => E n q) (by omega)))
    (load_tap arg5 harg5 x4 26 _) (fun p q => (load_slab hL arg15.view _ (by decide) (by omega) (by omega) p q).trans (congrArg (fun n => E n q) (by omega)))
    (load_tap arg5 harg5 x4 27 _) (fun p q => (load_slab hL arg15.view _ (by decide) (by omega) (by omega) p q).trans (congrArg (fun n => E n q) (by omega)))
    (load_tap arg5 harg5 x4 28 _) (fun p q => (load_slab hL arg15.view _ (by decide) (by omega) (by omega) p q).trans (congrArg (fun n => E n q) (by omega)))
    (load_tap arg5 harg5 x4 29 _) (fun p q => (load_slab hL arg15.view _ (by decide) (by omega) (by omega) p q).trans (congrArg (fun n => E n q) (by omega)))
    (load_tap arg5 harg5 x4 30 _) (fun p q => (load_slab hL arg15.view _ (by decide) (by omega) (by omega) p q).trans (congrArg (fun n => E n q) (by omega)))

/-- The norm with SiLU over sixteen rows. -/
def tail (v952 : FVec Ideal S16x512 .f32) (v971 v974 : Vec Ideal S1x512 .f32) : FVec Ideal S16x512 .bf16 :=
  have v955 : FVec Ideal S16 .f32 := multiReduction .add [1] S16 v952 0x00000000#32 reduces_S16x512_S16 (.inl rfl) rfl
  have v956 : FVec Ideal S16x1 .f32 := shapeCast S16x1 v955 shapeCasts_S16_S16x1
  have v957 : FVec Ideal S16x1 .f32 := broadcast S16x1 (Scalar.ofBits .f32 0x44000000#32)
  have v958 : FVec Ideal S16x1 .f32 := divf v956 v957
  have v959 : FVec Ideal S16x512 .f32 := broadcastTo S16x512 v958 broadcasts_S16x1_S16x512
  have v960 : FVec Ideal S16x512 .f32 := subf v952 v959
  have v961 : FVec Ideal S16x512 .f32 := mulf v960 v960
  have v962 : FVec Ideal S16 .f32 := multiReduction .add [1] S16 v961 0x00000000#32 reduces_S16x512_S16 (.inl rfl) rfl
  have v963 : FVec Ideal S16x1 .f32 := shapeCast S16x1 v962 shapeCasts_S16_S16x1
  have v964 : FVec Ideal S16x1 .f32 := broadcast S16x1 (Scalar.ofBits .f32 0x44000000#32)
  have v965 : FVec Ideal S16x1 .f32 := divf v963 v964
  have v966 : FVec Ideal S16x1 .f32 := broadcast S16x1 (Scalar.ofBits .f32 0x358637BD#32)
  have v967 : FVec Ideal S16x1 .f32 := addf v965 v966
  have v968 : FVec Ideal S16x1 .f32 := rsqrt v967
  have v969 : FVec Ideal S16x512 .f32 := broadcastTo S16x512 v968 broadcasts_S16x1_S16x512
  have v970 : FVec Ideal S16x512 .f32 := mulf v960 v969
  have v972 : FVec Ideal S16x512 .f32 := broadcastTo S16x512 v971 broadcasts_S1x512_S16x512
  have v973 : FVec Ideal S16x512 .f32 := mulf v970 v972
  have v975 : FVec Ideal S16x512 .f32 := broadcastTo S16x512 v974 broadcasts_S1x512_S16x512
  have v976 : FVec Ideal S16x512 .f32 := addf v973 v975
  have v977 : FVec Ideal S16x512 .f32 := broadcast S16x512 (Scalar.ofBits .f32 0x00000000#32)
  have v978 : FVec Ideal S16x512 .f32 := subf v977 v976
  have v979 : FVec Ideal S16x512 .f32 := exp v978
  have v980 : FVec Ideal S16x512 .f32 := broadcast S16x512 (Scalar.ofBits .f32 0x3F800000#32)
  have v981 : FVec Ideal S16x512 .f32 := addf v980 v979
  have v982 : FVec Ideal S16x512 .f32 := broadcast S16x512 (Scalar.ofBits .f32 0x3F800000#32)
  have v983 : FVec Ideal S16x512 .f32 := divf v982 v981
  have v984 : FVec Ideal S16x512 .f32 := mulf v976 v983
  truncf .bf16 v984 bitsLt_bf16_f32

theorem tail_apply {a : FVec Ideal S16x512 .f32} {g b : Vec Ideal S1x512 .f32} {p : Fin 16} {R G B : Fin 512 → EReal} (q : Fin 512)
    (ha : ∀ q, a (ix2 p q) = R q) (hg : ∀ q, g (ix2 0 q) = G q) (hb : ∀ q, b (ix2 0 q) = B q) :
    tail a g b (ix2 p q) = silu R G B q := by
  pointwise [tail]
  simp only [zero_sub, ha, hg, hb, silu, ln, xhat, cen, rstd, vare, gate] <;> rfl

end Cert.Kernel12Ideal.Input

end
-- ==== Proof.InRow.lean ====
/-
  The rows of one block of the input projection: what the body's loads and its two products hold, entry by entry.
-/
module

public import proofs.«01_k».proof.Proof.InPad

@[expose] public section

set_option maxRecDepth 16384

noncomputable section

open Idealize.ShloMosaic Idealize.ShloMosaic.TcCoe Idealize.SL.Sem

namespace Cert.Kernel12Ideal.Input

open Cert.Kernel12Ideal Cert.Kernel12Ideal.Gen Cert.Input
open Cert.Gate (silu gate)

section
variable (x0 : Vec Ideal S512x1024 .f32) (x1 : Vec Ideal S1x1024 .f32) (x2 : Vec Ideal S1024x3840 .bf16) (x3 : Vec Ideal S1x3840 .f32)

def hidRow (p : Fin 512) : Fin 1024 → EReal := Cert.Mlp.hid (fun d => x0 (ix2 p d)) fun d => x1 (ix2 0 d)

def projRow (p : Fin 512) : Fin 3840 → EReal :=
  proj (fun d => x0 (ix2 p d)) (fun d => x1 (ix2 0 d)) (fun d k => x2 (ix2 d k)) fun k => x3 (ix2 0 k)

def gluRow (p : Fin 512) : Fin 512 → EReal := glu (projRow x0 x1 x2 x3 p)

/-- The block's rows behind the 32 rows carried into it. -/
def ext (C : ℕ → Fin 512 → EReal) (i : ℕ) (q : Fin 512) : EReal :=
  if i < 32 then C i q else if h : i - 32 < 512 then gluRow x0 x1 x2 x3 ⟨i - 32, h⟩ q else 0

theorem ext_carry (C : ℕ → Fin 512 → EReal) {i : ℕ} (h : i < 32) (q : Fin 512) : ext x0 x1 x2 x3 C i q = C i q := if_pos h

theorem ext_row (C : ℕ → Fin 512 → EReal) {i : ℕ} (p : Fin 512) (h : i = 32 + p.val) (q : Fin 512) : ext x0 x1 x2 x3 C i q = gluRow x0 x1 x2 x3 p q := by
  subst h
  rw [ext, if_neg (by omega), dif_pos (by omega)]
  congr 1
  exact Fin.ext (by show 32 + p.val - 32 = p.val; omega)

/-- The convolution's row. -/
def convRow (C : ℕ → Fin 512 → EReal) (x4 : Vec Ideal S31x512 .f32) (x5 : Vec Ideal S1x512 .f32) (P : ℕ) : Fin 512 → EReal :=
  conv (fun n => ext x0 x1 x2 x3 C (n + 2)) (fun j q => x4 (ix2 j q)) (fun q => x5 (ix2 0 q)) P

end

theorem hid_apply {v : Vec Ideal S256x1024 .f32} {g : Vec Ideal S1x1024 .f32} {x y : Fin 1024 → EReal} {p : Fin 256} (q : Fin 1024)
    (hv : ∀ d, v (ix2 p d) = x d) (hg : ∀ d, g (ix2 0 d) = y d) : k0_pay3 v g (ix2 p q) = Cert.Mlp.hid x y q := by
  pointwise [k0_pay3]
  simp only [hv, hg, Cert.Mlp.hid, Cert.Mlp.rstd] <;> rfl

theorem qkv_apply {v : Vec Ideal S256x1024 .f32} {g : Vec Ideal S1x1024 .f32} {w : Vec Ideal S1024x768 .bf16} {b : Vec Ideal S1x768 .f32} {x y : Fin 1024 → EReal}
    {W : Fin 1024 → Fin 3840 → EReal} {B : Fin 3840 → EReal} {p : Fin 256} (k : Fin 768)
    (hv : ∀ d, v (ix2 p d) = x d) (hg : ∀ d, g (ix2 0 d) = y d) (hw : ∀ d, w (ix2 d k) = W d ⟨k.val, by omega⟩) (hb : b (ix2 0 k) = B ⟨k.val, by omega⟩) :
    k0_pay4 v g w b (ix2 p k) = proj x y W B ⟨k.val, by omega⟩ := by
  pointwise [k0_pay4]
  simp only [hid_apply _ hv hg, hw, hb]
  rfl

theorem rest_apply {v : Vec Ideal S256x1024 .f32} {g : Vec Ideal S1x1024 .f32} {w : Vec Ideal S1024x3072 .bf16} {b : Vec Ideal S1x3072 .f32} {x y : Fin 1024 → EReal}
    {W : Fin 1024 → Fin 3840 → EReal} {B : Fin 3840 → EReal} {p : Fin 256} (k : Fin 3072)
    (hv : ∀ d, v (ix2 p d) = x d) (hg : ∀ d, g (ix2 0 d) = y d) (hw : ∀ d, w (ix2 d k) = W d ⟨768 + k.val, by omega⟩) (hb : b (ix2 0 k) = B ⟨768 + k.val, by omega⟩) :
    k0_pay5 v g w b (ix2 p k) = proj x y W B ⟨768 + k.val, by omega⟩ := by
  pointwise [k0_pay5]
  simp only [hid_apply _ hv hg, hw, hb]
  rfl

theorem glu_apply {v : FVec Ideal S256x3072 .bf16} {r : Fin 3840 → EReal} {p : Fin 256} (q : Fin 512)
    (hv : ∀ k : Fin 3072, v (ix2 p k) = r ⟨768 + k.val, by omega⟩) : k0_pay6 v (ix2 p q) = glu r q := by
  pointwise [k0_pay6]
  simp only [hv, zero_sub, glu, gate]
  refine congrArg₂ (· * ·) (congrArg r (Fin.ext ?_)) (congrArg (fun e => Ideal.div 1 (1 + Ideal.exp (-r e))) (Fin.ext ?_))
  · rfl
  · show 768 + (512 + q.val) = 1280 + q.val; omega

section
variable (arg1 : Memref sig .tc .vmem S512x1024 .f32) (harg1 : arg1.IsWhole) (arg2 : Memref sig .tc .vmem S1x1024 .f32) (harg2 : arg2.IsWhole)
  (arg3 : Memref sig .tc .vmem S1024x3840 .bf16) (harg3 : arg3.IsWhole) (arg4 : Memref sig .tc .vmem S1x3840 .f32) (harg4 : arg4.IsWhole)
  (x0 : Vec Ideal S512x1024 .f32) (x1 : Vec Ideal S1x1024 .f32) (x2 : Vec Ideal S1024x3840 .bf16) (x3 : Vec Ideal S1x3840 .f32)

theorem inb_part {o : ℕ} (ho : o ≤ 256) : ∀ a, (![o, 0] : Fin 2 → ℕ) a + (![256, 1024] : Fin 2 → ℕ) a ≤ S512x1024.size a := by
  intro a
  match a with
  | ⟨0, _⟩ => show o + 256 ≤ 512; omega
  | ⟨1, _⟩ => show 0 + 1024 ≤ 1024; omega

def loadX (o : ℕ) (ho : o ≤ 256) : Vec Ideal S256x1024 .f32 :=
  View.readAt (Elt Ideal) arg1.view (Rect.unit (s := S512x1024) ![o, 0] ![256, 1024] (inb_part ho)).toLoadRect (harg1.unread x0)

def loadG : Vec Ideal S1x1024 .f32 :=
  View.readAt (Elt Ideal) arg2.view (Rect.unit (s := S1x1024) ![0, 0] ![1, 1024] inb_S1x1024_S1x1024_0_0).toLoadRect (harg2.unread x1)

def loadW0 : Vec Ideal S1024x768 .bf16 :=
  View.readAt (Elt Ideal) arg3.view (Rect.unit (s := S1024x3840) ![0, 0] ![1024, 768] inb_S1024x3840_S1024x768_0_0).toLoadRect (harg3.unread x2)

def loadW1 : Vec Ideal S1024x3072 .bf16 :=
  View.readAt (Elt Ideal) arg3.view (Rect.unit (s := S1024x3840) ![0, 768] ![1024, 3072] inb_S1024x3840_S1024x3072_0_768).toLoadRect (harg3.unread x2)

def loadB0 : Vec Ideal S1x768 .f32 :=
  View.readAt (Elt Ideal) arg4.view (Rect.unit (s := S1x3840) ![0, 0] ![1, 768] inb_S1x3840_S1x768_0_0).toLoadRect (harg4.unread x3)

def loadB1 : Vec Ideal S1x3072 .f32 :=
  View.readAt (Elt Ideal) arg4.view (Rect.unit (s := S1x3840) ![0, 768] ![1, 3072] inb_S1x3840_S1x3072_0_768).toLoadRect (harg4.unread x3)

theorem loadX_apply (o : ℕ) (ho : o ≤ 256) (p : Fin 256) (d : Fin 1024) : loadX arg1 harg1 x0 o ho (ix2 p d) = x0 (ix2 ⟨o + p.val, by omega⟩ d) := by
  rw [loadX, View.readAt_eq_ld, harg1.read_unread]
  refine congrArg x0 (funext fun a => Fin.ext ?_)
  match a with
  | ⟨0, _⟩ => exact ValueKit.rect_emb_unit_val _ _ _ _ _
  | ⟨1, _⟩ => refine Eq.trans (ValueKit.rect_emb_unit_val _ _ _ _ _) ?_; show 0 + d.val = d.val; omega

theorem loadG_apply (d : Fin 1024) : loadG arg2 harg2 x1 (ix2 0 d) = x1 (ix2 0 d) := by
  rw [loadG, View.readAt_eq_ld, harg2.read_unread]
  refine congrArg x1 (funext fun a => Fin.ext ?_)
  match a with
  | ⟨0, _⟩ => exact ValueKit.rect_emb_unit_val _ _ _ _ _
  | ⟨1, _⟩ => refine Eq.trans (ValueKit.rect_emb_unit_val _ _ _ _ _) ?_; show 0 + d.val = d.val; omega

theorem loadW0_apply (d : Fin 1024) (k : Fin 768) : loadW0 arg3 harg3 x2 (ix2 d k) = x2 (ix2 d ⟨k.val, by omega⟩) := by
  rw [loadW0, View.readAt_eq_ld, harg3.read_unread]
  refine congrArg x2 (funext fun a => Fin.ext ?_)
  match a with
  | ⟨0, _⟩ => refine Eq.trans (ValueKit.rect_emb_unit_val _ _ _ _ _) ?_; show 0 + d.val = d.val; omega
  | ⟨1, _⟩ => refine Eq.trans (ValueKit.rect_emb_unit_val _ _ _ _ _) ?_; show 0 + k.val = k.val; omega

theorem loadW1_apply (d : Fin 1024) (k : Fin 3072) : loadW1 arg3 harg3 x2 (ix2 d k) = x2 (ix2 d ⟨768 + k.val, by omega⟩) := by
  rw [loadW1, View.readAt_eq_ld, harg3.read_unread]
  refine congrArg x2 (funext fun a => Fin.ext ?_)
  match a with
  | ⟨0, _⟩ => refine Eq.trans (ValueKit.rect_emb_unit_val _ _ _ _ _) ?_; show 0 + d.val = d.val; omega
  | ⟨1, _⟩ => exact ValueKit.rect_emb_unit_val _ _ _ _ _

theorem loadB0_apply (k : Fin 768) : loadB0 arg4 harg4 x3 (ix2 0 k) = x3 (ix2 0 ⟨k.val, by omega⟩) := by
  rw [loadB0, View.readAt_eq_ld, harg4.read_unread]
  refine congrArg x3 (funext fun a => Fin.ext ?_)
  match a with
  | ⟨0, _⟩ => exact ValueKit.rect_emb_unit_val _ _ _ _ _
  | ⟨1, _⟩ => refine Eq.trans (ValueKit.rect_emb_unit_val _ _ _ _ _) ?_; show 0 + k.val = k.val; omega

theorem loadB1_apply (k : Fin 3072) : loadB1 arg4 harg4 x3 (ix2 0 k) = x3 (ix2 0 ⟨768 + k.val, by omega⟩) := by
  rw [loadB1, View.readAt_eq_ld, harg4.read_unread]
  refine congrArg x3 (funext fun a => Fin.ext ?_)
  match a with
  | ⟨0, _⟩ => exact ValueKit.rect_emb_unit_val _ _ _ _ _
  | ⟨1, _⟩ => exact ValueKit.rect_emb_unit_val _ _ _ _ _

def hidPart (o : ℕ) (ho : o ≤ 256) : FVec Ideal S256x1024 .bf16 := k0_pay3 (loadX arg1 harg1 x0 o ho) (loadG arg2 harg2 x1)

def qkvPart (o : ℕ) (ho : o ≤ 256) : FVec Ideal S256x768 .bf16 :=
  k0_pay4 (loadX arg1 harg1 x0 o ho) (loadG arg2 harg2 x1) (loadW0 arg3 harg3 x2) (loadB0 arg4 harg4 x3)

def restPart (o : ℕ) (ho : o ≤ 256) : FVec Ideal S256x3072 .bf16 :=
  k0_pay5 (loadX arg1 harg1 x0 o ho) (loadG arg2 harg2 x1) (loadW1 arg3 harg3 x2) (loadB1 arg4 harg4 x3)

/-- The convolution's input of one part. -/
def gluPart (o : ℕ) (ho : o ≤ 256) : FVec Ideal S256x512 .f32 := k0_pay6 (restPart arg1 harg1 arg2 harg2 arg3 harg3 arg4 harg4 x0 x1 x2 x3 o ho)

theorem hidPart_apply (o : ℕ) (ho : o ≤ 256) (p : Fin 256) (q : Fin 1024) :
    hidPart arg1 harg1 arg2 harg2 x0 x1 o ho (ix2 p q) = hidRow x0 x1 ⟨o + p.val, by omega⟩ q :=
  hid_apply q (loadX_apply arg1 harg1 x0 o ho p) (loadG_apply arg2 harg2 x1)

theorem qkvPart_apply (o : ℕ) (ho : o ≤ 256) (p : Fin 256) (k : Fin 768) :
    qkvPart arg1 harg1 arg2 harg2 arg3 harg3 arg4 harg4 x0 x1 x2 x3 o ho (ix2 p k) = projRow x0 x1 x2 x3 ⟨o + p.val, by omega⟩ ⟨k.val, by omega⟩ :=
  qkv_apply (W := fun d k => x2 (ix2 d k)) (B := fun k => x3 (ix2 0 k)) k (loadX_apply arg1 harg1 x0 o ho p) (loadG_apply arg2 harg2 x1) (fun d => loadW0_apply arg3 harg3 x2 d k) (loadB0_apply arg4 harg4 x3 k)

theorem restPart_apply (o : ℕ) (ho : o ≤ 256) (p : Fin 256) (k : Fin 3072) :
    restPart arg1 harg1 arg2 harg2 arg3 harg3 arg4 harg4 x0 x1 x2 x3 o ho (ix2 p k) = projRow x0 x1 x2 x3 ⟨o + p.val, by omega⟩ ⟨768 + k.val, by omega⟩ :=
  rest_apply (W := fun d k => x2 (ix2 d k)) (B := fun k => x3 (ix2 0 k)) k (loadX_apply arg1 harg1 x0 o ho p) (loadG_apply arg2 harg2 x1) (fun d => loadW1_apply arg3 harg3 x2 d k) (loadB1_apply arg4 harg4 x3 k)

theorem gluPart_apply (o : ℕ) (ho : o ≤ 256) (p : Fin 256) (q : Fin 512) :
    gluPart arg1 harg1 arg2 harg2 arg3 harg3 arg4 harg4 x0 x1 x2 x3 o ho (ix2 p q) = gluRow x0 x1 x2 x3 ⟨o + p.val, by omega⟩ q :=
  glu_apply q (restPart_apply arg1 harg1 arg2 harg2 arg3 harg3 arg4 harg4 x0 x1 x2 x3 o ho p)

theorem cast_rows (v : FVec Ideal S256x512 .f32) (c) (b : Fin 256) (q : Fin 512) : shapeCast S1x256x512 v c (ix3 0 b q) = v (ix2 b q) := by
  pointwise []

theorem cast_carry (v : FVec Ideal S32x512 .f32) (c) (b : Fin 32) (q : Fin 512) : shapeCast S1x32x512 v c (ix3 0 b q) = v (ix2 b q) := by
  pointwise []

/-- The last 32 rows of a part. -/
theorem last_rows (v : FVec Ideal S256x512 .f32) (h) (c) (b : Fin 32) (q : Fin 512) :
    shapeCast S32x512 (extractStridedSlice S32x512 ![224, 0] v h) c (ix2 b q) = v (ix2 ⟨224 + b.val, by omega⟩ q) := by
  pointwise []

end

section
variable (arg5 : Memref sig .tc .vmem S31x512 .f32) (harg5 : arg5.IsWhole) (arg6 : Memref sig .tc .vmem S1x512 .f32) (harg6 : arg6.IsWhole)
  (arg15 : Memref sig .tc .vmem S8x288x512 .f32) (x4 : Vec Ideal S31x512 .f32) (x5 : Vec Ideal S1x512 .f32)
  (x0 : Vec Ideal S512x1024 .f32) (x1 : Vec Ideal S1x1024 .f32) (x2 : Vec Ideal S1024x3840 .bf16) (x3 : Vec Ideal S1x3840 .f32)

theorem within_val {o r : ℕ} (h1) (h2) (h3) (x : S16x512.Idx) (y : S512x512.Idx)
    (hy : y = ((Rect.unit (s := S512x512) ![o, 0] ![256, 512] h1).within (Rect.unit (s := S256x512) ![r, 0] ![16, 512] h2) h3).emb x) :
    (y 0).val = o + r + (x 0).val ∧ y 1 = x 1 := by
  subst hy
  rw [Rect.emb_within]
  constructor
  · refine (ValueKit.rect_emb_unit_val _ _ _ _ 0).trans ?_
    rw [ValueKit.rect_emb_unit_val _ _ _ _ 0]
    show o + (r + (x 0).val) = o + r + (x 0).val
    omega
  · refine Fin.ext ((ValueKit.rect_emb_unit_val _ _ _ _ 1).trans ?_)
    rw [ValueKit.rect_emb_unit_val _ _ _ _ 1]
    show 0 + (0 + (x 1).val) = (x 1).val
    omega

theorem chunk_emb {C : ℕ → Fin 512 → EReal} {L : List (View.Piece (Elt Ideal) S8x288x512 .f32)} (o r : ℕ)
    (hL : Slabs (fun n => ext x0 x1 x2 x3 C (o + n)) 7 L) (hr : r ≤ 240) (h1) (h2) (h3) (x : S16x512.Idx) :
    chunk arg5 harg5 arg6 harg6 arg15 x4 x5 L r hr x = (fun y : S512x512.Idx => convRow x0 x1 x2 x3 C x4 x5 (y 0).val (y 1))
      (((Rect.unit (s := S512x512) ![o, 0] ![256, 512] h1).within (Rect.unit (s := S256x512) ![r, 0] ![16, 512] h2) h3).emb x) := by
  obtain ⟨e0, e1⟩ := within_val h1 h2 h3 x _ rfl
  dsimp only
  rw [e0, e1]
  refine (congrArg _ (eq_ix2 x)).trans ?_
  exact chunk_apply arg5 harg5 arg6 harg6 arg15 x4 x5 hL r hr (x 0) (x 1)

theorem tail_emb (arg7 : Memref sig .tc .vmem S1x512 .f32) (harg7 : arg7.IsWhole) (arg8 : Memref sig .tc .vmem S1x512 .f32) (harg8 : arg8.IsWhole)
    (x6 x7 : Vec Ideal S1x512 .f32) {C : ℕ → Fin 512 → EReal} {L : List (View.Piece (Elt Ideal) S8x288x512 .f32)} (o r : ℕ)
    (hL : Slabs (fun n => ext x0 x1 x2 x3 C (o + n)) 7 L) (hr : r ≤ 240) (h1) (h2) (h3) (x : S16x512.Idx) :
    tail (chunk arg5 harg5 arg6 harg6 arg15 x4 x5 L r hr)
        (View.readAt (Elt Ideal) arg7.view (Rect.unit (s := S1x512) ![0, 0] ![1, 512] inb_S1x512_S1x512_0_0).toLoadRect (harg7.unread x6))
        (View.readAt (Elt Ideal) arg8.view (Rect.unit (s := S1x512) ![0, 0] ![1, 512] inb_S1x512_S1x512_0_0).toLoadRect (harg8.unread x7)) x =
      (fun y : S512x512.Idx => silu (convRow x0 x1 x2 x3 C x4 x5 (y 0).val) (fun q => x6 (ix2 0 q)) (fun q => x7 (ix2 0 q)) (y 1))
        (((Rect.unit (s := S512x512) ![o, 0] ![256, 512] h1).within (Rect.unit (s := S256x512) ![r, 0] ![16, 512] h2) h3).emb x) := by
  obtain ⟨e0, e1⟩ := within_val h1 h2 h3 x _ rfl
  dsimp only
  rw [e0, e1]
  refine (congrArg _ (eq_ix2 x)).trans ?_
  exact tail_apply (x 1) (fun q => chunk_apply arg5 harg5 arg6 harg6 arg15 x4 x5 hL r hr (x 0) q) (load_row arg7 harg7 x6 _) (load_row arg8 harg8 x7 _)

theorem flat_val {P : ℕ} (h1) (x : S16x512.Idx) (y : S512x512.Idx) (hy : y = (Rect.unit (s := S512x512) ![P, 0] ![16, 512] h1).emb x) :
    (y 0).val = P + (x 0).val ∧ y 1 = x 1 := by
  subst hy
  exact ⟨ValueKit.rect_emb_unit_val _ _ _ _ 0, Fin.ext ((ValueKit.rect_emb_unit_val _ _ _ _ 1).trans (Nat.zero_add _))⟩

theorem chunk_flat {C : ℕ → Fin 512 → EReal} {L : List (View.Piece (Elt Ideal) S8x288x512 .f32)} (o r P : ℕ) (hP : P = o + r)
    (hL : Slabs (fun n => ext x0 x1 x2 x3 C (o + n)) 7 L) (hr : r ≤ 240) (h1) (x : S16x512.Idx) :
    chunk arg5 harg5 arg6 harg6 arg15 x4 x5 L r hr x = (fun y : S512x512.Idx => convRow x0 x1 x2 x3 C x4 x5 (y 0).val (y 1))
      ((Rect.unit (s := S512x512) ![P, 0] ![16, 512] h1).emb x) := by
  obtain ⟨e0, e1⟩ := flat_val h1 x _ rfl
  dsimp only
  rw [e0, e1, hP]
  refine (congrArg _ (eq_ix2 x)).trans ?_
  exact chunk_apply arg5 harg5 arg6 harg6 arg15 x4 x5 hL r hr (x 0) (x 1)

theorem tail_flat (arg7 : Memref sig .tc .vmem S1x512 .f32) (harg7 : arg7.IsWhole) (arg8 : Memref sig .tc .vmem S1x512 .f32) (harg8 : arg8.IsWhole)
    (x6 x7 : Vec Ideal S1x512 .f32) {C : ℕ → Fin 512 → EReal} {L : List (View.Piece (Elt Ideal) S8x288x512 .f32)} (o r P : ℕ) (hP : P = o + r)
    (hL : Slabs (fun n => ext x0 x1 x2 x3 C (o + n)) 7 L) (hr : r ≤ 240) (h1) (x : S16x512.Idx) :
    tail (chunk arg5 harg5 arg6 harg6 arg15 x4 x5 L r hr)
        (View.readAt (Elt Ideal) arg7.view (Rect.unit (s := S1x512) ![0, 0] ![1, 512] inb_S1x512_S1x512_0_0).toLoadRect (harg7.unread x6))
        (View.readAt (Elt Ideal) arg8.view (Rect.unit (s := S1x512) ![0, 0] ![1, 512] inb_S1x512_S1x512_0_0).toLoadRect (harg8.unread x7)) x =
      (fun y : S512x512.Idx => silu (convRow x0 x1 x2 x3 C x4 x5 (y 0).val) (fun q => x6 (ix2 0 q)) (fun q => x7 (ix2 0 q)) (y 1))
        ((Rect.unit (s := S512x512) ![P, 0] ![16, 512] h1).emb x) := by
  obtain ⟨e0, e1⟩ := flat_val h1 x _ rfl
  dsimp only
  rw [e0, e1, hP]
  refine (congrArg _ (eq_ix2 x)).trans ?_
  exact tail_apply (x 1) (fun q => chunk_apply arg5 harg5 arg6 harg6 arg15 x4 x5 hL r hr (x 0) q) (load_row arg7 harg7 x6 _) (load_row arg8 harg8 x7 _)

end

end Cert.Kernel12Ideal.Input

end
-- ==== Proof.InSlabA.lean ====
/-
  The input projection at the first block, whose carry is zero: the buffer of shifted copies, and every output but the two
  behind the convolution.
-/
module

public import proofs.«01_k».proof.Proof.InRow

@[expose] public section

set_option maxRecDepth 100000

noncomputable section

open Idealize.ShloMosaic Idealize.ShloMosaic.TcCoe Idealize.SL.Sem

namespace Cert.Kernel12Ideal.Input

open Cert.Kernel12Ideal Cert.Kernel12Ideal.Gen Cert.Input
open Cert.Gate (silu gate)

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3840 .bf16) (harg3 : arg3.IsWhole) (arg4 : Memref sig .tc .vmem S1x3840 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x768 .bf16) (harg10 : arg10.IsWhole) (arg11 : Memref sig .tc .vmem S512x3072 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S8x288x512 .f32) (harg15 : arg15.IsWhole) (arg16 : Memref sig .tc .vmem S32x512 .f32) (harg16 : arg16.IsWhole) (hc0 : cond0_0 i) (x0 : Vec Ideal S512x1024 .f32) (x1 : Vec Ideal S1x1024 .f32) (x2 : Vec Ideal S1024x3840 .bf16) (x3 : Vec Ideal S1x3840 .f32) (x4 : Vec Ideal S31x512 .f32) (x5 : Vec Ideal S1x512 .f32) (x6 : Vec Ideal S1x512 .f32) (x7 : Vec Ideal S1x512 .f32)
theorem hzA : (![0, 0] : Fin 2 → Nat) = fun _ => 0 := funext fun a => by fin_cases a <;> rfl

theorem slabs9_A : Slabs (fun n => ext x0 x1 x2 x3 (fun _ _ => 0) (0 + n)) 7 (kernelRun0_A.sl.HS0_9 c arg1 harg1 arg2 harg2 arg3 harg3 arg4 harg4 arg15 arg16 x0 x1 x2 x3) := by
  have hC : ∀ (b : Fin 32) (q : Fin 512), arg16.view.readCov (kernelRun0_A.sl.HS1_1 (F := Ideal)) (Rect.unit (s := S32x512) ![0, 0] S32x512.size inb_S32x512_S32x512_0_0).toLoadRect (ix2 b q) = 0 := by
    intro b q
    unfold kernelRun0_A.sl.HS1_1
    rw [View.readCov_unit_zero (S := S32x512) _ hzA]
    pointwise [k0_pay2]
  have h0 : Slabs (fun n => ext x0 x1 x2 x3 (fun _ _ => 0) (0 + n)) 0 (kernelRun0_A.sl.HS0_2 c arg1 harg1 arg2 harg2 arg3 harg3 arg4 harg4 arg16 x0 x1 x2 x3) :=
    slabs_zero [] _ _
      (fun b q => (cast_rows (gluPart arg1 harg1 arg2 harg2 arg3 harg3 arg4 harg4 x0 x1 x2 x3 0 (by decide)) _ b q).trans ((gluPart_apply arg1 harg1 arg2 harg2 arg3 harg3 arg4 harg4 x0 x1 x2 x3 0 _ b q).trans
        (ext_row x0 x1 x2 x3 (fun _ _ => 0) ⟨0 + b.val, by omega⟩ (by show 0 + (32 + b.val) = 32 + (0 + b.val); omega) q).symm))
      (fun b q => (cast_carry _ _ b q).trans ((hC b q).trans (ext_carry x0 x1 x2 x3 (fun _ _ => 0) (i := 0 + b.val) (by omega) q).symm))
  have h1 : Slabs (fun n => ext x0 x1 x2 x3 (fun _ _ => 0) (0 + n)) 1 (kernelRun0_A.sl.HS0_3 c arg1 harg1 arg2 harg2 arg3 harg3 arg4 harg4 arg15 arg16 x0 x1 x2 x3) := slabs_step rfl (by decide) arg15.view _ _ _ _ h0
  have h2 : Slabs (fun n => ext x0 x1 x2 x3 (fun _ _ => 0) (0 + n)) 2 (kernelRun0_A.sl.HS0_4 c arg1 harg1 arg2 harg2 arg3 harg3 arg4 harg4 arg15 arg16 x0 x1 x2 x3) := slabs_step rfl (by decide) arg15.view _ _ _ _ h1
  have h3 : Slabs (fun n => ext x0 x1 x2 x3 (fun _ _ => 0) (0 + n)) 3 (kernelRun0_A.sl.HS0_5 c arg1 harg1 arg2 harg2 arg3 harg3 arg4 harg4 arg15 arg16 x0 x1 x2 x3) := slabs_step rfl (by decide) arg15.view _ _ _ _ h2
  have h4 : Slabs (fun n => ext x0 x1 x2 x3 (fun _ _ => 0) (0 + n)) 4 (kernelRun0_A.sl.HS0_6 c arg1 harg1 arg2 harg2 arg3 harg3 arg4 harg4 arg15 arg16 x0 x1 x2 x3) := slabs_step rfl (by decide) arg15.view _ _ _ _ h3
  have h5 : Slabs (fun n => ext x0 x1 x2 x3 (fun _ _ => 0) (0 + n)) 5 (kernelRun0_A.sl.HS0_7 c arg1 harg1 arg2 harg2 arg3 harg3 arg4 harg4 arg15 arg16 x0 x1 x2 x3) := slabs_step rfl (by decide) arg15.view _ _ _ _ h4
  have h6 : Slabs (fun n => ext x0 x1 x2 x3 (fun _ _ => 0) (0 + n)) 6 (kernelRun0_A.sl.HS0_8 c arg1 harg1 arg2 harg2 arg3 harg3 arg4 harg4 arg15 arg16 x0 x1 x2 x3) := slabs_step rfl (by decide) arg15.view _ _ _ _ h5
  have h7 : Slabs (fun n => ext x0 x1 x2 x3 (fun _ _ => 0) (0 + n)) 7 (kernelRun0_A.sl.HS0_9 c arg1 harg1 arg2 harg2 arg3 harg3 arg4 harg4 arg15 arg16 x0 x1 x2 x3) := slabs_step rfl (by decide) arg15.view _ _ _ _ h6
  exact h7

/-- The carry between the two parts. -/
theorem mid_A (b : Fin 32) (q : Fin 512) : arg16.view.readCov (kernelRun0_A.sl.HS1_2 c arg1 harg1 arg2 harg2 arg3 harg3 arg4 harg4 x0 x1 x2 x3) (Rect.unit (s := S32x512) ![0, 0] S32x512.size inb_S32x512_S32x512_0_0).toLoadRect (ix2 b q) =
    gluRow x0 x1 x2 x3 ⟨224 + b.val, by omega⟩ q := by
  unfold kernelRun0_A.sl.HS1_2
  rw [View.readCov_eq_canon', View.canon_cons_unit_zero (S := S32x512) hzA]
  refine (congrArg _ (?_ : _ = ix2 b q)).trans ((last_rows (gluPart arg1 harg1 arg2 harg2 arg3 harg3 arg4 harg4 x0 x1 x2 x3 0 (by decide)) _ _ b q).trans ((gluPart_apply arg1 harg1 arg2 harg2 arg3 harg3 arg4 harg4 x0 x1 x2 x3 0 _ _ q).trans ?_))
  · refine funext fun a => Fin.ext ?_
    match a with
    | ⟨0, _⟩ => refine Eq.trans (ValueKit.rect_emb_unit_val _ _ _ _ _) ?_; show 0 + b.val = b.val; omega
    | ⟨1, _⟩ => refine Eq.trans (ValueKit.rect_emb_unit_val _ _ _ _ _) ?_; show 0 + q.val = q.val; omega
  · exact congrArg (fun p => gluRow x0 x1 x2 x3 p q) (Fin.ext (Nat.zero_add _))

theorem slabs18_A : Slabs (fun n => ext x0 x1 x2 x3 (fun _ _ => 0) (256 + n)) 7 (kernelRun0_A.sl.HS0_18 c arg1 harg1 arg2 harg2 arg3 harg3 arg4 harg4 arg15 arg16 x0 x1 x2 x3) := by
  have h0 : Slabs (fun n => ext x0 x1 x2 x3 (fun _ _ => 0) (256 + n)) 0 (kernelRun0_A.sl.HS0_11 c arg1 harg1 arg2 harg2 arg3 harg3 arg4 harg4 arg15 arg16 x0 x1 x2 x3) :=
    slabs_zero (kernelRun0_A.sl.HS0_9 c arg1 harg1 arg2 harg2 arg3 harg3 arg4 harg4 arg15 arg16 x0 x1 x2 x3) _ _
      (fun b q => (cast_rows (gluPart arg1 harg1 arg2 harg2 arg3 harg3 arg4 harg4 x0 x1 x2 x3 256 (by decide)) _ b q).trans ((gluPart_apply arg1 harg1 arg2 harg2 arg3 harg3 arg4 harg4 x0 x1 x2 x3 256 _ b q).trans
        (ext_row x0 x1 x2 x3 (fun _ _ => 0) ⟨256 + b.val, by omega⟩ (by show 256 + (32 + b.val) = 32 + (256 + b.val); omega) q).symm))
      (fun b q => (cast_carry _ _ b q).trans ((mid_A c arg1 harg1 arg2 harg2 arg3 harg3 arg4 harg4 arg16 x0 x1 x2 x3 b q).trans
        (ext_row x0 x1 x2 x3 (fun _ _ => 0) ⟨224 + b.val, by omega⟩ (by show 256 + b.val = 32 + (224 + b.val); omega) q).symm))
  have h1 : Slabs (fun n => ext x0 x1 x2 x3 (fun _ _ => 0) (256 + n)) 1 (kernelRun0_A.sl.HS0_12 c arg1 harg1 arg2 harg2 arg3 harg3 arg4 harg4 arg15 arg16 x0 x1 x2 x3) := slabs_step rfl (by decide) arg15.view _ _ _ _ h0
  have h2 : Slabs (fun n => ext x0 x1 x2 x3 (fun _ _ => 0) (256 + n)) 2 (kernelRun0_A.sl.HS0_13 c arg1 harg1 arg2 harg2 arg3 harg3 arg4 harg4 arg15 arg16 x0 x1 x2 x3) := slabs_step rfl (by decide) arg15.view _ _ _ _ h1
  have h3 : Slabs (fun n => ext x0 x1 x2 x3 (fun _ _ => 0) (256 + n)) 3 (kernelRun0_A.sl.HS0_14 c arg1 harg1 arg2 harg2 arg3 harg3 arg4 harg4 arg15 arg16 x0 x1 x2 x3) := slabs_step rfl (by decide) arg15.view _ _ _ _ h2
  have h4 : Slabs (fun n => ext x0 x1 x2 x3 (fun _ _ => 0) (256 + n)) 4 (kernelRun0_A.sl.HS0_15 c arg1 harg1 arg2 harg2 arg3 harg3 arg4 harg4 arg15 arg16 x0 x1 x2 x3) := slabs_step rfl (by decide) arg15.view _ _ _ _ h3
  have h5 : Slabs (fun n => ext x0 x1 x2 x3 (fun _ _ => 0) (256 + n)) 5 (kernelRun0_A.sl.HS0_16 c arg1 harg1 arg2 harg2 arg3 harg3 arg4 harg4 arg15 arg16 x0 x1 x2 x3) := slabs_step rfl (by decide) arg15.view _ _ _ _ h4
  have h6 : Slabs (fun n => ext x0 x1 x2 x3 (fun _ _ => 0) (256 + n)) 6 (kernelRun0_A.sl.HS0_17 c arg1 harg1 arg2 harg2 arg3 harg3 arg4 harg4 arg15 arg16 x0 x1 x2 x3) := slabs_step rfl (by decide) arg15.view _ _ _ _ h5
  have h7 : Slabs (fun n => ext x0 x1 x2 x3 (fun _ _ => 0) (256 + n)) 7 (kernelRun0_A.sl.HS0_18 c arg1 harg1 arg2 harg2 arg3 harg3 arg4 harg4 arg15 arg16 x0 x1 x2 x3) := slabs_step rfl (by decide) arg15.view _ _ _ _ h6
  exact h7

theorem out8_A (y : S512x1024.Idx) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = hidRow x0 x1 (y 0) (y 1) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  refine View.canon_apply_of_pieces (Val := Elt Ideal) (e := .bf16) (fun y : S512x1024.Idx => hidRow x0 x1 (y 0) (y 1)) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  unfold kernelRun0_A
  dsimp only
  intro pc hpc x
  simp only [List.mem_cons, List.not_mem_nil, or_false] at hpc
  rcases hpc with rfl | rfl
  · have hx : ∀ x : (⟨2, ![256, 1024]⟩ : Shape).Idx, hidPart arg1 harg1 arg2 harg2 x0 x1 256 (by decide) x = (fun y : S512x1024.Idx => hidRow x0 x1 (y 0) (y 1)) ((Rect.unit (s := S512x1024) ![256, 0] ![256, 1024] inb_S512x1024_S256x1024_256_0).emb x) := by
      intro x
      have e0 : 256 + (x 0).val = ((Rect.unit (s := S512x1024) ![256, 0] ![256, 1024] inb_S512x1024_S256x1024_256_0).emb x 0).val := (ValueKit.rect_emb_unit_val (s := S512x1024) ![256, 0] ![256, 1024] inb_S512x1024_S256x1024_256_0 x 0).symm
      have e1 : (x 1).val = ((Rect.unit (s := S512x1024) ![256, 0] ![256, 1024] inb_S512x1024_S256x1024_256_0).emb x 1).val := ((ValueKit.rect_emb_unit_val (s := S512x1024) ![256, 0] ![256, 1024] inb_S512x1024_S256x1024_256_0 x 1).trans (Nat.zero_add _)).symm
      refine (congrArg _ (eq_ix2 x)).trans ((hidPart_apply arg1 harg1 arg2 harg2 x0 x1 256 _ (x 0) (x 1)).trans ?_)
      exact congrArg₂ (hidRow x0 x1) (Fin.ext e0) (Fin.ext e1)
    exact hx x
  · have hx : ∀ x : (⟨2, ![256, 1024]⟩ : Shape).Idx, hidPart arg1 harg1 arg2 harg2 x0 x1 0 (by decide) x = (fun y : S512x1024.Idx => hidRow x0 x1 (y 0) (y 1)) ((Rect.unit (s := S512x1024) ![0, 0] ![256, 1024] inb_S512x1024_S256x1024_0_0).emb x) := by
      intro x
      have e0 : 0 + (x 0).val = ((Rect.unit (s := S512x1024) ![0, 0] ![256, 1024] inb_S512x1024_S256x1024_0_0).emb x 0).val := (ValueKit.rect_emb_unit_val (s := S512x1024) ![0, 0] ![256, 1024] inb_S512x1024_S256x1024_0_0 x 0).symm
      have e1 : (x 1).val = ((Rect.unit (s := S512x1024) ![0, 0] ![256, 1024] inb_S512x1024_S256x1024_0_0).emb x 1).val := ((ValueKit.rect_emb_unit_val (s := S512x1024) ![0, 0] ![256, 1024] inb_S512x1024_S256x1024_0_0 x 1).trans (Nat.zero_add _)).symm
      refine (congrArg _ (eq_ix2 x)).trans ((hidPart_apply arg1 harg1 arg2 harg2 x0 x1 0 _ (x 0) (x 1)).trans ?_)
      exact congrArg₂ (hidRow x0 x1) (Fin.ext e0) (Fin.ext e1)
    exact hx x

theorem out9_A (y : S512x768.Idx) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = projRow x0 x1 x2 x3 (y 0) ⟨(y 1).val, lt_of_lt_of_le (y 1).isLt (by decide)⟩ := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  refine View.canon_apply_of_pieces (Val := Elt Ideal) (e := .bf16) (fun y : S512x768.Idx => projRow x0 x1 x2 x3 (y 0) ⟨(y 1).val, lt_of_lt_of_le (y 1).isLt (by decide)⟩) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  unfold kernelRun0_A
  dsimp only
  intro pc hpc x
  simp only [List.mem_cons, List.not_mem_nil, or_false] at hpc
  rcases hpc with rfl | rfl
  · have hx : ∀ x : (⟨2, ![256, 768]⟩ : Shape).Idx, qkvPart arg1 harg1 arg2 harg2 arg3 harg3 arg4 harg4 x0 x1 x2 x3 256 (by decide) x = (fun y : S512x768.Idx => projRow x0 x1 x2 x3 (y 0) ⟨(y 1).val, lt_of_lt_of_le (y 1).isLt (by decide)⟩) ((Rect.unit (s := S512x768) ![256, 0] ![256, 768] inb_S512x768_S256x768_256_0).emb x) := by
      intro x
      have e0 : 256 + (x 0).val = ((Rect.unit (s := S512x768) ![256, 0] ![256, 768] inb_S512x768_S256x768_256_0).emb x 0).val := (ValueKit.rect_emb_unit_val (s := S512x768) ![256, 0] ![256, 768] inb_S512x768_S256x768_256_0 x 0).symm
      have e1 : (x 1).val = ((Rect.unit (s := S512x768) ![256, 0] ![256, 768] inb_S512x768_S256x768_256_0).emb x 1).val := ((ValueKit.rect_emb_unit_val (s := S512x768) ![256, 0] ![256, 768] inb_S512x768_S256x768_256_0 x 1).trans (Nat.zero_add _)).symm
      refine (congrArg _ (eq_ix2 x)).trans ((qkvPart_apply arg1 harg1 arg2 harg2 arg3 harg3 arg4 harg4 x0 x1 x2 x3 256 _ (x 0) (x 1)).trans ?_)
      exact congrArg₂ (projRow x0 x1 x2 x3) (Fin.ext e0) (Fin.ext e1)
    exact hx x
  · have hx : ∀ x : (⟨2, ![256, 768]⟩ : Shape).Idx, qkvPart arg1 harg1 arg2 harg2 arg3 harg3 arg4 harg4 x0 x1 x2 x3 0 (by decide) x = (fun y : S512x768.Idx => projRow x0 x1 x2 x3 (y 0) ⟨(y 1).val, lt_of_lt_of_le (y 1).isLt (by decide)⟩) ((Rect.unit (s := S512x768) ![0, 0] ![256, 768] inb_S512x768_S256x768_0_0).emb x) := by
      intro x
      have e0 : 0 + (x 0).val = ((Rect.unit (s := S512x768) ![0, 0] ![256, 768] inb_S512x768_S256x768_0_0).emb x 0).val := (ValueKit.rect_emb_unit_val (s := S512x768) ![0, 0] ![256, 768] inb_S512x768_S256x768_0_0 x 0).symm
      have e1 : (x 1).val = ((Rect.unit (s := S512x768) ![0, 0] ![256, 768] inb_S512x768_S256x768_0_0).emb x 1).val := ((ValueKit.rect_emb_unit_val (s := S512x768) ![0, 0] ![256, 768] inb_S512x768_S256x768_0_0 x 1).trans (Nat.zero_add _)).symm
      refine (congrArg _ (eq_ix2 x)).trans ((qkvPart_apply arg1 harg1 arg2 harg2 arg3 harg3 arg4 harg4 x0 x1 x2 x3 0 _ (x 0) (x 1)).trans ?_)
      exact congrArg₂ (projRow x0 x1 x2 x3) (Fin.ext e0) (Fin.ext e1)
    exact hx x

theorem out10_A (y : S512x3072.Idx) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = projRow x0 x1 x2 x3 (y 0) ⟨768 + (y 1).val, Nat.add_lt_add_left (y 1).isLt 768⟩ := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  refine View.canon_apply_of_pieces (Val := Elt Ideal) (e := .bf16) (fun y : S512x3072.Idx => projRow x0 x1 x2 x3 (y 0) ⟨768 + (y 1).val, Nat.add_lt_add_left (y 1).isLt 768⟩) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  unfold kernelRun0_A
  dsimp only
  intro pc hpc x
  simp only [List.mem_cons, List.not_mem_nil, or_false] at hpc
  rcases hpc with rfl | rfl
  · have hx : ∀ x : (⟨2, ![256, 3072]⟩ : Shape).Idx, restPart arg1 harg1 arg2 harg2 arg3 harg3 arg4 harg4 x0 x1 x2 x3 256 (by decide) x = (fun y : S512x3072.Idx => projRow x0 x1 x2 x3 (y 0) ⟨768 + (y 1).val, Nat.add_lt_add_left (y 1).isLt 768⟩) ((Rect.unit (s := S512x3072) ![256, 0] ![256, 3072] inb_S512x3072_S256x3072_256_0).emb x) := by
      intro x
      have e0 : 256 + (x 0).val = ((Rect.unit (s := S512x3072) ![256, 0] ![256, 3072] inb_S512x3072_S256x3072_256_0).emb x 0).val := (ValueKit.rect_emb_unit_val (s := S512x3072) ![256, 0] ![256, 3072] inb_S512x3072_S256x3072_256_0 x 0).symm
      have e1 : (x 1).val = ((Rect.unit (s := S512x3072) ![256, 0] ![256, 3072] inb_S512x3072_S256x3072_256_0).emb x 1).val := ((ValueKit.rect_emb_unit_val (s := S512x3072) ![256, 0] ![256, 3072] inb_S512x3072_S256x3072_256_0 x 1).trans (Nat.zero_add _)).symm
      refine (congrArg _ (eq_ix2 x)).trans ((restPart_apply arg1 harg1 arg2 harg2 arg3 harg3 arg4 harg4 x0 x1 x2 x3 256 _ (x 0) (x 1)).trans ?_)
      exact congrArg₂ (projRow x0 x1 x2 x3) (Fin.ext e0) (Fin.ext (congrArg (768 + ·) e1))
    exact hx x
  · have hx : ∀ x : (⟨2, ![256, 3072]⟩ : Shape).Idx, restPart arg1 harg1 arg2 harg2 arg3 harg3 arg4 harg4 x0 x1 x2 x3 0 (by decide) x = (fun y : S512x3072.Idx => projRow x0 x1 x2 x3 (y 0) ⟨768 + (y 1).val, Nat.add_lt_add_left (y 1).isLt 768⟩) ((Rect.unit (s := S512x3072) ![0, 0] ![256, 3072] inb_S512x3072_S256x3072_0_0).emb x) := by
      intro x
      have e0 : 0 + (x 0).val = ((Rect.unit (s := S512x3072) ![0, 0] ![256, 3072] inb_S512x3072_S256x3072_0_0).emb x 0).val := (ValueKit.rect_emb_unit_val (s := S512x3072) ![0, 0] ![256, 3072] inb_S512x3072_S256x3072_0_0 x 0).symm
      have e1 : (x 1).val = ((Rect.unit (s := S512x3072) ![0, 0] ![256, 3072] inb_S512x3072_S256x3072_0_0).emb x 1).val := ((ValueKit.rect_emb_unit_val (s := S512x3072) ![0, 0] ![256, 3072] inb_S512x3072_S256x3072_0_0 x 1).trans (Nat.zero_add _)).symm
      refine (congrArg _ (eq_ix2 x)).trans ((restPart_apply arg1 harg1 arg2 harg2 arg3 harg3 arg4 harg4 x0 x1 x2 x3 0 _ (x 0) (x 1)).trans ?_)
      exact congrArg₂ (projRow x0 x1 x2 x3) (Fin.ext e0) (Fin.ext (congrArg (768 + ·) e1))
    exact hx x

theorem out11_A (y : S512x512.Idx) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = gluRow x0 x1 x2 x3 (y 0) (y 1) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  refine View.canon_apply_of_pieces (Val := Elt Ideal) (e := .f32) (fun y : S512x512.Idx => gluRow x0 x1 x2 x3 (y 0) (y 1)) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  unfold kernelRun0_A
  dsimp only
  intro pc hpc x
  simp only [List.mem_cons, List.not_mem_nil, or_false] at hpc
  rcases hpc with rfl | rfl
  · have hx : ∀ x : (⟨2, ![256, 512]⟩ : Shape).Idx, gluPart arg1 harg1 arg2 harg2 arg3 harg3 arg4 harg4 x0 x1 x2 x3 256 (by decide) x = (fun y : S512x512.Idx => gluRow x0 x1 x2 x3 (y 0) (y 1)) ((Rect.unit (s := S512x512) ![256, 0] ![256, 512] inb_S512x512_S256x512_256_0).emb x) := by
      intro x
      have e0 : 256 + (x 0).val = ((Rect.unit (s := S512x512) ![256, 0] ![256, 512] inb_S512x512_S256x512_256_0).emb x 0).val := (ValueKit.rect_emb_unit_val (s := S512x512) ![256, 0] ![256, 512] inb_S512x512_S256x512_256_0 x 0).symm
      have e1 : (x 1).val = ((Rect.unit (s := S512x512) ![256, 0] ![256, 512] inb_S512x512_S256x512_256_0).emb x 1).val := ((ValueKit.rect_emb_unit_val (s := S512x512) ![256, 0] ![256, 512] inb_S512x512_S256x512_256_0 x 1).trans (Nat.zero_add _)).symm
      refine (congrArg _ (eq_ix2 x)).trans ((gluPart_apply arg1 harg1 arg2 harg2 arg3 harg3 arg4 harg4 x0 x1 x2 x3 256 _ (x 0) (x 1)).trans ?_)
      exact congrArg₂ (gluRow x0 x1 x2 x3) (Fin.ext e0) (Fin.ext e1)
    exact hx x
  · have hx : ∀ x : (⟨2, ![256, 512]⟩ : Shape).Idx, gluPart arg1 harg1 arg2 harg2 arg3 harg3 arg4 harg4 x0 x1 x2 x3 0 (by decide) x = (fun y : S512x512.Idx => gluRow x0 x1 x2 x3 (y 0) (y 1)) ((Rect.unit (s := S512x512) ![0, 0] ![256, 512] inb_S512x512_S256x512_0_0).emb x) := by
      intro x
      have e0 : 0 + (x 0).val = ((Rect.unit (s := S512x512) ![0, 0] ![256, 512] inb_S512x512_S256x512_0_0).emb x 0).val := (ValueKit.rect_emb_unit_val (s := S512x512) ![0, 0] ![256, 512] inb_S512x512_S256x512_0_0 x 0).symm
      have e1 : (x 1).val = ((Rect.unit (s := S512x512) ![0, 0] ![256, 512] inb_S512x512_S256x512_0_0).emb x 1).val := ((ValueKit.rect_emb_unit_val (s := S512x512) ![0, 0] ![256, 512] inb_S512x512_S256x512_0_0 x 1).trans (Nat.zero_add _)).symm
      refine (congrArg _ (eq_ix2 x)).trans ((gluPart_apply arg1 harg1 arg2 harg2 arg3 harg3 arg4 harg4 x0 x1 x2 x3 0 _ (x 0) (x 1)).trans ?_)
      exact congrArg₂ (gluRow x0 x1 x2 x3) (Fin.ext e0) (Fin.ext e1)
    exact hx x

theorem sout1_A (b : Fin 32) (q : Fin 512) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix2 b q) = gluRow x0 x1 x2 x3 ⟨480 + b.val, by omega⟩ q := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A
  dsimp only
  rw [View.canon_cons_unit_zero (S := S32x512) hzA]
  refine (last_rows (gluPart arg1 harg1 arg2 harg2 arg3 harg3 arg4 harg4 x0 x1 x2 x3 256 (by decide)) _ _ b q).trans ((gluPart_apply arg1 harg1 arg2 harg2 arg3 harg3 arg4 harg4 x0 x1 x2 x3 256 _ _ q).trans ?_)
  exact congrArg (fun p => gluRow x0 x1 x2 x3 p q) (Fin.ext (by show 256 + (224 + b.val) = 480 + b.val; omega))

end

end Cert.Kernel12Ideal.Input

end
-- ==== Proof.InConvA.lean ====
/-
  The input projection at the first block, whose carry is zero: the convolution.
-/
module

public import proofs.«01_k».proof.Proof.InSlabA

@[expose] public section

set_option maxRecDepth 100000

noncomputable section

open Idealize.ShloMosaic Idealize.ShloMosaic.TcCoe Idealize.SL.Sem

namespace Cert.Kernel12Ideal.Input

open Cert.Kernel12Ideal Cert.Kernel12Ideal.Gen Cert.Input
open Cert.Gate (silu gate)

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3840 .bf16) (harg3 : arg3.IsWhole) (arg4 : Memref sig .tc .vmem S1x3840 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x768 .bf16) (harg10 : arg10.IsWhole) (arg11 : Memref sig .tc .vmem S512x3072 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S8x288x512 .f32) (harg15 : arg15.IsWhole) (arg16 : Memref sig .tc .vmem S32x512 .f32) (harg16 : arg16.IsWhole) (hc0 : cond0_0 i) (x0 : Vec Ideal S512x1024 .f32) (x1 : Vec Ideal S1x1024 .f32) (x2 : Vec Ideal S1024x3840 .bf16) (x3 : Vec Ideal S1x3840 .f32) (x4 : Vec Ideal S31x512 .f32) (x5 : Vec Ideal S1x512 .f32) (x6 : Vec Ideal S1x512 .f32) (x7 : Vec Ideal S1x512 .f32)
theorem out12_A (y : S512x512.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = convRow x0 x1 x2 x3 (fun _ _ => 0) x4 x5 (y 0).val (y 1) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  refine View.canon_apply_of_pieces (Val := Elt Ideal) (e := .f32) (fun y : S512x512.Idx => convRow x0 x1 x2 x3 (fun _ _ => 0) x4 x5 (y 0).val (y 1)) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  unfold kernelRun0_A
  dsimp only
  intro pc hpc x
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact chunk_emb arg5 harg5 arg6 harg6 arg15 x4 x5 x0 x1 x2 x3 256 240 (slabs18_A c arg1 harg1 arg2 harg2 arg3 harg3 arg4 harg4 arg15 arg16 x0 x1 x2 x3) (by decide) inb_S512x512_S256x512_256_0 inb_S256x512_S16x512_240_0 (by decide) x
  · exact chunk_emb arg5 harg5 arg6 harg6 arg15 x4 x5 x0 x1 x2 x3 256 224 (slabs18_A c arg1 harg1 arg2 harg2 arg3 harg3 arg4 harg4 arg15 arg16 x0 x1 x2 x3) (by decide) inb_S512x512_S256x512_256_0 inb_S256x512_S16x512_224_0 (by decide) x
  · exact chunk_emb arg5 harg5 arg6 harg6 arg15 x4 x5 x0 x1 x2 x3 256 208 (slabs18_A c arg1 harg1 arg2 harg2 arg3 harg3 arg4 harg4 arg15 arg16 x0 x1 x2 x3) (by decide) inb_S512x512_S256x512_256_0 inb_S256x512_S16x512_208_0 (by decide) x
  · exact chunk_emb arg5 harg5 arg6 harg6 arg15 x4 x5 x0 x1 x2 x3 256 192 (slabs18_A c arg1 harg1 arg2 harg2 arg3 harg3 arg4 harg4 arg15 arg16 x0 x1 x2 x3) (by decide) inb_S512x512_S256x512_256_0 inb_S256x512_S16x512_192_0 (by decide) x
  · exact chunk_emb arg5 harg5 arg6 harg6 arg15 x4 x5 x0 x1 x2 x3 256 176 (slabs18_A c arg1 harg1 arg2 harg2 arg3 harg3 arg4 harg4 arg15 arg16 x0 x1 x2 x3) (by decide) inb_S512x512_S256x512_256_0 inb_S256x512_S16x512_176_0 (by decide) x
  · exact chunk_emb arg5 harg5 arg6 harg6 arg15 x4 x5 x0 x1 x2 x3 256 160 (slabs18_A c arg1 harg1 arg2 harg2 arg3 harg3 arg4 harg4 arg15 arg16 x0 x1 x2 x3) (by decide) inb_S512x512_S256x512_256_0 inb_S256x512_S16x512_160_0 (by decide) x
  · exact chunk_emb arg5 harg5 arg6 harg6 arg15 x4 x5 x0 x1 x2 x3 256 144 (slabs18_A c arg1 harg1 arg2 harg2 arg3 harg3 arg4 harg4 arg15 arg16 x0 x1 x2 x3) (by decide) inb_S512x512_S256x512_256_0 inb_S256x512_S16x512_144_0 (by decide) x
  · exact chunk_emb arg5 harg5 arg6 harg6 arg15 x4 x5 x0 x1 x2 x3 256 128 (slabs18_A c arg1 harg1 arg2 harg2 arg3 harg3 arg4 harg4 arg15 arg16 x0 x1 x2 x3) (by decide) inb_S512x512_S256x512_256_0 inb_S256x512_S16x512_128_0 (by decide) x
  · exact chunk_emb arg5 harg5 arg6 harg6 arg15 x4 x5 x0 x1 x2 x3 256 112 (slabs18_A c arg1 harg1 arg2 harg2 arg3 harg3 arg4 harg4 arg15 arg16 x0 x1 x2 x3) (by decide) inb_S512x512_S256x512_256_0 inb_S256x512_S16x512_112_0 (by decide) x
  · exact chunk_emb arg5 harg5 arg6 harg6 arg15 x4 x5 x0 x1 x2 x3 256 96 (slabs18_A c arg1 harg1 arg2 harg2 arg3 harg3 arg4 harg4 arg15 arg16 x0 x1 x2 x3) (by decide) inb_S512x512_S256x512_256_0 inb_S256x512_S16x512_96_0 (by decide) x
  · exact chunk_emb arg5 harg5 arg6 harg6 arg15 x4 x5 x0 x1 x2 x3 256 80 (slabs18_A c arg1 harg1 arg2 harg2 arg3 harg3 arg4 harg4 arg15 arg16 x0 x1 x2 x3) (by decide) inb_S512x512_S256x512_256_0 inb_S256x512_S16x512_80_0 (by decide) x
  · exact chunk_emb arg5 harg5 arg6 harg6 arg15 x4 x5 x0 x1 x2 x3 256 64 (slabs18_A c arg1 harg1 arg2 harg2 arg3 harg3 arg4 harg4 arg15 arg16 x0 x1 x2 x3) (by decide) inb_S512x512_S256x512_256_0 inb_S256x512_S16x512_64_0 (by decide) x
  · exact chunk_emb arg5 harg5 arg6 harg6 arg15 x4 x5 x0 x1 x2 x3 256 48 (slabs18_A c arg1 harg1 arg2 harg2 arg3 harg3 arg4 harg4 arg15 arg16 x0 x1 x2 x3) (by decide) inb_S512x512_S256x512_256_0 inb_S256x512_S16x512_48_0 (by decide) x
  · exact chunk_emb arg5 harg5 arg6 harg6 arg15 x4 x5 x0 x1 x2 x3 256 32 (slabs18_A c arg1 harg1 arg2 harg2 arg3 harg3 arg4 harg4 arg15 arg16 x0 x1 x2 x3) (by decide) inb_S512x512_S256x512_256_0 inb_S256x512_S16x512_32_0 (by decide) x
  · exact chunk_emb arg5 harg5 arg6 harg6 arg15 x4 x5 x0 x1 x2 x3 256 16 (slabs18_A c arg1 harg1 arg2 harg2 arg3 harg3 arg4 harg4 arg15 arg16 x0 x1 x2 x3) (by decide) inb_S512x512_S256x512_256_0 inb_S256x512_S16x512_16_0 (by decide) x
  · exact chunk_emb arg5 harg5 arg6 harg6 arg15 x4 x5 x0 x1 x2 x3 256 0 (slabs18_A c arg1 harg1 arg2 harg2 arg3 harg3 arg4 harg4 arg15 arg16 x0 x1 x2 x3) (by decide) inb_S512x512_S256x512_256_0 inb_S256x512_S16x512_0_0 (by decide) x
  · exact chunk_emb arg5 harg5 arg6 harg6 arg15 x4 x5 x0 x1 x2 x3 0 240 (slabs9_A c arg1 harg1 arg2 harg2 arg3 harg3 arg4 harg4 arg15 arg16 x0 x1 x2 x3) (by decide) inb_S512x512_S256x512_0_0 inb_S256x512_S16x512_240_0 (by decide) x
  · exact chunk_emb arg5 harg5 arg6 harg6 arg15 x4 x5 x0 x1 x2 x3 0 224 (slabs9_A c arg1 harg1 arg2 harg2 arg3 harg3 arg4 harg4 arg15 arg16 x0 x1 x2 x3) (by decide) inb_S512x512_S256x512_0_0 inb_S256x512_S16x512_224_0 (by decide) x
  · exact chunk_emb arg5 harg5 arg6 harg6 arg15 x4 x5 x0 x1 x2 x3 0 208 (slabs9_A c arg1 harg1 arg2 harg2 arg3 harg3 arg4 harg4 arg15 arg16 x0 x1 x2 x3) (by decide) inb_S512x512_S256x512_0_0 inb_S256x512_S16x512_208_0 (by decide) x
  · exact chunk_emb arg5 harg5 arg6 harg6 arg15 x4 x5 x0 x1 x2 x3 0 192 (slabs9_A c arg1 harg1 arg2 harg2 arg3 harg3 arg4 harg4 arg15 arg16 x0 x1 x2 x3) (by decide) inb_S512x512_S256x512_0_0 inb_S256x512_S16x512_192_0 (by decide) x
  · exact chunk_emb arg5 harg5 arg6 harg6 arg15 x4 x5 x0 x1 x2 x3 0 176 (slabs9_A c arg1 harg1 arg2 harg2 arg3 harg3 arg4 harg4 arg15 arg16 x0 x1 x2 x3) (by decide) inb_S512x512_S256x512_0_0 inb_S256x512_S16x512_176_0 (by decide) x
  · exact chunk_emb arg5 harg5 arg6 harg6 arg15 x4 x5 x0 x1 x2 x3 0 160 (slabs9_A c arg1 harg1 arg2 harg2 arg3 harg3 arg4 harg4 arg15 arg16 x0 x1 x2 x3) (by decide) inb_S512x512_S256x512_0_0 inb_S256x512_S16x512_160_0 (by decide) x
  · exact chunk_emb arg5 harg5 arg6 harg6 arg15 x4 x5 x0 x1 x2 x3 0 144 (slabs9_A c arg1 harg1 arg2 harg2 arg3 harg3 arg4 harg4 arg15 arg16 x0 x1 x2 x3) (by decide) inb_S512x512_S256x512_0_0 inb_S256x512_S16x512_144_0 (by decide) x
  · exact chunk_emb arg5 harg5 arg6 harg6 arg15 x4 x5 x0 x1 x2 x3 0 128 (slabs9_A c arg1 harg1 arg2 harg2 arg3 harg3 arg4 harg4 arg15 arg16 x0 x1 x2 x3) (by decide) inb_S512x512_S256x512_0_0 inb_S256x512_S16x512_128_0 (by decide) x
  · exact chunk_emb arg5 harg5 arg6 harg6 arg15 x4 x5 x0 x1 x2 x3 0 112 (slabs9_A c arg1 harg1 arg2 harg2 arg3 harg3 arg4 harg4 arg15 arg16 x0 x1 x2 x3) (by decide) inb_S512x512_S256x512_0_0 inb_S256x512_S16x512_112_0 (by decide) x
  · exact chunk_emb arg5 harg5 arg6 harg6 arg15 x4 x5 x0 x1 x2 x3 0 96 (slabs9_A c arg1 harg1 arg2 harg2 arg3 harg3 arg4 harg4 arg15 arg16 x0 x1 x2 x3) (by decide) inb_S512x512_S256x512_0_0 inb_S256x512_S16x512_96_0 (by decide) x
  · exact chunk_emb arg5 harg5 arg6 harg6 arg15 x4 x5 x0 x1 x2 x3 0 80 (slabs9_A c arg1 harg1 arg2 harg2 arg3 harg3 arg4 harg4 arg15 arg16 x0 x1 x2 x3) (by decide) inb_S512x512_S256x512_0_0 inb_S256x512_S16x512_80_0 (by decide) x
  · exact chunk_emb arg5 harg5 arg6 harg6 arg15 x4 x5 x0 x1 x2 x3 0 64 (slabs9_A c arg1 harg1 arg2 harg2 arg3 harg3 arg4 harg4 arg15 arg16 x0 x1 x2 x3) (by decide) inb_S512x512_S256x512_0_0 inb_S256x512_S16x512_64_0 (by decide) x
  · exact chunk_emb arg5 harg5 arg6 harg6 arg15 x4 x5 x0 x1 x2 x3 0 48 (slabs9_A c arg1 harg1 arg2 harg2 arg3 harg3 arg4 harg4 arg15 arg16 x0 x1 x2 x3) (by decide) inb_S512x512_S256x512_0_0 inb_S256x512_S16x512_48_0 (by decide) x
  · exact chunk_emb arg5 harg5 arg6 harg6 arg15 x4 x5 x0 x1 x2 x3 0 32 (slabs9_A c arg1 harg1 arg2 harg2 arg3 harg3 arg4 harg4 arg15 arg16 x0 x1 x2 x3) (by decide) inb_S512x512_S256x512_0_0 inb_S256x512_S16x512_32_0 (by decide) x
  · exact chunk_emb arg5 harg5 arg6 harg6 arg15 x4 x5 x0 x1 x2 x3 0 16 (slabs9_A c arg1 harg1 arg2 harg2 arg3 harg3 arg4 harg4 arg15 arg16 x0 x1 x2 x3) (by decide) inb_S512x512_S256x512_0_0 inb_S256x512_S16x512_16_0 (by decide) x
  · exact chunk_emb arg5 harg5 arg6 harg6 arg15 x4 x5 x0 x1 x2 x3 0 0 (slabs9_A c arg1 harg1 arg2 harg2 arg3 harg3 arg4 harg4 arg15 arg16 x0 x1 x2 x3) (by decide) inb_S512x512_S256x512_0_0 inb_S256x512_S16x512_0_0 (by decide) x

end

end Cert.Kernel12Ideal.Input

end
-- ==== Proof.InSlabB.lean ====
/-
  The input projection at a later block, which reads the carry of the block before: the buffer of shifted copies, and every output but the two
  behind the convolution.
-/
module

public import proofs.«01_k».proof.Proof.InRow

@[expose] public section

set_option maxRecDepth 100000

noncomputable section

open Idealize.ShloMosaic Idealize.ShloMosaic.TcCoe Idealize.SL.Sem

namespace Cert.Kernel12Ideal.Input

open Cert.Kernel12Ideal Cert.Kernel12Ideal.Gen Cert.Input
open Cert.Gate (silu gate)

/-- The carried rows as a sequence. -/
def carryOf (s : Vec Ideal S32x512 .f32) (i : ℕ) (q : Fin 512) : EReal := if h : i < 32 then s (ix2 ⟨i, h⟩ q) else 0

theorem carryOf_apply (s : Vec Ideal S32x512 .f32) (b : Fin 32) (q : Fin 512) : carryOf s b.val q = s (ix2 b q) := dif_pos b.isLt

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3840 .bf16) (harg3 : arg3.IsWhole) (arg4 : Memref sig .tc .vmem S1x3840 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x768 .bf16) (harg10 : arg10.IsWhole) (arg11 : Memref sig .tc .vmem S512x3072 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S8x288x512 .f32) (harg15 : arg15.IsWhole) (arg16 : Memref sig .tc .vmem S32x512 .f32) (harg16 : arg16.IsWhole) (hc0 : ¬cond0_0 i) (x0 : Vec Ideal S512x1024 .f32) (x1 : Vec Ideal S1x1024 .f32) (x2 : Vec Ideal S1024x3840 .bf16) (x3 : Vec Ideal S1x3840 .f32) (x4 : Vec Ideal S31x512 .f32) (x5 : Vec Ideal S1x512 .f32) (x6 : Vec Ideal S1x512 .f32) (x7 : Vec Ideal S1x512 .f32) (xs1 : Vec Ideal S32x512 .f32)
theorem hzB : (![0, 0] : Fin 2 → Nat) = fun _ => 0 := funext fun a => by fin_cases a <;> rfl

theorem slabs9_B : Slabs (fun n => ext x0 x1 x2 x3 (carryOf xs1) (0 + n)) 7 (kernelRun0_B.sl.HS0_9 c arg1 harg1 arg2 harg2 arg3 harg3 arg4 harg4 arg15 arg16 harg16 x0 x1 x2 x3 xs1) := by
  have hC : ∀ (b : Fin 32) (q : Fin 512), View.readAt (Elt Ideal) arg16.view (Rect.unit (s := S32x512) ![0, 0] S32x512.size inb_S32x512_S32x512_0_0).toLoadRect (harg16.unread xs1) (ix2 b q) = carryOf xs1 b.val q := by
    intro b q
    rw [View.readAt_eq_ld, harg16.read_unread, View.ld_unit_zero hzB, carryOf_apply]
  have h0 : Slabs (fun n => ext x0 x1 x2 x3 (carryOf xs1) (0 + n)) 0 (kernelRun0_B.sl.HS0_2 c arg1 harg1 arg2 harg2 arg3 harg3 arg4 harg4 arg16 harg16 x0 x1 x2 x3 xs1) :=
    slabs_zero [] _ _
      (fun b q => (cast_rows (gluPart arg1 harg1 arg2 harg2 arg3 harg3 arg4 harg4 x0 x1 x2 x3 0 (by decide)) _ b q).trans ((gluPart_apply arg1 harg1 arg2 harg2 arg3 harg3 arg4 harg4 x0 x1 x2 x3 0 _ b q).trans
        (ext_row x0 x1 x2 x3 (carryOf xs1) ⟨0 + b.val, by omega⟩ (by show 0 + (32 + b.val) = 32 + (0 + b.val); omega) q).symm))
      (fun b q => (cast_carry _ _ b q).trans ((hC b q).trans (((ext_carry x0 x1 x2 x3 (carryOf xs1) (i := 0 + b.val) (by omega) q).trans (congrArg (fun n => carryOf xs1 n q) (Nat.zero_add _))).symm)))
  have h1 : Slabs (fun n => ext x0 x1 x2 x3 (carryOf xs1) (0 + n)) 1 (kernelRun0_B.sl.HS0_3 c arg1 harg1 arg2 harg2 arg3 harg3 arg4 harg4 arg15 arg16 harg16 x0 x1 x2 x3 xs1) := slabs_step rfl (by decide) arg15.view _ _ _ _ h0
  have h2 : Slabs (fun n => ext x0 x1 x2 x3 (carryOf xs1) (0 + n)) 2 (kernelRun0_B.sl.HS0_4 c arg1 harg1 arg2 harg2 arg3 harg3 arg4 harg4 arg15 arg16 harg16 x0 x1 x2 x3 xs1) := slabs_step rfl (by decide) arg15.view _ _ _ _ h1
  have h3 : Slabs (fun n => ext x0 x1 x2 x3 (carryOf xs1) (0 + n)) 3 (kernelRun0_B.sl.HS0_5 c arg1 harg1 arg2 harg2 arg3 harg3 arg4 harg4 arg15 arg16 harg16 x0 x1 x2 x3 xs1) := slabs_step rfl (by decide) arg15.view _ _ _ _ h2
  have h4 : Slabs (fun n => ext x0 x1 x2 x3 (carryOf xs1) (0 + n)) 4 (kernelRun0_B.sl.HS0_6 c arg1 harg1 arg2 harg2 arg3 harg3 arg4 harg4 arg15 arg16 harg16 x0 x1 x2 x3 xs1) := slabs_step rfl (by decide) arg15.view _ _ _ _ h3
  have h5 : Slabs (fun n => ext x0 x1 x2 x3 (carryOf xs1) (0 + n)) 5 (kernelRun0_B.sl.HS0_7 c arg1 harg1 arg2 harg2 arg3 harg3 arg4 harg4 arg15 arg16 harg16 x0 x1 x2 x3 xs1) := slabs_step rfl (by decide) arg15.view _ _ _ _ h4
  have h6 : Slabs (fun n => ext x0 x1 x2 x3 (carryOf xs1) (0 + n)) 6 (kernelRun0_B.sl.HS0_8 c arg1 harg1 arg2 harg2 arg3 harg3 arg4 harg4 arg15 arg16 harg16 x0 x1 x2 x3 xs1) := slabs_step rfl (by decide) arg15.view _ _ _ _ h5
  have h7 : Slabs (fun n => ext x0 x1 x2 x3 (carryOf xs1) (0 + n)) 7 (kernelRun0_B.sl.HS0_9 c arg1 harg1 arg2 harg2 arg3 harg3 arg4 harg4 arg15 arg16 harg16 x0 x1 x2 x3 xs1) := slabs_step rfl (by decide) arg15.view _ _ _ _ h6
  exact h7

/-- The carry between the two parts. -/
theorem mid_B (b : Fin 32) (q : Fin 512) : arg16.view.readCov (kernelRun0_B.sl.HS1_1 c arg1 harg1 arg2 harg2 arg3 harg3 arg4 harg4 x0 x1 x2 x3) (Rect.unit (s := S32x512) ![0, 0] S32x512.size inb_S32x512_S32x512_0_0).toLoadRect (ix2 b q) =
    gluRow x0 x1 x2 x3 ⟨224 + b.val, by omega⟩ q := by
  unfold kernelRun0_B.sl.HS1_1
  rw [View.readCov_eq_canon', View.canon_cons_unit_zero (S := S32x512) hzB]
  refine (congrArg _ (?_ : _ = ix2 b q)).trans ((last_rows (gluPart arg1 harg1 arg2 harg2 arg3 harg3 arg4 harg4 x0 x1 x2 x3 0 (by decide)) _ _ b q).trans ((gluPart_apply arg1 harg1 arg2 harg2 arg3 harg3 arg4 harg4 x0 x1 x2 x3 0 _ _ q).trans ?_))
  · refine funext fun a => Fin.ext ?_
    match a with
    | ⟨0, _⟩ => refine Eq.trans (ValueKit.rect_emb_unit_val _ _ _ _ _) ?_; show 0 + b.val = b.val; omega
    | ⟨1, _⟩ => refine Eq.trans (ValueKit.rect_emb_unit_val _ _ _ _ _) ?_; show 0 + q.val = q.val; omega
  · exact congrArg (fun p => gluRow x0 x1 x2 x3 p q) (Fin.ext (Nat.zero_add _))

theorem slabs18_B : Slabs (fun n => ext x0 x1 x2 x3 (carryOf xs1) (256 + n)) 7 (kernelRun0_B.sl.HS0_18 c arg1 harg1 arg2 harg2 arg3 harg3 arg4 harg4 arg15 arg16 harg16 x0 x1 x2 x3 xs1) := by
  have h0 : Slabs (fun n => ext x0 x1 x2 x3 (carryOf xs1) (256 + n)) 0 (kernelRun0_B.sl.HS0_11 c arg1 harg1 arg2 harg2 arg3 harg3 arg4 harg4 arg15 arg16 harg16 x0 x1 x2 x3 xs1) :=
    slabs_zero (kernelRun0_B.sl.HS0_9 c arg1 harg1 arg2 harg2 arg3 harg3 arg4 harg4 arg15 arg16 harg16 x0 x1 x2 x3 xs1) _ _
      (fun b q => (cast_rows (gluPart arg1 harg1 arg2 harg2 arg3 harg3 arg4 harg4 x0 x1 x2 x3 256 (by decide)) _ b q).trans ((gluPart_apply arg1 harg1 arg2 harg2 arg3 harg3 arg4 harg4 x0 x1 x2 x3 256 _ b q).trans
        (ext_row x0 x1 x2 x3 (carryOf xs1) ⟨256 + b.val, by omega⟩ (by show 256 + (32 + b.val) = 32 + (256 + b.val); omega) q).symm))
      (fun b q => (cast_carry _ _ b q).trans ((mid_B c arg1 harg1 arg2 harg2 arg3 harg3 arg4 harg4 arg16 x0 x1 x2 x3 b q).trans
        (ext_row x0 x1 x2 x3 (carryOf xs1) ⟨224 + b.val, by omega⟩ (by show 256 + b.val = 32 + (224 + b.val); omega) q).symm))
  have h1 : Slabs (fun n => ext x0 x1 x2 x3 (carryOf xs1) (256 + n)) 1 (kernelRun0_B.sl.HS0_12 c arg1 harg1 arg2 harg2 arg3 harg3 arg4 harg4 arg15 arg16 harg16 x0 x1 x2 x3 xs1) := slabs_step rfl (by decide) arg15.view _ _ _ _ h0
  have h2 : Slabs (fun n => ext x0 x1 x2 x3 (carryOf xs1) (256 + n)) 2 (kernelRun0_B.sl.HS0_13 c arg1 harg1 arg2 harg2 arg3 harg3 arg4 harg4 arg15 arg16 harg16 x0 x1 x2 x3 xs1) := slabs_step rfl (by decide) arg15.view _ _ _ _ h1
  have h3 : Slabs (fun n => ext x0 x1 x2 x3 (carryOf xs1) (256 + n)) 3 (kernelRun0_B.sl.HS0_14 c arg1 harg1 arg2 harg2 arg3 harg3 arg4 harg4 arg15 arg16 harg16 x0 x1 x2 x3 xs1) := slabs_step rfl (by decide) arg15.view _ _ _ _ h2
  have h4 : Slabs (fun n => ext x0 x1 x2 x3 (carryOf xs1) (256 + n)) 4 (kernelRun0_B.sl.HS0_15 c arg1 harg1 arg2 harg2 arg3 harg3 arg4 harg4 arg15 arg16 harg16 x0 x1 x2 x3 xs1) := slabs_step rfl (by decide) arg15.view _ _ _ _ h3
  have h5 : Slabs (fun n => ext x0 x1 x2 x3 (carryOf xs1) (256 + n)) 5 (kernelRun0_B.sl.HS0_16 c arg1 harg1 arg2 harg2 arg3 harg3 arg4 harg4 arg15 arg16 harg16 x0 x1 x2 x3 xs1) := slabs_step rfl (by decide) arg15.view _ _ _ _ h4
  have h6 : Slabs (fun n => ext x0 x1 x2 x3 (carryOf xs1) (256 + n)) 6 (kernelRun0_B.sl.HS0_17 c arg1 harg1 arg2 harg2 arg3 harg3 arg4 harg4 arg15 arg16 harg16 x0 x1 x2 x3 xs1) := slabs_step rfl (by decide) arg15.view _ _ _ _ h5
  have h7 : Slabs (fun n => ext x0 x1 x2 x3 (carryOf xs1) (256 + n)) 7 (kernelRun0_B.sl.HS0_18 c arg1 harg1 arg2 harg2 arg3 harg3 arg4 harg4 arg15 arg16 harg16 x0 x1 x2 x3 xs1) := slabs_step rfl (by decide) arg15.view _ _ _ _ h6
  exact h7

theorem out8_B (y : S512x1024.Idx) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y = hidRow x0 x1 (y 0) (y 1) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1)]
  refine View.canon_apply_of_pieces (Val := Elt Ideal) (e := .bf16) (fun y : S512x1024.Idx => hidRow x0 x1 (y 0) (y 1)) _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y)
  unfold kernelRun0_B
  dsimp only
  intro pc hpc x
  simp only [List.mem_cons, List.not_mem_nil, or_false] at hpc
  rcases hpc with rfl | rfl
  · have hx : ∀ x : (⟨2, ![256, 1024]⟩ : Shape).Idx, hidPart arg1 harg1 arg2 harg2 x0 x1 256 (by decide) x = (fun y : S512x1024.Idx => hidRow x0 x1 (y 0) (y 1)) ((Rect.unit (s := S512x1024) ![256, 0] ![256, 1024] inb_S512x1024_S256x1024_256_0).emb x) := by
      intro x
      have e0 : 256 + (x 0).val = ((Rect.unit (s := S512x1024) ![256, 0] ![256, 1024] inb_S512x1024_S256x1024_256_0).emb x 0).val := (ValueKit.rect_emb_unit_val (s := S512x1024) ![256, 0] ![256, 1024] inb_S512x1024_S256x1024_256_0 x 0).symm
      have e1 : (x 1).val = ((Rect.unit (s := S512x1024) ![256, 0] ![256, 1024] inb_S512x1024_S256x1024_256_0).emb x 1).val := ((ValueKit.rect_emb_unit_val (s := S512x1024) ![256, 0] ![256, 1024] inb_S512x1024_S256x1024_256_0 x 1).trans (Nat.zero_add _)).symm
      refine (congrArg _ (eq_ix2 x)).trans ((hidPart_apply arg1 harg1 arg2 harg2 x0 x1 256 _ (x 0) (x 1)).trans ?_)
      exact congrArg₂ (hidRow x0 x1) (Fin.ext e0) (Fin.ext e1)
    exact hx x
  · have hx : ∀ x : (⟨2, ![256, 1024]⟩ : Shape).Idx, hidPart arg1 harg1 arg2 harg2 x0 x1 0 (by decide) x = (fun y : S512x1024.Idx => hidRow x0 x1 (y 0) (y 1)) ((Rect.unit (s := S512x1024) ![0, 0] ![256, 1024] inb_S512x1024_S256x1024_0_0).emb x) := by
      intro x
      have e0 : 0 + (x 0).val = ((Rect.unit (s := S512x1024) ![0, 0] ![256, 1024] inb_S512x1024_S256x1024_0_0).emb x 0).val := (ValueKit.rect_emb_unit_val (s := S512x1024) ![0, 0] ![256, 1024] inb_S512x1024_S256x1024_0_0 x 0).symm
      have e1 : (x 1).val = ((Rect.unit (s := S512x1024) ![0, 0] ![256, 1024] inb_S512x1024_S256x1024_0_0).emb x 1).val := ((ValueKit.rect_emb_unit_val (s := S512x1024) ![0, 0] ![256, 1024] inb_S512x1024_S256x1024_0_0 x 1).trans (Nat.zero_add _)).symm
      refine (congrArg _ (eq_ix2 x)).trans ((hidPart_apply arg1 harg1 arg2 harg2 x0 x1 0 _ (x 0) (x 1)).trans ?_)
      exact congrArg₂ (hidRow x0 x1) (Fin.ext e0) (Fin.ext e1)
    exact hx x

theorem out9_B (y : S512x768.Idx) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y = projRow x0 x1 x2 x3 (y 0) ⟨(y 1).val, lt_of_lt_of_le (y 1).isLt (by decide)⟩ := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1)]
  refine View.canon_apply_of_pieces (Val := Elt Ideal) (e := .bf16) (fun y : S512x768.Idx => projRow x0 x1 x2 x3 (y 0) ⟨(y 1).val, lt_of_lt_of_le (y 1).isLt (by decide)⟩) _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y)
  unfold kernelRun0_B
  dsimp only
  intro pc hpc x
  simp only [List.mem_cons, List.not_mem_nil, or_false] at hpc
  rcases hpc with rfl | rfl
  · have hx : ∀ x : (⟨2, ![256, 768]⟩ : Shape).Idx, qkvPart arg1 harg1 arg2 harg2 arg3 harg3 arg4 harg4 x0 x1 x2 x3 256 (by decide) x = (fun y : S512x768.Idx => projRow x0 x1 x2 x3 (y 0) ⟨(y 1).val, lt_of_lt_of_le (y 1).isLt (by decide)⟩) ((Rect.unit (s := S512x768) ![256, 0] ![256, 768] inb_S512x768_S256x768_256_0).emb x) := by
      intro x
      have e0 : 256 + (x 0).val = ((Rect.unit (s := S512x768) ![256, 0] ![256, 768] inb_S512x768_S256x768_256_0).emb x 0).val := (ValueKit.rect_emb_unit_val (s := S512x768) ![256, 0] ![256, 768] inb_S512x768_S256x768_256_0 x 0).symm
      have e1 : (x 1).val = ((Rect.unit (s := S512x768) ![256, 0] ![256, 768] inb_S512x768_S256x768_256_0).emb x 1).val := ((ValueKit.rect_emb_unit_val (s := S512x768) ![256, 0] ![256, 768] inb_S512x768_S256x768_256_0 x 1).trans (Nat.zero_add _)).symm
      refine (congrArg _ (eq_ix2 x)).trans ((qkvPart_apply arg1 harg1 arg2 harg2 arg3 harg3 arg4 harg4 x0 x1 x2 x3 256 _ (x 0) (x 1)).trans ?_)
      exact congrArg₂ (projRow x0 x1 x2 x3) (Fin.ext e0) (Fin.ext e1)
    exact hx x
  · have hx : ∀ x : (⟨2, ![256, 768]⟩ : Shape).Idx, qkvPart arg1 harg1 arg2 harg2 arg3 harg3 arg4 harg4 x0 x1 x2 x3 0 (by decide) x = (fun y : S512x768.Idx => projRow x0 x1 x2 x3 (y 0) ⟨(y 1).val, lt_of_lt_of_le (y 1).isLt (by decide)⟩) ((Rect.unit (s := S512x768) ![0, 0] ![256, 768] inb_S512x768_S256x768_0_0).emb x) := by
      intro x
      have e0 : 0 + (x 0).val = ((Rect.unit (s := S512x768) ![0, 0] ![256, 768] inb_S512x768_S256x768_0_0).emb x 0).val := (ValueKit.rect_emb_unit_val (s := S512x768) ![0, 0] ![256, 768] inb_S512x768_S256x768_0_0 x 0).symm
      have e1 : (x 1).val = ((Rect.unit (s := S512x768) ![0, 0] ![256, 768] inb_S512x768_S256x768_0_0).emb x 1).val := ((ValueKit.rect_emb_unit_val (s := S512x768) ![0, 0] ![256, 768] inb_S512x768_S256x768_0_0 x 1).trans (Nat.zero_add _)).symm
      refine (congrArg _ (eq_ix2 x)).trans ((qkvPart_apply arg1 harg1 arg2 harg2 arg3 harg3 arg4 harg4 x0 x1 x2 x3 0 _ (x 0) (x 1)).trans ?_)
      exact congrArg₂ (projRow x0 x1 x2 x3) (Fin.ext e0) (Fin.ext e1)
    exact hx x

theorem out10_B (y : S512x3072.Idx) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y = projRow x0 x1 x2 x3 (y 0) ⟨768 + (y 1).val, Nat.add_lt_add_left (y 1).isLt 768⟩ := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1)]
  refine View.canon_apply_of_pieces (Val := Elt Ideal) (e := .bf16) (fun y : S512x3072.Idx => projRow x0 x1 x2 x3 (y 0) ⟨768 + (y 1).val, Nat.add_lt_add_left (y 1).isLt 768⟩) _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y)
  unfold kernelRun0_B
  dsimp only
  intro pc hpc x
  simp only [List.mem_cons, List.not_mem_nil, or_false] at hpc
  rcases hpc with rfl | rfl
  · have hx : ∀ x : (⟨2, ![256, 3072]⟩ : Shape).Idx, restPart arg1 harg1 arg2 harg2 arg3 harg3 arg4 harg4 x0 x1 x2 x3 256 (by decide) x = (fun y : S512x3072.Idx => projRow x0 x1 x2 x3 (y 0) ⟨768 + (y 1).val, Nat.add_lt_add_left (y 1).isLt 768⟩) ((Rect.unit (s := S512x3072) ![256, 0] ![256, 3072] inb_S512x3072_S256x3072_256_0).emb x) := by
      intro x
      have e0 : 256 + (x 0).val = ((Rect.unit (s := S512x3072) ![256, 0] ![256, 3072] inb_S512x3072_S256x3072_256_0).emb x 0).val := (ValueKit.rect_emb_unit_val (s := S512x3072) ![256, 0] ![256, 3072] inb_S512x3072_S256x3072_256_0 x 0).symm
      have e1 : (x 1).val = ((Rect.unit (s := S512x3072) ![256, 0] ![256, 3072] inb_S512x3072_S256x3072_256_0).emb x 1).val := ((ValueKit.rect_emb_unit_val (s := S512x3072) ![256, 0] ![256, 3072] inb_S512x3072_S256x3072_256_0 x 1).trans (Nat.zero_add _)).symm
      refine (congrArg _ (eq_ix2 x)).trans ((restPart_apply arg1 harg1 arg2 harg2 arg3 harg3 arg4 harg4 x0 x1 x2 x3 256 _ (x 0) (x 1)).trans ?_)
      exact congrArg₂ (projRow x0 x1 x2 x3) (Fin.ext e0) (Fin.ext (congrArg (768 + ·) e1))
    exact hx x
  · have hx : ∀ x : (⟨2, ![256, 3072]⟩ : Shape).Idx, restPart arg1 harg1 arg2 harg2 arg3 harg3 arg4 harg4 x0 x1 x2 x3 0 (by decide) x = (fun y : S512x3072.Idx => projRow x0 x1 x2 x3 (y 0) ⟨768 + (y 1).val, Nat.add_lt_add_left (y 1).isLt 768⟩) ((Rect.unit (s := S512x3072) ![0, 0] ![256, 3072] inb_S512x3072_S256x3072_0_0).emb x) := by
      intro x
      have e0 : 0 + (x 0).val = ((Rect.unit (s := S512x3072) ![0, 0] ![256, 3072] inb_S512x3072_S256x3072_0_0).emb x 0).val := (ValueKit.rect_emb_unit_val (s := S512x3072) ![0, 0] ![256, 3072] inb_S512x3072_S256x3072_0_0 x 0).symm
      have e1 : (x 1).val = ((Rect.unit (s := S512x3072) ![0, 0] ![256, 3072] inb_S512x3072_S256x3072_0_0).emb x 1).val := ((ValueKit.rect_emb_unit_val (s := S512x3072) ![0, 0] ![256, 3072] inb_S512x3072_S256x3072_0_0 x 1).trans (Nat.zero_add _)).symm
      refine (congrArg _ (eq_ix2 x)).trans ((restPart_apply arg1 harg1 arg2 harg2 arg3 harg3 arg4 harg4 x0 x1 x2 x3 0 _ (x 0) (x 1)).trans ?_)
      exact congrArg₂ (projRow x0 x1 x2 x3) (Fin.ext e0) (Fin.ext (congrArg (768 + ·) e1))
    exact hx x

theorem out11_B (y : S512x512.Idx) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y = gluRow x0 x1 x2 x3 (y 0) (y 1) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1)]
  refine View.canon_apply_of_pieces (Val := Elt Ideal) (e := .f32) (fun y : S512x512.Idx => gluRow x0 x1 x2 x3 (y 0) (y 1)) _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y)
  unfold kernelRun0_B
  dsimp only
  intro pc hpc x
  simp only [List.mem_cons, List.not_mem_nil, or_false] at hpc
  rcases hpc with rfl | rfl
  · have hx : ∀ x : (⟨2, ![256, 512]⟩ : Shape).Idx, gluPart arg1 harg1 arg2 harg2 arg3 harg3 arg4 harg4 x0 x1 x2 x3 256 (by decide) x = (fun y : S512x512.Idx => gluRow x0 x1 x2 x3 (y 0) (y 1)) ((Rect.unit (s := S512x512) ![256, 0] ![256, 512] inb_S512x512_S256x512_256_0).emb x) := by
      intro x
      have e0 : 256 + (x 0).val = ((Rect.unit (s := S512x512) ![256, 0] ![256, 512] inb_S512x512_S256x512_256_0).emb x 0).val := (ValueKit.rect_emb_unit_val (s := S512x512) ![256, 0] ![256, 512] inb_S512x512_S256x512_256_0 x 0).symm
      have e1 : (x 1).val = ((Rect.unit (s := S512x512) ![256, 0] ![256, 512] inb_S512x512_S256x512_256_0).emb x 1).val := ((ValueKit.rect_emb_unit_val (s := S512x512) ![256, 0] ![256, 512] inb_S512x512_S256x512_256_0 x 1).trans (Nat.zero_add _)).symm
      refine (congrArg _ (eq_ix2 x)).trans ((gluPart_apply arg1 harg1 arg2 harg2 arg3 harg3 arg4 harg4 x0 x1 x2 x3 256 _ (x 0) (x 1)).trans ?_)
      exact congrArg₂ (gluRow x0 x1 x2 x3) (Fin.ext e0) (Fin.ext e1)
    exact hx x
  · have hx : ∀ x : (⟨2, ![256, 512]⟩ : Shape).Idx, gluPart arg1 harg1 arg2 harg2 arg3 harg3 arg4 harg4 x0 x1 x2 x3 0 (by decide) x = (fun y : S512x512.Idx => gluRow x0 x1 x2 x3 (y 0) (y 1)) ((Rect.unit (s := S512x512) ![0, 0] ![256, 512] inb_S512x512_S256x512_0_0).emb x) := by
      intro x
      have e0 : 0 + (x 0).val = ((Rect.unit (s := S512x512) ![0, 0] ![256, 512] inb_S512x512_S256x512_0_0).emb x 0).val := (ValueKit.rect_emb_unit_val (s := S512x512) ![0, 0] ![256, 512] inb_S512x512_S256x512_0_0 x 0).symm
      have e1 : (x 1).val = ((Rect.unit (s := S512x512) ![0, 0] ![256, 512] inb_S512x512_S256x512_0_0).emb x 1).val := ((ValueKit.rect_emb_unit_val (s := S512x512) ![0, 0] ![256, 512] inb_S512x512_S256x512_0_0 x 1).trans (Nat.zero_add _)).symm
      refine (congrArg _ (eq_ix2 x)).trans ((gluPart_apply arg1 harg1 arg2 harg2 arg3 harg3 arg4 harg4 x0 x1 x2 x3 0 _ (x 0) (x 1)).trans ?_)
      exact congrArg₂ (gluRow x0 x1 x2 x3) (Fin.ext e0) (Fin.ext e1)
    exact hx x

theorem sout1_B (b : Fin 32) (q : Fin 512) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 (ix2 b q) = gluRow x0 x1 x2 x3 ⟨480 + b.val, by omega⟩ q := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1)]
  unfold kernelRun0_B
  dsimp only
  rw [View.canon_cons_unit_zero (S := S32x512) hzB]
  refine (last_rows (gluPart arg1 harg1 arg2 harg2 arg3 harg3 arg4 harg4 x0 x1 x2 x3 256 (by decide)) _ _ b q).trans ((gluPart_apply arg1 harg1 arg2 harg2 arg3 harg3 arg4 harg4 x0 x1 x2 x3 256 _ _ q).trans ?_)
  exact congrArg (fun p => gluRow x0 x1 x2 x3 p q) (Fin.ext (by show 256 + (224 + b.val) = 480 + b.val; omega))

end

end Cert.Kernel12Ideal.Input

end
-- ==== Proof.InConvB.lean ====
/-
  The input projection at a later block, which reads the carry of the block before: the convolution.
-/
module

public import proofs.«01_k».proof.Proof.InSlabB

@[expose] public section

set_option maxRecDepth 100000

noncomputable section

open Idealize.ShloMosaic Idealize.ShloMosaic.TcCoe Idealize.SL.Sem

namespace Cert.Kernel12Ideal.Input

open Cert.Kernel12Ideal Cert.Kernel12Ideal.Gen Cert.Input
open Cert.Gate (silu gate)

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3840 .bf16) (harg3 : arg3.IsWhole) (arg4 : Memref sig .tc .vmem S1x3840 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x768 .bf16) (harg10 : arg10.IsWhole) (arg11 : Memref sig .tc .vmem S512x3072 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S8x288x512 .f32) (harg15 : arg15.IsWhole) (arg16 : Memref sig .tc .vmem S32x512 .f32) (harg16 : arg16.IsWhole) (hc0 : ¬cond0_0 i) (x0 : Vec Ideal S512x1024 .f32) (x1 : Vec Ideal S1x1024 .f32) (x2 : Vec Ideal S1024x3840 .bf16) (x3 : Vec Ideal S1x3840 .f32) (x4 : Vec Ideal S31x512 .f32) (x5 : Vec Ideal S1x512 .f32) (x6 : Vec Ideal S1x512 .f32) (x7 : Vec Ideal S1x512 .f32) (xs1 : Vec Ideal S32x512 .f32)
theorem out12_B (y : S512x512.Idx) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y = convRow x0 x1 x2 x3 (carryOf xs1) x4 x5 (y 0).val (y 1) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1)]
  refine View.canon_apply_of_pieces (Val := Elt Ideal) (e := .f32) (fun y : S512x512.Idx => convRow x0 x1 x2 x3 (carryOf xs1) x4 x5 (y 0).val (y 1)) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y)
  unfold kernelRun0_B
  dsimp only
  intro pc hpc x
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact chunk_emb arg5 harg5 arg6 harg6 arg15 x4 x5 x0 x1 x2 x3 256 240 (slabs18_B c arg1 harg1 arg2 harg2 arg3 harg3 arg4 harg4 arg15 arg16 harg16 x0 x1 x2 x3 xs1) (by decide) inb_S512x512_S256x512_256_0 inb_S256x512_S16x512_240_0 (by decide) x
  · exact chunk_emb arg5 harg5 arg6 harg6 arg15 x4 x5 x0 x1 x2 x3 256 224 (slabs18_B c arg1 harg1 arg2 harg2 arg3 harg3 arg4 harg4 arg15 arg16 harg16 x0 x1 x2 x3 xs1) (by decide) inb_S512x512_S256x512_256_0 inb_S256x512_S16x512_224_0 (by decide) x
  · exact chunk_emb arg5 harg5 arg6 harg6 arg15 x4 x5 x0 x1 x2 x3 256 208 (slabs18_B c arg1 harg1 arg2 harg2 arg3 harg3 arg4 harg4 arg15 arg16 harg16 x0 x1 x2 x3 xs1) (by decide) inb_S512x512_S256x512_256_0 inb_S256x512_S16x512_208_0 (by decide) x
  · exact chunk_emb arg5 harg5 arg6 harg6 arg15 x4 x5 x0 x1 x2 x3 256 192 (slabs18_B c arg1 harg1 arg2 harg2 arg3 harg3 arg4 harg4 arg15 arg16 harg16 x0 x1 x2 x3 xs1) (by decide) inb_S512x512_S256x512_256_0 inb_S256x512_S16x512_192_0 (by decide) x
  · exact chunk_emb arg5 harg5 arg6 harg6 arg15 x4 x5 x0 x1 x2 x3 256 176 (slabs18_B c arg1 harg1 arg2 harg2 arg3 harg3 arg4 harg4 arg15 arg16 harg16 x0 x1 x2 x3 xs1) (by decide) inb_S512x512_S256x512_256_0 inb_S256x512_S16x512_176_0 (by decide) x
  · exact chunk_emb arg5 harg5 arg6 harg6 arg15 x4 x5 x0 x1 x2 x3 256 160 (slabs18_B c arg1 harg1 arg2 harg2 arg3 harg3 arg4 harg4 arg15 arg16 harg16 x0 x1 x2 x3 xs1) (by decide) inb_S512x512_S256x512_256_0 inb_S256x512_S16x512_160_0 (by decide) x
  · exact chunk_emb arg5 harg5 arg6 harg6 arg15 x4 x5 x0 x1 x2 x3 256 144 (slabs18_B c arg1 harg1 arg2 harg2 arg3 harg3 arg4 harg4 arg15 arg16 harg16 x0 x1 x2 x3 xs1) (by decide) inb_S512x512_S256x512_256_0 inb_S256x512_S16x512_144_0 (by decide) x
  · exact chunk_emb arg5 harg5 arg6 harg6 arg15 x4 x5 x0 x1 x2 x3 256 128 (slabs18_B c arg1 harg1 arg2 harg2 arg3 harg3 arg4 harg4 arg15 arg16 harg16 x0 x1 x2 x3 xs1) (by decide) inb_S512x512_S256x512_256_0 inb_S256x512_S16x512_128_0 (by decide) x
  · exact chunk_emb arg5 harg5 arg6 harg6 arg15 x4 x5 x0 x1 x2 x3 256 112 (slabs18_B c arg1 harg1 arg2 harg2 arg3 harg3 arg4 harg4 arg15 arg16 harg16 x0 x1 x2 x3 xs1) (by decide) inb_S512x512_S256x512_256_0 inb_S256x512_S16x512_112_0 (by decide) x
  · exact chunk_emb arg5 harg5 arg6 harg6 arg15 x4 x5 x0 x1 x2 x3 256 96 (slabs18_B c arg1 harg1 arg2 harg2 arg3 harg3 arg4 harg4 arg15 arg16 harg16 x0 x1 x2 x3 xs1) (by decide) inb_S512x512_S256x512_256_0 inb_S256x512_S16x512_96_0 (by decide) x
  · exact chunk_emb arg5 harg5 arg6 harg6 arg15 x4 x5 x0 x1 x2 x3 256 80 (slabs18_B c arg1 harg1 arg2 harg2 arg3 harg3 arg4 harg4 arg15 arg16 harg16 x0 x1 x2 x3 xs1) (by decide) inb_S512x512_S256x512_256_0 inb_S256x512_S16x512_80_0 (by decide) x
  · exact chunk_emb arg5 harg5 arg6 harg6 arg15 x4 x5 x0 x1 x2 x3 256 64 (slabs18_B c arg1 harg1 arg2 harg2 arg3 harg3 arg4 harg4 arg15 arg16 harg16 x0 x1 x2 x3 xs1) (by decide) inb_S512x512_S256x512_256_0 inb_S256x512_S16x512_64_0 (by decide) x
  · exact chunk_emb arg5 harg5 arg6 harg6 arg15 x4 x5 x0 x1 x2 x3 256 48 (slabs18_B c arg1 harg1 arg2 harg2 arg3 harg3 arg4 harg4 arg15 arg16 harg16 x0 x1 x2 x3 xs1) (by decide) inb_S512x512_S256x512_256_0 inb_S256x512_S16x512_48_0 (by decide) x
  · exact chunk_emb arg5 harg5 arg6 harg6 arg15 x4 x5 x0 x1 x2 x3 256 32 (slabs18_B c arg1 harg1 arg2 harg2 arg3 harg3 arg4 harg4 arg15 arg16 harg16 x0 x1 x2 x3 xs1) (by decide) inb_S512x512_S256x512_256_0 inb_S256x512_S16x512_32_0 (by decide) x
  · exact chunk_emb arg5 harg5 arg6 harg6 arg15 x4 x5 x0 x1 x2 x3 256 16 (slabs18_B c arg1 harg1 arg2 harg2 arg3 harg3 arg4 harg4 arg15 arg16 harg16 x0 x1 x2 x3 xs1) (by decide) inb_S512x512_S256x512_256_0 inb_S256x512_S16x512_16_0 (by decide) x
  · exact chunk_emb arg5 harg5 arg6 harg6 arg15 x4 x5 x0 x1 x2 x3 256 0 (slabs18_B c arg1 harg1 arg2 harg2 arg3 harg3 arg4 harg4 arg15 arg16 harg16 x0 x1 x2 x3 xs1) (by decide) inb_S512x512_S256x512_256_0 inb_S256x512_S16x512_0_0 (by decide) x
  · exact chunk_emb arg5 harg5 arg6 harg6 arg15 x4 x5 x0 x1 x2 x3 0 240 (slabs9_B c arg1 harg1 arg2 harg2 arg3 harg3 arg4 harg4 arg15 arg16 harg16 x0 x1 x2 x3 xs1) (by decide) inb_S512x512_S256x512_0_0 inb_S256x512_S16x512_240_0 (by decide) x
  · exact chunk_emb arg5 harg5 arg6 harg6 arg15 x4 x5 x0 x1 x2 x3 0 224 (slabs9_B c arg1 harg1 arg2 harg2 arg3 harg3 arg4 harg4 arg15 arg16 harg16 x0 x1 x2 x3 xs1) (by decide) inb_S512x512_S256x512_0_0 inb_S256x512_S16x512_224_0 (by decide) x
  · exact chunk_emb arg5 harg5 arg6 harg6 arg15 x4 x5 x0 x1 x2 x3 0 208 (slabs9_B c arg1 harg1 arg2 harg2 arg3 harg3 arg4 harg4 arg15 arg16 harg16 x0 x1 x2 x3 xs1) (by decide) inb_S512x512_S256x512_0_0 inb_S256x512_S16x512_208_0 (by decide) x
  · exact chunk_emb arg5 harg5 arg6 harg6 arg15 x4 x5 x0 x1 x2 x3 0 192 (slabs9_B c arg1 harg1 arg2 harg2 arg3 harg3 arg4 harg4 arg15 arg16 harg16 x0 x1 x2 x3 xs1) (by decide) inb_S512x512_S256x512_0_0 inb_S256x512_S16x512_192_0 (by decide) x
  · exact chunk_emb arg5 harg5 arg6 harg6 arg15 x4 x5 x0 x1 x2 x3 0 176 (slabs9_B c arg1 harg1 arg2 harg2 arg3 harg3 arg4 harg4 arg15 arg16 harg16 x0 x1 x2 x3 xs1) (by decide) inb_S512x512_S256x512_0_0 inb_S256x512_S16x512_176_0 (by decide) x
  · exact chunk_emb arg5 harg5 arg6 harg6 arg15 x4 x5 x0 x1 x2 x3 0 160 (slabs9_B c arg1 harg1 arg2 harg2 arg3 harg3 arg4 harg4 arg15 arg16 harg16 x0 x1 x2 x3 xs1) (by decide) inb_S512x512_S256x512_0_0 inb_S256x512_S16x512_160_0 (by decide) x
  · exact chunk_emb arg5 harg5 arg6 harg6 arg15 x4 x5 x0 x1 x2 x3 0 144 (slabs9_B c arg1 harg1 arg2 harg2 arg3 harg3 arg4 harg4 arg15 arg16 harg16 x0 x1 x2 x3 xs1) (by decide) inb_S512x512_S256x512_0_0 inb_S256x512_S16x512_144_0 (by decide) x
  · exact chunk_emb arg5 harg5 arg6 harg6 arg15 x4 x5 x0 x1 x2 x3 0 128 (slabs9_B c arg1 harg1 arg2 harg2 arg3 harg3 arg4 harg4 arg15 arg16 harg16 x0 x1 x2 x3 xs1) (by decide) inb_S512x512_S256x512_0_0 inb_S256x512_S16x512_128_0 (by decide) x
  · exact chunk_emb arg5 harg5 arg6 harg6 arg15 x4 x5 x0 x1 x2 x3 0 112 (slabs9_B c arg1 harg1 arg2 harg2 arg3 harg3 arg4 harg4 arg15 arg16 harg16 x0 x1 x2 x3 xs1) (by decide) inb_S512x512_S256x512_0_0 inb_S256x512_S16x512_112_0 (by decide) x
  · exact chunk_emb arg5 harg5 arg6 harg6 arg15 x4 x5 x0 x1 x2 x3 0 96 (slabs9_B c arg1 harg1 arg2 harg2 arg3 harg3 arg4 harg4 arg15 arg16 harg16 x0 x1 x2 x3 xs1) (by decide) inb_S512x512_S256x512_0_0 inb_S256x512_S16x512_96_0 (by decide) x
  · exact chunk_emb arg5 harg5 arg6 harg6 arg15 x4 x5 x0 x1 x2 x3 0 80 (slabs9_B c arg1 harg1 arg2 harg2 arg3 harg3 arg4 harg4 arg15 arg16 harg16 x0 x1 x2 x3 xs1) (by decide) inb_S512x512_S256x512_0_0 inb_S256x512_S16x512_80_0 (by decide) x
  · exact chunk_emb arg5 harg5 arg6 harg6 arg15 x4 x5 x0 x1 x2 x3 0 64 (slabs9_B c arg1 harg1 arg2 harg2 arg3 harg3 arg4 harg4 arg15 arg16 harg16 x0 x1 x2 x3 xs1) (by decide) inb_S512x512_S256x512_0_0 inb_S256x512_S16x512_64_0 (by decide) x
  · exact chunk_emb arg5 harg5 arg6 harg6 arg15 x4 x5 x0 x1 x2 x3 0 48 (slabs9_B c arg1 harg1 arg2 harg2 arg3 harg3 arg4 harg4 arg15 arg16 harg16 x0 x1 x2 x3 xs1) (by decide) inb_S512x512_S256x512_0_0 inb_S256x512_S16x512_48_0 (by decide) x
  · exact chunk_emb arg5 harg5 arg6 harg6 arg15 x4 x5 x0 x1 x2 x3 0 32 (slabs9_B c arg1 harg1 arg2 harg2 arg3 harg3 arg4 harg4 arg15 arg16 harg16 x0 x1 x2 x3 xs1) (by decide) inb_S512x512_S256x512_0_0 inb_S256x512_S16x512_32_0 (by decide) x
  · exact chunk_emb arg5 harg5 arg6 harg6 arg15 x4 x5 x0 x1 x2 x3 0 16 (slabs9_B c arg1 harg1 arg2 harg2 arg3 harg3 arg4 harg4 arg15 arg16 harg16 x0 x1 x2 x3 xs1) (by decide) inb_S512x512_S256x512_0_0 inb_S256x512_S16x512_16_0 (by decide) x
  · exact chunk_emb arg5 harg5 arg6 harg6 arg15 x4 x5 x0 x1 x2 x3 0 0 (slabs9_B c arg1 harg1 arg2 harg2 arg3 harg3 arg4 harg4 arg15 arg16 harg16 x0 x1 x2 x3 xs1) (by decide) inb_S512x512_S256x512_0_0 inb_S256x512_S16x512_0_0 (by decide) x

end

end Cert.Kernel12Ideal.Input

end
-- ==== Proof.InSiluA.lean ====
/-
  The input projection at the first block, whose carry is zero: the norm with SiLU behind the convolution.
-/
module

public import proofs.«01_k».proof.Proof.InSlabA

@[expose] public section

set_option maxRecDepth 100000

noncomputable section

open Idealize.ShloMosaic Idealize.ShloMosaic.TcCoe Idealize.SL.Sem

namespace Cert.Kernel12Ideal.Input

open Cert.Kernel12Ideal Cert.Kernel12Ideal.Gen Cert.Input
open Cert.Gate (silu gate)

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3840 .bf16) (harg3 : arg3.IsWhole) (arg4 : Memref sig .tc .vmem S1x3840 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x768 .bf16) (harg10 : arg10.IsWhole) (arg11 : Memref sig .tc .vmem S512x3072 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S8x288x512 .f32) (harg15 : arg15.IsWhole) (arg16 : Memref sig .tc .vmem S32x512 .f32) (harg16 : arg16.IsWhole) (hc0 : cond0_0 i) (x0 : Vec Ideal S512x1024 .f32) (x1 : Vec Ideal S1x1024 .f32) (x2 : Vec Ideal S1024x3840 .bf16) (x3 : Vec Ideal S1x3840 .f32) (x4 : Vec Ideal S31x512 .f32) (x5 : Vec Ideal S1x512 .f32) (x6 : Vec Ideal S1x512 .f32) (x7 : Vec Ideal S1x512 .f32)
set_option maxHeartbeats 2000000 in
theorem out13_A (y : S512x512.Idx) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = silu (convRow x0 x1 x2 x3 (fun _ _ => 0) x4 x5 (y 0).val) (fun q => x6 (ix2 0 q)) (fun q => x7 (ix2 0 q)) (y 1) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  refine View.canon_apply_of_pieces (Val := Elt Ideal) (e := .bf16) (fun y : S512x512.Idx => silu (convRow x0 x1 x2 x3 (fun _ _ => 0) x4 x5 (y 0).val) (fun q => x6 (ix2 0 q)) (fun q => x7 (ix2 0 q)) (y 1)) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)
  unfold kernelRun0_A
  dsimp only
  intro pc hpc x
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tail_flat arg5 harg5 arg6 harg6 arg15 x4 x5 x0 x1 x2 x3 arg7 harg7 arg8 harg8 x6 x7 256 240 496 rfl (slabs18_A c arg1 harg1 arg2 harg2 arg3 harg3 arg4 harg4 arg15 arg16 x0 x1 x2 x3) (by decide) inb_S512x512_S16x512_496_0 x
  · exact tail_emb arg5 harg5 arg6 harg6 arg15 x4 x5 x0 x1 x2 x3 arg7 harg7 arg8 harg8 x6 x7 256 224 (slabs18_A c arg1 harg1 arg2 harg2 arg3 harg3 arg4 harg4 arg15 arg16 x0 x1 x2 x3) (by decide) inb_S512x512_S256x512_256_0 inb_S256x512_S16x512_224_0 (by decide) x
  · exact tail_emb arg5 harg5 arg6 harg6 arg15 x4 x5 x0 x1 x2 x3 arg7 harg7 arg8 harg8 x6 x7 256 208 (slabs18_A c arg1 harg1 arg2 harg2 arg3 harg3 arg4 harg4 arg15 arg16 x0 x1 x2 x3) (by decide) inb_S512x512_S256x512_256_0 inb_S256x512_S16x512_208_0 (by decide) x
  · exact tail_emb arg5 harg5 arg6 harg6 arg15 x4 x5 x0 x1 x2 x3 arg7 harg7 arg8 harg8 x6 x7 256 192 (slabs18_A c arg1 harg1 arg2 harg2 arg3 harg3 arg4 harg4 arg15 arg16 x0 x1 x2 x3) (by decide) inb_S512x512_S256x512_256_0 inb_S256x512_S16x512_192_0 (by decide) x
  · exact tail_emb arg5 harg5 arg6 harg6 arg15 x4 x5 x0 x1 x2 x3 arg7 harg7 arg8 harg8 x6 x7 256 176 (slabs18_A c arg1 harg1 arg2 harg2 arg3 harg3 arg4 harg4 arg15 arg16 x0 x1 x2 x3) (by decide) inb_S512x512_S256x512_256_0 inb_S256x512_S16x512_176_0 (by decide) x
  · exact tail_emb arg5 harg5 arg6 harg6 arg15 x4 x5 x0 x1 x2 x3 arg7 harg7 arg8 harg8 x6 x7 256 160 (slabs18_A c arg1 harg1 arg2 harg2 arg3 harg3 arg4 harg4 arg15 arg16 x0 x1 x2 x3) (by decide) inb_S512x512_S256x512_256_0 inb_S256x512_S16x512_160_0 (by decide) x
  · exact tail_emb arg5 harg5 arg6 harg6 arg15 x4 x5 x0 x1 x2 x3 arg7 harg7 arg8 harg8 x6 x7 256 144 (slabs18_A c arg1 harg1 arg2 harg2 arg3 harg3 arg4 harg4 arg15 arg16 x0 x1 x2 x3) (by decide) inb_S512x512_S256x512_256_0 inb_S256x512_S16x512_144_0 (by decide) x
  · exact tail_emb arg5 harg5 arg6 harg6 arg15 x4 x5 x0 x1 x2 x3 arg7 harg7 arg8 harg8 x6 x7 256 128 (slabs18_A c arg1 harg1 arg2 harg2 arg3 harg3 arg4 harg4 arg15 arg16 x0 x1 x2 x3) (by decide) inb_S512x512_S256x512_256_0 inb_S256x512_S16x512_128_0 (by decide) x
  · exact tail_emb arg5 harg5 arg6 harg6 arg15 x4 x5 x0 x1 x2 x3 arg7 harg7 arg8 harg8 x6 x7 256 112 (slabs18_A c arg1 harg1 arg2 harg2 arg3 harg3 arg4 harg4 arg15 arg16 x0 x1 x2 x3) (by decide) inb_S512x512_S256x512_256_0 inb_S256x512_S16x512_112_0 (by decide) x
  · exact tail_emb arg5 harg5 arg6 harg6 arg15 x4 x5 x0 x1 x2 x3 arg7 harg7 arg8 harg8 x6 x7 256 96 (slabs18_A c arg1 harg1 arg2 harg2 arg3 harg3 arg4 harg4 arg15 arg16 x0 x1 x2 x3) (by decide) inb_S512x512_S256x512_256_0 inb_S256x512_S16x512_96_0 (by decide) x
  · exact tail_emb arg5 harg5 arg6 harg6 arg15 x4 x5 x0 x1 x2 x3 arg7 harg7 arg8 harg8 x6 x7 256 80 (slabs18_A c arg1 harg1 arg2 harg2 arg3 harg3 arg4 harg4 arg15 arg16 x0 x1 x2 x3) (by decide) inb_S512x512_S256x512_256_0 inb_S256x512_S16x512_80_0 (by decide) x
  · exact tail_emb arg5 harg5 arg6 harg6 arg15 x4 x5 x0 x1 x2 x3 arg7 harg7 arg8 harg8 x6 x7 256 64 (slabs18_A c arg1 harg1 arg2 harg2 arg3 harg3 arg4 harg4 arg15 arg16 x0 x1 x2 x3) (by decide) inb_S512x512_S256x512_256_0 inb_S256x512_S16x512_64_0 (by decide) x
  · exact tail_emb arg5 harg5 arg6 harg6 arg15 x4 x5 x0 x1 x2 x3 arg7 harg7 arg8 harg8 x6 x7 256 48 (slabs18_A c arg1 harg1 arg2 harg2 arg3 harg3 arg4 harg4 arg15 arg16 x0 x1 x2 x3) (by decide) inb_S512x512_S256x512_256_0 inb_S256x512_S16x512_48_0 (by decide) x
  · exact tail_emb arg5 harg5 arg6 harg6 arg15 x4 x5 x0 x1 x2 x3 arg7 harg7 arg8 harg8 x6 x7 256 32 (slabs18_A c arg1 harg1 arg2 harg2 arg3 harg3 arg4 harg4 arg15 arg16 x0 x1 x2 x3) (by decide) inb_S512x512_S256x512_256_0 inb_S256x512_S16x512_32_0 (by decide) x
  · exact tail_emb arg5 harg5 arg6 harg6 arg15 x4 x5 x0 x1 x2 x3 arg7 harg7 arg8 harg8 x6 x7 256 16 (slabs18_A c arg1 harg1 arg2 harg2 arg3 harg3 arg4 harg4 arg15 arg16 x0 x1 x2 x3) (by decide) inb_S512x512_S256x512_256_0 inb_S256x512_S16x512_16_0 (by decide) x
  · exact tail_emb arg5 harg5 arg6 harg6 arg15 x4 x5 x0 x1 x2 x3 arg7 harg7 arg8 harg8 x6 x7 256 0 (slabs18_A c arg1 harg1 arg2 harg2 arg3 harg3 arg4 harg4 arg15 arg16 x0 x1 x2 x3) (by decide) inb_S512x512_S256x512_256_0 inb_S256x512_S16x512_0_0 (by decide) x
  · exact tail_emb arg5 harg5 arg6 harg6 arg15 x4 x5 x0 x1 x2 x3 arg7 harg7 arg8 harg8 x6 x7 0 240 (slabs9_A c arg1 harg1 arg2 harg2 arg3 harg3 arg4 harg4 arg15 arg16 x0 x1 x2 x3) (by decide) inb_S512x512_S256x512_0_0 inb_S256x512_S16x512_240_0 (by decide) x
  · exact tail_emb arg5 harg5 arg6 harg6 arg15 x4 x5 x0 x1 x2 x3 arg7 harg7 arg8 harg8 x6 x7 0 224 (slabs9_A c arg1 harg1 arg2 harg2 arg3 harg3 arg4 harg4 arg15 arg16 x0 x1 x2 x3) (by decide) inb_S512x512_S256x512_0_0 inb_S256x512_S16x512_224_0 (by decide) x
  · exact tail_emb arg5 harg5 arg6 harg6 arg15 x4 x5 x0 x1 x2 x3 arg7 harg7 arg8 harg8 x6 x7 0 208 (slabs9_A c arg1 harg1 arg2 harg2 arg3 harg3 arg4 harg4 arg15 arg16 x0 x1 x2 x3) (by decide) inb_S512x512_S256x512_0_0 inb_S256x512_S16x512_208_0 (by decide) x
  · exact tail_emb arg5 harg5 arg6 harg6 arg15 x4 x5 x0 x1 x2 x3 arg7 harg7 arg8 harg8 x6 x7 0 192 (slabs9_A c arg1 harg1 arg2 harg2 arg3 harg3 arg4 harg4 arg15 arg16 x0 x1 x2 x3) (by decide) inb_S512x512_S256x512_0_0 inb_S256x512_S16x512_192_0 (by decide) x
  · exact tail_emb arg5 harg5 arg6 harg6 arg15 x4 x5 x0 x1 x2 x3 arg7 harg7 arg8 harg8 x6 x7 0 176 (slabs9_A c arg1 harg1 arg2 harg2 arg3 harg3 arg4 harg4 arg15 arg16 x0 x1 x2 x3) (by decide) inb_S512x512_S256x512_0_0 inb_S256x512_S16x512_176_0 (by decide) x
  · exact tail_emb arg5 harg5 arg6 harg6 arg15 x4 x5 x0 x1 x2 x3 arg7 harg7 arg8 harg8 x6 x7 0 160 (slabs9_A c arg1 harg1 arg2 harg2 arg3 harg3 arg4 harg4 arg15 arg16 x0 x1 x2 x3) (by decide) inb_S512x512_S256x512_0_0 inb_S256x512_S16x512_160_0 (by decide) x
  · exact tail_emb arg5 harg5 arg6 harg6 arg15 x4 x5 x0 x1 x2 x3 arg7 harg7 arg8 harg8 x6 x7 0 144 (slabs9_A c arg1 harg1 arg2 harg2 arg3 harg3 arg4 harg4 arg15 arg16 x0 x1 x2 x3) (by decide) inb_S512x512_S256x512_0_0 inb_S256x512_S16x512_144_0 (by decide) x
  · exact tail_emb arg5 harg5 arg6 harg6 arg15 x4 x5 x0 x1 x2 x3 arg7 harg7 arg8 harg8 x6 x7 0 128 (slabs9_A c arg1 harg1 arg2 harg2 arg3 harg3 arg4 harg4 arg15 arg16 x0 x1 x2 x3) (by decide) inb_S512x512_S256x512_0_0 inb_S256x512_S16x512_128_0 (by decide) x
  · exact tail_emb arg5 harg5 arg6 harg6 arg15 x4 x5 x0 x1 x2 x3 arg7 harg7 arg8 harg8 x6 x7 0 112 (slabs9_A c arg1 harg1 arg2 harg2 arg3 harg3 arg4 harg4 arg15 arg16 x0 x1 x2 x3) (by decide) inb_S512x512_S256x512_0_0 inb_S256x512_S16x512_112_0 (by decide) x
  · exact tail_emb arg5 harg5 arg6 harg6 arg15 x4 x5 x0 x1 x2 x3 arg7 harg7 arg8 harg8 x6 x7 0 96 (slabs9_A c arg1 harg1 arg2 harg2 arg3 harg3 arg4 harg4 arg15 arg16 x0 x1 x2 x3) (by decide) inb_S512x512_S256x512_0_0 inb_S256x512_S16x512_96_0 (by decide) x
  · exact tail_emb arg5 harg5 arg6 harg6 arg15 x4 x5 x0 x1 x2 x3 arg7 harg7 arg8 harg8 x6 x7 0 80 (slabs9_A c arg1 harg1 arg2 harg2 arg3 harg3 arg4 harg4 arg15 arg16 x0 x1 x2 x3) (by decide) inb_S512x512_S256x512_0_0 inb_S256x512_S16x512_80_0 (by decide) x
  · exact tail_emb arg5 harg5 arg6 harg6 arg15 x4 x5 x0 x1 x2 x3 arg7 harg7 arg8 harg8 x6 x7 0 64 (slabs9_A c arg1 harg1 arg2 harg2 arg3 harg3 arg4 harg4 arg15 arg16 x0 x1 x2 x3) (by decide) inb_S512x512_S256x512_0_0 inb_S256x512_S16x512_64_0 (by decide) x
  · exact tail_emb arg5 harg5 arg6 harg6 arg15 x4 x5 x0 x1 x2 x3 arg7 harg7 arg8 harg8 x6 x7 0 48 (slabs9_A c arg1 harg1 arg2 harg2 arg3 harg3 arg4 harg4 arg15 arg16 x0 x1 x2 x3) (by decide) inb_S512x512_S256x512_0_0 inb_S256x512_S16x512_48_0 (by decide) x
  · exact tail_emb arg5 harg5 arg6 harg6 arg15 x4 x5 x0 x1 x2 x3 arg7 harg7 arg8 harg8 x6 x7 0 32 (slabs9_A c arg1 harg1 arg2 harg2 arg3 harg3 arg4 harg4 arg15 arg16 x0 x1 x2 x3) (by decide) inb_S512x512_S256x512_0_0 inb_S256x512_S16x512_32_0 (by decide) x
  · exact tail_emb arg5 harg5 arg6 harg6 arg15 x4 x5 x0 x1 x2 x3 arg7 harg7 arg8 harg8 x6 x7 0 16 (slabs9_A c arg1 harg1 arg2 harg2 arg3 harg3 arg4 harg4 arg15 arg16 x0 x1 x2 x3) (by decide) inb_S512x512_S256x512_0_0 inb_S256x512_S16x512_16_0 (by decide) x
  · exact tail_emb arg5 harg5 arg6 harg6 arg15 x4 x5 x0 x1 x2 x3 arg7 harg7 arg8 harg8 x6 x7 0 0 (slabs9_A c arg1 harg1 arg2 harg2 arg3 harg3 arg4 harg4 arg15 arg16 x0 x1 x2 x3) (by decide) inb_S512x512_S256x512_0_0 inb_S256x512_S16x512_0_0 (by decide) x

end

end Cert.Kernel12Ideal.Input

end
-- ==== Proof.InSiluB.lean ====
/-
  The input projection at a later block, which reads the carry of the block before: the norm with SiLU behind the convolution.
-/
module

public import proofs.«01_k».proof.Proof.InSlabB

@[expose] public section

set_option maxRecDepth 100000

noncomputable section

open Idealize.ShloMosaic Idealize.ShloMosaic.TcCoe Idealize.SL.Sem

namespace Cert.Kernel12Ideal.Input

open Cert.Kernel12Ideal Cert.Kernel12Ideal.Gen Cert.Input
open Cert.Gate (silu gate)

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3840 .bf16) (harg3 : arg3.IsWhole) (arg4 : Memref sig .tc .vmem S1x3840 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x768 .bf16) (harg10 : arg10.IsWhole) (arg11 : Memref sig .tc .vmem S512x3072 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S8x288x512 .f32) (harg15 : arg15.IsWhole) (arg16 : Memref sig .tc .vmem S32x512 .f32) (harg16 : arg16.IsWhole) (hc0 : ¬cond0_0 i) (x0 : Vec Ideal S512x1024 .f32) (x1 : Vec Ideal S1x1024 .f32) (x2 : Vec Ideal S1024x3840 .bf16) (x3 : Vec Ideal S1x3840 .f32) (x4 : Vec Ideal S31x512 .f32) (x5 : Vec Ideal S1x512 .f32) (x6 : Vec Ideal S1x512 .f32) (x7 : Vec Ideal S1x512 .f32) (xs1 : Vec Ideal S32x512 .f32)
set_option maxHeartbeats 2000000 in
theorem out13_B (y : S512x512.Idx) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y = silu (convRow x0 x1 x2 x3 (carryOf xs1) x4 x5 (y 0).val) (fun q => x6 (ix2 0 q)) (fun q => x7 (ix2 0 q)) (y 1) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1)]
  refine View.canon_apply_of_pieces (Val := Elt Ideal) (e := .bf16) (fun y : S512x512.Idx => silu (convRow x0 x1 x2 x3 (carryOf xs1) x4 x5 (y 0).val) (fun q => x6 (ix2 0 q)) (fun q => x7 (ix2 0 q)) (y 1)) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs1 y)
  unfold kernelRun0_B
  dsimp only
  intro pc hpc x
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tail_flat arg5 harg5 arg6 harg6 arg15 x4 x5 x0 x1 x2 x3 arg7 harg7 arg8 harg8 x6 x7 256 240 496 rfl (slabs18_B c arg1 harg1 arg2 harg2 arg3 harg3 arg4 harg4 arg15 arg16 harg16 x0 x1 x2 x3 xs1) (by decide) inb_S512x512_S16x512_496_0 x
  · exact tail_emb arg5 harg5 arg6 harg6 arg15 x4 x5 x0 x1 x2 x3 arg7 harg7 arg8 harg8 x6 x7 256 224 (slabs18_B c arg1 harg1 arg2 harg2 arg3 harg3 arg4 harg4 arg15 arg16 harg16 x0 x1 x2 x3 xs1) (by decide) inb_S512x512_S256x512_256_0 inb_S256x512_S16x512_224_0 (by decide) x
  · exact tail_emb arg5 harg5 arg6 harg6 arg15 x4 x5 x0 x1 x2 x3 arg7 harg7 arg8 harg8 x6 x7 256 208 (slabs18_B c arg1 harg1 arg2 harg2 arg3 harg3 arg4 harg4 arg15 arg16 harg16 x0 x1 x2 x3 xs1) (by decide) inb_S512x512_S256x512_256_0 inb_S256x512_S16x512_208_0 (by decide) x
  · exact tail_emb arg5 harg5 arg6 harg6 arg15 x4 x5 x0 x1 x2 x3 arg7 harg7 arg8 harg8 x6 x7 256 192 (slabs18_B c arg1 harg1 arg2 harg2 arg3 harg3 arg4 harg4 arg15 arg16 harg16 x0 x1 x2 x3 xs1) (by decide) inb_S512x512_S256x512_256_0 inb_S256x512_S16x512_192_0 (by decide) x
  · exact tail_emb arg5 harg5 arg6 harg6 arg15 x4 x5 x0 x1 x2 x3 arg7 harg7 arg8 harg8 x6 x7 256 176 (slabs18_B c arg1 harg1 arg2 harg2 arg3 harg3 arg4 harg4 arg15 arg16 harg16 x0 x1 x2 x3 xs1) (by decide) inb_S512x512_S256x512_256_0 inb_S256x512_S16x512_176_0 (by decide) x
  · exact tail_emb arg5 harg5 arg6 harg6 arg15 x4 x5 x0 x1 x2 x3 arg7 harg7 arg8 harg8 x6 x7 256 160 (slabs18_B c arg1 harg1 arg2 harg2 arg3 harg3 arg4 harg4 arg15 arg16 harg16 x0 x1 x2 x3 xs1) (by decide) inb_S512x512_S256x512_256_0 inb_S256x512_S16x512_160_0 (by decide) x
  · exact tail_emb arg5 harg5 arg6 harg6 arg15 x4 x5 x0 x1 x2 x3 arg7 harg7 arg8 harg8 x6 x7 256 144 (slabs18_B c arg1 harg1 arg2 harg2 arg3 harg3 arg4 harg4 arg15 arg16 harg16 x0 x1 x2 x3 xs1) (by decide) inb_S512x512_S256x512_256_0 inb_S256x512_S16x512_144_0 (by decide) x
  · exact tail_emb arg5 harg5 arg6 harg6 arg15 x4 x5 x0 x1 x2 x3 arg7 harg7 arg8 harg8 x6 x7 256 128 (slabs18_B c arg1 harg1 arg2 harg2 arg3 harg3 arg4 harg4 arg15 arg16 harg16 x0 x1 x2 x3 xs1) (by decide) inb_S512x512_S256x512_256_0 inb_S256x512_S16x512_128_0 (by decide) x
  · exact tail_emb arg5 harg5 arg6 harg6 arg15 x4 x5 x0 x1 x2 x3 arg7 harg7 arg8 harg8 x6 x7 256 112 (slabs18_B c arg1 harg1 arg2 harg2 arg3 harg3 arg4 harg4 arg15 arg16 harg16 x0 x1 x2 x3 xs1) (by decide) inb_S512x512_S256x512_256_0 inb_S256x512_S16x512_112_0 (by decide) x
  · exact tail_emb arg5 harg5 arg6 harg6 arg15 x4 x5 x0 x1 x2 x3 arg7 harg7 arg8 harg8 x6 x7 256 96 (slabs18_B c arg1 harg1 arg2 harg2 arg3 harg3 arg4 harg4 arg15 arg16 harg16 x0 x1 x2 x3 xs1) (by decide) inb_S512x512_S256x512_256_0 inb_S256x512_S16x512_96_0 (by decide) x
  · exact tail_emb arg5 harg5 arg6 harg6 arg15 x4 x5 x0 x1 x2 x3 arg7 harg7 arg8 harg8 x6 x7 256 80 (slabs18_B c arg1 harg1 arg2 harg2 arg3 harg3 arg4 harg4 arg15 arg16 harg16 x0 x1 x2 x3 xs1) (by decide) inb_S512x512_S256x512_256_0 inb_S256x512_S16x512_80_0 (by decide) x
  · exact tail_emb arg5 harg5 arg6 harg6 arg15 x4 x5 x0 x1 x2 x3 arg7 harg7 arg8 harg8 x6 x7 256 64 (slabs18_B c arg1 harg1 arg2 harg2 arg3 harg3 arg4 harg4 arg15 arg16 harg16 x0 x1 x2 x3 xs1) (by decide) inb_S512x512_S256x512_256_0 inb_S256x512_S16x512_64_0 (by decide) x
  · exact tail_emb arg5 harg5 arg6 harg6 arg15 x4 x5 x0 x1 x2 x3 arg7 harg7 arg8 harg8 x6 x7 256 48 (slabs18_B c arg1 harg1 arg2 harg2 arg3 harg3 arg4 harg4 arg15 arg16 harg16 x0 x1 x2 x3 xs1) (by decide) inb_S512x512_S256x512_256_0 inb_S256x512_S16x512_48_0 (by decide) x
  · exact tail_emb arg5 harg5 arg6 harg6 arg15 x4 x5 x0 x1 x2 x3 arg7 harg7 arg8 harg8 x6 x7 256 32 (slabs18_B c arg1 harg1 arg2 harg2 arg3 harg3 arg4 harg4 arg15 arg16 harg16 x0 x1 x2 x3 xs1) (by decide) inb_S512x512_S256x512_256_0 inb_S256x512_S16x512_32_0 (by decide) x
  · exact tail_emb arg5 harg5 arg6 harg6 arg15 x4 x5 x0 x1 x2 x3 arg7 harg7 arg8 harg8 x6 x7 256 16 (slabs18_B c arg1 harg1 arg2 harg2 arg3 harg3 arg4 harg4 arg15 arg16 harg16 x0 x1 x2 x3 xs1) (by decide) inb_S512x512_S256x512_256_0 inb_S256x512_S16x512_16_0 (by decide) x
  · exact tail_emb arg5 harg5 arg6 harg6 arg15 x4 x5 x0 x1 x2 x3 arg7 harg7 arg8 harg8 x6 x7 256 0 (slabs18_B c arg1 harg1 arg2 harg2 arg3 harg3 arg4 harg4 arg15 arg16 harg16 x0 x1 x2 x3 xs1) (by decide) inb_S512x512_S256x512_256_0 inb_S256x512_S16x512_0_0 (by decide) x
  · exact tail_emb arg5 harg5 arg6 harg6 arg15 x4 x5 x0 x1 x2 x3 arg7 harg7 arg8 harg8 x6 x7 0 240 (slabs9_B c arg1 harg1 arg2 harg2 arg3 harg3 arg4 harg4 arg15 arg16 harg16 x0 x1 x2 x3 xs1) (by decide) inb_S512x512_S256x512_0_0 inb_S256x512_S16x512_240_0 (by decide) x
  · exact tail_emb arg5 harg5 arg6 harg6 arg15 x4 x5 x0 x1 x2 x3 arg7 harg7 arg8 harg8 x6 x7 0 224 (slabs9_B c arg1 harg1 arg2 harg2 arg3 harg3 arg4 harg4 arg15 arg16 harg16 x0 x1 x2 x3 xs1) (by decide) inb_S512x512_S256x512_0_0 inb_S256x512_S16x512_224_0 (by decide) x
  · exact tail_emb arg5 harg5 arg6 harg6 arg15 x4 x5 x0 x1 x2 x3 arg7 harg7 arg8 harg8 x6 x7 0 208 (slabs9_B c arg1 harg1 arg2 harg2 arg3 harg3 arg4 harg4 arg15 arg16 harg16 x0 x1 x2 x3 xs1) (by decide) inb_S512x512_S256x512_0_0 inb_S256x512_S16x512_208_0 (by decide) x
  · exact tail_emb arg5 harg5 arg6 harg6 arg15 x4 x5 x0 x1 x2 x3 arg7 harg7 arg8 harg8 x6 x7 0 192 (slabs9_B c arg1 harg1 arg2 harg2 arg3 harg3 arg4 harg4 arg15 arg16 harg16 x0 x1 x2 x3 xs1) (by decide) inb_S512x512_S256x512_0_0 inb_S256x512_S16x512_192_0 (by decide) x
  · exact tail_emb arg5 harg5 arg6 harg6 arg15 x4 x5 x0 x1 x2 x3 arg7 harg7 arg8 harg8 x6 x7 0 176 (slabs9_B c arg1 harg1 arg2 harg2 arg3 harg3 arg4 harg4 arg15 arg16 harg16 x0 x1 x2 x3 xs1) (by decide) inb_S512x512_S256x512_0_0 inb_S256x512_S16x512_176_0 (by decide) x
  · exact tail_emb arg5 harg5 arg6 harg6 arg15 x4 x5 x0 x1 x2 x3 arg7 harg7 arg8 harg8 x6 x7 0 160 (slabs9_B c arg1 harg1 arg2 harg2 arg3 harg3 arg4 harg4 arg15 arg16 harg16 x0 x1 x2 x3 xs1) (by decide) inb_S512x512_S256x512_0_0 inb_S256x512_S16x512_160_0 (by decide) x
  · exact tail_emb arg5 harg5 arg6 harg6 arg15 x4 x5 x0 x1 x2 x3 arg7 harg7 arg8 harg8 x6 x7 0 144 (slabs9_B c arg1 harg1 arg2 harg2 arg3 harg3 arg4 harg4 arg15 arg16 harg16 x0 x1 x2 x3 xs1) (by decide) inb_S512x512_S256x512_0_0 inb_S256x512_S16x512_144_0 (by decide) x
  · exact tail_emb arg5 harg5 arg6 harg6 arg15 x4 x5 x0 x1 x2 x3 arg7 harg7 arg8 harg8 x6 x7 0 128 (slabs9_B c arg1 harg1 arg2 harg2 arg3 harg3 arg4 harg4 arg15 arg16 harg16 x0 x1 x2 x3 xs1) (by decide) inb_S512x512_S256x512_0_0 inb_S256x512_S16x512_128_0 (by decide) x
  · exact tail_emb arg5 harg5 arg6 harg6 arg15 x4 x5 x0 x1 x2 x3 arg7 harg7 arg8 harg8 x6 x7 0 112 (slabs9_B c arg1 harg1 arg2 harg2 arg3 harg3 arg4 harg4 arg15 arg16 harg16 x0 x1 x2 x3 xs1) (by decide) inb_S512x512_S256x512_0_0 inb_S256x512_S16x512_112_0 (by decide) x
  · exact tail_emb arg5 harg5 arg6 harg6 arg15 x4 x5 x0 x1 x2 x3 arg7 harg7 arg8 harg8 x6 x7 0 96 (slabs9_B c arg1 harg1 arg2 harg2 arg3 harg3 arg4 harg4 arg15 arg16 harg16 x0 x1 x2 x3 xs1) (by decide) inb_S512x512_S256x512_0_0 inb_S256x512_S16x512_96_0 (by decide) x
  · exact tail_emb arg5 harg5 arg6 harg6 arg15 x4 x5 x0 x1 x2 x3 arg7 harg7 arg8 harg8 x6 x7 0 80 (slabs9_B c arg1 harg1 arg2 harg2 arg3 harg3 arg4 harg4 arg15 arg16 harg16 x0 x1 x2 x3 xs1) (by decide) inb_S512x512_S256x512_0_0 inb_S256x512_S16x512_80_0 (by decide) x
  · exact tail_emb arg5 harg5 arg6 harg6 arg15 x4 x5 x0 x1 x2 x3 arg7 harg7 arg8 harg8 x6 x7 0 64 (slabs9_B c arg1 harg1 arg2 harg2 arg3 harg3 arg4 harg4 arg15 arg16 harg16 x0 x1 x2 x3 xs1) (by decide) inb_S512x512_S256x512_0_0 inb_S256x512_S16x512_64_0 (by decide) x
  · exact tail_emb arg5 harg5 arg6 harg6 arg15 x4 x5 x0 x1 x2 x3 arg7 harg7 arg8 harg8 x6 x7 0 48 (slabs9_B c arg1 harg1 arg2 harg2 arg3 harg3 arg4 harg4 arg15 arg16 harg16 x0 x1 x2 x3 xs1) (by decide) inb_S512x512_S256x512_0_0 inb_S256x512_S16x512_48_0 (by decide) x
  · exact tail_emb arg5 harg5 arg6 harg6 arg15 x4 x5 x0 x1 x2 x3 arg7 harg7 arg8 harg8 x6 x7 0 32 (slabs9_B c arg1 harg1 arg2 harg2 arg3 harg3 arg4 harg4 arg15 arg16 harg16 x0 x1 x2 x3 xs1) (by decide) inb_S512x512_S256x512_0_0 inb_S256x512_S16x512_32_0 (by decide) x
  · exact tail_emb arg5 harg5 arg6 harg6 arg15 x4 x5 x0 x1 x2 x3 arg7 harg7 arg8 harg8 x6 x7 0 16 (slabs9_B c arg1 harg1 arg2 harg2 arg3 harg3 arg4 harg4 arg15 arg16 harg16 x0 x1 x2 x3 xs1) (by decide) inb_S512x512_S256x512_0_0 inb_S256x512_S16x512_16_0 (by decide) x
  · exact tail_emb arg5 harg5 arg6 harg6 arg15 x4 x5 x0 x1 x2 x3 arg7 harg7 arg8 harg8 x6 x7 0 0 (slabs9_B c arg1 harg1 arg2 harg2 arg3 harg3 arg4 harg4 arg15 arg16 harg16 x0 x1 x2 x3 xs1) (by decide) inb_S512x512_S256x512_0_0 inb_S256x512_S16x512_0_0 (by decide) x

end

end Cert.Kernel12Ideal.Input

end
-- ==== Proof.InFwd.lean ====
/-
  The forward input projection at the ideal instance: the normalised rows, the projection, the gated input of the
  convolution, the causal convolution and its norm with SiLU, block by block with the last rows of a block carried into
  the next, against the same formulas on whole arrays.
-/
module

public import proofs.«01_k».proof.Defs
public import proofs.«01_k».proof.Proof.InRef
public import proofs.«01_k».proof.Proof.InConvA
public import proofs.«01_k».proof.Proof.InConvB
public import proofs.«01_k».proof.Proof.InSiluA
public import proofs.«01_k».proof.Proof.InSiluB
public import proofs.«01_k».proof.Proof.Gen.Kernel12Ideal.Frame
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Input

open Cert.Kernel12Ideal Cert.Kernel12Ideal.Gen Cert.Input
open Cert.Gate (silu gate)

section
variable (x0 : FVec Ideal S16384x1024 .f32) (x1 : FVec Ideal S1x1024 .f32) (x2 : FVec Ideal S1024x3840 .bf16) (x3 : FVec Ideal S1x3840 .f32)
  (x4 : FVec Ideal S31x512 .f32) (x5 x6 x7 : FVec Ideal S1x512 .f32)

/-- The normalised rows. -/
def hidArr : FVec Ideal S16384x1024 .bf16 := fun i => hidTok x0 x1 (i 0) (i 1)

/-- The first 768 columns of the projection. -/
def qkvArr : FVec Ideal S16384x768 .bf16 := fun i => projTok x0 x1 x2 x3 (i 0) ⟨(i 1).val, lt_of_lt_of_le (i 1).isLt (by decide)⟩

/-- The remaining columns of the projection. -/
def restArr : FVec Ideal S16384x3072 .bf16 := fun i => projTok x0 x1 x2 x3 (i 0) ⟨768 + (i 1).val, Nat.add_lt_add_left (i 1).isLt 768⟩

/-- The convolution's input. -/
def gluArr : FVec Ideal S16384x512 .f32 := fun i => gluTok x0 x1 x2 x3 (i 0) (i 1)

/-- The convolution. -/
def convArr : FVec Ideal S16384x512 .f32 := fun i => convTok x0 x1 x2 x3 x4 x5 (i 0) (i 1)

/-- The convolution behind its norm and SiLU. -/
def siluArr : FVec Ideal S16384x512 .bf16 := fun i => siluTok x0 x1 x2 x3 x4 x5 x6 x7 (i 0) (i 1)

end

variable (m : (ℓ : Loc nD τ sig) → Buf (Elt Ideal) ℓ)

/-- Where each window's block of point `t` sits. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ t.val < 32 :=
  (by decide +kernel : ∀ t : Fin grid0.N, _)

theorem in0_blk (c : Dev nD) (t : Fin cfg0.N) (p : Fin 512) (P : Fin 16384) (hP : P.val = t.val * 512 + p.val) (q : Fin 1024) :
    (iblk m c 0 t : FVec Ideal S512x1024 .f32) (ix2 p q) = ((m ((c.tc : Thread nD τ).loc main_arg0)) : FVec Ideal S16384x1024 .f32) (ix2 P q) := by
  blk_point [iblk, V, idx t, hP]

theorem in1_blk (c : Dev nD) (t : Fin cfg0.N) (p : Fin 1) (q : Fin 1024) :
    (iblk m c 1 t : FVec Ideal S1x1024 .f32) (ix2 p q) = ((m ((c.tc : Thread nD τ).loc main_arg1)) : FVec Ideal S1x1024 .f32) (ix2 p q) := by
  blk_point [iblk, V, idx t]

theorem in2_blk (c : Dev nD) (t : Fin cfg0.N) (p : Fin 1024) (q : Fin 3840) :
    (iblk m c 2 t : FVec Ideal S1024x3840 .bf16) (ix2 p q) = ((m ((c.tc : Thread nD τ).loc main_arg2)) : FVec Ideal S1024x3840 .bf16) (ix2 p q) := by
  blk_point [iblk, V, idx t]

theorem in3_blk (c : Dev nD) (t : Fin cfg0.N) (p : Fin 1) (q : Fin 3840) :
    (iblk m c 3 t : FVec Ideal S1x3840 .f32) (ix2 p q) = ((m ((c.tc : Thread nD τ).loc main_arg3)) : FVec Ideal S1x3840 .f32) (ix2 p q) := by
  blk_point [iblk, V, idx t]

theorem in4_blk (c : Dev nD) (t : Fin cfg0.N) (p : Fin 31) (q : Fin 512) :
    (iblk m c 4 t : FVec Ideal S31x512 .f32) (ix2 p q) = ((m ((c.tc : Thread nD τ).loc main_arg4)) : FVec Ideal S31x512 .f32) (ix2 p q) := by
  blk_point [iblk, V, idx t]

theorem in5_blk (c : Dev nD) (t : Fin cfg0.N) (p : Fin 1) (q : Fin 512) :
    (iblk m c 5 t : FVec Ideal S1x512 .f32) (ix2 p q) = ((m ((c.tc : Thread nD τ).loc main_arg5)) : FVec Ideal S1x512 .f32) (ix2 p q) := by
  blk_point [iblk, V, idx t]

theorem in6_blk (c : Dev nD) (t : Fin cfg0.N) (p : Fin 1) (q : Fin 512) :
    (iblk m c 6 t : FVec Ideal S1x512 .f32) (ix2 p q) = ((m ((c.tc : Thread nD τ).loc main_arg6)) : FVec Ideal S1x512 .f32) (ix2 p q) := by
  blk_point [iblk, V, idx t]

theorem in7_blk (c : Dev nD) (t : Fin cfg0.N) (p : Fin 1) (q : Fin 512) :
    (iblk m c 7 t : FVec Ideal S1x512 .f32) (ix2 p q) = ((m ((c.tc : Thread nD τ).loc main_arg7)) : FVec Ideal S1x512 .f32) (ix2 p q) := by
  blk_point [iblk, V, idx t]

theorem hid_row (c : Dev nD) (t : Fin cfg0.N) (p : Fin 512) (P : Fin 16384) (hP : P.val = t.val * 512 + p.val) : hidRow (iblk m c 0 t) (iblk m c 1 t) p = hidTok (m ((c.tc : Thread nD τ).loc main_arg0)) (m ((c.tc : Thread nD τ).loc main_arg1)) P := by
  rw [hidRow, hidTok, funext (in0_blk m c t p P hP), funext (in1_blk m c t 0)]

theorem proj_row (c : Dev nD) (t : Fin cfg0.N) (p : Fin 512) (P : Fin 16384) (hP : P.val = t.val * 512 + p.val) : projRow (iblk m c 0 t) (iblk m c 1 t) (iblk m c 2 t) (iblk m c 3 t) p = projTok (m ((c.tc : Thread nD τ).loc main_arg0)) (m ((c.tc : Thread nD τ).loc main_arg1)) (m ((c.tc : Thread nD τ).loc main_arg2)) (m ((c.tc : Thread nD τ).loc main_arg3)) P := by
  rw [projRow, projTok, funext (in0_blk m c t p P hP), funext (in1_blk m c t 0), funext fun d => funext (in2_blk m c t d), funext (in3_blk m c t 0)]

theorem glu_row (c : Dev nD) (t : Fin cfg0.N) (p : Fin 512) (P : Fin 16384) (hP : P.val = t.val * 512 + p.val) : gluRow (iblk m c 0 t) (iblk m c 1 t) (iblk m c 2 t) (iblk m c 3 t) p = gluTok (m ((c.tc : Thread nD τ).loc main_arg0)) (m ((c.tc : Thread nD τ).loc main_arg1)) (m ((c.tc : Thread nD τ).loc main_arg2)) (m ((c.tc : Thread nD τ).loc main_arg3)) P := by
  rw [gluRow, gluTok, proj_row m c t p P hP]

/-- Behind the right carried rows a block's rows are the padded sequence's. -/
theorem ext_blk (c : Dev nD) (t : Fin cfg0.N) (C : ℕ → Fin 512 → EReal)
    (hC : ∀ i (_ : i < 30) q, C (i + 2) q = padded (m ((c.tc : Thread nD τ).loc main_arg0)) (m ((c.tc : Thread nD τ).loc main_arg1)) (m ((c.tc : Thread nD τ).loc main_arg2)) (m ((c.tc : Thread nD τ).loc main_arg3)) (t.val * 512 + i) q) (i : ℕ) (hi : i < 542) (q : Fin 512) :
    ext (iblk m c 0 t) (iblk m c 1 t) (iblk m c 2 t) (iblk m c 3 t) C (i + 2) q = padded (m ((c.tc : Thread nD τ).loc main_arg0)) (m ((c.tc : Thread nD τ).loc main_arg1)) (m ((c.tc : Thread nD τ).loc main_arg2)) (m ((c.tc : Thread nD τ).loc main_arg3)) (t.val * 512 + i) q := by
  have ht : t.val < 32 := by obtain h := idx t; omega
  by_cases h : i < 30
  · rw [ext_carry _ _ _ _ C (by omega) q, hC i h q]
  · rw [ext_row _ _ _ _ C ⟨i - 30, by omega⟩ (by show i + 2 = 32 + (i - 30); omega) q, padded, dif_pos ⟨by omega, by omega⟩]
    exact congrFun (glu_row m c t _ _ (by show t.val * 512 + i - 30 = t.val * 512 + (i - 30); omega)) q

theorem conv_row (c : Dev nD) (t : Fin cfg0.N) (C : ℕ → Fin 512 → EReal)
    (hC : ∀ i (_ : i < 30) q, C (i + 2) q = padded (m ((c.tc : Thread nD τ).loc main_arg0)) (m ((c.tc : Thread nD τ).loc main_arg1)) (m ((c.tc : Thread nD τ).loc main_arg2)) (m ((c.tc : Thread nD τ).loc main_arg3)) (t.val * 512 + i) q) (p : Fin 512) (P : Fin 16384) (hP : P.val = t.val * 512 + p.val) :
    convRow (iblk m c 0 t) (iblk m c 1 t) (iblk m c 2 t) (iblk m c 3 t) C (iblk m c 4 t) (iblk m c 5 t) p.val = convTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) P := by
  funext q
  rw [convRow, convTok, conv, conv, in5_blk m c t 0 q]
  refine congrArg (· + _) (Finset.sum_congr rfl fun j _ => ?_)
  rw [in4_blk m c t j q, ext_blk m c t C hC _ (by omega) q, hP]
  congr 2
  omega

theorem silu_row (c : Dev nD) (t : Fin cfg0.N) (C : ℕ → Fin 512 → EReal)
    (hC : ∀ i (_ : i < 30) q, C (i + 2) q = padded (m ((c.tc : Thread nD τ).loc main_arg0)) (m ((c.tc : Thread nD τ).loc main_arg1)) (m ((c.tc : Thread nD τ).loc main_arg2)) (m ((c.tc : Thread nD τ).loc main_arg3)) (t.val * 512 + i) q) (p : Fin 512) (P : Fin 16384) (hP : P.val = t.val * 512 + p.val) :
    silu (convRow (iblk m c 0 t) (iblk m c 1 t) (iblk m c 2 t) (iblk m c 3 t) C (iblk m c 4 t) (iblk m c 5 t) p.val) (fun q => (iblk m c 6 t) (ix2 0 q)) (fun q => (iblk m c 7 t) (ix2 0 q)) = siluTok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) P := by
  rw [siluTok, conv_row m c t C hC p P hP]
  exact congrArg₂ (silu _) (funext (in6_blk m c t 0)) (funext (in7_blk m c t 0))

/-- What a point carries into the next: its block's last 32 gated rows. -/
theorem left_carry (c : Dev nD) (t : Fin cfg0.N) (b : Fin 32) (q : Fin 512) :
    (outsAt0 m c t.val t.isLt).2.2.2.2.2.2 (ix2 b q) = gluRow (iblk m c 0 t) (iblk m c 1 t) (iblk m c 2 t) (iblk m c 3 t) ⟨480 + b.val, by omega⟩ q := by
  by_cases h : t.val % 32 = 0
  · rw [outsAt0_A m c t h]
    dsimp only
    rw [sout1_A]
  · rw [outsAt0_B m c t h]
    dsimp only
    rw [sout1_B]

theorem first_carry (c : Dev nD) (t : Fin cfg0.N) (h : t.val % 32 = 0) (i : ℕ) (hi : i < 30) (q : Fin 512) :
    (0 : EReal) = padded (m ((c.tc : Thread nD τ).loc main_arg0)) (m ((c.tc : Thread nD τ).loc main_arg1)) (m ((c.tc : Thread nD τ).loc main_arg2)) (m ((c.tc : Thread nD τ).loc main_arg3)) (t.val * 512 + i) q := by
  have ht : t.val < 32 := by obtain h := idx t; omega
  rw [padded, dif_neg fun k => by omega]

theorem next_carry (c : Dev nD) (t : Fin cfg0.N) (h : ¬t.val % 32 = 0) (i : ℕ) (hi : i < 30) (q : Fin 512) :
    carryOf (outsAt0 m c (t.val - 1) (Nat.lt_of_le_of_lt (Nat.sub_le _ _) t.isLt)).2.2.2.2.2.2 (i + 2) q = padded (m ((c.tc : Thread nD τ).loc main_arg0)) (m ((c.tc : Thread nD τ).loc main_arg1)) (m ((c.tc : Thread nD τ).loc main_arg2)) (m ((c.tc : Thread nD τ).loc main_arg3)) (t.val * 512 + i) q := by
  have ht : t.val < 32 := by obtain h := idx t; omega
  rw [carryOf, dif_pos (by omega), padded, dif_pos ⟨by omega, by omega⟩]
  refine (left_carry m c ⟨t.val - 1, Nat.lt_of_le_of_lt (Nat.sub_le _ _) t.isLt⟩ ⟨i + 2, by omega⟩ q).trans ?_
  exact congrFun (glu_row m c _ _ _ (by show t.val * 512 + i - 30 = (t.val - 1) * 512 + (480 + (i + 2)); omega)) q

theorem left_hid (c : Dev nD) (t : Fin cfg0.N) (y : S512x1024.Idx) :
    (outsAt0 m c t.val t.isLt).1 y = hidArr (m ((c.tc : Thread nD τ).loc main_arg0)) (m ((c.tc : Thread nD τ).loc main_arg1)) (((cfg0.win 8).blk t).view.emb y) := by
  have h0 : ((((cfg0.win 8).blk t).view.emb y) 0).val = t.val * 512 + (y 0).val := by blk_point [idx t]
  have h1 : ((((cfg0.win 8).blk t).view.emb y) 1).val = (y 1).val := by blk_point [idx t]
  have e : hidRow (iblk m c 0 t) (iblk m c 1 t) (y 0) (y 1) = hidArr (m ((c.tc : Thread nD τ).loc main_arg0)) (m ((c.tc : Thread nD τ).loc main_arg1)) (((cfg0.win 8).blk t).view.emb y) := by
    rw [hidArr, hid_row m c t (y 0) _ h0]
    exact congrArg _ (Fin.ext h1.symm)
  refine Eq.trans ?_ e
  by_cases h : t.val % 32 = 0
  · rw [outsAt0_A m c t h]
    dsimp only
    rw [out8_A]
  · rw [outsAt0_B m c t h]
    dsimp only
    rw [out8_B]

theorem final_hid (c : Dev nD) : (dats m 0 c).arrAt 8 cfg0.N = hidArr (m ((c.tc : Thread nD τ).loc main_arg0)) (m ((c.tc : Thread nD τ).loc main_arg1)) := by
  refine (dats m 0 c).arrAt_eq_of_covers 8 _ (by decide +kernel) fun t _ y => ?_
  refine Eq.trans ?_ (left_hid m c t y)
  blk_simp
  rw [after0_8]

theorem left_qkv (c : Dev nD) (t : Fin cfg0.N) (y : S512x768.Idx) :
    (outsAt0 m c t.val t.isLt).2.1 y = qkvArr (m ((c.tc : Thread nD τ).loc main_arg0)) (m ((c.tc : Thread nD τ).loc main_arg1)) (m ((c.tc : Thread nD τ).loc main_arg2)) (m ((c.tc : Thread nD τ).loc main_arg3)) (((cfg0.win 9).blk t).view.emb y) := by
  have h0 : ((((cfg0.win 9).blk t).view.emb y) 0).val = t.val * 512 + (y 0).val := by blk_point [idx t]
  have h1 : ((((cfg0.win 9).blk t).view.emb y) 1).val = (y 1).val := by blk_point [idx t]
  have e : projRow (iblk m c 0 t) (iblk m c 1 t) (iblk m c 2 t) (iblk m c 3 t) (y 0) ⟨(y 1).val, lt_of_lt_of_le (y 1).isLt (by decide)⟩ = qkvArr (m ((c.tc : Thread nD τ).loc main_arg0)) (m ((c.tc : Thread nD τ).loc main_arg1)) (m ((c.tc : Thread nD τ).loc main_arg2)) (m ((c.tc : Thread nD τ).loc main_arg3)) (((cfg0.win 9).blk t).view.emb y) := by
    rw [qkvArr, proj_row m c t (y 0) _ h0]
    exact congrArg _ (Fin.ext h1.symm)
  refine Eq.trans ?_ e
  by_cases h : t.val % 32 = 0
  · rw [outsAt0_A m c t h]
    dsimp only
    rw [out9_A]
  · rw [outsAt0_B m c t h]
    dsimp only
    rw [out9_B]

theorem final_qkv (c : Dev nD) : (dats m 0 c).arrAt 9 cfg0.N = qkvArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t _ y => ?_
  refine Eq.trans ?_ (left_qkv m c t y)
  blk_simp
  rw [after0_9]

theorem left_rest (c : Dev nD) (t : Fin cfg0.N) (y : S512x3072.Idx) :
    (outsAt0 m c t.val t.isLt).2.2.1 y = restArr (m ((c.tc : Thread nD τ).loc main_arg0)) (m ((c.tc : Thread nD τ).loc main_arg1)) (m ((c.tc : Thread nD τ).loc main_arg2)) (m ((c.tc : Thread nD τ).loc main_arg3)) (((cfg0.win 10).blk t).view.emb y) := by
  have h0 : ((((cfg0.win 10).blk t).view.emb y) 0).val = t.val * 512 + (y 0).val := by blk_point [idx t]
  have h1 : ((((cfg0.win 10).blk t).view.emb y) 1).val = (y 1).val := by blk_point [idx t]
  have e : projRow (iblk m c 0 t) (iblk m c 1 t) (iblk m c 2 t) (iblk m c 3 t) (y 0) ⟨768 + (y 1).val, Nat.add_lt_add_left (y 1).isLt 768⟩ = restArr (m ((c.tc : Thread nD τ).loc main_arg0)) (m ((c.tc : Thread nD τ).loc main_arg1)) (m ((c.tc : Thread nD τ).loc main_arg2)) (m ((c.tc : Thread nD τ).loc main_arg3)) (((cfg0.win 10).blk t).view.emb y) := by
    rw [restArr, proj_row m c t (y 0) _ h0]
    exact congrArg _ (Fin.ext (congrArg (768 + ·) h1.symm))
  refine Eq.trans ?_ e
  by_cases h : t.val % 32 = 0
  · rw [outsAt0_A m c t h]
    dsimp only
    rw [out10_A]
  · rw [outsAt0_B m c t h]
    dsimp only
    rw [out10_B]

theorem final_rest (c : Dev nD) : (dats m 0 c).arrAt 10 cfg0.N = restArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t _ y => ?_
  refine Eq.trans ?_ (left_rest m c t y)
  blk_simp
  rw [after0_10]

theorem left_glu (c : Dev nD) (t : Fin cfg0.N) (y : S512x512.Idx) :
    (outsAt0 m c t.val t.isLt).2.2.2.1 y = gluArr (m ((c.tc : Thread nD τ).loc main_arg0)) (m ((c.tc : Thread nD τ).loc main_arg1)) (m ((c.tc : Thread nD τ).loc main_arg2)) (m ((c.tc : Thread nD τ).loc main_arg3)) (((cfg0.win 11).blk t).view.emb y) := by
  have h0 : ((((cfg0.win 11).blk t).view.emb y) 0).val = t.val * 512 + (y 0).val := by blk_point [idx t]
  have h1 : ((((cfg0.win 11).blk t).view.emb y) 1).val = (y 1).val := by blk_point [idx t]
  have e : gluRow (iblk m c 0 t) (iblk m c 1 t) (iblk m c 2 t) (iblk m c 3 t) (y 0) (y 1) = gluArr (m ((c.tc : Thread nD τ).loc main_arg0)) (m ((c.tc : Thread nD τ).loc main_arg1)) (m ((c.tc : Thread nD τ).loc main_arg2)) (m ((c.tc : Thread nD τ).loc main_arg3)) (((cfg0.win 11).blk t).view.emb y) := by
    rw [gluArr, glu_row m c t (y 0) _ h0]
    exact congrArg _ (Fin.ext h1.symm)
  refine Eq.trans ?_ e
  by_cases h : t.val % 32 = 0
  · rw [outsAt0_A m c t h]
    dsimp only
    rw [out11_A]
  · rw [outsAt0_B m c t h]
    dsimp only
    rw [out11_B]

theorem final_glu (c : Dev nD) : (dats m 0 c).arrAt 11 cfg0.N = gluArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 11 _ (by decide +kernel) fun t _ y => ?_
  refine Eq.trans ?_ (left_glu m c t y)
  blk_simp
  rw [after0_11]

theorem left_conv (c : Dev nD) (t : Fin cfg0.N) (y : S512x512.Idx) :
    (outsAt0 m c t.val t.isLt).2.2.2.2.1 y = convArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 12).blk t).view.emb y) := by
  have h0 : ((((cfg0.win 12).blk t).view.emb y) 0).val = t.val * 512 + (y 0).val := by blk_point [idx t]
  have h1 : ((((cfg0.win 12).blk t).view.emb y) 1).val = (y 1).val := by blk_point [idx t]
  rw [convArr]
  refine Eq.trans ?_ (congrArg _ (Fin.ext h1.symm))
  by_cases h : t.val % 32 = 0
  · rw [outsAt0_A m c t h]
    dsimp only
    rw [out12_A]
    exact congrFun (conv_row m c t (fun _ _ => 0) (first_carry m c t h) (y 0) _ h0) (y 1)
  · rw [outsAt0_B m c t h]
    dsimp only
    rw [out12_B]
    exact congrFun (conv_row m c t _ (next_carry m c t h) (y 0) _ h0) (y 1)

theorem final_conv (c : Dev nD) : (dats m 0 c).arrAt 12 cfg0.N = convArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 12 _ (by decide +kernel) fun t _ y => ?_
  refine Eq.trans ?_ (left_conv m c t y)
  blk_simp
  rw [after0_12]

theorem left_silu (c : Dev nD) (t : Fin cfg0.N) (y : S512x512.Idx) :
    (outsAt0 m c t.val t.isLt).2.2.2.2.2.1 y = siluArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 13).blk t).view.emb y) := by
  have h0 : ((((cfg0.win 13).blk t).view.emb y) 0).val = t.val * 512 + (y 0).val := by blk_point [idx t]
  have h1 : ((((cfg0.win 13).blk t).view.emb y) 1).val = (y 1).val := by blk_point [idx t]
  rw [siluArr]
  refine Eq.trans ?_ (congrArg _ (Fin.ext h1.symm))
  by_cases h : t.val % 32 = 0
  · rw [outsAt0_A m c t h]
    dsimp only
    rw [out13_A]
    exact congrFun (silu_row m c t (fun _ _ => 0) (first_carry m c t h) (y 0) _ h0) (y 1)
  · rw [outsAt0_B m c t h]
    dsimp only
    rw [out13_B]
    exact congrFun (silu_row m c t _ (next_carry m c t h) (y 0) _ h0) (y 1)

theorem final_silu (c : Dev nD) : (dats m 0 c).arrAt 13 cfg0.N = siluArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 13 _ (by decide +kernel) fun t _ y => ?_
  refine Eq.trans ?_ (left_silu m c t y)
  blk_simp
  rw [after0_13]

set_option maxHeartbeats 4000000 in
theorem algebraic : Cert.algebraic_Kernel12Ideal_Reference12Ideal := by
  pair_intro
  · run_from Cert.Kernel12Ideal.Gen.run_main m g
  · refine (θ_run _ _ _).mono (fun r h c => ?_) (Cert.Reference12Ideal.Value.run m' g')
    obtain ⟨h0, h1, h2, h3, h4, h5, h6, h7⟩ := hagree c
    have g0 : StableHlo.launchContents m' c (Proc.tc.devRef Cert.Reference12Ideal.main_arg0) = (m ((c.tc : Thread nD τ).loc main_arg0)) := h0
    have g1 : StableHlo.launchContents m' c (Proc.tc.devRef Cert.Reference12Ideal.main_arg1) = (m ((c.tc : Thread nD τ).loc main_arg1)) := h1
    have g2 : StableHlo.launchContents m' c (Proc.tc.devRef Cert.Reference12Ideal.main_arg2) = (m ((c.tc : Thread nD τ).loc main_arg2)) := h2
    have g3 : StableHlo.launchContents m' c (Proc.tc.devRef Cert.Reference12Ideal.main_arg3) = (m ((c.tc : Thread nD τ).loc main_arg3)) := h3
    have g4 : StableHlo.launchContents m' c (Proc.tc.devRef Cert.Reference12Ideal.main_arg4) = (m ((c.tc : Thread nD τ).loc main_arg4)) := h4
    have g5 : StableHlo.launchContents m' c (Proc.tc.devRef Cert.Reference12Ideal.main_arg5) = (m ((c.tc : Thread nD τ).loc main_arg5)) := h5
    have g6 : StableHlo.launchContents m' c (Proc.tc.devRef Cert.Reference12Ideal.main_arg6) = (m ((c.tc : Thread nD τ).loc main_arg6)) := h6
    have g7 : StableHlo.launchContents m' c (Proc.tc.devRef Cert.Reference12Ideal.main_arg7) = (m ((c.tc : Thread nD τ).loc main_arg7)) := h7
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · refine (Cert.Reference12Ideal.Read.val_main_v252_eq ..).trans (Eq.trans ?_ (final_hid m c).symm)
      rw [g0, g1]
      refine funext fun i => (congrArg _ (ix2_eta i).symm).trans ?_
      exact ref_hidOut _ _ (i 0) (i 1)
    · refine (Cert.Reference12Ideal.Read.val_main_v254_eq ..).trans (Eq.trans ?_ (final_qkv m c).symm)
      rw [g0, g1, g2, g3]
      refine funext fun i => (congrArg _ (ix2_eta i).symm).trans ?_
      exact ref_qkvOut _ _ _ _ (i 0) (i 1)
    · refine (Cert.Reference12Ideal.Read.val_main_v256_eq ..).trans (Eq.trans ?_ (final_rest m c).symm)
      rw [g0, g1, g2, g3]
      refine funext fun i => (congrArg _ (ix2_eta i).symm).trans ?_
      exact ref_restOut _ _ _ _ (i 0) (i 1)
    · refine (Cert.Reference12Ideal.Read.val_main_v28_eq ..).trans (Eq.trans ?_ (final_glu m c).symm)
      rw [g0, g1, g2, g3]
      refine funext fun i => (congrArg _ (ix2_eta i).symm).trans ?_
      exact ref_glu _ _ _ _ (i 0) (i 1)
    · refine (Cert.Reference12Ideal.Read.val_main_v251_eq ..).trans (Eq.trans ?_ (final_conv m c).symm)
      rw [g0, g1, g2, g3, g4, g5]
      refine funext fun i => (congrArg _ (ix2_eta i).symm).trans ?_
      exact ref_conv _ _ _ _ _ _ (i 0) (i 1)
    · refine (Cert.Reference12Ideal.Read.val_main_v282_eq ..).trans (Eq.trans ?_ (final_silu m c).symm)
      rw [g0, g1, g2, g3, g4, g5, g6, g7]
      refine funext fun i => (congrArg _ (ix2_eta i).symm).trans ?_
      exact ref_silu _ _ _ _ _ _ _ _ (i 0) (i 1)

theorem frame_reference : Cert.quiescent_Reference12Ideal := by
  intro m g _
  exact (θ_run Cert.Reference12Ideal.defs _ _).mono
    (fun r h => ⟨fun c => (h c).2.2.2.2.2.2, sem_eq_zero_of_no_sems (by decide) r.2⟩) (Cert.Reference12Ideal.Value.run (F := Ideal) m g)

end Cert.Kernel12Ideal.Input

end
-- ==== Proof.lean ====
/-
  The claims of every program taken from the step: each kernel and each reference runs to its end, leaves its arguments as
  they were and its semaphores at zero, and each kernel at the ideal instance computes what its reference does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.MlpClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.MergeBwd
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.DwMlp1
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.DwMlp2
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.DwIn
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.DwOut
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.DwAttn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.DwConv
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Fwd
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Loss
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Merge
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.InFwd
public import proofs.«01_k».proof.Proof.Gen.Pre_finite
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := by
  intro m g _
  exact (θ_run Cert.ReferenceIdeal.defs _ _).mono
    (fun r h => ⟨fun c => (h c).2.2.2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, fun m ρ _ => Cert.Kernel2Ideal.Gen.frame m ρ, Cert.Kernel2Ideal.Backward.frame_reference, Cert.Kernel2Ideal.Backward.frame_reference_finite,
  fun m ρ _ => Cert.Kernel3.Gen.frame m ρ, fun m ρ _ => Cert.Kernel3Ideal.Gen.frame m ρ, Cert.Kernel3Ideal.Product.frame_reference,
  fun m ρ _ => Cert.Kernel4.Gen.frame m ρ, fun m ρ _ => Cert.Kernel4Ideal.Gen.frame m ρ, Cert.Kernel4Ideal.Product.frame_reference,
  fun m ρ _ => Cert.Kernel5.Gen.frame m ρ, fun m ρ _ => Cert.Kernel5Ideal.Gen.frame m ρ, Cert.Kernel5Ideal.Product.frame_reference,
  fun m ρ _ => Cert.Kernel6.Gen.frame m ρ, fun m ρ _ => Cert.Kernel6Ideal.Gen.frame m ρ, Cert.Kernel6Ideal.Product.frame_reference,
  fun m ρ _ => Cert.Kernel7.Gen.frame m ρ, fun m ρ _ => Cert.Kernel7Ideal.Gen.frame m ρ, Cert.Kernel7Ideal.Product.frame_reference,
  fun m ρ _ => Cert.Kernel8.Gen.frame m ρ, fun m ρ _ => Cert.Kernel8Ideal.Gen.frame m ρ, Cert.Kernel8Ideal.Product.frame_reference,
  fun m ρ _ => Cert.Kernel9.Gen.frame m ρ, fun m ρ _ => Cert.Kernel9Ideal.Gen.frame m ρ, Cert.Kernel9Ideal.Forward.frame_reference,
  fun m ρ _ => Cert.Kernel10.Gen.frame m ρ, fun m ρ _ => Cert.Kernel10Ideal.Gen.frame m ρ, Cert.Kernel10Ideal.Forward.frame_reference,
  fun m ρ _ => Cert.Kernel11.Gen.frame m ρ, fun m ρ _ => Cert.Kernel11Ideal.Gen.frame m ρ, Cert.Kernel11Ideal.Forward.frame_reference,
  fun m ρ _ => Cert.Kernel12.Gen.frame m ρ, fun m ρ _ => Cert.Kernel12Ideal.Gen.frame m ρ, Cert.Kernel12Ideal.Input.frame_reference,
  trivial, Cert.MlpClaim.algebraic,
  trivial, Cert.Kernel2Ideal.Backward.algebraic,
  trivial, Cert.Kernel3Ideal.Product.algebraic,
  trivial, Cert.Kernel4Ideal.Product.algebraic,
  trivial, Cert.Kernel5Ideal.Product.algebraic,
  trivial, Cert.Kernel6Ideal.Product.algebraic,
  trivial, Cert.Kernel7Ideal.Product.algebraic,
  trivial, Cert.Kernel8Ideal.Product.algebraic,
  trivial, Cert.Kernel9Ideal.Forward.algebraic,
  trivial, Cert.Kernel10Ideal.Forward.algebraic,
  trivial, Cert.Kernel11Ideal.Forward.algebraic,
  trivial, Cert.Kernel12Ideal.Input.algebraic⟩

end Cert.Proof

end
